-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDownB (m : (ℓ : Loc Cert.KernelDownB.nD Cert.KernelDownB.τ Cert.KernelDownB.sig) → Buf (Elt Bits) ℓ) : Prop :=
  True

def Pre_KernelDownBIdeal (m : (ℓ : Loc Cert.KernelDownBIdeal.nD Cert.KernelDownBIdeal.τ Cert.KernelDownBIdeal.sig) → Buf (Elt Ideal) ℓ) : Prop :=
  True

def Pre_ReferenceDownBIdeal (m : (ℓ : Loc Cert.ReferenceDownBIdeal.nD Cert.ReferenceDownBIdeal.τ Cert.ReferenceDownBIdeal.sig) → Buf (Elt Ideal) ℓ) : Prop :=
  True

def Pre_KernelUpB (m : (ℓ : Loc Cert.KernelUpB.nD Cert.KernelUpB.τ Cert.KernelUpB.sig) → Buf (Elt Bits) ℓ) : Prop :=
  True

def Pre_KernelUpBIdeal (m : (ℓ : Loc Cert.KernelUpBIdeal.nD Cert.KernelUpBIdeal.τ Cert.KernelUpBIdeal.sig) → Buf (Elt Ideal) ℓ) : Prop :=
  True

def Pre_ReferenceUpBIdeal (m : (ℓ : Loc Cert.ReferenceUpBIdeal.nD Cert.ReferenceUpBIdeal.τ Cert.ReferenceUpBIdeal.sig) → Buf (Elt Ideal) ℓ) : Prop :=
  True

def Pre_KernelDwA (m : (ℓ : Loc Cert.KernelDwA.nD Cert.KernelDwA.τ Cert.KernelDwA.sig) → Buf (Elt Bits) ℓ) : Prop :=
  True

def Pre_KernelDwAIdeal (m : (ℓ : Loc Cert.KernelDwAIdeal.nD Cert.KernelDwAIdeal.τ Cert.KernelDwAIdeal.sig) → Buf (Elt Ideal) ℓ) : Prop :=
  True

def Pre_ReferenceDwAIdeal (m : (ℓ : Loc Cert.ReferenceDwAIdeal.nD Cert.ReferenceDwAIdeal.τ Cert.ReferenceDwAIdeal.sig) → Buf (Elt Ideal) ℓ) : Prop :=
  True

def Pre_KernelDwB (m : (ℓ : Loc Cert.KernelDwB.nD Cert.KernelDwB.τ Cert.KernelDwB.sig) → Buf (Elt Bits) ℓ) : Prop :=
  True

def Pre_KernelDwBIdeal (m : (ℓ : Loc Cert.KernelDwBIdeal.nD Cert.KernelDwBIdeal.τ Cert.KernelDwBIdeal.sig) → Buf (Elt Ideal) ℓ) : Prop :=
  True

def Pre_ReferenceDwBIdeal (m : (ℓ : Loc Cert.ReferenceDwBIdeal.nD Cert.ReferenceDwBIdeal.τ Cert.ReferenceDwBIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelOutA (m : (ℓ : Loc Cert.KernelOutA.nD Cert.KernelOutA.τ Cert.KernelOutA.sig) → Buf (Elt Bits) ℓ) : Prop :=
  True

def Pre_KernelOutAIdeal (m : (ℓ : Loc Cert.KernelOutAIdeal.nD Cert.KernelOutAIdeal.τ Cert.KernelOutAIdeal.sig) → Buf (Elt Ideal) ℓ) : Prop :=
  True

def Pre_ReferenceOutAIdeal (m : (ℓ : Loc Cert.ReferenceOutAIdeal.nD Cert.ReferenceOutAIdeal.τ Cert.ReferenceOutAIdeal.sig) → Buf (Elt Ideal) ℓ) : Prop :=
  True

def Pre_KernelOutB (m : (ℓ : Loc Cert.KernelOutB.nD Cert.KernelOutB.τ Cert.KernelOutB.sig) → Buf (Elt Bits) ℓ) : Prop :=
  True

def Pre_KernelOutBIdeal (m : (ℓ : Loc Cert.KernelOutBIdeal.nD Cert.KernelOutBIdeal.τ Cert.KernelOutBIdeal.sig) → Buf (Elt Ideal) ℓ) : Prop :=
  True

def Pre_ReferenceOutBIdeal (m : (ℓ : Loc Cert.ReferenceOutBIdeal.nD Cert.ReferenceOutBIdeal.τ Cert.ReferenceOutBIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5)
      ∧ r.2.mem ((c.tc : Thread Cert.KernelMlp.nD Cert.KernelMlp.τ).loc Cert.KernelMlp.main_arg6) = m ((c.tc : Thread Cert.KernelMlp.nD Cert.KernelMlp.τ).loc Cert.KernelMlp.main_arg6))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
      ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5)
      ∧ r.2.mem ((c.tc : Thread Cert.ReferenceMlpIdeal.nD Cert.ReferenceMlpIdeal.τ).loc Cert.ReferenceMlpIdeal.main_arg6) = m ((c.tc : Thread Cert.ReferenceMlpIdeal.nD Cert.ReferenceMlpIdeal.τ).loc Cert.ReferenceMlpIdeal.main_arg6))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDownB [hKernelDownB : Cert.KernelDownB.Facts] : Prop :=
  ∀ (m : (ℓ : Loc Cert.KernelDownB.nD Cert.KernelDownB.τ Cert.KernelDownB.sig) → Buf (Elt Bits) ℓ) (g : Dev Cert.KernelDownB.nD → PrngReg), Pre_KernelDownB m →
    θ_run (Cert.KernelDownB.defs (F := Bits)) (onTc (τ := Cert.KernelDownB.τ) (Cert.KernelDownB.main (F := Bits))) ⟨m, fun _ => 0, g⟩ (fun r => (∀ c : Dev Cert.KernelDownB.nD,
      r.2.mem ((c.tc : Thread Cert.KernelDownB.nD Cert.KernelDownB.τ).loc Cert.KernelDownB.main_arg0) = m ((c.tc : Thread Cert.KernelDownB.nD Cert.KernelDownB.τ).loc Cert.KernelDownB.main_arg0)
      ∧ r.2.mem ((c.tc : Thread Cert.KernelDownB.nD Cert.KernelDownB.τ).loc Cert.KernelDownB.main_arg1) = m ((c.tc : Thread Cert.KernelDownB.nD Cert.KernelDownB.τ).loc Cert.KernelDownB.main_arg1))
      ∧ r.2.sem = fun _ => 0)

def quiescent_KernelDownBIdeal [hKernelDownBIdeal : Cert.KernelDownBIdeal.Facts] : Prop :=
  ∀ (m : (ℓ : Loc Cert.KernelDownBIdeal.nD Cert.KernelDownBIdeal.τ Cert.KernelDownBIdeal.sig) → Buf (Elt Ideal) ℓ) (g : Dev Cert.KernelDownBIdeal.nD → PrngReg), Pre_KernelDownBIdeal m →
    θ_run (Cert.KernelDownBIdeal.defs (F := Ideal)) (onTc (τ := Cert.KernelDownBIdeal.τ) (Cert.KernelDownBIdeal.main (F := Ideal))) ⟨m, fun _ => 0, g⟩ (fun r => (∀ c : Dev Cert.KernelDownBIdeal.nD,
      r.2.mem ((c.tc : Thread Cert.KernelDownBIdeal.nD Cert.KernelDownBIdeal.τ).loc Cert.KernelDownBIdeal.main_arg0) = m ((c.tc : Thread Cert.KernelDownBIdeal.nD Cert.KernelDownBIdeal.τ).loc Cert.KernelDownBIdeal.main_arg0)
      ∧ r.2.mem ((c.tc : Thread Cert.KernelDownBIdeal.nD Cert.KernelDownBIdeal.τ).loc Cert.KernelDownBIdeal.main_arg1) = m ((c.tc : Thread Cert.KernelDownBIdeal.nD Cert.KernelDownBIdeal.τ).loc Cert.KernelDownBIdeal.main_arg1))
      ∧ r.2.sem = fun _ => 0)

def quiescent_ReferenceDownBIdeal [hReferenceDownBIdeal : Cert.ReferenceDownBIdeal.Facts] : Prop :=
  ∀ (m : (ℓ : Loc Cert.ReferenceDownBIdeal.nD Cert.ReferenceDownBIdeal.τ Cert.ReferenceDownBIdeal.sig) → Buf (Elt Ideal) ℓ) (g : Dev Cert.ReferenceDownBIdeal.nD → PrngReg), Pre_ReferenceDownBIdeal m →
    θ_run (Cert.ReferenceDownBIdeal.defs (F := Ideal)) (onTc (τ := Cert.ReferenceDownBIdeal.τ) (Cert.ReferenceDownBIdeal.main (F := Ideal))) ⟨m, fun _ => 0, g⟩ (fun r => (∀ c : Dev Cert.ReferenceDownBIdeal.nD,
      r.2.mem ((c.tc : Thread Cert.ReferenceDownBIdeal.nD Cert.ReferenceDownBIdeal.τ).loc Cert.ReferenceDownBIdeal.main_arg0) = m ((c.tc : Thread Cert.ReferenceDownBIdeal.nD Cert.ReferenceDownBIdeal.τ).loc Cert.ReferenceDownBIdeal.main_arg0)
      ∧ r.2.mem ((c.tc : Thread Cert.ReferenceDownBIdeal.nD Cert.ReferenceDownBIdeal.τ).loc Cert.ReferenceDownBIdeal.main_arg1) = m ((c.tc : Thread Cert.ReferenceDownBIdeal.nD Cert.ReferenceDownBIdeal.τ).loc Cert.ReferenceDownBIdeal.main_arg1))
      ∧ r.2.sem = fun _ => 0)

def quiescent_KernelUpB [hKernelUpB : Cert.KernelUpB.Facts] : Prop :=
  ∀ (m : (ℓ : Loc Cert.KernelUpB.nD Cert.KernelUpB.τ Cert.KernelUpB.sig) → Buf (Elt Bits) ℓ) (g : Dev Cert.KernelUpB.nD → PrngReg), Pre_KernelUpB m →
    θ_run (Cert.KernelUpB.defs (F := Bits)) (onTc (τ := Cert.KernelUpB.τ) (Cert.KernelUpB.main (F := Bits))) ⟨m, fun _ => 0, g⟩ (fun r => (∀ c : Dev Cert.KernelUpB.nD,
      r.2.mem ((c.tc : Thread Cert.KernelUpB.nD Cert.KernelUpB.τ).loc Cert.KernelUpB.main_arg0) = m ((c.tc : Thread Cert.KernelUpB.nD Cert.KernelUpB.τ).loc Cert.KernelUpB.main_arg0)
      ∧ r.2.mem ((c.tc : Thread Cert.KernelUpB.nD Cert.KernelUpB.τ).loc Cert.KernelUpB.main_arg1) = m ((c.tc : Thread Cert.KernelUpB.nD Cert.KernelUpB.τ).loc Cert.KernelUpB.main_arg1))
      ∧ r.2.sem = fun _ => 0)

def quiescent_KernelUpBIdeal [hKernelUpBIdeal : Cert.KernelUpBIdeal.Facts] : Prop :=
  ∀ (m : (ℓ : Loc Cert.KernelUpBIdeal.nD Cert.KernelUpBIdeal.τ Cert.KernelUpBIdeal.sig) → Buf (Elt Ideal) ℓ) (g : Dev Cert.KernelUpBIdeal.nD → PrngReg), Pre_KernelUpBIdeal m →
    θ_run (Cert.KernelUpBIdeal.defs (F := Ideal)) (onTc (τ := Cert.KernelUpBIdeal.τ) (Cert.KernelUpBIdeal.main (F := Ideal))) ⟨m, fun _ => 0, g⟩ (fun r => (∀ c : Dev Cert.KernelUpBIdeal.nD,
      r.2.mem ((c.tc : Thread Cert.KernelUpBIdeal.nD Cert.KernelUpBIdeal.τ).loc Cert.KernelUpBIdeal.main_arg0) = m ((c.tc : Thread Cert.KernelUpBIdeal.nD Cert.KernelUpBIdeal.τ).loc Cert.KernelUpBIdeal.main_arg0)
      ∧ r.2.mem ((c.tc : Thread Cert.KernelUpBIdeal.nD Cert.KernelUpBIdeal.τ).loc Cert.KernelUpBIdeal.main_arg1) = m ((c.tc : Thread Cert.KernelUpBIdeal.nD Cert.KernelUpBIdeal.τ).loc Cert.KernelUpBIdeal.main_arg1))
      ∧ r.2.sem = fun _ => 0)

def quiescent_ReferenceUpBIdeal [hReferenceUpBIdeal : Cert.ReferenceUpBIdeal.Facts] : Prop :=
  ∀ (m : (ℓ : Loc Cert.ReferenceUpBIdeal.nD Cert.ReferenceUpBIdeal.τ Cert.ReferenceUpBIdeal.sig) → Buf (Elt Ideal) ℓ) (g : Dev Cert.ReferenceUpBIdeal.nD → PrngReg), Pre_ReferenceUpBIdeal m →
    θ_run (Cert.ReferenceUpBIdeal.defs (F := Ideal)) (onTc (τ := Cert.ReferenceUpBIdeal.τ) (Cert.ReferenceUpBIdeal.main (F := Ideal))) ⟨m, fun _ => 0, g⟩ (fun r => (∀ c : Dev Cert.ReferenceUpBIdeal.nD,
      r.2.mem ((c.tc : Thread Cert.ReferenceUpBIdeal.nD Cert.ReferenceUpBIdeal.τ).loc Cert.ReferenceUpBIdeal.main_arg0) = m ((c.tc : Thread Cert.ReferenceUpBIdeal.nD Cert.ReferenceUpBIdeal.τ).loc Cert.ReferenceUpBIdeal.main_arg0)
      ∧ r.2.mem ((c.tc : Thread Cert.ReferenceUpBIdeal.nD Cert.ReferenceUpBIdeal.τ).loc Cert.ReferenceUpBIdeal.main_arg1) = m ((c.tc : Thread Cert.ReferenceUpBIdeal.nD Cert.ReferenceUpBIdeal.τ).loc Cert.ReferenceUpBIdeal.main_arg1))
      ∧ r.2.sem = fun _ => 0)

def quiescent_KernelDwA [hKernelDwA : Cert.KernelDwA.Facts] : Prop :=
  ∀ (m : (ℓ : Loc Cert.KernelDwA.nD Cert.KernelDwA.τ Cert.KernelDwA.sig) → Buf (Elt Bits) ℓ) (g : Dev Cert.KernelDwA.nD → PrngReg), Pre_KernelDwA m →
    θ_run (Cert.KernelDwA.defs (F := Bits)) (onTc (τ := Cert.KernelDwA.τ) (Cert.KernelDwA.main (F := Bits))) ⟨m, fun _ => 0, g⟩ (fun r => (∀ c : Dev Cert.KernelDwA.nD,
      r.2.mem ((c.tc : Thread Cert.KernelDwA.nD Cert.KernelDwA.τ).loc Cert.KernelDwA.main_arg0) = m ((c.tc : Thread Cert.KernelDwA.nD Cert.KernelDwA.τ).loc Cert.KernelDwA.main_arg0)
      ∧ r.2.mem ((c.tc : Thread Cert.KernelDwA.nD Cert.KernelDwA.τ).loc Cert.KernelDwA.main_arg1) = m ((c.tc : Thread Cert.KernelDwA.nD Cert.KernelDwA.τ).loc Cert.KernelDwA.main_arg1))
      ∧ r.2.sem = fun _ => 0)

def quiescent_KernelDwAIdeal [hKernelDwAIdeal : Cert.KernelDwAIdeal.Facts] : Prop :=
  ∀ (m : (ℓ : Loc Cert.KernelDwAIdeal.nD Cert.KernelDwAIdeal.τ Cert.KernelDwAIdeal.sig) → Buf (Elt Ideal) ℓ) (g : Dev Cert.KernelDwAIdeal.nD → PrngReg), Pre_KernelDwAIdeal m →
    θ_run (Cert.KernelDwAIdeal.defs (F := Ideal)) (onTc (τ := Cert.KernelDwAIdeal.τ) (Cert.KernelDwAIdeal.main (F := Ideal))) ⟨m, fun _ => 0, g⟩ (fun r => (∀ c : Dev Cert.KernelDwAIdeal.nD,
      r.2.mem ((c.tc : Thread Cert.KernelDwAIdeal.nD Cert.KernelDwAIdeal.τ).loc Cert.KernelDwAIdeal.main_arg0) = m ((c.tc : Thread Cert.KernelDwAIdeal.nD Cert.KernelDwAIdeal.τ).loc Cert.KernelDwAIdeal.main_arg0)
      ∧ r.2.mem ((c.tc : Thread Cert.KernelDwAIdeal.nD Cert.KernelDwAIdeal.τ).loc Cert.KernelDwAIdeal.main_arg1) = m ((c.tc : Thread Cert.KernelDwAIdeal.nD Cert.KernelDwAIdeal.τ).loc Cert.KernelDwAIdeal.main_arg1))
      ∧ r.2.sem = fun _ => 0)

def quiescent_ReferenceDwAIdeal [hReferenceDwAIdeal : Cert.ReferenceDwAIdeal.Facts] : Prop :=
  ∀ (m : (ℓ : Loc Cert.ReferenceDwAIdeal.nD Cert.ReferenceDwAIdeal.τ Cert.ReferenceDwAIdeal.sig) → Buf (Elt Ideal) ℓ) (g : Dev Cert.ReferenceDwAIdeal.nD → PrngReg), Pre_ReferenceDwAIdeal m →
    θ_run (Cert.ReferenceDwAIdeal.defs (F := Ideal)) (onTc (τ := Cert.ReferenceDwAIdeal.τ) (Cert.ReferenceDwAIdeal.main (F := Ideal))) ⟨m, fun _ => 0, g⟩ (fun r => (∀ c : Dev Cert.ReferenceDwAIdeal.nD,
      r.2.mem ((c.tc : Thread Cert.ReferenceDwAIdeal.nD Cert.ReferenceDwAIdeal.τ).loc Cert.ReferenceDwAIdeal.main_arg0) = m ((c.tc : Thread Cert.ReferenceDwAIdeal.nD Cert.ReferenceDwAIdeal.τ).loc Cert.ReferenceDwAIdeal.main_arg0)
      ∧ r.2.mem ((c.tc : Thread Cert.ReferenceDwAIdeal.nD Cert.ReferenceDwAIdeal.τ).loc Cert.ReferenceDwAIdeal.main_arg1) = m ((c.tc : Thread Cert.ReferenceDwAIdeal.nD Cert.ReferenceDwAIdeal.τ).loc Cert.ReferenceDwAIdeal.main_arg1))
      ∧ r.2.sem = fun _ => 0)

def quiescent_KernelDwB [hKernelDwB : Cert.KernelDwB.Facts] : Prop :=
  ∀ (m : (ℓ : Loc Cert.KernelDwB.nD Cert.KernelDwB.τ Cert.KernelDwB.sig) → Buf (Elt Bits) ℓ) (g : Dev Cert.KernelDwB.nD → PrngReg), Pre_KernelDwB m →
    θ_run (Cert.KernelDwB.defs (F := Bits)) (onTc (τ := Cert.KernelDwB.τ) (Cert.KernelDwB.main (F := Bits))) ⟨m, fun _ => 0, g⟩ (fun r => (∀ c : Dev Cert.KernelDwB.nD,
      r.2.mem ((c.tc : Thread Cert.KernelDwB.nD Cert.KernelDwB.τ).loc Cert.KernelDwB.main_arg0) = m ((c.tc : Thread Cert.KernelDwB.nD Cert.KernelDwB.τ).loc Cert.KernelDwB.main_arg0)
      ∧ r.2.mem ((c.tc : Thread Cert.KernelDwB.nD Cert.KernelDwB.τ).loc Cert.KernelDwB.main_arg1) = m ((c.tc : Thread Cert.KernelDwB.nD Cert.KernelDwB.τ).loc Cert.KernelDwB.main_arg1))
      ∧ r.2.sem = fun _ => 0)

def quiescent_KernelDwBIdeal [hKernelDwBIdeal : Cert.KernelDwBIdeal.Facts] : Prop :=
  ∀ (m : (ℓ : Loc Cert.KernelDwBIdeal.nD Cert.KernelDwBIdeal.τ Cert.KernelDwBIdeal.sig) → Buf (Elt Ideal) ℓ) (g : Dev Cert.KernelDwBIdeal.nD → PrngReg), Pre_KernelDwBIdeal m →
    θ_run (Cert.KernelDwBIdeal.defs (F := Ideal)) (onTc (τ := Cert.KernelDwBIdeal.τ) (Cert.KernelDwBIdeal.main (F := Ideal))) ⟨m, fun _ => 0, g⟩ (fun r => (∀ c : Dev Cert.KernelDwBIdeal.nD,
      r.2.mem ((c.tc : Thread Cert.KernelDwBIdeal.nD Cert.KernelDwBIdeal.τ).loc Cert.KernelDwBIdeal.main_arg0) = m ((c.tc : Thread Cert.KernelDwBIdeal.nD Cert.KernelDwBIdeal.τ).loc Cert.KernelDwBIdeal.main_arg0)
      ∧ r.2.mem ((c.tc : Thread Cert.KernelDwBIdeal.nD Cert.KernelDwBIdeal.τ).loc Cert.KernelDwBIdeal.main_arg1) = m ((c.tc : Thread Cert.KernelDwBIdeal.nD Cert.KernelDwBIdeal.τ).loc Cert.KernelDwBIdeal.main_arg1))
      ∧ r.2.sem = fun _ => 0)

def quiescent_ReferenceDwBIdeal [hReferenceDwBIdeal : Cert.ReferenceDwBIdeal.Facts] : Prop :=
  ∀ (m : (ℓ : Loc Cert.ReferenceDwBIdeal.nD Cert.ReferenceDwBIdeal.τ Cert.ReferenceDwBIdeal.sig) → Buf (Elt Ideal) ℓ) (g : Dev Cert.ReferenceDwBIdeal.nD → PrngReg), Pre_ReferenceDwBIdeal m →
    θ_run (Cert.ReferenceDwBIdeal.defs (F := Ideal)) (onTc (τ := Cert.ReferenceDwBIdeal.τ) (Cert.ReferenceDwBIdeal.main (F := Ideal))) ⟨m, fun _ => 0, g⟩ (fun r => (∀ c : Dev Cert.ReferenceDwBIdeal.nD,
      r.2.mem ((c.tc : Thread Cert.ReferenceDwBIdeal.nD Cert.ReferenceDwBIdeal.τ).loc Cert.ReferenceDwBIdeal.main_arg0) = m ((c.tc : Thread Cert.ReferenceDwBIdeal.nD Cert.ReferenceDwBIdeal.τ).loc Cert.ReferenceDwBIdeal.main_arg0)
      ∧ r.2.mem ((c.tc : Thread Cert.ReferenceDwBIdeal.nD Cert.ReferenceDwBIdeal.τ).loc Cert.ReferenceDwBIdeal.main_arg1) = m ((c.tc : Thread Cert.ReferenceDwBIdeal.nD Cert.ReferenceDwBIdeal.τ).loc Cert.ReferenceDwBIdeal.main_arg1))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelOutA [hKernelOutA : Cert.KernelOutA.Facts] : Prop :=
  ∀ (m : (ℓ : Loc Cert.KernelOutA.nD Cert.KernelOutA.τ Cert.KernelOutA.sig) → Buf (Elt Bits) ℓ) (g : Dev Cert.KernelOutA.nD → PrngReg), Pre_KernelOutA m →
    θ_run (Cert.KernelOutA.defs (F := Bits)) (onTc (τ := Cert.KernelOutA.τ) (Cert.KernelOutA.main (F := Bits))) ⟨m, fun _ => 0, g⟩ (fun r => (∀ c : Dev Cert.KernelOutA.nD,
      r.2.mem ((c.tc : Thread Cert.KernelOutA.nD Cert.KernelOutA.τ).loc Cert.KernelOutA.main_arg0) = m ((c.tc : Thread Cert.KernelOutA.nD Cert.KernelOutA.τ).loc Cert.KernelOutA.main_arg0)
      ∧ r.2.mem ((c.tc : Thread Cert.KernelOutA.nD Cert.KernelOutA.τ).loc Cert.KernelOutA.main_arg1) = m ((c.tc : Thread Cert.KernelOutA.nD Cert.KernelOutA.τ).loc Cert.KernelOutA.main_arg1)
      ∧ r.2.mem ((c.tc : Thread Cert.KernelOutA.nD Cert.KernelOutA.τ).loc Cert.KernelOutA.main_arg2) = m ((c.tc : Thread Cert.KernelOutA.nD Cert.KernelOutA.τ).loc Cert.KernelOutA.main_arg2)
      ∧ r.2.mem ((c.tc : Thread Cert.KernelOutA.nD Cert.KernelOutA.τ).loc Cert.KernelOutA.main_arg3) = m ((c.tc : Thread Cert.KernelOutA.nD Cert.KernelOutA.τ).loc Cert.KernelOutA.main_arg3)
      ∧ r.2.mem ((c.tc : Thread Cert.KernelOutA.nD Cert.KernelOutA.τ).loc Cert.KernelOutA.main_arg4) = m ((c.tc : Thread Cert.KernelOutA.nD Cert.KernelOutA.τ).loc Cert.KernelOutA.main_arg4)
      ∧ r.2.mem ((c.tc : Thread Cert.KernelOutA.nD Cert.KernelOutA.τ).loc Cert.KernelOutA.main_arg5) = m ((c.tc : Thread Cert.KernelOutA.nD Cert.KernelOutA.τ).loc Cert.KernelOutA.main_arg5)
      ∧ r.2.mem ((c.tc : Thread Cert.KernelOutA.nD Cert.KernelOutA.τ).loc Cert.KernelOutA.main_arg6) = m ((c.tc : Thread Cert.KernelOutA.nD Cert.KernelOutA.τ).loc Cert.KernelOutA.main_arg6))
      ∧ r.2.sem = fun _ => 0)

def quiescent_KernelOutAIdeal [hKernelOutAIdeal : Cert.KernelOutAIdeal.Facts] : Prop :=
  ∀ (m : (ℓ : Loc Cert.KernelOutAIdeal.nD Cert.KernelOutAIdeal.τ Cert.KernelOutAIdeal.sig) → Buf (Elt Ideal) ℓ) (g : Dev Cert.KernelOutAIdeal.nD → PrngReg), Pre_KernelOutAIdeal m →
    θ_run (Cert.KernelOutAIdeal.defs (F := Ideal)) (onTc (τ := Cert.KernelOutAIdeal.τ) (Cert.KernelOutAIdeal.main (F := Ideal))) ⟨m, fun _ => 0, g⟩ (fun r => (∀ c : Dev Cert.KernelOutAIdeal.nD,
      r.2.mem ((c.tc : Thread Cert.KernelOutAIdeal.nD Cert.KernelOutAIdeal.τ).loc Cert.KernelOutAIdeal.main_arg0) = m ((c.tc : Thread Cert.KernelOutAIdeal.nD Cert.KernelOutAIdeal.τ).loc Cert.KernelOutAIdeal.main_arg0)
      ∧ r.2.mem ((c.tc : Thread Cert.KernelOutAIdeal.nD Cert.KernelOutAIdeal.τ).loc Cert.KernelOutAIdeal.main_arg1) = m ((c.tc : Thread Cert.KernelOutAIdeal.nD Cert.KernelOutAIdeal.τ).loc Cert.KernelOutAIdeal.main_arg1)
      ∧ r.2.mem ((c.tc : Thread Cert.KernelOutAIdeal.nD Cert.KernelOutAIdeal.τ).loc Cert.KernelOutAIdeal.main_arg2) = m ((c.tc : Thread Cert.KernelOutAIdeal.nD Cert.KernelOutAIdeal.τ).loc Cert.KernelOutAIdeal.main_arg2)
      ∧ r.2.mem ((c.tc : Thread Cert.KernelOutAIdeal.nD Cert.KernelOutAIdeal.τ).loc Cert.KernelOutAIdeal.main_arg3) = m ((c.tc : Thread Cert.KernelOutAIdeal.nD Cert.KernelOutAIdeal.τ).loc Cert.KernelOutAIdeal.main_arg3)
      ∧ r.2.mem ((c.tc : Thread Cert.KernelOutAIdeal.nD Cert.KernelOutAIdeal.τ).loc Cert.KernelOutAIdeal.main_arg4) = m ((c.tc : Thread Cert.KernelOutAIdeal.nD Cert.KernelOutAIdeal.τ).loc Cert.KernelOutAIdeal.main_arg4)
      ∧ r.2.mem ((c.tc : Thread Cert.KernelOutAIdeal.nD Cert.KernelOutAIdeal.τ).loc Cert.KernelOutAIdeal.main_arg5) = m ((c.tc : Thread Cert.KernelOutAIdeal.nD Cert.KernelOutAIdeal.τ).loc Cert.KernelOutAIdeal.main_arg5)
      ∧ r.2.mem ((c.tc : Thread Cert.KernelOutAIdeal.nD Cert.KernelOutAIdeal.τ).loc Cert.KernelOutAIdeal.main_arg6) = m ((c.tc : Thread Cert.KernelOutAIdeal.nD Cert.KernelOutAIdeal.τ).loc Cert.KernelOutAIdeal.main_arg6))
      ∧ r.2.sem = fun _ => 0)

def quiescent_ReferenceOutAIdeal [hReferenceOutAIdeal : Cert.ReferenceOutAIdeal.Facts] : Prop :=
  ∀ (m : (ℓ : Loc Cert.ReferenceOutAIdeal.nD Cert.ReferenceOutAIdeal.τ Cert.ReferenceOutAIdeal.sig) → Buf (Elt Ideal) ℓ) (g : Dev Cert.ReferenceOutAIdeal.nD → PrngReg), Pre_ReferenceOutAIdeal m →
    θ_run (Cert.ReferenceOutAIdeal.defs (F := Ideal)) (onTc (τ := Cert.ReferenceOutAIdeal.τ) (Cert.ReferenceOutAIdeal.main (F := Ideal))) ⟨m, fun _ => 0, g⟩ (fun r => (∀ c : Dev Cert.ReferenceOutAIdeal.nD,
      r.2.mem ((c.tc : Thread Cert.ReferenceOutAIdeal.nD Cert.ReferenceOutAIdeal.τ).loc Cert.ReferenceOutAIdeal.main_arg0) = m ((c.tc : Thread Cert.ReferenceOutAIdeal.nD Cert.ReferenceOutAIdeal.τ).loc Cert.ReferenceOutAIdeal.main_arg0)
      ∧ r.2.mem ((c.tc : Thread Cert.ReferenceOutAIdeal.nD Cert.ReferenceOutAIdeal.τ).loc Cert.ReferenceOutAIdeal.main_arg1) = m ((c.tc : Thread Cert.ReferenceOutAIdeal.nD Cert.ReferenceOutAIdeal.τ).loc Cert.ReferenceOutAIdeal.main_arg1)
      ∧ r.2.mem ((c.tc : Thread Cert.ReferenceOutAIdeal.nD Cert.ReferenceOutAIdeal.τ).loc Cert.ReferenceOutAIdeal.main_arg2) = m ((c.tc : Thread Cert.ReferenceOutAIdeal.nD Cert.ReferenceOutAIdeal.τ).loc Cert.ReferenceOutAIdeal.main_arg2)
      ∧ r.2.mem ((c.tc : Thread Cert.ReferenceOutAIdeal.nD Cert.ReferenceOutAIdeal.τ).loc Cert.ReferenceOutAIdeal.main_arg3) = m ((c.tc : Thread Cert.ReferenceOutAIdeal.nD Cert.ReferenceOutAIdeal.τ).loc Cert.ReferenceOutAIdeal.main_arg3)
      ∧ r.2.mem ((c.tc : Thread Cert.ReferenceOutAIdeal.nD Cert.ReferenceOutAIdeal.τ).loc Cert.ReferenceOutAIdeal.main_arg4) = m ((c.tc : Thread Cert.ReferenceOutAIdeal.nD Cert.ReferenceOutAIdeal.τ).loc Cert.ReferenceOutAIdeal.main_arg4)
      ∧ r.2.mem ((c.tc : Thread Cert.ReferenceOutAIdeal.nD Cert.ReferenceOutAIdeal.τ).loc Cert.ReferenceOutAIdeal.main_arg5) = m ((c.tc : Thread Cert.ReferenceOutAIdeal.nD Cert.ReferenceOutAIdeal.τ).loc Cert.ReferenceOutAIdeal.main_arg5)
      ∧ r.2.mem ((c.tc : Thread Cert.ReferenceOutAIdeal.nD Cert.ReferenceOutAIdeal.τ).loc Cert.ReferenceOutAIdeal.main_arg6) = m ((c.tc : Thread Cert.ReferenceOutAIdeal.nD Cert.ReferenceOutAIdeal.τ).loc Cert.ReferenceOutAIdeal.main_arg6))
      ∧ r.2.sem = fun _ => 0)

def quiescent_KernelOutB [hKernelOutB : Cert.KernelOutB.Facts] : Prop :=
  ∀ (m : (ℓ : Loc Cert.KernelOutB.nD Cert.KernelOutB.τ Cert.KernelOutB.sig) → Buf (Elt Bits) ℓ) (g : Dev Cert.KernelOutB.nD → PrngReg), Pre_KernelOutB m →
    θ_run (Cert.KernelOutB.defs (F := Bits)) (onTc (τ := Cert.KernelOutB.τ) (Cert.KernelOutB.main (F := Bits))) ⟨m, fun _ => 0, g⟩ (fun r => (∀ c : Dev Cert.KernelOutB.nD,
      r.2.mem ((c.tc : Thread Cert.KernelOutB.nD Cert.KernelOutB.τ).loc Cert.KernelOutB.main_arg0) = m ((c.tc : Thread Cert.KernelOutB.nD Cert.KernelOutB.τ).loc Cert.KernelOutB.main_arg0)
      ∧ r.2.mem ((c.tc : Thread Cert.KernelOutB.nD Cert.KernelOutB.τ).loc Cert.KernelOutB.main_arg1) = m ((c.tc : Thread Cert.KernelOutB.nD Cert.KernelOutB.τ).loc Cert.KernelOutB.main_arg1)
      ∧ r.2.mem ((c.tc : Thread Cert.KernelOutB.nD Cert.KernelOutB.τ).loc Cert.KernelOutB.main_arg2) = m ((c.tc : Thread Cert.KernelOutB.nD Cert.KernelOutB.τ).loc Cert.KernelOutB.main_arg2)
      ∧ r.2.mem ((c.tc : Thread Cert.KernelOutB.nD Cert.KernelOutB.τ).loc Cert.KernelOutB.main_arg3) = m ((c.tc : Thread Cert.KernelOutB.nD Cert.KernelOutB.τ).loc Cert.KernelOutB.main_arg3)
      ∧ r.2.mem ((c.tc : Thread Cert.KernelOutB.nD Cert.KernelOutB.τ).loc Cert.KernelOutB.main_arg4) = m ((c.tc : Thread Cert.KernelOutB.nD Cert.KernelOutB.τ).loc Cert.KernelOutB.main_arg4)
      ∧ r.2.mem ((c.tc : Thread Cert.KernelOutB.nD Cert.KernelOutB.τ).loc Cert.KernelOutB.main_arg5) = m ((c.tc : Thread Cert.KernelOutB.nD Cert.KernelOutB.τ).loc Cert.KernelOutB.main_arg5)
      ∧ r.2.mem ((c.tc : Thread Cert.KernelOutB.nD Cert.KernelOutB.τ).loc Cert.KernelOutB.main_arg6) = m ((c.tc : Thread Cert.KernelOutB.nD Cert.KernelOutB.τ).loc Cert.KernelOutB.main_arg6)
      ∧ r.2.mem ((c.tc : Thread Cert.KernelOutB.nD Cert.KernelOutB.τ).loc Cert.KernelOutB.main_arg7) = m ((c.tc : Thread Cert.KernelOutB.nD Cert.KernelOutB.τ).loc Cert.KernelOutB.main_arg7))
      ∧ r.2.sem = fun _ => 0)

def quiescent_KernelOutBIdeal [hKernelOutBIdeal : Cert.KernelOutBIdeal.Facts] : Prop :=
  ∀ (m : (ℓ : Loc Cert.KernelOutBIdeal.nD Cert.KernelOutBIdeal.τ Cert.KernelOutBIdeal.sig) → Buf (Elt Ideal) ℓ) (g : Dev Cert.KernelOutBIdeal.nD → PrngReg), Pre_KernelOutBIdeal m →
    θ_run (Cert.KernelOutBIdeal.defs (F := Ideal)) (onTc (τ := Cert.KernelOutBIdeal.τ) (Cert.KernelOutBIdeal.main (F := Ideal))) ⟨m, fun _ => 0, g⟩ (fun r => (∀ c : Dev Cert.KernelOutBIdeal.nD,
      r.2.mem ((c.tc : Thread Cert.KernelOutBIdeal.nD Cert.KernelOutBIdeal.τ).loc Cert.KernelOutBIdeal.main_arg0) = m ((c.tc : Thread Cert.KernelOutBIdeal.nD Cert.KernelOutBIdeal.τ).loc Cert.KernelOutBIdeal.main_arg0)
      ∧ r.2.mem ((c.tc : Thread Cert.KernelOutBIdeal.nD Cert.KernelOutBIdeal.τ).loc Cert.KernelOutBIdeal.main_arg1) = m ((c.tc : Thread Cert.KernelOutBIdeal.nD Cert.KernelOutBIdeal.τ).loc Cert.KernelOutBIdeal.main_arg1)
      ∧ r.2.mem ((c.tc : Thread Cert.KernelOutBIdeal.nD Cert.KernelOutBIdeal.τ).loc Cert.KernelOutBIdeal.main_arg2) = m ((c.tc : Thread Cert.KernelOutBIdeal.nD Cert.KernelOutBIdeal.τ).loc Cert.KernelOutBIdeal.main_arg2)
      ∧ r.2.mem ((c.tc : Thread Cert.KernelOutBIdeal.nD Cert.KernelOutBIdeal.τ).loc Cert.KernelOutBIdeal.main_arg3) = m ((c.tc : Thread Cert.KernelOutBIdeal.nD Cert.KernelOutBIdeal.τ).loc Cert.KernelOutBIdeal.main_arg3)
      ∧ r.2.mem ((c.tc : Thread Cert.KernelOutBIdeal.nD Cert.KernelOutBIdeal.τ).loc Cert.KernelOutBIdeal.main_arg4) = m ((c.tc : Thread Cert.KernelOutBIdeal.nD Cert.KernelOutBIdeal.τ).loc Cert.KernelOutBIdeal.main_arg4)
      ∧ r.2.mem ((c.tc : Thread Cert.KernelOutBIdeal.nD Cert.KernelOutBIdeal.τ).loc Cert.KernelOutBIdeal.main_arg5) = m ((c.tc : Thread Cert.KernelOutBIdeal.nD Cert.KernelOutBIdeal.τ).loc Cert.KernelOutBIdeal.main_arg5)
      ∧ r.2.mem ((c.tc : Thread Cert.KernelOutBIdeal.nD Cert.KernelOutBIdeal.τ).loc Cert.KernelOutBIdeal.main_arg6) = m ((c.tc : Thread Cert.KernelOutBIdeal.nD Cert.KernelOutBIdeal.τ).loc Cert.KernelOutBIdeal.main_arg6)
      ∧ r.2.mem ((c.tc : Thread Cert.KernelOutBIdeal.nD Cert.KernelOutBIdeal.τ).loc Cert.KernelOutBIdeal.main_arg7) = m ((c.tc : Thread Cert.KernelOutBIdeal.nD Cert.KernelOutBIdeal.τ).loc Cert.KernelOutBIdeal.main_arg7))
      ∧ r.2.sem = fun _ => 0)

def quiescent_ReferenceOutBIdeal [hReferenceOutBIdeal : Cert.ReferenceOutBIdeal.Facts] : Prop :=
  ∀ (m : (ℓ : Loc Cert.ReferenceOutBIdeal.nD Cert.ReferenceOutBIdeal.τ Cert.ReferenceOutBIdeal.sig) → Buf (Elt Ideal) ℓ) (g : Dev Cert.ReferenceOutBIdeal.nD → PrngReg), Pre_ReferenceOutBIdeal m →
    θ_run (Cert.ReferenceOutBIdeal.defs (F := Ideal)) (onTc (τ := Cert.ReferenceOutBIdeal.τ) (Cert.ReferenceOutBIdeal.main (F := Ideal))) ⟨m, fun _ => 0, g⟩ (fun r => (∀ c : Dev Cert.ReferenceOutBIdeal.nD,
      r.2.mem ((c.tc : Thread Cert.ReferenceOutBIdeal.nD Cert.ReferenceOutBIdeal.τ).loc Cert.ReferenceOutBIdeal.main_arg0) = m ((c.tc : Thread Cert.ReferenceOutBIdeal.nD Cert.ReferenceOutBIdeal.τ).loc Cert.ReferenceOutBIdeal.main_arg0)
      ∧ r.2.mem ((c.tc : Thread Cert.ReferenceOutBIdeal.nD Cert.ReferenceOutBIdeal.τ).loc Cert.ReferenceOutBIdeal.main_arg1) = m ((c.tc : Thread Cert.ReferenceOutBIdeal.nD Cert.ReferenceOutBIdeal.τ).loc Cert.ReferenceOutBIdeal.main_arg1)
      ∧ r.2.mem ((c.tc : Thread Cert.ReferenceOutBIdeal.nD Cert.ReferenceOutBIdeal.τ).loc Cert.ReferenceOutBIdeal.main_arg2) = m ((c.tc : Thread Cert.ReferenceOutBIdeal.nD Cert.ReferenceOutBIdeal.τ).loc Cert.ReferenceOutBIdeal.main_arg2)
      ∧ r.2.mem ((c.tc : Thread Cert.ReferenceOutBIdeal.nD Cert.ReferenceOutBIdeal.τ).loc Cert.ReferenceOutBIdeal.main_arg3) = m ((c.tc : Thread Cert.ReferenceOutBIdeal.nD Cert.ReferenceOutBIdeal.τ).loc Cert.ReferenceOutBIdeal.main_arg3)
      ∧ r.2.mem ((c.tc : Thread Cert.ReferenceOutBIdeal.nD Cert.ReferenceOutBIdeal.τ).loc Cert.ReferenceOutBIdeal.main_arg4) = m ((c.tc : Thread Cert.ReferenceOutBIdeal.nD Cert.ReferenceOutBIdeal.τ).loc Cert.ReferenceOutBIdeal.main_arg4)
      ∧ r.2.mem ((c.tc : Thread Cert.ReferenceOutBIdeal.nD Cert.ReferenceOutBIdeal.τ).loc Cert.ReferenceOutBIdeal.main_arg5) = m ((c.tc : Thread Cert.ReferenceOutBIdeal.nD Cert.ReferenceOutBIdeal.τ).loc Cert.ReferenceOutBIdeal.main_arg5)
      ∧ r.2.mem ((c.tc : Thread Cert.ReferenceOutBIdeal.nD Cert.ReferenceOutBIdeal.τ).loc Cert.ReferenceOutBIdeal.main_arg6) = m ((c.tc : Thread Cert.ReferenceOutBIdeal.nD Cert.ReferenceOutBIdeal.τ).loc Cert.ReferenceOutBIdeal.main_arg6)
      ∧ r.2.mem ((c.tc : Thread Cert.ReferenceOutBIdeal.nD Cert.ReferenceOutBIdeal.τ).loc Cert.ReferenceOutBIdeal.main_arg7) = m ((c.tc : Thread Cert.ReferenceOutBIdeal.nD Cert.ReferenceOutBIdeal.τ).loc Cert.ReferenceOutBIdeal.main_arg7))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3)
      ∧ r.2.mem ((c.tc : Thread Cert.KernelPre.nD Cert.KernelPre.τ).loc Cert.KernelPre.main_arg4) = m ((c.tc : Thread Cert.KernelPre.nD Cert.KernelPre.τ).loc Cert.KernelPre.main_arg4)
      ∧ r.2.mem ((c.tc : Thread Cert.KernelPre.nD Cert.KernelPre.τ).loc Cert.KernelPre.main_arg5) = m ((c.tc : Thread Cert.KernelPre.nD Cert.KernelPre.τ).loc Cert.KernelPre.main_arg5))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
      ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)
      ∧ m' ((c.tc : Thread Cert.ReferenceMlpIdeal.nD Cert.ReferenceMlpIdeal.τ).loc Cert.ReferenceMlpIdeal.main_arg6) = m ((c.tc : Thread Cert.KernelMlpIdeal.nD Cert.KernelMlpIdeal.τ).loc Cert.KernelMlpIdeal.main_arg6)) →
    ∃ (v0 : (c : Dev Cert.KernelMlpIdeal.nD) → Buf (Elt Ideal) ((c.tc : Thread Cert.KernelMlpIdeal.nD Cert.KernelMlpIdeal.τ).loc Cert.KernelMlpIdeal.main_v34_0)) (v1 : (c : Dev Cert.KernelMlpIdeal.nD) → Buf (Elt Ideal) ((c.tc : Thread Cert.KernelMlpIdeal.nD Cert.KernelMlpIdeal.τ).loc Cert.KernelMlpIdeal.main_v34_1)) (v2 : (c : Dev Cert.KernelMlpIdeal.nD) → Buf (Elt Ideal) ((c.tc : Thread Cert.KernelMlpIdeal.nD Cert.KernelMlpIdeal.τ).loc Cert.KernelMlpIdeal.main_v34_2)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v34_0) = v0 c
          ∧ r.2.mem ((c.tc : Thread Cert.KernelMlpIdeal.nD Cert.KernelMlpIdeal.τ).loc Cert.KernelMlpIdeal.main_v34_1) = v1 c
          ∧ r.2.mem ((c.tc : Thread Cert.KernelMlpIdeal.nD Cert.KernelMlpIdeal.τ).loc Cert.KernelMlpIdeal.main_v34_2) = v2 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
          ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v25) = v0 c
          ∧ r.2.mem ((c.tc : Thread Cert.ReferenceMlpIdeal.nD Cert.ReferenceMlpIdeal.τ).loc Cert.ReferenceMlpIdeal.main_v26) = v1 c
          ∧ r.2.mem ((c.tc : Thread Cert.ReferenceMlpIdeal.nD Cert.ReferenceMlpIdeal.τ).loc Cert.ReferenceMlpIdeal.main_v30) = v2 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5)
          ∧ r.2.mem ((c.tc : Thread Cert.ReferenceMlpIdeal.nD Cert.ReferenceMlpIdeal.τ).loc Cert.ReferenceMlpIdeal.main_arg6) = m' ((c.tc : Thread Cert.ReferenceMlpIdeal.nD Cert.ReferenceMlpIdeal.τ).loc Cert.ReferenceMlpIdeal.main_arg6))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v11) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v12) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDownB_KernelDownBIdeal : Prop :=
  True

def algebraic_KernelDownBIdeal_ReferenceDownBIdeal [hKernelDownBIdeal : Cert.KernelDownBIdeal.Facts] [hReferenceDownBIdeal : Cert.ReferenceDownBIdeal.Facts] : Prop :=
  ∀ (m : (ℓ : Loc Cert.KernelDownBIdeal.nD Cert.KernelDownBIdeal.τ Cert.KernelDownBIdeal.sig) → Buf (Elt Ideal) ℓ) (g : Dev Cert.KernelDownBIdeal.nD → PrngReg)
    (m' : (ℓ : Loc Cert.ReferenceDownBIdeal.nD Cert.ReferenceDownBIdeal.τ Cert.ReferenceDownBIdeal.sig) → Buf (Elt Ideal) ℓ) (g' : Dev Cert.ReferenceDownBIdeal.nD → PrngReg), Pre_KernelDownBIdeal m →
    (∀ c : Dev Cert.KernelDownBIdeal.nD,
      m' ((c.tc : Thread Cert.ReferenceDownBIdeal.nD Cert.ReferenceDownBIdeal.τ).loc Cert.ReferenceDownBIdeal.main_arg0) = m ((c.tc : Thread Cert.KernelDownBIdeal.nD Cert.KernelDownBIdeal.τ).loc Cert.KernelDownBIdeal.main_arg0)
      ∧ m' ((c.tc : Thread Cert.ReferenceDownBIdeal.nD Cert.ReferenceDownBIdeal.τ).loc Cert.ReferenceDownBIdeal.main_arg1) = m ((c.tc : Thread Cert.KernelDownBIdeal.nD Cert.KernelDownBIdeal.τ).loc Cert.KernelDownBIdeal.main_arg1)) →
    ∃ (v0 : (c : Dev Cert.KernelDownBIdeal.nD) → Buf (Elt Ideal) ((c.tc : Thread Cert.KernelDownBIdeal.nD Cert.KernelDownBIdeal.τ).loc Cert.KernelDownBIdeal.main_v2)),
      θ_run (Cert.KernelDownBIdeal.defs (F := Ideal)) (onTc (τ := Cert.KernelDownBIdeal.τ) (Cert.KernelDownBIdeal.main (F := Ideal))) ⟨m, fun _ => 0, g⟩ (fun r => ∀ c : Dev Cert.KernelDownBIdeal.nD,
          r.2.mem ((c.tc : Thread Cert.KernelDownBIdeal.nD Cert.KernelDownBIdeal.τ).loc Cert.KernelDownBIdeal.main_v2) = v0 c
          ∧ r.2.mem ((c.tc : Thread Cert.KernelDownBIdeal.nD Cert.KernelDownBIdeal.τ).loc Cert.KernelDownBIdeal.main_arg0) = m ((c.tc : Thread Cert.KernelDownBIdeal.nD Cert.KernelDownBIdeal.τ).loc Cert.KernelDownBIdeal.main_arg0)
          ∧ r.2.mem ((c.tc : Thread Cert.KernelDownBIdeal.nD Cert.KernelDownBIdeal.τ).loc Cert.KernelDownBIdeal.main_arg1) = m ((c.tc : Thread Cert.KernelDownBIdeal.nD Cert.KernelDownBIdeal.τ).loc Cert.KernelDownBIdeal.main_arg1))
      ∧ θ_run (Cert.ReferenceDownBIdeal.defs (F := Ideal)) (onTc (τ := Cert.ReferenceDownBIdeal.τ) (Cert.ReferenceDownBIdeal.main (F := Ideal))) ⟨m', fun _ => 0, g'⟩ (fun r => ∀ c : Dev Cert.ReferenceDownBIdeal.nD,
          r.2.mem ((c.tc : Thread Cert.ReferenceDownBIdeal.nD Cert.ReferenceDownBIdeal.τ).loc Cert.ReferenceDownBIdeal.main_v6) = v0 c
          ∧ r.2.mem ((c.tc : Thread Cert.ReferenceDownBIdeal.nD Cert.ReferenceDownBIdeal.τ).loc Cert.ReferenceDownBIdeal.main_arg0) = m' ((c.tc : Thread Cert.ReferenceDownBIdeal.nD Cert.ReferenceDownBIdeal.τ).loc Cert.ReferenceDownBIdeal.main_arg0)
          ∧ r.2.mem ((c.tc : Thread Cert.ReferenceDownBIdeal.nD Cert.ReferenceDownBIdeal.τ).loc Cert.ReferenceDownBIdeal.main_arg1) = m' ((c.tc : Thread Cert.ReferenceDownBIdeal.nD Cert.ReferenceDownBIdeal.τ).loc Cert.ReferenceDownBIdeal.main_arg1))

def preserves_KernelUpB_KernelUpBIdeal : Prop :=
  True

def algebraic_KernelUpBIdeal_ReferenceUpBIdeal [hKernelUpBIdeal : Cert.KernelUpBIdeal.Facts] [hReferenceUpBIdeal : Cert.ReferenceUpBIdeal.Facts] : Prop :=
  ∀ (m : (ℓ : Loc Cert.KernelUpBIdeal.nD Cert.KernelUpBIdeal.τ Cert.KernelUpBIdeal.sig) → Buf (Elt Ideal) ℓ) (g : Dev Cert.KernelUpBIdeal.nD → PrngReg)
    (m' : (ℓ : Loc Cert.ReferenceUpBIdeal.nD Cert.ReferenceUpBIdeal.τ Cert.ReferenceUpBIdeal.sig) → Buf (Elt Ideal) ℓ) (g' : Dev Cert.ReferenceUpBIdeal.nD → PrngReg), Pre_KernelUpBIdeal m →
    (∀ c : Dev Cert.KernelUpBIdeal.nD,
      m' ((c.tc : Thread Cert.ReferenceUpBIdeal.nD Cert.ReferenceUpBIdeal.τ).loc Cert.ReferenceUpBIdeal.main_arg0) = m ((c.tc : Thread Cert.KernelUpBIdeal.nD Cert.KernelUpBIdeal.τ).loc Cert.KernelUpBIdeal.main_arg0)
      ∧ m' ((c.tc : Thread Cert.ReferenceUpBIdeal.nD Cert.ReferenceUpBIdeal.τ).loc Cert.ReferenceUpBIdeal.main_arg1) = m ((c.tc : Thread Cert.KernelUpBIdeal.nD Cert.KernelUpBIdeal.τ).loc Cert.KernelUpBIdeal.main_arg1)) →
    ∃ (v0 : (c : Dev Cert.KernelUpBIdeal.nD) → Buf (Elt Ideal) ((c.tc : Thread Cert.KernelUpBIdeal.nD Cert.KernelUpBIdeal.τ).loc Cert.KernelUpBIdeal.main_v2)),
      θ_run (Cert.KernelUpBIdeal.defs (F := Ideal)) (onTc (τ := Cert.KernelUpBIdeal.τ) (Cert.KernelUpBIdeal.main (F := Ideal))) ⟨m, fun _ => 0, g⟩ (fun r => ∀ c : Dev Cert.KernelUpBIdeal.nD,
          r.2.mem ((c.tc : Thread Cert.KernelUpBIdeal.nD Cert.KernelUpBIdeal.τ).loc Cert.KernelUpBIdeal.main_v2) = v0 c
          ∧ r.2.mem ((c.tc : Thread Cert.KernelUpBIdeal.nD Cert.KernelUpBIdeal.τ).loc Cert.KernelUpBIdeal.main_arg0) = m ((c.tc : Thread Cert.KernelUpBIdeal.nD Cert.KernelUpBIdeal.τ).loc Cert.KernelUpBIdeal.main_arg0)
          ∧ r.2.mem ((c.tc : Thread Cert.KernelUpBIdeal.nD Cert.KernelUpBIdeal.τ).loc Cert.KernelUpBIdeal.main_arg1) = m ((c.tc : Thread Cert.KernelUpBIdeal.nD Cert.KernelUpBIdeal.τ).loc Cert.KernelUpBIdeal.main_arg1))
      ∧ θ_run (Cert.ReferenceUpBIdeal.defs (F := Ideal)) (onTc (τ := Cert.ReferenceUpBIdeal.τ) (Cert.ReferenceUpBIdeal.main (F := Ideal))) ⟨m', fun _ => 0, g'⟩ (fun r => ∀ c : Dev Cert.ReferenceUpBIdeal.nD,
          r.2.mem ((c.tc : Thread Cert.ReferenceUpBIdeal.nD Cert.ReferenceUpBIdeal.τ).loc Cert.ReferenceUpBIdeal.main_v7) = v0 c
          ∧ r.2.mem ((c.tc : Thread Cert.ReferenceUpBIdeal.nD Cert.ReferenceUpBIdeal.τ).loc Cert.ReferenceUpBIdeal.main_arg0) = m' ((c.tc : Thread Cert.ReferenceUpBIdeal.nD Cert.ReferenceUpBIdeal.τ).loc Cert.ReferenceUpBIdeal.main_arg0)
          ∧ r.2.mem ((c.tc : Thread Cert.ReferenceUpBIdeal.nD Cert.ReferenceUpBIdeal.τ).loc Cert.ReferenceUpBIdeal.main_arg1) = m' ((c.tc : Thread Cert.ReferenceUpBIdeal.nD Cert.ReferenceUpBIdeal.τ).loc Cert.ReferenceUpBIdeal.main_arg1))

def preserves_KernelDwA_KernelDwAIdeal : Prop :=
  True

def algebraic_KernelDwAIdeal_ReferenceDwAIdeal [hKernelDwAIdeal : Cert.KernelDwAIdeal.Facts] [hReferenceDwAIdeal : Cert.ReferenceDwAIdeal.Facts] : Prop :=
  ∀ (m : (ℓ : Loc Cert.KernelDwAIdeal.nD Cert.KernelDwAIdeal.τ Cert.KernelDwAIdeal.sig) → Buf (Elt Ideal) ℓ) (g : Dev Cert.KernelDwAIdeal.nD → PrngReg)
    (m' : (ℓ : Loc Cert.ReferenceDwAIdeal.nD Cert.ReferenceDwAIdeal.τ Cert.ReferenceDwAIdeal.sig) → Buf (Elt Ideal) ℓ) (g' : Dev Cert.ReferenceDwAIdeal.nD → PrngReg), Pre_KernelDwAIdeal m →
    (∀ c : Dev Cert.KernelDwAIdeal.nD,
      m' ((c.tc : Thread Cert.ReferenceDwAIdeal.nD Cert.ReferenceDwAIdeal.τ).loc Cert.ReferenceDwAIdeal.main_arg0) = m ((c.tc : Thread Cert.KernelDwAIdeal.nD Cert.KernelDwAIdeal.τ).loc Cert.KernelDwAIdeal.main_arg0)
      ∧ m' ((c.tc : Thread Cert.ReferenceDwAIdeal.nD Cert.ReferenceDwAIdeal.τ).loc Cert.ReferenceDwAIdeal.main_arg1) = m ((c.tc : Thread Cert.KernelDwAIdeal.nD Cert.KernelDwAIdeal.τ).loc Cert.KernelDwAIdeal.main_arg1)) →
    ∃ (v0 : (c : Dev Cert.KernelDwAIdeal.nD) → Buf (Elt Ideal) ((c.tc : Thread Cert.KernelDwAIdeal.nD Cert.KernelDwAIdeal.τ).loc Cert.KernelDwAIdeal.main_v0)),
      θ_run (Cert.KernelDwAIdeal.defs (F := Ideal)) (onTc (τ := Cert.KernelDwAIdeal.τ) (Cert.KernelDwAIdeal.main (F := Ideal))) ⟨m, fun _ => 0, g⟩ (fun r => ∀ c : Dev Cert.KernelDwAIdeal.nD,
          r.2.mem ((c.tc : Thread Cert.KernelDwAIdeal.nD Cert.KernelDwAIdeal.τ).loc Cert.KernelDwAIdeal.main_v0) = v0 c
          ∧ r.2.mem ((c.tc : Thread Cert.KernelDwAIdeal.nD Cert.KernelDwAIdeal.τ).loc Cert.KernelDwAIdeal.main_arg0) = m ((c.tc : Thread Cert.KernelDwAIdeal.nD Cert.KernelDwAIdeal.τ).loc Cert.KernelDwAIdeal.main_arg0)
          ∧ r.2.mem ((c.tc : Thread Cert.KernelDwAIdeal.nD Cert.KernelDwAIdeal.τ).loc Cert.KernelDwAIdeal.main_arg1) = m ((c.tc : Thread Cert.KernelDwAIdeal.nD Cert.KernelDwAIdeal.τ).loc Cert.KernelDwAIdeal.main_arg1))
      ∧ θ_run (Cert.ReferenceDwAIdeal.defs (F := Ideal)) (onTc (τ := Cert.ReferenceDwAIdeal.τ) (Cert.ReferenceDwAIdeal.main (F := Ideal))) ⟨m', fun _ => 0, g'⟩ (fun r => ∀ c : Dev Cert.ReferenceDwAIdeal.nD,
          r.2.mem ((c.tc : Thread Cert.ReferenceDwAIdeal.nD Cert.ReferenceDwAIdeal.τ).loc Cert.ReferenceDwAIdeal.main_v5) = v0 c
          ∧ r.2.mem ((c.tc : Thread Cert.ReferenceDwAIdeal.nD Cert.ReferenceDwAIdeal.τ).loc Cert.ReferenceDwAIdeal.main_arg0) = m' ((c.tc : Thread Cert.ReferenceDwAIdeal.nD Cert.ReferenceDwAIdeal.τ).loc Cert.ReferenceDwAIdeal.main_arg0)
          ∧ r.2.mem ((c.tc : Thread Cert.ReferenceDwAIdeal.nD Cert.ReferenceDwAIdeal.τ).loc Cert.ReferenceDwAIdeal.main_arg1) = m' ((c.tc : Thread Cert.ReferenceDwAIdeal.nD Cert.ReferenceDwAIdeal.τ).loc Cert.ReferenceDwAIdeal.main_arg1))

def preserves_KernelDwB_KernelDwBIdeal : Prop :=
  True

def algebraic_KernelDwBIdeal_ReferenceDwBIdeal [hKernelDwBIdeal : Cert.KernelDwBIdeal.Facts] [hReferenceDwBIdeal : Cert.ReferenceDwBIdeal.Facts] : Prop :=
  ∀ (m : (ℓ : Loc Cert.KernelDwBIdeal.nD Cert.KernelDwBIdeal.τ Cert.KernelDwBIdeal.sig) → Buf (Elt Ideal) ℓ) (g : Dev Cert.KernelDwBIdeal.nD → PrngReg)
    (m' : (ℓ : Loc Cert.ReferenceDwBIdeal.nD Cert.ReferenceDwBIdeal.τ Cert.ReferenceDwBIdeal.sig) → Buf (Elt Ideal) ℓ) (g' : Dev Cert.ReferenceDwBIdeal.nD → PrngReg), Pre_KernelDwBIdeal m →
    (∀ c : Dev Cert.KernelDwBIdeal.nD,
      m' ((c.tc : Thread Cert.ReferenceDwBIdeal.nD Cert.ReferenceDwBIdeal.τ).loc Cert.ReferenceDwBIdeal.main_arg0) = m ((c.tc : Thread Cert.KernelDwBIdeal.nD Cert.KernelDwBIdeal.τ).loc Cert.KernelDwBIdeal.main_arg0)
      ∧ m' ((c.tc : Thread Cert.ReferenceDwBIdeal.nD Cert.ReferenceDwBIdeal.τ).loc Cert.ReferenceDwBIdeal.main_arg1) = m ((c.tc : Thread Cert.KernelDwBIdeal.nD Cert.KernelDwBIdeal.τ).loc Cert.KernelDwBIdeal.main_arg1)) →
    ∃ (v0 : (c : Dev Cert.KernelDwBIdeal.nD) → Buf (Elt Ideal) ((c.tc : Thread Cert.KernelDwBIdeal.nD Cert.KernelDwBIdeal.τ).loc Cert.KernelDwBIdeal.main_v0)),
      θ_run (Cert.KernelDwBIdeal.defs (F := Ideal)) (onTc (τ := Cert.KernelDwBIdeal.τ) (Cert.KernelDwBIdeal.main (F := Ideal))) ⟨m, fun _ => 0, g⟩ (fun r => ∀ c : Dev Cert.KernelDwBIdeal.nD,
          r.2.mem ((c.tc : Thread Cert.KernelDwBIdeal.nD Cert.KernelDwBIdeal.τ).loc Cert.KernelDwBIdeal.main_v0) = v0 c
          ∧ r.2.mem ((c.tc : Thread Cert.KernelDwBIdeal.nD Cert.KernelDwBIdeal.τ).loc Cert.KernelDwBIdeal.main_arg0) = m ((c.tc : Thread Cert.KernelDwBIdeal.nD Cert.KernelDwBIdeal.τ).loc Cert.KernelDwBIdeal.main_arg0)
          ∧ r.2.mem ((c.tc : Thread Cert.KernelDwBIdeal.nD Cert.KernelDwBIdeal.τ).loc Cert.KernelDwBIdeal.main_arg1) = m ((c.tc : Thread Cert.KernelDwBIdeal.nD Cert.KernelDwBIdeal.τ).loc Cert.KernelDwBIdeal.main_arg1))
      ∧ θ_run (Cert.ReferenceDwBIdeal.defs (F := Ideal)) (onTc (τ := Cert.ReferenceDwBIdeal.τ) (Cert.ReferenceDwBIdeal.main (F := Ideal))) ⟨m', fun _ => 0, g'⟩ (fun r => ∀ c : Dev Cert.ReferenceDwBIdeal.nD,
          r.2.mem ((c.tc : Thread Cert.ReferenceDwBIdeal.nD Cert.ReferenceDwBIdeal.τ).loc Cert.ReferenceDwBIdeal.main_v6) = v0 c
          ∧ r.2.mem ((c.tc : Thread Cert.ReferenceDwBIdeal.nD Cert.ReferenceDwBIdeal.τ).loc Cert.ReferenceDwBIdeal.main_arg0) = m' ((c.tc : Thread Cert.ReferenceDwBIdeal.nD Cert.ReferenceDwBIdeal.τ).loc Cert.ReferenceDwBIdeal.main_arg0)
          ∧ r.2.mem ((c.tc : Thread Cert.ReferenceDwBIdeal.nD Cert.ReferenceDwBIdeal.τ).loc Cert.ReferenceDwBIdeal.main_arg1) = m' ((c.tc : Thread Cert.ReferenceDwBIdeal.nD Cert.ReferenceDwBIdeal.τ).loc Cert.ReferenceDwBIdeal.main_arg1))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v0)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v0) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v8) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelOutA_KernelOutAIdeal : Prop :=
  True

def algebraic_KernelOutAIdeal_ReferenceOutAIdeal [hKernelOutAIdeal : Cert.KernelOutAIdeal.Facts] [hReferenceOutAIdeal : Cert.ReferenceOutAIdeal.Facts] : Prop :=
  ∀ (m : (ℓ : Loc Cert.KernelOutAIdeal.nD Cert.KernelOutAIdeal.τ Cert.KernelOutAIdeal.sig) → Buf (Elt Ideal) ℓ) (g : Dev Cert.KernelOutAIdeal.nD → PrngReg)
    (m' : (ℓ : Loc Cert.ReferenceOutAIdeal.nD Cert.ReferenceOutAIdeal.τ Cert.ReferenceOutAIdeal.sig) → Buf (Elt Ideal) ℓ) (g' : Dev Cert.ReferenceOutAIdeal.nD → PrngReg), Pre_KernelOutAIdeal m →
    (∀ c : Dev Cert.KernelOutAIdeal.nD,
      m' ((c.tc : Thread Cert.ReferenceOutAIdeal.nD Cert.ReferenceOutAIdeal.τ).loc Cert.ReferenceOutAIdeal.main_arg0) = m ((c.tc : Thread Cert.KernelOutAIdeal.nD Cert.KernelOutAIdeal.τ).loc Cert.KernelOutAIdeal.main_arg0)
      ∧ m' ((c.tc : Thread Cert.ReferenceOutAIdeal.nD Cert.ReferenceOutAIdeal.τ).loc Cert.ReferenceOutAIdeal.main_arg1) = m ((c.tc : Thread Cert.KernelOutAIdeal.nD Cert.KernelOutAIdeal.τ).loc Cert.KernelOutAIdeal.main_arg1)
      ∧ m' ((c.tc : Thread Cert.ReferenceOutAIdeal.nD Cert.ReferenceOutAIdeal.τ).loc Cert.ReferenceOutAIdeal.main_arg2) = m ((c.tc : Thread Cert.KernelOutAIdeal.nD Cert.KernelOutAIdeal.τ).loc Cert.KernelOutAIdeal.main_arg2)
      ∧ m' ((c.tc : Thread Cert.ReferenceOutAIdeal.nD Cert.ReferenceOutAIdeal.τ).loc Cert.ReferenceOutAIdeal.main_arg3) = m ((c.tc : Thread Cert.KernelOutAIdeal.nD Cert.KernelOutAIdeal.τ).loc Cert.KernelOutAIdeal.main_arg3)
      ∧ m' ((c.tc : Thread Cert.ReferenceOutAIdeal.nD Cert.ReferenceOutAIdeal.τ).loc Cert.ReferenceOutAIdeal.main_arg4) = m ((c.tc : Thread Cert.KernelOutAIdeal.nD Cert.KernelOutAIdeal.τ).loc Cert.KernelOutAIdeal.main_arg4)
      ∧ m' ((c.tc : Thread Cert.ReferenceOutAIdeal.nD Cert.ReferenceOutAIdeal.τ).loc Cert.ReferenceOutAIdeal.main_arg5) = m ((c.tc : Thread Cert.KernelOutAIdeal.nD Cert.KernelOutAIdeal.τ).loc Cert.KernelOutAIdeal.main_arg5)
      ∧ m' ((c.tc : Thread Cert.ReferenceOutAIdeal.nD Cert.ReferenceOutAIdeal.τ).loc Cert.ReferenceOutAIdeal.main_arg6) = m ((c.tc : Thread Cert.KernelOutAIdeal.nD Cert.KernelOutAIdeal.τ).loc Cert.KernelOutAIdeal.main_arg6)) →
    ∃ (v0 : (c : Dev Cert.KernelOutAIdeal.nD) → Buf (Elt Ideal) ((c.tc : Thread Cert.KernelOutAIdeal.nD Cert.KernelOutAIdeal.τ).loc Cert.KernelOutAIdeal.main_v11_0)) (v1 : (c : Dev Cert.KernelOutAIdeal.nD) → Buf (Elt Ideal) ((c.tc : Thread Cert.KernelOutAIdeal.nD Cert.KernelOutAIdeal.τ).loc Cert.KernelOutAIdeal.main_v11_1)) (v2 : (c : Dev Cert.KernelOutAIdeal.nD) → Buf (Elt Ideal) ((c.tc : Thread Cert.KernelOutAIdeal.nD Cert.KernelOutAIdeal.τ).loc Cert.KernelOutAIdeal.main_v11_2)),
      θ_run (Cert.KernelOutAIdeal.defs (F := Ideal)) (onTc (τ := Cert.KernelOutAIdeal.τ) (Cert.KernelOutAIdeal.main (F := Ideal))) ⟨m, fun _ => 0, g⟩ (fun r => ∀ c : Dev Cert.KernelOutAIdeal.nD,
          r.2.mem ((c.tc : Thread Cert.KernelOutAIdeal.nD Cert.KernelOutAIdeal.τ).loc Cert.KernelOutAIdeal.main_v11_0) = v0 c
          ∧ r.2.mem ((c.tc : Thread Cert.KernelOutAIdeal.nD Cert.KernelOutAIdeal.τ).loc Cert.KernelOutAIdeal.main_v11_1) = v1 c
          ∧ r.2.mem ((c.tc : Thread Cert.KernelOutAIdeal.nD Cert.KernelOutAIdeal.τ).loc Cert.KernelOutAIdeal.main_v11_2) = v2 c
          ∧ r.2.mem ((c.tc : Thread Cert.KernelOutAIdeal.nD Cert.KernelOutAIdeal.τ).loc Cert.KernelOutAIdeal.main_arg0) = m ((c.tc : Thread Cert.KernelOutAIdeal.nD Cert.KernelOutAIdeal.τ).loc Cert.KernelOutAIdeal.main_arg0)
          ∧ r.2.mem ((c.tc : Thread Cert.KernelOutAIdeal.nD Cert.KernelOutAIdeal.τ).loc Cert.KernelOutAIdeal.main_arg1) = m ((c.tc : Thread Cert.KernelOutAIdeal.nD Cert.KernelOutAIdeal.τ).loc Cert.KernelOutAIdeal.main_arg1)
          ∧ r.2.mem ((c.tc : Thread Cert.KernelOutAIdeal.nD Cert.KernelOutAIdeal.τ).loc Cert.KernelOutAIdeal.main_arg2) = m ((c.tc : Thread Cert.KernelOutAIdeal.nD Cert.KernelOutAIdeal.τ).loc Cert.KernelOutAIdeal.main_arg2)
          ∧ r.2.mem ((c.tc : Thread Cert.KernelOutAIdeal.nD Cert.KernelOutAIdeal.τ).loc Cert.KernelOutAIdeal.main_arg3) = m ((c.tc : Thread Cert.KernelOutAIdeal.nD Cert.KernelOutAIdeal.τ).loc Cert.KernelOutAIdeal.main_arg3)
          ∧ r.2.mem ((c.tc : Thread Cert.KernelOutAIdeal.nD Cert.KernelOutAIdeal.τ).loc Cert.KernelOutAIdeal.main_arg4) = m ((c.tc : Thread Cert.KernelOutAIdeal.nD Cert.KernelOutAIdeal.τ).loc Cert.KernelOutAIdeal.main_arg4)
          ∧ r.2.mem ((c.tc : Thread Cert.KernelOutAIdeal.nD Cert.KernelOutAIdeal.τ).loc Cert.KernelOutAIdeal.main_arg5) = m ((c.tc : Thread Cert.KernelOutAIdeal.nD Cert.KernelOutAIdeal.τ).loc Cert.KernelOutAIdeal.main_arg5)
          ∧ r.2.mem ((c.tc : Thread Cert.KernelOutAIdeal.nD Cert.KernelOutAIdeal.τ).loc Cert.KernelOutAIdeal.main_arg6) = m ((c.tc : Thread Cert.KernelOutAIdeal.nD Cert.KernelOutAIdeal.τ).loc Cert.KernelOutAIdeal.main_arg6))
      ∧ θ_run (Cert.ReferenceOutAIdeal.defs (F := Ideal)) (onTc (τ := Cert.ReferenceOutAIdeal.τ) (Cert.ReferenceOutAIdeal.main (F := Ideal))) ⟨m', fun _ => 0, g'⟩ (fun r => ∀ c : Dev Cert.ReferenceOutAIdeal.nD,
          r.2.mem ((c.tc : Thread Cert.ReferenceOutAIdeal.nD Cert.ReferenceOutAIdeal.τ).loc Cert.ReferenceOutAIdeal.main_v5) = v0 c
          ∧ r.2.mem ((c.tc : Thread Cert.ReferenceOutAIdeal.nD Cert.ReferenceOutAIdeal.τ).loc Cert.ReferenceOutAIdeal.main_v4) = v1 c
          ∧ r.2.mem ((c.tc : Thread Cert.ReferenceOutAIdeal.nD Cert.ReferenceOutAIdeal.τ).loc Cert.ReferenceOutAIdeal.main_v27) = v2 c
          ∧ r.2.mem ((c.tc : Thread Cert.ReferenceOutAIdeal.nD Cert.ReferenceOutAIdeal.τ).loc Cert.ReferenceOutAIdeal.main_arg0) = m' ((c.tc : Thread Cert.ReferenceOutAIdeal.nD Cert.ReferenceOutAIdeal.τ).loc Cert.ReferenceOutAIdeal.main_arg0)
          ∧ r.2.mem ((c.tc : Thread Cert.ReferenceOutAIdeal.nD Cert.ReferenceOutAIdeal.τ).loc Cert.ReferenceOutAIdeal.main_arg1) = m' ((c.tc : Thread Cert.ReferenceOutAIdeal.nD Cert.ReferenceOutAIdeal.τ).loc Cert.ReferenceOutAIdeal.main_arg1)
          ∧ r.2.mem ((c.tc : Thread Cert.ReferenceOutAIdeal.nD Cert.ReferenceOutAIdeal.τ).loc Cert.ReferenceOutAIdeal.main_arg2) = m' ((c.tc : Thread Cert.ReferenceOutAIdeal.nD Cert.ReferenceOutAIdeal.τ).loc Cert.ReferenceOutAIdeal.main_arg2)
          ∧ r.2.mem ((c.tc : Thread Cert.ReferenceOutAIdeal.nD Cert.ReferenceOutAIdeal.τ).loc Cert.ReferenceOutAIdeal.main_arg3) = m' ((c.tc : Thread Cert.ReferenceOutAIdeal.nD Cert.ReferenceOutAIdeal.τ).loc Cert.ReferenceOutAIdeal.main_arg3)
          ∧ r.2.mem ((c.tc : Thread Cert.ReferenceOutAIdeal.nD Cert.ReferenceOutAIdeal.τ).loc Cert.ReferenceOutAIdeal.main_arg4) = m' ((c.tc : Thread Cert.ReferenceOutAIdeal.nD Cert.ReferenceOutAIdeal.τ).loc Cert.ReferenceOutAIdeal.main_arg4)
          ∧ r.2.mem ((c.tc : Thread Cert.ReferenceOutAIdeal.nD Cert.ReferenceOutAIdeal.τ).loc Cert.ReferenceOutAIdeal.main_arg5) = m' ((c.tc : Thread Cert.ReferenceOutAIdeal.nD Cert.ReferenceOutAIdeal.τ).loc Cert.ReferenceOutAIdeal.main_arg5)
          ∧ r.2.mem ((c.tc : Thread Cert.ReferenceOutAIdeal.nD Cert.ReferenceOutAIdeal.τ).loc Cert.ReferenceOutAIdeal.main_arg6) = m' ((c.tc : Thread Cert.ReferenceOutAIdeal.nD Cert.ReferenceOutAIdeal.τ).loc Cert.ReferenceOutAIdeal.main_arg6))

def preserves_KernelOutB_KernelOutBIdeal : Prop :=
  True

def algebraic_KernelOutBIdeal_ReferenceOutBIdeal [hKernelOutBIdeal : Cert.KernelOutBIdeal.Facts] [hReferenceOutBIdeal : Cert.ReferenceOutBIdeal.Facts] : Prop :=
  ∀ (m : (ℓ : Loc Cert.KernelOutBIdeal.nD Cert.KernelOutBIdeal.τ Cert.KernelOutBIdeal.sig) → Buf (Elt Ideal) ℓ) (g : Dev Cert.KernelOutBIdeal.nD → PrngReg)
    (m' : (ℓ : Loc Cert.ReferenceOutBIdeal.nD Cert.ReferenceOutBIdeal.τ Cert.ReferenceOutBIdeal.sig) → Buf (Elt Ideal) ℓ) (g' : Dev Cert.ReferenceOutBIdeal.nD → PrngReg), Pre_KernelOutBIdeal m →
    (∀ c : Dev Cert.KernelOutBIdeal.nD,
      m' ((c.tc : Thread Cert.ReferenceOutBIdeal.nD Cert.ReferenceOutBIdeal.τ).loc Cert.ReferenceOutBIdeal.main_arg0) = m ((c.tc : Thread Cert.KernelOutBIdeal.nD Cert.KernelOutBIdeal.τ).loc Cert.KernelOutBIdeal.main_arg0)
      ∧ m' ((c.tc : Thread Cert.ReferenceOutBIdeal.nD Cert.ReferenceOutBIdeal.τ).loc Cert.ReferenceOutBIdeal.main_arg1) = m ((c.tc : Thread Cert.KernelOutBIdeal.nD Cert.KernelOutBIdeal.τ).loc Cert.KernelOutBIdeal.main_arg1)
      ∧ m' ((c.tc : Thread Cert.ReferenceOutBIdeal.nD Cert.ReferenceOutBIdeal.τ).loc Cert.ReferenceOutBIdeal.main_arg2) = m ((c.tc : Thread Cert.KernelOutBIdeal.nD Cert.KernelOutBIdeal.τ).loc Cert.KernelOutBIdeal.main_arg2)
      ∧ m' ((c.tc : Thread Cert.ReferenceOutBIdeal.nD Cert.ReferenceOutBIdeal.τ).loc Cert.ReferenceOutBIdeal.main_arg3) = m ((c.tc : Thread Cert.KernelOutBIdeal.nD Cert.KernelOutBIdeal.τ).loc Cert.KernelOutBIdeal.main_arg3)
      ∧ m' ((c.tc : Thread Cert.ReferenceOutBIdeal.nD Cert.ReferenceOutBIdeal.τ).loc Cert.ReferenceOutBIdeal.main_arg4) = m ((c.tc : Thread Cert.KernelOutBIdeal.nD Cert.KernelOutBIdeal.τ).loc Cert.KernelOutBIdeal.main_arg4)
      ∧ m' ((c.tc : Thread Cert.ReferenceOutBIdeal.nD Cert.ReferenceOutBIdeal.τ).loc Cert.ReferenceOutBIdeal.main_arg5) = m ((c.tc : Thread Cert.KernelOutBIdeal.nD Cert.KernelOutBIdeal.τ).loc Cert.KernelOutBIdeal.main_arg5)
      ∧ m' ((c.tc : Thread Cert.ReferenceOutBIdeal.nD Cert.ReferenceOutBIdeal.τ).loc Cert.ReferenceOutBIdeal.main_arg6) = m ((c.tc : Thread Cert.KernelOutBIdeal.nD Cert.KernelOutBIdeal.τ).loc Cert.KernelOutBIdeal.main_arg6)
      ∧ m' ((c.tc : Thread Cert.ReferenceOutBIdeal.nD Cert.ReferenceOutBIdeal.τ).loc Cert.ReferenceOutBIdeal.main_arg7) = m ((c.tc : Thread Cert.KernelOutBIdeal.nD Cert.KernelOutBIdeal.τ).loc Cert.KernelOutBIdeal.main_arg7)) →
    ∃ (v0 : (c : Dev Cert.KernelOutBIdeal.nD) → Buf (Elt Ideal) ((c.tc : Thread Cert.KernelOutBIdeal.nD Cert.KernelOutBIdeal.τ).loc Cert.KernelOutBIdeal.main_v12_0)) (v1 : (c : Dev Cert.KernelOutBIdeal.nD) → Buf (Elt Ideal) ((c.tc : Thread Cert.KernelOutBIdeal.nD Cert.KernelOutBIdeal.τ).loc Cert.KernelOutBIdeal.main_v12_1)) (v2 : (c : Dev Cert.KernelOutBIdeal.nD) → Buf (Elt Ideal) ((c.tc : Thread Cert.KernelOutBIdeal.nD Cert.KernelOutBIdeal.τ).loc Cert.KernelOutBIdeal.main_v12_2)),
      θ_run (Cert.KernelOutBIdeal.defs (F := Ideal)) (onTc (τ := Cert.KernelOutBIdeal.τ) (Cert.KernelOutBIdeal.main (F := Ideal))) ⟨m, fun _ => 0, g⟩ (fun r => ∀ c : Dev Cert.KernelOutBIdeal.nD,
          r.2.mem ((c.tc : Thread Cert.KernelOutBIdeal.nD Cert.KernelOutBIdeal.τ).loc Cert.KernelOutBIdeal.main_v12_0) = v0 c
          ∧ r.2.mem ((c.tc : Thread Cert.KernelOutBIdeal.nD Cert.KernelOutBIdeal.τ).loc Cert.KernelOutBIdeal.main_v12_1) = v1 c
          ∧ r.2.mem ((c.tc : Thread Cert.KernelOutBIdeal.nD Cert.KernelOutBIdeal.τ).loc Cert.KernelOutBIdeal.main_v12_2) = v2 c
          ∧ r.2.mem ((c.tc : Thread Cert.KernelOutBIdeal.nD Cert.KernelOutBIdeal.τ).loc Cert.KernelOutBIdeal.main_arg0) = m ((c.tc : Thread Cert.KernelOutBIdeal.nD Cert.KernelOutBIdeal.τ).loc Cert.KernelOutBIdeal.main_arg0)
          ∧ r.2.mem ((c.tc : Thread Cert.KernelOutBIdeal.nD Cert.KernelOutBIdeal.τ).loc Cert.KernelOutBIdeal.main_arg1) = m ((c.tc : Thread Cert.KernelOutBIdeal.nD Cert.KernelOutBIdeal.τ).loc Cert.KernelOutBIdeal.main_arg1)
          ∧ r.2.mem ((c.tc : Thread Cert.KernelOutBIdeal.nD Cert.KernelOutBIdeal.τ).loc Cert.KernelOutBIdeal.main_arg2) = m ((c.tc : Thread Cert.KernelOutBIdeal.nD Cert.KernelOutBIdeal.τ).loc Cert.KernelOutBIdeal.main_arg2)
          ∧ r.2.mem ((c.tc : Thread Cert.KernelOutBIdeal.nD Cert.KernelOutBIdeal.τ).loc Cert.KernelOutBIdeal.main_arg3) = m ((c.tc : Thread Cert.KernelOutBIdeal.nD Cert.KernelOutBIdeal.τ).loc Cert.KernelOutBIdeal.main_arg3)
          ∧ r.2.mem ((c.tc : Thread Cert.KernelOutBIdeal.nD Cert.KernelOutBIdeal.τ).loc Cert.KernelOutBIdeal.main_arg4) = m ((c.tc : Thread Cert.KernelOutBIdeal.nD Cert.KernelOutBIdeal.τ).loc Cert.KernelOutBIdeal.main_arg4)
          ∧ r.2.mem ((c.tc : Thread Cert.KernelOutBIdeal.nD Cert.KernelOutBIdeal.τ).loc Cert.KernelOutBIdeal.main_arg5) = m ((c.tc : Thread Cert.KernelOutBIdeal.nD Cert.KernelOutBIdeal.τ).loc Cert.KernelOutBIdeal.main_arg5)
          ∧ r.2.mem ((c.tc : Thread Cert.KernelOutBIdeal.nD Cert.KernelOutBIdeal.τ).loc Cert.KernelOutBIdeal.main_arg6) = m ((c.tc : Thread Cert.KernelOutBIdeal.nD Cert.KernelOutBIdeal.τ).loc Cert.KernelOutBIdeal.main_arg6)
          ∧ r.2.mem ((c.tc : Thread Cert.KernelOutBIdeal.nD Cert.KernelOutBIdeal.τ).loc Cert.KernelOutBIdeal.main_arg7) = m ((c.tc : Thread Cert.KernelOutBIdeal.nD Cert.KernelOutBIdeal.τ).loc Cert.KernelOutBIdeal.main_arg7))
      ∧ θ_run (Cert.ReferenceOutBIdeal.defs (F := Ideal)) (onTc (τ := Cert.ReferenceOutBIdeal.τ) (Cert.ReferenceOutBIdeal.main (F := Ideal))) ⟨m', fun _ => 0, g'⟩ (fun r => ∀ c : Dev Cert.ReferenceOutBIdeal.nD,
          r.2.mem ((c.tc : Thread Cert.ReferenceOutBIdeal.nD Cert.ReferenceOutBIdeal.τ).loc Cert.ReferenceOutBIdeal.main_v8) = v0 c
          ∧ r.2.mem ((c.tc : Thread Cert.ReferenceOutBIdeal.nD Cert.ReferenceOutBIdeal.τ).loc Cert.ReferenceOutBIdeal.main_v7) = v1 c
          ∧ r.2.mem ((c.tc : Thread Cert.ReferenceOutBIdeal.nD Cert.ReferenceOutBIdeal.τ).loc Cert.ReferenceOutBIdeal.main_v30) = v2 c
          ∧ r.2.mem ((c.tc : Thread Cert.ReferenceOutBIdeal.nD Cert.ReferenceOutBIdeal.τ).loc Cert.ReferenceOutBIdeal.main_arg0) = m' ((c.tc : Thread Cert.ReferenceOutBIdeal.nD Cert.ReferenceOutBIdeal.τ).loc Cert.ReferenceOutBIdeal.main_arg0)
          ∧ r.2.mem ((c.tc : Thread Cert.ReferenceOutBIdeal.nD Cert.ReferenceOutBIdeal.τ).loc Cert.ReferenceOutBIdeal.main_arg1) = m' ((c.tc : Thread Cert.ReferenceOutBIdeal.nD Cert.ReferenceOutBIdeal.τ).loc Cert.ReferenceOutBIdeal.main_arg1)
          ∧ r.2.mem ((c.tc : Thread Cert.ReferenceOutBIdeal.nD Cert.ReferenceOutBIdeal.τ).loc Cert.ReferenceOutBIdeal.main_arg2) = m' ((c.tc : Thread Cert.ReferenceOutBIdeal.nD Cert.ReferenceOutBIdeal.τ).loc Cert.ReferenceOutBIdeal.main_arg2)
          ∧ r.2.mem ((c.tc : Thread Cert.ReferenceOutBIdeal.nD Cert.ReferenceOutBIdeal.τ).loc Cert.ReferenceOutBIdeal.main_arg3) = m' ((c.tc : Thread Cert.ReferenceOutBIdeal.nD Cert.ReferenceOutBIdeal.τ).loc Cert.ReferenceOutBIdeal.main_arg3)
          ∧ r.2.mem ((c.tc : Thread Cert.ReferenceOutBIdeal.nD Cert.ReferenceOutBIdeal.τ).loc Cert.ReferenceOutBIdeal.main_arg4) = m' ((c.tc : Thread Cert.ReferenceOutBIdeal.nD Cert.ReferenceOutBIdeal.τ).loc Cert.ReferenceOutBIdeal.main_arg4)
          ∧ r.2.mem ((c.tc : Thread Cert.ReferenceOutBIdeal.nD Cert.ReferenceOutBIdeal.τ).loc Cert.ReferenceOutBIdeal.main_arg5) = m' ((c.tc : Thread Cert.ReferenceOutBIdeal.nD Cert.ReferenceOutBIdeal.τ).loc Cert.ReferenceOutBIdeal.main_arg5)
          ∧ r.2.mem ((c.tc : Thread Cert.ReferenceOutBIdeal.nD Cert.ReferenceOutBIdeal.τ).loc Cert.ReferenceOutBIdeal.main_arg6) = m' ((c.tc : Thread Cert.ReferenceOutBIdeal.nD Cert.ReferenceOutBIdeal.τ).loc Cert.ReferenceOutBIdeal.main_arg6)
          ∧ r.2.mem ((c.tc : Thread Cert.ReferenceOutBIdeal.nD Cert.ReferenceOutBIdeal.τ).loc Cert.ReferenceOutBIdeal.main_arg7) = m' ((c.tc : Thread Cert.ReferenceOutBIdeal.nD Cert.ReferenceOutBIdeal.τ).loc Cert.ReferenceOutBIdeal.main_arg7))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)
      ∧ m' ((c.tc : Thread Cert.ReferencePreIdeal.nD Cert.ReferencePreIdeal.τ).loc Cert.ReferencePreIdeal.main_arg4) = m ((c.tc : Thread Cert.KernelPreIdeal.nD Cert.KernelPreIdeal.τ).loc Cert.KernelPreIdeal.main_arg4)
      ∧ m' ((c.tc : Thread Cert.ReferencePreIdeal.nD Cert.ReferencePreIdeal.τ).loc Cert.ReferencePreIdeal.main_arg5) = m ((c.tc : Thread Cert.KernelPreIdeal.nD Cert.KernelPreIdeal.τ).loc Cert.KernelPreIdeal.main_arg5)) →
    ∃ (v0 : (c : Dev Cert.KernelPreIdeal.nD) → Buf (Elt Ideal) ((c.tc : Thread Cert.KernelPreIdeal.nD Cert.KernelPreIdeal.τ).loc Cert.KernelPreIdeal.main_v14_0)) (v1 : (c : Dev Cert.KernelPreIdeal.nD) → Buf (Elt Ideal) ((c.tc : Thread Cert.KernelPreIdeal.nD Cert.KernelPreIdeal.τ).loc Cert.KernelPreIdeal.main_v14_1)) (v2 : (c : Dev Cert.KernelPreIdeal.nD) → Buf (Elt Ideal) ((c.tc : Thread Cert.KernelPreIdeal.nD Cert.KernelPreIdeal.τ).loc Cert.KernelPreIdeal.main_v14_2)) (v3 : (c : Dev Cert.KernelPreIdeal.nD) → Buf (Elt Ideal) ((c.tc : Thread Cert.KernelPreIdeal.nD Cert.KernelPreIdeal.τ).loc Cert.KernelPreIdeal.main_v14_3)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v14_0) = v0 c
          ∧ r.2.mem ((c.tc : Thread Cert.KernelPreIdeal.nD Cert.KernelPreIdeal.τ).loc Cert.KernelPreIdeal.main_v14_1) = v1 c
          ∧ r.2.mem ((c.tc : Thread Cert.KernelPreIdeal.nD Cert.KernelPreIdeal.τ).loc Cert.KernelPreIdeal.main_v14_2) = v2 c
          ∧ r.2.mem ((c.tc : Thread Cert.KernelPreIdeal.nD Cert.KernelPreIdeal.τ).loc Cert.KernelPreIdeal.main_v14_3) = v3 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
          ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
          ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v31) = v0 c
          ∧ r.2.mem ((c.tc : Thread Cert.ReferencePreIdeal.nD Cert.ReferencePreIdeal.τ).loc Cert.ReferencePreIdeal.main_v32) = v1 c
          ∧ r.2.mem ((c.tc : Thread Cert.ReferencePreIdeal.nD Cert.ReferencePreIdeal.τ).loc Cert.ReferencePreIdeal.main_v33) = v2 c
          ∧ r.2.mem ((c.tc : Thread Cert.ReferencePreIdeal.nD Cert.ReferencePreIdeal.τ).loc Cert.ReferencePreIdeal.main_v34) = v3 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3)
          ∧ r.2.mem ((c.tc : Thread Cert.ReferencePreIdeal.nD Cert.ReferencePreIdeal.τ).loc Cert.ReferencePreIdeal.main_arg4) = m' ((c.tc : Thread Cert.ReferencePreIdeal.nD Cert.ReferencePreIdeal.τ).loc Cert.ReferencePreIdeal.main_arg4)
          ∧ r.2.mem ((c.tc : Thread Cert.ReferencePreIdeal.nD Cert.ReferencePreIdeal.τ).loc Cert.ReferencePreIdeal.main_arg5) = m' ((c.tc : Thread Cert.ReferencePreIdeal.nD Cert.ReferencePreIdeal.τ).loc Cert.ReferencePreIdeal.main_arg5))

def Claim : Prop :=
  ∃ (hKernel : Cert.Kernel.Facts) (hKernelIdeal : Cert.KernelIdeal.Facts) (hReferenceIdeal : Cert.ReferenceIdeal.Facts) (hKernelMlp : Cert.KernelMlp.Facts) (hKernelMlpIdeal : Cert.KernelMlpIdeal.Facts) (hReferenceMlpIdeal : Cert.ReferenceMlpIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelDownB : Cert.KernelDownB.Facts) (hKernelDownBIdeal : Cert.KernelDownBIdeal.Facts) (hReferenceDownBIdeal : Cert.ReferenceDownBIdeal.Facts) (hKernelUpB : Cert.KernelUpB.Facts) (hKernelUpBIdeal : Cert.KernelUpBIdeal.Facts) (hReferenceUpBIdeal : Cert.ReferenceUpBIdeal.Facts) (hKernelDwA : Cert.KernelDwA.Facts) (hKernelDwAIdeal : Cert.KernelDwAIdeal.Facts) (hReferenceDwAIdeal : Cert.ReferenceDwAIdeal.Facts) (hKernelDwB : Cert.KernelDwB.Facts) (hKernelDwBIdeal : Cert.KernelDwBIdeal.Facts) (hReferenceDwBIdeal : Cert.ReferenceDwBIdeal.Facts) (hKernelQkv : Cert.KernelQkv.Facts) (hKernelQkvIdeal : Cert.KernelQkvIdeal.Facts) (hReferenceQkvIdeal : Cert.ReferenceQkvIdeal.Facts) (hKernelOutA : Cert.KernelOutA.Facts) (hKernelOutAIdeal : Cert.KernelOutAIdeal.Facts) (hReferenceOutAIdeal : Cert.ReferenceOutAIdeal.Facts) (hKernelOutB : Cert.KernelOutB.Facts) (hKernelOutBIdeal : Cert.KernelOutBIdeal.Facts) (hReferenceOutBIdeal : Cert.ReferenceOutBIdeal.Facts) (hKernelPre : Cert.KernelPre.Facts) (hKernelPreIdeal : Cert.KernelPreIdeal.Facts) (hReferencePreIdeal : Cert.ReferencePreIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDownB (hKernelDownB := hKernelDownB)
    ∧ quiescent_KernelDownBIdeal (hKernelDownBIdeal := hKernelDownBIdeal)
    ∧ quiescent_ReferenceDownBIdeal (hReferenceDownBIdeal := hReferenceDownBIdeal)
    ∧ quiescent_KernelUpB (hKernelUpB := hKernelUpB)
    ∧ quiescent_KernelUpBIdeal (hKernelUpBIdeal := hKernelUpBIdeal)
    ∧ quiescent_ReferenceUpBIdeal (hReferenceUpBIdeal := hReferenceUpBIdeal)
    ∧ quiescent_KernelDwA (hKernelDwA := hKernelDwA)
    ∧ quiescent_KernelDwAIdeal (hKernelDwAIdeal := hKernelDwAIdeal)
    ∧ quiescent_ReferenceDwAIdeal (hReferenceDwAIdeal := hReferenceDwAIdeal)
    ∧ quiescent_KernelDwB (hKernelDwB := hKernelDwB)
    ∧ quiescent_KernelDwBIdeal (hKernelDwBIdeal := hKernelDwBIdeal)
    ∧ quiescent_ReferenceDwBIdeal (hReferenceDwBIdeal := hReferenceDwBIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelOutA (hKernelOutA := hKernelOutA)
    ∧ quiescent_KernelOutAIdeal (hKernelOutAIdeal := hKernelOutAIdeal)
    ∧ quiescent_ReferenceOutAIdeal (hReferenceOutAIdeal := hReferenceOutAIdeal)
    ∧ quiescent_KernelOutB (hKernelOutB := hKernelOutB)
    ∧ quiescent_KernelOutBIdeal (hKernelOutBIdeal := hKernelOutBIdeal)
    ∧ quiescent_ReferenceOutBIdeal (hReferenceOutBIdeal := hReferenceOutBIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelDownB_KernelDownBIdeal
    ∧ algebraic_KernelDownBIdeal_ReferenceDownBIdeal (hKernelDownBIdeal := hKernelDownBIdeal) (hReferenceDownBIdeal := hReferenceDownBIdeal)
    ∧ preserves_KernelUpB_KernelUpBIdeal
    ∧ algebraic_KernelUpBIdeal_ReferenceUpBIdeal (hKernelUpBIdeal := hKernelUpBIdeal) (hReferenceUpBIdeal := hReferenceUpBIdeal)
    ∧ preserves_KernelDwA_KernelDwAIdeal
    ∧ algebraic_KernelDwAIdeal_ReferenceDwAIdeal (hKernelDwAIdeal := hKernelDwAIdeal) (hReferenceDwAIdeal := hReferenceDwAIdeal)
    ∧ preserves_KernelDwB_KernelDwBIdeal
    ∧ algebraic_KernelDwBIdeal_ReferenceDwBIdeal (hKernelDwBIdeal := hKernelDwBIdeal) (hReferenceDwBIdeal := hReferenceDwBIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelOutA_KernelOutAIdeal
    ∧ algebraic_KernelOutAIdeal_ReferenceOutAIdeal (hKernelOutAIdeal := hKernelOutAIdeal) (hReferenceOutAIdeal := hReferenceOutAIdeal)
    ∧ preserves_KernelOutB_KernelOutBIdeal
    ∧ algebraic_KernelOutBIdeal_ReferenceOutBIdeal (hKernelOutBIdeal := hKernelOutBIdeal) (hReferenceOutBIdeal := hReferenceOutBIdeal)
    ∧ preserves_KernelPre_KernelPreIdeal
    ∧ algebraic_KernelPreIdeal_ReferencePreIdeal (hKernelPreIdeal := hKernelPreIdeal) (hReferencePreIdeal := hReferencePreIdeal)
-- ==== Pre_finite.lean ====
abbrev S8x8192x192 : Shape := ⟨3, ![8, 8192, 192]⟩
abbrev S8x8192x128 : Shape := ⟨3, ![8, 8192, 128]⟩
abbrev S8192x1024 : Shape := ⟨2, ![8192, 1024]⟩
abbrev S_ : Shape := ⟨0, ![]⟩

class Facts : Prop where
  bcast_S_S8x8192x192 : S_.BroadcastsInDim S8x8192x192 (![] : Fin 0 → Fin S8x8192x192.rank)
  bcast_S_S8x8192x128 : S_.BroadcastsInDim S8x8192x128 (![] : Fin 0 → Fin S8x8192x128.rank)
  bcast_S_S8192x1024 : S_.BroadcastsInDim S8192x1024 (![] : Fin 0 → Fin S8192x1024.rank)

variable [Facts]

def fn {F : FTy → Type} [FloatOps F] (main_arg0 : FVec F S8x8192x192 .f32) (main_arg1 : FVec F S8x8192x192 .f32) (main_arg2 : FVec F S8x8192x128 .f32) (main_arg3 : FVec F S8192x1024 .f32) : IVec S8x8192x192 1 × IVec S8x8192x192 1 × IVec S8x8192x128 1 × IVec S8192x1024 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_v3 : FVec F S8x8192x192 .f32 := Host.absf main_arg1
  let main_cst_0 : FVec F S_ .f32 := constant S_ .f32 0x7F800000#32
  let main_v4 : FVec F S8x8192x192 .f32 := broadcastInDim S8x8192x192 ![] bcast_S_S8x8192x192 main_cst_0
  let main_v5 : IVec S8x8192x192 1 := cmpf .olt main_v3 main_v4
  let main_v6 : FVec F S8x8192x128 .f32 := Host.absf main_arg2
  let main_cst_1 : FVec F S_ .f32 := constant S_ .f32 0x7F800000#32
  let main_v7 : FVec F S8x8192x128 .f32 := broadcastInDim S8x8192x128 ![] bcast_S_S8x8192x128 main_cst_1
  let main_v8 : IVec S8x8192x128 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Kernel.lean ====
abbrev S8x8192x192 : Shape := ⟨3, ![8, 8192, 192]⟩
abbrev S8x8192x128 : Shape := ⟨3, ![8, 8192, 128]⟩
abbrev S8192x1024 : Shape := ⟨2, ![8192, 1024]⟩
abbrev S10 : Shape := ⟨1, ![10]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8192x8x128 : Shape := ⟨3, ![8192, 8, 128]⟩
abbrev S8x8192x64 : Shape := ⟨3, ![8, 8192, 64]⟩
abbrev S8x8192x256 : Shape := ⟨3, ![8, 8192, 256]⟩
abbrev S8x8192x127 : Shape := ⟨3, ![8, 8192, 127]⟩
abbrev S8x1x8192 : Shape := ⟨3, ![8, 1, 8192]⟩
abbrev S1x2048x256 : Shape := ⟨3, ![1, 2048, 256]⟩
abbrev S1 : Shape := ⟨1, ![1]⟩
abbrev S1x2048x128 : Shape := ⟨3, ![1, 2048, 128]⟩
abbrev S2048x128 : Shape := ⟨2, ![2048, 128]⟩
abbrev S1x1x2048 : Shape := ⟨3, ![1, 1, 2048]⟩
abbrev S1x8192x256 : Shape := ⟨3, ![1, 8192, 256]⟩
abbrev S2048x256 : Shape := ⟨2, ![2048, 256]⟩
abbrev S1x512x256 : Shape := ⟨3, ![1, 512, 256]⟩
abbrev S512x256 : Shape := ⟨2, ![512, 256]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S1x512x128 : Shape := ⟨3, ![1, 512, 128]⟩

abbrev nBuf : Space → Nat
  | .hbm => 66
  | .vmem => 20
  | .smem => 2
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8192x192, .f32⟩
  | .hbm, ⟨8, _⟩ => ⟨S8x8192x192, .f32⟩
  | .hbm, ⟨9, _⟩ => ⟨S8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S8x8192x8192, .i1⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8x8192x1, .f32⟩
  | .hbm, ⟨33, _⟩ => ⟨S8x8192x1, .f32⟩
  | .hbm, ⟨34, _⟩ => ⟨S8x8192, .f32⟩
  | .hbm, ⟨35, _⟩ => ⟨S8x8192x8192, .f32⟩
  | .hbm, ⟨36, _⟩ => ⟨S8x8192x8192, .f32⟩
  | .hbm, ⟨37, _⟩ => ⟨S8x8192x128, .f32⟩
  | .hbm, ⟨38, _⟩ => ⟨S8192x8x128, .f32⟩
  | .hbm, ⟨39, _⟩ => ⟨S8x8192x128, .f32⟩
  | .hbm, ⟨40, _⟩ => ⟨S8x8192x128, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S_, .f32⟩
  | .hbm, ⟨45, _⟩ => ⟨S8x8192x192, .f32⟩
  | .hbm, ⟨46, _⟩ => ⟨S8x8192x192, .f32⟩
  | .hbm, ⟨47, _⟩ => ⟨S_, .f32⟩
  | .hbm, ⟨48, _⟩ => ⟨S8x8192x64, .f32⟩
  | .hbm, ⟨49, _⟩ => ⟨S8x8192x256, .f32⟩
  | .hbm, ⟨50, _⟩ => ⟨S8x8192x256, .bf16⟩
  | .hbm, ⟨51, _⟩ => ⟨S8x8192x64, .f32⟩
  | .hbm, ⟨52, _⟩ => ⟨S8x8192x256, .f32⟩
  | .hbm, ⟨53, _⟩ => ⟨S8x8192x256, .bf16⟩
  | .hbm, ⟨54, _⟩ => ⟨S_, .f32⟩
  | .hbm, ⟨55, _⟩ => ⟨S8x8192x1, .f32⟩
  | .hbm, ⟨56, _⟩ => ⟨S_, .f32⟩
  | .hbm, ⟨57, _⟩ => ⟨S8x8192x127, .f32⟩
  | .hbm, ⟨58, _⟩ => ⟨S8x8192x256, .f32⟩
  | .hbm, ⟨59, _⟩ => ⟨S8x8192x256, .bf16⟩
  | .hbm, ⟨60, _⟩ => ⟨S8192x1024, .bf16⟩
  | .hbm, ⟨61, _⟩ => ⟨S8x1x8192, .f32⟩
  | .hbm, ⟨62, _⟩ => ⟨S8x1x8192, .f32⟩
  | .hbm, ⟨63, _⟩ => ⟨S8x8192x256, .f32⟩
  | .hbm, ⟨64, _⟩ => ⟨S8x8192x256, .bf16⟩
  | .hbm, ⟨65, _⟩ => ⟨S8x8192x128, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x8192x256, .f32⟩
  | .local _ .vmem, ⟨13, _⟩ => ⟨S1x8192x256, .f32⟩
  | .local _ .vmem, ⟨14, _⟩ => ⟨S1x2048x256, .bf16⟩
  | .local _ .vmem, ⟨15, _⟩ => ⟨S1x2048x256, .bf16⟩
  | .local _ .vmem, ⟨16, _⟩ => ⟨S1x2048x128, .bf16⟩
  | .local _ .vmem, ⟨17, _⟩ => ⟨S1x2048x128, .bf16⟩
  | .local _ .vmem, ⟨18, _⟩ => ⟨S2048x256, .f32⟩
  | .local _ .vmem, ⟨19, _⟩ => ⟨S2048x128, .f32⟩
  | .local _ .smem, ⟨0, _⟩ => ⟨S10, .i32⟩
  | .local _ .smem, ⟨1, _⟩ => ⟨S10, .i32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49_0 : Ref sig .tc := ⟨.hbm, 63, rfl⟩
abbrev main_v49_1 : Ref sig .tc := ⟨.hbm, 64, rfl⟩
abbrev main_v49_2 : Ref sig .tc := ⟨.hbm, 65, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c2048_i32 : BitVec 32 := 2048#32
  let v65 : BitVec 32 := Scalar.muli v3 c2048_i32
  let c0_i32_39 : BitVec 32 := 0#32
  let v66 : BitVec 32 := Scalar.addi v65 c0_i32_39
  v66
def k0_cond2 (v1 : BitVec 32) (v3 : BitVec 32) : BitVec 1 :=
  let v9 : BitVec 1 := Scalar.cmpi .eq v3 v1
  let v10 : BitVec 32 := Scalar.extui v9
  let c0_i32_2 : BitVec 32 := 0#32
  let v11 : BitVec 1 := Scalar.cmpi .ne v10 c0_i32_2
  v11

def k0_off2 (v3 : BitVec 32) (c0_i32_39 : BitVec 32) : Fin 3 → Nat :=
  let c0_40 : Index := 0#32
  let c2048_i32 : BitVec 32 := 2048#32
  let v65 : BitVec 32 := Scalar.muli v3 c2048_i32
  let v66 : BitVec 32 := Scalar.addi v65 c0_i32_39
  let v67 : BitVec 32 := v66
  let v68 : Index := Scalar.indexCast v67
  let c0_41 : Index := 0#32
  ![0, v68.toNat, 0]
def k0_mult2 (v3 : BitVec 32) : BitVec 32 :=
  let c2048_i32_73 : BitVec 32 := 2048#32
  let v111 : BitVec 32 := Scalar.muli v3 c2048_i32_73
  let c512_i32 : BitVec 32 := 512#32
  let v112 : BitVec 32 := Scalar.addi v111 c512_i32
  v112
def k0_mult3 (v3 : BitVec 32) : BitVec 32 :=
  let c2048_i32_109 : BitVec 32 := 2048#32
  let v162 : BitVec 32 := Scalar.muli v3 c2048_i32_109
  let c512_i32_110 : BitVec 32 := 512#32
  let v163 : BitVec 32 := Scalar.addi v162 c512_i32_110
  v163
def k0_mult4 (v3 : BitVec 32) : BitVec 32 :=
  let c2048_i32_144 : BitVec 32 := 2048#32
  let v208 : BitVec 32 := Scalar.muli v3 c2048_i32_144
  let c1024_i32 : BitVec 32 := 1024#32
  let v209 : BitVec 32 := Scalar.addi v208 c1024_i32
  v209
def k0_mult5 (v3 : BitVec 32) : BitVec 32 :=
  let c2048_i32_179 : BitVec 32 := 2048#32
  let v254 : BitVec 32 := Scalar.muli v3 c2048_i32_179
  let c1024_i32_180 : BitVec 32 := 1024#32
  let v255 : BitVec 32 := Scalar.addi v254 c1024_i32_180
  v255
def k0_mult6 (v3 : BitVec 32) : BitVec 32 :=
  let c2048_i32_216 : BitVec 32 := 2048#32
  let v305 : BitVec 32 := Scalar.muli v3 c2048_i32_216
  let c1024_i32_217 : BitVec 32 := 1024#32
  let v306 : BitVec 32 := Scalar.addi v305 c1024_i32_217
  v306
def k0_mult7 (v3 : BitVec 32) : BitVec 32 :=
  let c2048_i32_251 : BitVec 32 := 2048#32
  let v351 : BitVec 32 := Scalar.muli v3 c2048_i32_251
  let c1536_i32 : BitVec 32 := 1536#32
  let v352 : BitVec 32 := Scalar.addi v351 c1536_i32
  v352
def k0_mult8 (v3 : BitVec 32) : BitVec 32 :=
  let c2048_i32_286 : BitVec 32 := 2048#32
  let v397 : BitVec 32 := Scalar.muli v3 c2048_i32_286
  let c1536_i32_287 : BitVec 32 := 1536#32
  let v398 : BitVec 32 := Scalar.addi v397 c1536_i32_287
  v398
def k0_mult9 (v3 : BitVec 32) : BitVec 32 :=
  let c2048_i32_322 : BitVec 32 := 2048#32
  let v443 : BitVec 32 := Scalar.muli v3 c2048_i32_322
  let c1536_i32_323 : BitVec 32 := 1536#32
  let v444 : BitVec 32 := Scalar.addi v443 c1536_i32_323
  v444
def k0_mult10 (v3 : BitVec 32) : BitVec 32 :=
  let c2048_i32_359 : BitVec 32 := 2048#32
  let v494 : BitVec 32 := Scalar.muli v3 c2048_i32_359
  let c1536_i32_360 : BitVec 32 := 1536#32
  let v495 : BitVec 32 := Scalar.addi v494 c1536_i32_360
  v495
def k0_mult11 (v3 : BitVec 32) : BitVec 32 :=
  let c2048_i32 : BitVec 32 := 2048#32
  let v52 : BitVec 32 := Scalar.muli v3 c2048_i32
  let c0_i32_32 : BitVec 32 := 0#32
  let v53 : BitVec 32 := Scalar.addi v52 c0_i32_32
  v53
def k0_cond3 (v1 : BitVec 32) (v3 : BitVec 32) : BitVec 1 :=
  let v12 : BitVec 1 := Scalar.cmpi .sgt v3 v1
  let v13 : BitVec 32 := Scalar.extui v12
  let c0_i32_3 : BitVec 32 := 0#32
  let v14 : BitVec 1 := Scalar.cmpi .ne v13 c0_i32_3
  v14

def k0_off3 (v3 : BitVec 32) (c0_i32_32 : BitVec 32) : Fin 3 → Nat :=
  let c0_33 : Index := 0#32
  let c2048_i32 : BitVec 32 := 2048#32
  let v52 : BitVec 32 := Scalar.muli v3 c2048_i32
  let v53 : BitVec 32 := Scalar.addi v52 c0_i32_32
  let v54 : BitVec 32 := v53
  let v55 : Index := Scalar.indexCast v54
  let c0_34 : Index := 0#32
  ![0, v55.toNat, 0]
def k0_mult12 (v3 : BitVec 32) : BitVec 32 :=
  let c2048_i32_66 : BitVec 32 := 2048#32
  let v98 : BitVec 32 := Scalar.muli v3 c2048_i32_66
  let c0_i32_67 : BitVec 32 := 0#32
  let v99 : BitVec 32 := Scalar.addi v98 c0_i32_67
  v99
def k0_mult13 (v3 : BitVec 32) : BitVec 32 :=
  let c2048_i32_101 : BitVec 32 := 2048#32
  let v144 : BitVec 32 := Scalar.muli v3 c2048_i32_101
  let c0_i32_102 : BitVec 32 := 0#32
  let v145 : BitVec 32 := Scalar.addi v144 c0_i32_102
  v145
def k0_mult14 (v3 : BitVec 32) : BitVec 32 :=
  let c2048_i32_136 : BitVec 32 := 2048#32
  let v190 : BitVec 32 := Scalar.muli v3 c2048_i32_136
  let c0_i32_137 : BitVec 32 := 0#32
  let v191 : BitVec 32 := Scalar.addi v190 c0_i32_137
  v191
def k0_mult15 (v3 : BitVec 32) : BitVec 32 :=
  let c2048_i32_172 : BitVec 32 := 2048#32
  let v236 : BitVec 32 := Scalar.muli v3 c2048_i32_172
  let c512_i32 : BitVec 32 := 512#32
  let v237 : BitVec 32 := Scalar.addi v236 c512_i32
  v237
def k0_mult16 (v3 : BitVec 32) : BitVec 32 :=
  let c2048_i32_207 : BitVec 32 := 2048#32
  let v282 : BitVec 32 := Scalar.muli v3 c2048_i32_207
  let c512_i32_208 : BitVec 32 := 512#32
  let v283 : BitVec 32 := Scalar.addi v282 c512_i32_208
  v283
def k0_mult17 (v3 : BitVec 32) : BitVec 32 :=
  let c2048_i32_243 : BitVec 32 := 2048#32
  let v328 : BitVec 32 := Scalar.muli v3 c2048_i32_243
  let c512_i32_244 : BitVec 32 := 512#32
  let v329 : BitVec 32 := Scalar.addi v328 c512_i32_244
  v329
def k0_mult18 (v3 : BitVec 32) : BitVec 32 :=
  let c2048_i32_279 : BitVec 32 := 2048#32
  let v374 : BitVec 32 := Scalar.muli v3 c2048_i32_279
  let c512_i32_280 : BitVec 32 := 512#32
  let v375 : BitVec 32 := Scalar.addi v374 c512_i32_280
  v375
def k0_mult19 (v3 : BitVec 32) : BitVec 32 :=
  let c2048_i32_315 : BitVec 32 := 2048#32
  let v420 : BitVec 32 := Scalar.muli v3 c2048_i32_315
  let c1024_i32 : BitVec 32 := 1024#32
  let v421 : BitVec 32 := Scalar.addi v420 c1024_i32
  v421
def k0_mult20 (v3 : BitVec 32) : BitVec 32 :=
  let c2048_i32_350 : BitVec 32 := 2048#32
  let v466 : BitVec 32 := Scalar.muli v3 c2048_i32_350
  let c1024_i32_351 : BitVec 32 := 1024#32
  let v467 : BitVec 32 := Scalar.addi v466 c1024_i32_351
  v467
def k0_mult21 (v3 : BitVec 32) : BitVec 32 :=
  let c2048_i32_386 : BitVec 32 := 2048#32
  let v512 : BitVec 32 := Scalar.muli v3 c2048_i32_386
  let c1024_i32_387 : BitVec 32 := 1024#32
  let v513 : BitVec 32 := Scalar.addi v512 c1024_i32_387
  v513
def k0_mult22 (v3 : BitVec 32) : BitVec 32 :=
  let c2048_i32_422 : BitVec 32 := 2048#32
  let v558 : BitVec 32 := Scalar.muli v3 c2048_i32_422
  let c1024_i32_423 : BitVec 32 := 1024#32
  let v559 : BitVec 32 := Scalar.addi v558 c1024_i32_423
  v559
def k0_mult23 (v3 : BitVec 32) : BitVec 32 :=
  let c2048_i32_458 : BitVec 32 := 2048#32
  let v604 : BitVec 32 := Scalar.muli v3 c2048_i32_458
  let c1536_i32 : BitVec 32 := 1536#32
  let v605 : BitVec 32 := Scalar.addi v604 c1536_i32
  v605
def k0_mult24 (v3 : BitVec 32) : BitVec 32 :=
  let c2048_i32_493 : BitVec 32 := 2048#32
  let v650 : BitVec 32 := Scalar.muli v3 c2048_i32_493
  let c1536_i32_494 : BitVec 32 := 1536#32
  let v651 : BitVec 32 := Scalar.addi v650 c1536_i32_494
  v651
def k0_mult25 (v3 : BitVec 32) : BitVec 32 :=
  let c2048_i32_529 : BitVec 32 := 2048#32
  let v696 : BitVec 32 := Scalar.muli v3 c2048_i32_529
  let c1536_i32_530 : BitVec 32 := 1536#32
  let v697 : BitVec 32 := Scalar.addi v696 c1536_i32_530
  v697
def k0_mult26 (v3 : BitVec 32) : BitVec 32 :=
  let c2048_i32_565 : BitVec 32 := 2048#32
  let v742 : BitVec 32 := Scalar.muli v3 c2048_i32_565
  let c1536_i32_566 : BitVec 32 := 1536#32
  let v743 : BitVec 32 := Scalar.addi v742 c1536_i32_566
  v743

def k0_chk1 (v1 : BitVec 32) (v3 : BitVec 32) : Prop :=
  (∀ (k0_h2 : k0_cond2 v1 v3 = 1#1), 512 ∣ (k0_mult1 v3).toNat) ∧
  (∀ (k0_h2 : k0_cond2 v1 v3 = 1#1), ∀ (r : Fin 4), ∀ a, (k0_off2 v3 (BitVec.ofNat 32 (512 * r.val))) a + S1x512x256.size a ≤ S1x8192x256.size a) ∧
  (∀ (k0_h2 : k0_cond2 v1 v3 = 1#1), 512 ∣ (k0_mult2 v3).toNat) ∧
  (∀ (k0_h2 : k0_cond2 v1 v3 = 1#1), 512 ∣ (k0_mult3 v3).toNat) ∧
  (∀ (k0_h2 : k0_cond2 v1 v3 = 1#1), 512 ∣ (k0_mult4 v3).toNat) ∧
  (∀ (k0_h2 : k0_cond2 v1 v3 = 1#1), 512 ∣ (k0_mult5 v3).toNat) ∧
  (∀ (k0_h2 : k0_cond2 v1 v3 = 1#1), 512 ∣ (k0_mult6 v3).toNat) ∧
  (∀ (k0_h2 : k0_cond2 v1 v3 = 1#1), 512 ∣ (k0_mult7 v3).toNat) ∧
  (∀ (k0_h2 : k0_cond2 v1 v3 = 1#1), 512 ∣ (k0_mult8 v3).toNat) ∧
  (∀ (k0_h2 : k0_cond2 v1 v3 = 1#1), 512 ∣ (k0_mult9 v3).toNat) ∧
  (∀ (k0_h2 : k0_cond2 v1 v3 = 1#1), 512 ∣ (k0_mult10 v3).toNat) ∧
  (∀ (k0_h3 : k0_cond3 v1 v3 = 1#1), 512 ∣ (k0_mult11 v3).toNat) ∧
  (∀ (k0_h3 : k0_cond3 v1 v3 = 1#1), ∀ (r : Fin 4), ∀ a, (k0_off3 v3 (BitVec.ofNat 32 (512 * r.val))) a + S1x512x256.size a ≤ S1x8192x256.size a) ∧
  (∀ (k0_h3 : k0_cond3 v1 v3 = 1#1), 512 ∣ (k0_mult12 v3).toNat) ∧
  (∀ (k0_h3 : k0_cond3 v1 v3 = 1#1), 512 ∣ (k0_mult13 v3).toNat) ∧
  (∀ (k0_h3 : k0_cond3 v1 v3 = 1#1), 512 ∣ (k0_mult14 v3).toNat) ∧
  (∀ (k0_h3 : k0_cond3 v1 v3 = 1#1), 512 ∣ (k0_mult15 v3).toNat) ∧
  (∀ (k0_h3 : k0_cond3 v1 v3 = 1#1), 512 ∣ (k0_mult16 v3).toNat) ∧
  (∀ (k0_h3 : k0_cond3 v1 v3 = 1#1), 512 ∣ (k0_mult17 v3).toNat) ∧
  (∀ (k0_h3 : k0_cond3 v1 v3 = 1#1), 512 ∣ (k0_mult18 v3).toNat) ∧
  (∀ (k0_h3 : k0_cond3 v1 v3 = 1#1), 512 ∣ (k0_mult19 v3).toNat) ∧
  (∀ (k0_h3 : k0_cond3 v1 v3 = 1#1), 512 ∣ (k0_mult20 v3).toNat) ∧
  (∀ (k0_h3 : k0_cond3 v1 v3 = 1#1), 512 ∣ (k0_mult21 v3).toNat) ∧
  (∀ (k0_h3 : k0_cond3 v1 v3 = 1#1), 512 ∣ (k0_mult22 v3).toNat) ∧
  (∀ (k0_h3 : k0_cond3 v1 v3 = 1#1), 512 ∣ (k0_mult23 v3).toNat) ∧
  (∀ (k0_h3 : k0_cond3 v1 v3 = 1#1), 512 ∣ (k0_mult24 v3).toNat) ∧
  (∀ (k0_h3 : k0_cond3 v1 v3 = 1#1), 512 ∣ (k0_mult25 v3).toNat) ∧
  (∀ (k0_h3 : k0_cond3 v1 v3 = 1#1), 512 ∣ (k0_mult26 v3).toNat)
theorem k0_mult1_dvd : ∀ (v1 : BitVec 32) (v3 : BitVec 32) (k0_hw1 : k0_chk1 v1 v3), ∀ (k0_h2 : k0_cond2 v1 v3 = 1#1), 512 ∣ (k0_mult1 v3).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ (r : Fin 4), ∀ a, (k0_off2 v3 (BitVec.ofNat 32 (512 * r.val))) a + S1x512x256.size a ≤ S1x8192x256.size a := fun v1 v3 k0_hw1 k0_h2 r => k0_hw1.2.1 k0_h2 r
theorem k0_mult2_dvd : ∀ (v1 : BitVec 32) (v3 : BitVec 32) (k0_hw1 : k0_chk1 v1 v3), ∀ (k0_h2 : k0_cond2 v1 v3 = 1#1), 512 ∣ (k0_mult2 v3).toNat := fun v1 v3 k0_hw1 k0_h2 => k0_hw1.2.2.1 k0_h2
theorem k0_mult3_dvd : ∀ (v1 : BitVec 32) (v3 : BitVec 32) (k0_hw1 : k0_chk1 v1 v3), ∀ (k0_h2 : k0_cond2 v1 v3 = 1#1), 512 ∣ (k0_mult3 v3).toNat := fun v1 v3 k0_hw1 k0_h2 => k0_hw1.2.2.2.1 k0_h2
theorem k0_mult4_dvd : ∀ (v1 : BitVec 32) (v3 : BitVec 32) (k0_hw1 : k0_chk1 v1 v3), ∀ (k0_h2 : k0_cond2 v1 v3 = 1#1), 512 ∣ (k0_mult4 v3).toNat := fun v1 v3 k0_hw1 k0_h2 => k0_hw1.2.2.2.2.1 k0_h2
theorem k0_mult5_dvd : ∀ (v1 : BitVec 32) (v3 : BitVec 32) (k0_hw1 : k0_chk1 v1 v3), ∀ (k0_h2 : k0_cond2 v1 v3 = 1#1), 512 ∣ (k0_mult5 v3).toNat := fun v1 v3 k0_hw1 k0_h2 => k0_hw1.2.2.2.2.2.1 k0_h2
theorem k0_mult6_dvd : ∀ (v1 : BitVec 32) (v3 : BitVec 32) (k0_hw1 : k0_chk1 v1 v3), ∀ (k0_h2 : k0_cond2 v1 v3 = 1#1), 512 ∣ (k0_mult6 v3).toNat := fun v1 v3 k0_hw1 k0_h2 => k0_hw1.2.2.2.2.2.2.1 k0_h2
theorem k0_mult7_dvd : ∀ (v1 : BitVec 32) (v3 : BitVec 32) (k0_hw1 : k0_chk1 v1 v3), ∀ (k0_h2 : k0_cond2 v1 v3 = 1#1), 512 ∣ (k0_mult7 v3).toNat := fun v1 v3 k0_hw1 k0_h2 => k0_hw1.2.2.2.2.2.2.2.1 k0_h2
theorem k0_mult8_dvd : ∀ (v1 : BitVec 32) (v3 : BitVec 32) (k0_hw1 : k0_chk1 v1 v3), ∀ (k0_h2 : k0_cond2 v1 v3 = 1#1), 512 ∣ (k0_mult8 v3).toNat := fun v1 v3 k0_hw1 k0_h2 => k0_hw1.2.2.2.2.2.2.2.2.1 k0_h2
theorem k0_mult9_dvd : ∀ (v1 : BitVec 32) (v3 : BitVec 32) (k0_hw1 : k0_chk1 v1 v3), ∀ (k0_h2 : k0_cond2 v1 v3 = 1#1), 512 ∣ (k0_mult9 v3).toNat := fun v1 v3 k0_hw1 k0_h2 => k0_hw1.2.2.2.2.2.2.2.2.2.1 k0_h2
theorem k0_mult10_dvd : ∀ (v1 : BitVec 32) (v3 : BitVec 32) (k0_hw1 : k0_chk1 v1 v3), ∀ (k0_h2 : k0_cond2 v1 v3 = 1#1), 512 ∣ (k0_mult10 v3).toNat := fun v1 v3 k0_hw1 k0_h2 => k0_hw1.2.2.2.2.2.2.2.2.2.2.1 k0_h2
theorem k0_mult11_dvd : ∀ (v1 : BitVec 32) (v3 : BitVec 32) (k0_hw1 : k0_chk1 v1 v3), ∀ (k0_h3 : k0_cond3 v1 v3 = 1#1), 512 ∣ (k0_mult11 v3).toNat := fun v1 v3 k0_hw1 k0_h3 => k0_hw1.2.2.2.2.2.2.2.2.2.2.2.1 k0_h3
theorem k0_off3_inb : ∀ (v1 : BitVec 32) (v3 : BitVec 32) (k0_hw1 : k0_chk1 v1 v3), ∀ (k0_h3 : k0_cond3 v1 v3 = 1#1), ∀ (r : Fin 4), ∀ a, (k0_off3 v3 (BitVec.ofNat 32 (512 * r.val))) a + S1x512x256.size a ≤ S1x8192x256.size a := fun v1 v3 k0_hw1 k0_h3 r => k0_hw1.2.2.2.2.2.2.2.2.2.2.2.2.1 k0_h3 r
theorem k0_mult12_dvd : ∀ (v1 : BitVec 32) (v3 : BitVec 32) (k0_hw1 : k0_chk1 v1 v3), ∀ (k0_h3 : k0_cond3 v1 v3 = 1#1), 512 ∣ (k0_mult12 v3).toNat := fun v1 v3 k0_hw1 k0_h3 => k0_hw1.2.2.2.2.2.2.2.2.2.2.2.2.2.1 k0_h3
theorem k0_mult13_dvd : ∀ (v1 : BitVec 32) (v3 : BitVec 32) (k0_hw1 : k0_chk1 v1 v3), ∀ (k0_h3 : k0_cond3 v1 v3 = 1#1), 512 ∣ (k0_mult13 v3).toNat := fun v1 v3 k0_hw1 k0_h3 => k0_hw1.2.2.2.2.2.2.2.2.2.2.2.2.2.2.1 k0_h3
theorem k0_mult14_dvd : ∀ (v1 : BitVec 32) (v3 : BitVec 32) (k0_hw1 : k0_chk1 v1 v3), ∀ (k0_h3 : k0_cond3 v1 v3 = 1#1), 512 ∣ (k0_mult14 v3).toNat := fun v1 v3 k0_hw1 k0_h3 => k0_hw1.2.2.2.2.2.2.2.2.2.2.2.2.2.2.2.1 k0_h3
theorem k0_mult15_dvd : ∀ (v1 : BitVec 32) (v3 : BitVec 32) (k0_hw1 : k0_chk1 v1 v3), ∀ (k0_h3 : k0_cond3 v1 v3 = 1#1), 512 ∣ (k0_mult15 v3).toNat := fun v1 v3 k0_hw1 k0_h3 => k0_hw1.2.2.2.2.2.2.2.2.2.2.2.2.2.2.2.2.1 k0_h3
theorem k0_mult16_dvd : ∀ (v1 : BitVec 32) (v3 : BitVec 32) (k0_hw1 : k0_chk1 v1 v3), ∀ (k0_h3 : k0_cond3 v1 v3 = 1#1), 512 ∣ (k0_mult16 v3).toNat := fun v1 v3 k0_hw1 k0_h3 => k0_hw1.2.2.2.2.2.2.2.2.2.2.2.2.2.2.2.2.2.1 k0_h3
theorem k0_mult17_dvd : ∀ (v1 : BitVec 32) (v3 : BitVec 32) (k0_hw1 : k0_chk1 v1 v3), ∀ (k0_h3 : k0_cond3 v1 v3 = 1#1), 512 ∣ (k0_mult17 v3).toNat := fun v1 v3 k0_hw1 k0_h3 => k0_hw1.2.2.2.2.2.2.2.2.2.2.2.2.2.2.2.2.2.2.1 k0_h3
theorem k0_mult18_dvd : ∀ (v1 : BitVec 32) (v3 : BitVec 32) (k0_hw1 : k0_chk1 v1 v3), ∀ (k0_h3 : k0_cond3 v1 v3 = 1#1), 512 ∣ (k0_mult18 v3).toNat := fun v1 v3 k0_hw1 k0_h3 => k0_hw1.2.2.2.2.2.2.2.2.2.2.2.2.2.2.2.2.2.2.2.1 k0_h3
theorem k0_mult19_dvd : ∀ (v1 : BitVec 32) (v3 : BitVec 32) (k0_hw1 : k0_chk1 v1 v3), ∀ (k0_h3 : k0_cond3 v1 v3 = 1#1), 512 ∣ (k0_mult19 v3).toNat := fun v1 v3 k0_hw1 k0_h3 => k0_hw1.2.2.2.2.2.2.2.2.2.2.2.2.2.2.2.2.2.2.2.2.1 k0_h3
theorem k0_mult20_dvd : ∀ (v1 : BitVec 32) (v3 : BitVec 32) (k0_hw1 : k0_chk1 v1 v3), ∀ (k0_h3 : k0_cond3 v1 v3 = 1#1), 512 ∣ (k0_mult20 v3).toNat := fun v1 v3 k0_hw1 k0_h3 => k0_hw1.2.2.2.2.2.2.2.2.2.2.2.2.2.2.2.2.2.2.2.2.2.1 k0_h3
theorem k0_mult21_dvd : ∀ (v1 : BitVec 32) (v3 : BitVec 32) (k0_hw1 : k0_chk1 v1 v3), ∀ (k0_h3 : k0_cond3 v1 v3 = 1#1), 512 ∣ (k0_mult21 v3).toNat := fun v1 v3 k0_hw1 k0_h3 => k0_hw1.2.2.2.2.2.2.2.2.2.2.2.2.2.2.2.2.2.2.2.2.2.2.1 k0_h3
theorem k0_mult22_dvd : ∀ (v1 : BitVec 32) (v3 : BitVec 32) (k0_hw1 : k0_chk1 v1 v3), ∀ (k0_h3 : k0_cond3 v1 v3 = 1#1), 512 ∣ (k0_mult22 v3).toNat := fun v1 v3 k0_hw1 k0_h3 => k0_hw1.2.2.2.2.2.2.2.2.2.2.2.2.2.2.2.2.2.2.2.2.2.2.2.1 k0_h3
theorem k0_mult23_dvd : ∀ (v1 : BitVec 32) (v3 : BitVec 32) (k0_hw1 : k0_chk1 v1 v3), ∀ (k0_h3 : k0_cond3 v1 v3 = 1#1), 512 ∣ (k0_mult23 v3).toNat := fun v1 v3 k0_hw1 k0_h3 => k0_hw1.2.2.2.2.2.2.2.2.2.2.2.2.2.2.2.2.2.2.2.2.2.2.2.2.1 k0_h3
theorem k0_mult24_dvd : ∀ (v1 : BitVec 32) (v3 : BitVec 32) (k0_hw1 : k0_chk1 v1 v3), ∀ (k0_h3 : k0_cond3 v1 v3 = 1#1), 512 ∣ (k0_mult24 v3).toNat := fun v1 v3 k0_hw1 k0_h3 => k0_hw1.2.2.2.2.2.2.2.2.2.2.2.2.2.2.2.2.2.2.2.2.2.2.2.2.2.1 k0_h3
theorem k0_mult25_dvd : ∀ (v1 : BitVec 32) (v3 : BitVec 32) (k0_hw1 : k0_chk1 v1 v3), ∀ (k0_h3 : k0_cond3 v1 v3 = 1#1), 512 ∣ (k0_mult25 v3).toNat := fun v1 v3 k0_hw1 k0_h3 => k0_hw1.2.2.2.2.2.2.2.2.2.2.2.2.2.2.2.2.2.2.2.2.2.2.2.2.2.2.1 k0_h3
theorem k0_mult26_dvd : ∀ (v1 : BitVec 32) (v3 : BitVec 32) (k0_hw1 : k0_chk1 v1 v3), ∀ (k0_h3 : k0_cond3 v1 v3 = 1#1), 512 ∣ (k0_mult26 v3).toNat := fun v1 v3 k0_hw1 k0_h3 => k0_hw1.2.2.2.2.2.2.2.2.2.2.2.2.2.2.2.2.2.2.2.2.2.2.2.2.2.2.2 k0_h3

def k0_cond1 (v1 : BitVec 32) (v3 : BitVec 32) : BitVec 1 :=
  let c0_i32 : BitVec 32 := 0#32
  let v4 : BitVec 1 := Scalar.cmpi .eq v1 c0_i32
  let c0_i32_0 : BitVec 32 := 0#32
  let v5 : BitVec 1 := Scalar.cmpi .eq v3 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def k0_cond4 (v3 : BitVec 32) : BitVec 1 :=
  let c3_i32 : BitVec 32 := 3#32
  let v15 : BitVec 1 := Scalar.cmpi .eq v3 c3_i32
  let v16 : BitVec 32 := Scalar.extui v15
  let c0_i32_4 : BitVec 32 := 0#32
  let v17 : BitVec 1 := Scalar.cmpi .ne v16 c0_i32_4
  v17

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8x8192x192 : Shape := ⟨3, ![8, 8192, 192]⟩
abbrev S8x8192x128 : Shape := ⟨3, ![8, 8192, 128]⟩
abbrev S8192x1024 : Shape := ⟨2, ![8192, 1024]⟩
abbrev S8192x8x128 : Shape := ⟨3, ![8192, 8, 128]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x64 : Shape := ⟨3, ![8, 8192, 64]⟩
abbrev S8x8192x256 : Shape := ⟨3, ![8, 8192, 256]⟩

abbrev nBuf : Space → Nat
  | .hbm => 92
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8192x1024, .f32⟩
  | .hbm, ⟨4, _⟩ => ⟨S8192x8x128, .f32⟩
  | .hbm, ⟨5, _⟩ => ⟨S8x8192x128, .f32⟩
  | .hbm, ⟨6, _⟩ => ⟨S_, .f32⟩
  | .hbm, ⟨7, _⟩ => ⟨S8x8192x192, .f32⟩
  | .hbm, ⟨8, _⟩ => ⟨S8x8192x192, .f32⟩
  | .hbm, ⟨9, _⟩ => ⟨S8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S8x8192x8192, .i1⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x128, .f32⟩
  | .hbm, ⟨62, _⟩ => ⟨S8x128x8192, .f32⟩
  | .hbm, ⟨63, _⟩ => ⟨S8x8192x128, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S8x8192x1, .f32⟩
  | .hbm, ⟨71, _⟩ => ⟨S8x8192x1, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192x8192, .f32⟩
  | .hbm, ⟨81, _⟩ => ⟨S8x8192x8192, .f32⟩
  | .hbm, ⟨82, _⟩ => ⟨S8x8192x192, .f32⟩
  | .hbm, ⟨83, _⟩ => ⟨S8x8192x192, .f32⟩
  | .hbm, ⟨84, _⟩ => ⟨S8x8192x64, .f32⟩
  | .hbm, ⟨85, _⟩ => ⟨S8x8192x256, .f32⟩
  | .hbm, ⟨86, _⟩ => ⟨S8x8192x64, .f32⟩
  | .hbm, ⟨87, _⟩ => ⟨S_, .f32⟩
  | .hbm, ⟨88, _⟩ => ⟨S8x8192x64, .f32⟩
  | .hbm, ⟨89, _⟩ => ⟨S8x8192x256, .f32⟩
  | .hbm, ⟨90, _⟩ => ⟨S8x8192x256, .bf16⟩
  | .hbm, ⟨91, _⟩ => ⟨S8x8192x128, .bf16⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== KernelMlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3x1024 : Shape := ⟨2, ![3, 1024]⟩
abbrev S8x1024 : Shape := ⟨2, ![8, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 49
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S3x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S8x1024, .f32⟩
  | .hbm, ⟨40, _⟩ => ⟨S1024x4x1024, .f32⟩
  | .hbm, ⟨41, _⟩ => ⟨S4x1024x1024, .f32⟩
  | .hbm, ⟨42, _⟩ => ⟨S4x1024x1024, .bf16⟩
  | .hbm, ⟨43, _⟩ => ⟨S4x1024x1024, .f32⟩
  | .hbm, ⟨44, _⟩ => ⟨S4x1024x1024, .bf16⟩
  | .hbm, ⟨45, _⟩ => ⟨S8192x1024, .bf16⟩
  | .hbm, ⟨46, _⟩ => ⟨S8192x4096, .bf16⟩
  | .hbm, ⟨47, _⟩ => ⟨S8192x1024, .bf16⟩
  | .hbm, ⟨48, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceMlpIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x1024, .f32⟩
  | .hbm, ⟨38, _⟩ => ⟨S8192x4096, .bf16⟩
  | .hbm, ⟨39, _⟩ => ⟨S8192x1024, .bf16⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== KernelDown.lean ====
abbrev S8192x4096 : Shape := ⟨2, ![8192, 4096]⟩
abbrev S8192x1024 : Shape := ⟨2, ![8192, 1024]⟩
abbrev S4x2x1024x1024 : Shape := ⟨4, ![4, 2, 1024, 1024]⟩
abbrev S4096x1024 : Shape := ⟨2, ![4096, 1024]⟩
abbrev S1x1x1024x1024 : Shape := ⟨4, ![1, 1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x2x1024x1024, .f32⟩
  | .hbm, ⟨3, _⟩ => ⟨S4x2x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x1024x1024, .f32⟩
  | .local _ .vmem, ⟨5, _⟩ => ⟨S1x1x1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x4096 : Shape := ⟨2, ![8192, 4096]⟩
abbrev S8192x1024 : Shape := ⟨2, ![8192, 1024]⟩
abbrev S4x2x1024x1024 : Shape := ⟨4, ![4, 2, 1024, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S4x1x1024x1024 : Shape := ⟨4, ![4, 1, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x2x1024x1024, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S4096x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x1x1024x1024, .f32⟩
  | .hbm, ⟨12, _⟩ => ⟨S4x1024x1024, .f32⟩
  | .hbm, ⟨13, _⟩ => ⟨S4x1x1024x1024, .f32⟩
  | .hbm, ⟨14, _⟩ => ⟨S4x1x1024x1024, .f32⟩
  | .hbm, ⟨15, _⟩ => ⟨S4x2x1024x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelUp.lean ====
abbrev S8192x1024 : Shape := ⟨2, ![8192, 1024]⟩
abbrev S8192x4096 : Shape := ⟨2, ![8192, 4096]⟩
abbrev S4x2x1024x1024 : Shape := ⟨4, ![4, 2, 1024, 1024]⟩
abbrev S4096x1024 : Shape := ⟨2, ![4096, 1024]⟩
abbrev S1x1x1024x1024 : Shape := ⟨4, ![1, 1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x2x1024x1024, .f32⟩
  | .hbm, ⟨3, _⟩ => ⟨S4x2x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x1024x1024, .f32⟩
  | .local _ .vmem, ⟨5, _⟩ => ⟨S1x1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x1024 : Shape := ⟨2, ![8192, 1024]⟩
abbrev S8192x4096 : Shape := ⟨2, ![8192, 4096]⟩
abbrev S4x2x1024x1024 : Shape := ⟨4, ![4, 2, 1024, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x2x1024x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S1024x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1x1024x1024, .f32⟩
  | .hbm, ⟨13, _⟩ => ⟨S4x1024x1024, .f32⟩
  | .hbm, ⟨14, _⟩ => ⟨S4x1x1024x1024, .f32⟩
  | .hbm, ⟨15, _⟩ => ⟨S4x1x1024x1024, .f32⟩
  | .hbm, ⟨16, _⟩ => ⟨S4x2x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelDownB.lean ====
abbrev S8192x4096 : Shape := ⟨2, ![8192, 4096]⟩
abbrev S8192x1024 : Shape := ⟨2, ![8192, 1024]⟩
abbrev S4x2x1024x1024 : Shape := ⟨4, ![4, 2, 1024, 1024]⟩
abbrev S4096x1024 : Shape := ⟨2, ![4096, 1024]⟩
abbrev S1x1x1024x1024 : Shape := ⟨4, ![1, 1, 1024, 1024]⟩
abbrev S1024x1024 : Shape := ⟨2, ![1024, 1024]⟩
abbrev S4x1x1024x1024 : Shape := ⟨4, ![4, 1, 1024, 1024]⟩
abbrev S4x1024x1024 : Shape := ⟨3, ![4, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x2x1024x1024, .f32⟩
  | .hbm, ⟨3, _⟩ => ⟨S4x1x1024x1024, .f32⟩
  | .hbm, ⟨4, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x1024x1024, .f32⟩
  | .local _ .vmem, ⟨5, _⟩ => ⟨S1x1x1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownBIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUpB.lean ====
abbrev S8192x1024 : Shape := ⟨2, ![8192, 1024]⟩
abbrev S8192x4096 : Shape := ⟨2, ![8192, 4096]⟩
abbrev S4x2x1024x1024 : Shape := ⟨4, ![4, 2, 1024, 1024]⟩
abbrev S4096x1024 : Shape := ⟨2, ![4096, 1024]⟩
abbrev S1x1x1024x1024 : Shape := ⟨4, ![1, 1, 1024, 1024]⟩
abbrev S1024x1024 : Shape := ⟨2, ![1024, 1024]⟩
abbrev S4x1x1024x1024 : Shape := ⟨4, ![4, 1, 1024, 1024]⟩
abbrev S4x1024x1024 : Shape := ⟨3, ![4, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x2x1024x1024, .f32⟩
  | .hbm, ⟨3, _⟩ => ⟨S4x1x1024x1024, .f32⟩
  | .hbm, ⟨4, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x1024x1024, .f32⟩
  | .local _ .vmem, ⟨5, _⟩ => ⟨S1x1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpBIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDwA.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwAIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwB.lean ====
abbrev S1024x8192 : Shape := ⟨2, ![1024, 8192]⟩
abbrev S8192x1024 : Shape := ⟨2, ![8192, 1024]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S1024x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwBIdeal.lean ====
abbrev S1024x8192 : Shape := ⟨2, ![1024, 8192]⟩
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S1024x8192, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelQkv.lean ====
abbrev S8192x1024 : Shape := ⟨2, ![8192, 1024]⟩
abbrev S8192x1536 : Shape := ⟨2, ![8192, 1536]⟩
abbrev S4x1x1024x384 : Shape := ⟨4, ![4, 1, 1024, 384]⟩
abbrev S4096x1024 : Shape := ⟨2, ![4096, 1024]⟩
abbrev S4096x384 : Shape := ⟨2, ![4096, 384]⟩
abbrev S1x1x1024x384 : Shape := ⟨4, ![1, 1, 1024, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S4x1x1024x384, .f32⟩
  | .local _ .vmem, ⟨0, _⟩ => ⟨S4096x1024, .bf16⟩
  | .local _ .vmem, ⟨1, _⟩ => ⟨S4096x1024, .bf16⟩
  | .local _ .vmem, ⟨2, _⟩ => ⟨S4096x384, .bf16⟩
  | .local _ .vmem, ⟨3, _⟩ => ⟨S4096x384, .bf16⟩
  | .local _ .vmem, ⟨4, _⟩ => ⟨S1x1x1024x384, .f32⟩
  | .local _ .vmem, ⟨5, _⟩ => ⟨S1x1x1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩
abbrev S4x1x1024x384 : Shape := ⟨4, ![4, 1, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .f32⟩
  | .hbm, ⟨3, _⟩ => ⟨S8192x1536, .f32⟩
  | .hbm, ⟨4, _⟩ => ⟨S_, .f32⟩
  | .hbm, ⟨5, _⟩ => ⟨S1024x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x4x384, .f32⟩
  | .hbm, ⟨10, _⟩ => ⟨S4x1024x384, .f32⟩
  | .hbm, ⟨11, _⟩ => ⟨S4x1x1024x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelOutA.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S3x1024 : Shape := ⟨2, ![3, 1024]⟩
abbrev S2x1024 : Shape := ⟨2, ![2, 1024]⟩
abbrev S1x1024 : Shape := ⟨2, ![1, 1024]⟩
abbrev S8x1024 : Shape := ⟨2, ![8, 1024]⟩
abbrev S1024x1 : Shape := ⟨2, ![1024, 1]⟩

abbrev nBuf : Space → Nat
  | .hbm => 22
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S3x1024, .f32⟩
  | .hbm, ⟨9, _⟩ => ⟨S2x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S2x1024, .f32⟩
  | .hbm, ⟨14, _⟩ => ⟨S1x1024, .f32⟩
  | .hbm, ⟨15, _⟩ => ⟨S8x1024, .f32⟩
  | .hbm, ⟨16, _⟩ => ⟨S8192x1024, .bf16⟩
  | .hbm, ⟨17, _⟩ => ⟨S1024x1024, .bf16⟩
  | .hbm, ⟨18, _⟩ => ⟨S1x1024, .f32⟩
  | .hbm, ⟨19, _⟩ => ⟨S8192x1024, .bf16⟩
  | .hbm, ⟨20, _⟩ => ⟨S8192x1024, .f32⟩
  | .hbm, ⟨21, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S8x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutAIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== KernelOutB.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S3x1024 : Shape := ⟨2, ![3, 1024]⟩
abbrev S2x1024 : Shape := ⟨2, ![2, 1024]⟩
abbrev S1x1024 : Shape := ⟨2, ![1, 1024]⟩
abbrev S8x1024 : Shape := ⟨2, ![8, 1024]⟩
abbrev S1024x8192 : Shape := ⟨2, ![1024, 8192]⟩
abbrev S1024x1 : Shape := ⟨2, ![1024, 1]⟩

abbrev nBuf : Space → Nat
  | .hbm => 24
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S3x1024, .f32⟩
  | .hbm, ⟨10, _⟩ => ⟨S2x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S1x1024, .f32⟩
  | .hbm, ⟨16, _⟩ => ⟨S8x1024, .f32⟩
  | .hbm, ⟨17, _⟩ => ⟨S1024x8192, .f32⟩
  | .hbm, ⟨18, _⟩ => ⟨S1024x8192, .bf16⟩
  | .hbm, ⟨19, _⟩ => ⟨S1024x1024, .bf16⟩
  | .hbm, ⟨20, _⟩ => ⟨S1x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S8x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutBIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== KernelPre.lean ====
abbrev S8192x1024 : Shape := ⟨2, ![8192, 1024]⟩
abbrev S1024 : Shape := ⟨1, ![1024]⟩
abbrev S1024x1536 : Shape := ⟨2, ![1024, 1536]⟩
abbrev S1536 : Shape := ⟨1, ![1536]⟩
abbrev S_ : Shape := ⟨0, ![]⟩
abbrev S4x1024 : Shape := ⟨2, ![4, 1024]⟩
abbrev S1x1024 : Shape := ⟨2, ![1, 1024]⟩
abbrev S8x1024 : Shape := ⟨2, ![8, 1024]⟩
abbrev S1x1536 : Shape := ⟨2, ![1, 1536]⟩
abbrev S1024x1024 : Shape := ⟨2, ![1024, 1024]⟩
abbrev S1024x512 : Shape := ⟨2, ![1024, 512]⟩
abbrev S1024x1 : Shape := ⟨2, ![1024, 1]⟩
abbrev S1x512 : Shape := ⟨2, ![1, 512]⟩
abbrev S1024x8192 : Shape := ⟨2, ![1024, 8192]⟩
abbrev S8192x256 : Shape := ⟨2, ![8192, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 25
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x1536, .f32⟩
  | .hbm, ⟨5, _⟩ => ⟨S1536, .f32⟩
  | .hbm, ⟨6, _⟩ => ⟨S_, .f32⟩
  | .hbm, ⟨7, _⟩ => ⟨S4x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8x1024, .f32⟩
  | .hbm, ⟨13, _⟩ => ⟨S1024x1536, .bf16⟩
  | .hbm, ⟨14, _⟩ => ⟨S1x1536, .f32⟩
  | .hbm, ⟨15, _⟩ => ⟨S1024x1024, .bf16⟩
  | .hbm, ⟨16, _⟩ => ⟨S1024x1024, .bf16⟩
  | .hbm, ⟨17, _⟩ => ⟨S1024x512, .bf16⟩
  | .hbm, ⟨18, _⟩ => ⟨S1x1024, .f32⟩
  | .hbm, ⟨19, _⟩ => ⟨S1024x1, .f32⟩
  | .hbm, ⟨20, _⟩ => ⟨S1x512, .f32⟩
  | .hbm, ⟨21, _⟩ => ⟨S8192x1024, .bf16⟩
  | .hbm, ⟨22, _⟩ => ⟨S1024x8192, .bf16⟩
  | .hbm, ⟨23, _⟩ => ⟨S8192x256, .bf16⟩
  | .hbm, ⟨24, _⟩ => ⟨S8192x256, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x1, .f32⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferencePreIdeal.lean ====
abbrev S8192x1024 : Shape := ⟨2, ![8192, 1024]⟩
abbrev S1024 : Shape := ⟨1, ![1024]⟩
abbrev S1024x1536 : Shape := ⟨2, ![1024, 1536]⟩
abbrev S1536 : Shape := ⟨1, ![1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S1x1536 : Shape := ⟨2, ![1, 1536]⟩
abbrev S8192x256 : Shape := ⟨2, ![8192, 256]⟩
abbrev S1024x8192 : Shape := ⟨2, ![1024, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x1536, .f32⟩
  | .hbm, ⟨5, _⟩ => ⟨S1536, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1536, .f32⟩
  | .hbm, ⟨32, _⟩ => ⟨S1x1536, .f32⟩
  | .hbm, ⟨33, _⟩ => ⟨S8192x1536, .f32⟩
  | .hbm, ⟨34, _⟩ => ⟨S8192x1536, .f32⟩
  | .hbm, ⟨35, _⟩ => ⟨S8192x1024, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S1024x8192, .f32⟩
  | .hbm, ⟨42, _⟩ => ⟨S8192x1024, .bf16⟩
  | .hbm, ⟨43, _⟩ => ⟨S1024x8192, .bf16⟩
  | .hbm, ⟨44, _⟩ => ⟨S8192x256, .bf16⟩
  | .hbm, ⟨45, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Upd.lean ====
/- One update of the backward pass, as one program: the four products of a 512×512 sub-block of the scores
   and the three accumulations they feed.  The kernel's diagonal region is ten of them after clearing the two
   accumulators, the region below the diagonal sixteen. -/
module

public import proofs.«01_k».proof.Proof.Gen.KernelIdeal.Skeleton
public import proofs.«01_k».proof.Proof.Gen.KernelIdeal.Launch

@[expose] public section

noncomputable section

namespace Cert.KernelIdeal.Bwd

open Idealize.ShloMosaic Idealize.ShloMosaic.TcCoe
open Idealize.SL.Sem
open Cert.KernelIdeal Cert.KernelIdeal.Gen

variable {F : FTy → Type} [FloatOps F] [Named F]

/-- The transposed scores of a block of keys against a block of queries, the entries whose key comes after the
    query masked where the two blocks are the same rows. -/
def sT (masked : Bool) (k q : Vec F S1x512x256 .bf16) : FVec F S512x512 .f32 :=
  let s : FVec F S512x512 .f32 := matmul dot_S512x256_S512x256_S512x512_1_1_0_0_n_n none
    (shapeCast S512x256 k shapeCasts_S1x512x256_S512x256 : FVec F S512x256 .bf16)
    (shapeCast S512x256 q shapeCasts_S1x512x256_S512x256 : FVec F S512x256 .bf16) (constant S512x512 .f32 0x00000000#32)
  match masked with
  | true => select (cmpi .sle (iota .tc S512x512 32 [0] iota_S512x512_d0_w32) (iota .tc S512x512 32 [1] iota_S512x512_d1_w32))
      s (broadcast S512x512 (Named.named κ "mask" 0xF149F2CA#32))
  | false => s

/-- The transposed weights: two to the power of the scores less the row's saved logarithm. -/
def pT (masked : Bool) (k q : Vec F S1x512x256 .bf16) (lse : Vec F S1x1x512 .f32) : FVec F S512x512 .f32 :=
  exp2 (subf (sT masked k q)
    (broadcastTo S512x512 (shapeCast S1x512 lse shapeCasts_S1x1x512_S1x512 : FVec F S1x512 .f32) broadcasts_S1x512_S512x512))

/-- The transposed gradient of the scores. -/
def dsT (masked : Bool) (k q : Vec F S1x512x256 .bf16) (lse : Vec F S1x1x512 .f32) (d : Vec F S512x128 .bf16)
    (v : Vec F S1x512x128 .bf16) (del : Vec F S1x1x512 .f32) : FVec F S512x512 .bf16 :=
  truncf .bf16 (mulf (pT masked k q lse)
    (subf (matmul dot_S512x128_S512x128_S512x512_1_1_0_0_n_n none
        (shapeCast S512x128 v shapeCasts_S1x512x128_S512x128 : FVec F S512x128 .bf16)
        (shapeCast S512x128 d shapeCasts_S512x128_S512x128 : FVec F S512x128 .bf16) (constant S512x512 .f32 0x00000000#32))
      (broadcastTo S512x512 (shapeCast S1x512 del shapeCasts_S1x1x512_S1x512 : FVec F S1x512 .f32) broadcasts_S1x512_S512x512)))
    bitsLt_bf16_f32

/-- The rows of the values' gradient, increased. -/
def newDv (masked : Bool) (k q : Vec F S1x512x256 .bf16) (lse : Vec F S1x1x512 .f32) (d : Vec F S512x128 .bf16)
    (acc : Vec F S512x128 .f32) : FVec F S512x128 .f32 :=
  shapeCast S512x128 (addf acc (matmul dot_S512x512_S512x128_S512x128_1_0_0_1_n_n none
      (truncf .bf16 (pT masked k q lse) bitsLt_bf16_f32)
      (shapeCast S512x128 d shapeCasts_S512x128_S512x128 : FVec F S512x128 .bf16) (constant S512x128 .f32 0x00000000#32)))
    shapeCasts_S512x128_S512x128

/-- The rows of the keys' gradient, increased. -/
def newDk (masked : Bool) (k q : Vec F S1x512x256 .bf16) (lse : Vec F S1x1x512 .f32) (d : Vec F S512x128 .bf16)
    (v : Vec F S1x512x128 .bf16) (del : Vec F S1x1x512 .f32) (acc : Vec F S512x256 .f32) : FVec F S512x256 .f32 :=
  shapeCast S512x256 (addf acc (matmul dot_S512x512_S512x256_S512x256_1_0_0_1_n_n none (dsT masked k q lse d v del)
      (shapeCast S512x256 q shapeCasts_S1x512x256_S512x256 : FVec F S512x256 .bf16) (constant S512x256 .f32 0x00000000#32)))
    shapeCasts_S512x256_S512x256

/-- The rows of the queries' gradient, increased. -/
def newDq (masked : Bool) (k q : Vec F S1x512x256 .bf16) (lse : Vec F S1x1x512 .f32) (d : Vec F S512x128 .bf16)
    (v : Vec F S1x512x128 .bf16) (del : Vec F S1x1x512 .f32) (acc : Vec F S1x512x256 .f32) : FVec F S1x512x256 .f32 :=
  shapeCast S1x512x256 (addf (shapeCast S512x256 acc shapeCasts_S1x512x256_S512x256 : FVec F S512x256 .f32)
      (matmul dot_S512x512_S512x256_S512x256_0_0_1_1_n_n none (dsT masked k q lse d v del)
        (shapeCast S512x256 k shapeCasts_S1x512x256_S512x256 : FVec F S512x256 .bf16) (constant S512x256 .f32 0x00000000#32)))
    shapeCasts_S512x256_S1x512x256

variable (arg4 : Memref sig .tc .vmem S1x2048x256 .bf16) (arg5 : Memref sig .tc .vmem S1x2048x256 .bf16)
  (arg6 : Memref sig .tc .vmem S1x2048x128 .bf16) (arg7 : Memref sig .tc .vmem S2048x128 .bf16)
  (arg8 : Memref sig .tc .vmem S1x1x2048 .f32) (arg9 : Memref sig .tc .vmem S1x1x2048 .f32)
  (arg10 : Memref sig .tc .vmem S1x8192x256 .f32) (arg13 : Memref sig .tc .vmem S2048x256 .f32)
  (arg14 : Memref sig .tc .vmem S2048x128 .f32)

theorem inb3 {o : Nat} (h : o + 512 ≤ 2048) :
    ∀ a, (![0, o, 0] : Fin 3 → Nat) a + S1x512x256.size a ≤ S1x2048x256.size a := by
  intro a; fin_cases a <;> simp [S1x512x256, S1x2048x256, h]
theorem inb3v {o : Nat} (h : o + 512 ≤ 2048) :
    ∀ a, (![0, o, 0] : Fin 3 → Nat) a + S1x512x128.size a ≤ S1x2048x128.size a := by
  intro a; fin_cases a <;> simp [S1x512x128, S1x2048x128, h]
theorem inb3l {o : Nat} (h : o + 512 ≤ 2048) :
    ∀ a, (![0, 0, o] : Fin 3 → Nat) a + S1x1x512.size a ≤ S1x1x2048.size a := by
  intro a; fin_cases a <;> simp [S1x1x512, S1x1x2048, h]
theorem inb2 {o : Nat} (h : o + 512 ≤ 2048) :
    ∀ a, (![o, 0] : Fin 2 → Nat) a + S512x128.size a ≤ S2048x128.size a := by
  intro a; fin_cases a <;> simp [S512x128, S2048x128, h]
theorem inb2k {o : Nat} (h : o + 512 ≤ 2048) :
    ∀ a, (![o, 0] : Fin 2 → Nat) a + S512x256.size a ≤ S2048x256.size a := by
  intro a; fin_cases a <;> simp [S512x256, S2048x256, h]

/-- One update: keys from row `kk` of the block, queries from row `r`, the queries' gradient at `oq`. -/
def upd (masked : Bool) (kk r : Nat) (hk : kk + 512 ≤ 2048) (hr : r + 512 ≤ 2048) (oq : Fin 3 → Nat)
    (hq : ∀ a, oq a + S1x512x256.size a ≤ S1x8192x256.size a) : Prog (TpuEff nD τ sig (Elt F) Λ₀ .tc) PUnit := do
  let k : Vec F S1x512x256 .bf16 ← Prog.lift (.load arg5 (Rect.unit (s := S1x2048x256) ![0, kk, 0] S1x512x256.size (inb3 hk)).toLoadRect (View.loadsAt_vmem h_S1x512x256))
  let q : Vec F S1x512x256 .bf16 ← Prog.lift (.load arg4 (Rect.unit (s := S1x2048x256) ![0, r, 0] S1x512x256.size (inb3 hr)).toLoadRect (View.loadsAt_vmem h_S1x512x256))
  let d : Vec F S512x128 .bf16 ← Prog.lift (.load arg7 (Rect.unit (s := S2048x128) ![r, 0] S512x128.size (inb2 hr)).toLoadRect (View.loadsAt_vmem h_S512x128))
  let lse : Vec F S1x1x512 .f32 ← Prog.lift (.load arg8 (Rect.unit (s := S1x1x2048) ![0, 0, r] S1x1x512.size (inb3l hr)).toLoadRect (View.loadsAt_vmem h_S1x1x512))
  let av : Vec F S512x128 .f32 ← Prog.lift (.load arg14 (Rect.unit (s := S2048x128) ![kk, 0] S512x128.size (inb2 hk)).toLoadRect (View.loadsAt_vmem h_S512x128))
  let _x : Vec F S512x128 .f32 ← Prog.lift (.load arg14 (Rect.unit (s := S2048x128) ![kk, 0] S512x128.size (inb2 hk)).toLoadRect (View.loadsAt_vmem h_S512x128))
  Prog.lift (.store arg14 (Rect.unit (s := S2048x128) ![kk, 0] S512x128.size (inb2 hk)) (newDv masked k q lse d av) Finset.univ (View.stores_vmem_bits_univ h_S512x128 rfl) (.inl rfl))
  let v : Vec F S1x512x128 .bf16 ← Prog.lift (.load arg6 (Rect.unit (s := S1x2048x128) ![0, kk, 0] S1x512x128.size (inb3v hk)).toLoadRect (View.loadsAt_vmem h_S1x512x128))
  let del : Vec F S1x1x512 .f32 ← Prog.lift (.load arg9 (Rect.unit (s := S1x1x2048) ![0, 0, r] S1x1x512.size (inb3l hr)).toLoadRect (View.loadsAt_vmem h_S1x1x512))
  let ak : Vec F S512x256 .f32 ← Prog.lift (.load arg13 (Rect.unit (s := S2048x256) ![kk, 0] S512x256.size (inb2k hk)).toLoadRect (View.loadsAt_vmem h_S512x256))
  let _x : Vec F S512x256 .f32 ← Prog.lift (.load arg13 (Rect.unit (s := S2048x256) ![kk, 0] S512x256.size (inb2k hk)).toLoadRect (View.loadsAt_vmem h_S512x256))
  Prog.lift (.store arg13 (Rect.unit (s := S2048x256) ![kk, 0] S512x256.size (inb2k hk)) (newDk masked k q lse d v del ak) Finset.univ (View.stores_vmem_bits_univ h_S512x256 rfl) (.inl rfl))
  let aq : Vec F S1x512x256 .f32 ← Prog.lift (.load arg10 (Rect.unit (s := S1x8192x256) oq S1x512x256.size hq).toLoadRect (View.loadsAt_vmem h_S1x512x256))
  let _x : Vec F S1x512x256 .f32 ← Prog.lift (.load arg10 (Rect.unit (s := S1x8192x256) oq S1x512x256.size hq).toLoadRect (View.loadsAt_vmem h_S1x512x256))
  Prog.lift (.store arg10 (Rect.unit (s := S1x8192x256) oq S1x512x256.size hq) (newDq masked k q lse d v del aq) Finset.univ (View.stores_vmem_bits_univ h_S1x512x256 rfl) (.inl rfl))

/-- Both accumulators cleared. -/
def zeroAcc : Prog (TpuEff nD τ sig (Elt F) Λ₀ .tc) PUnit := do
  let _x : Vec F S2048x256 .f32 ← Prog.lift (.load arg13 (Rect.unit (s := S2048x256) ![0, 0] S2048x256.size inb_S2048x256_S2048x256_0_0).toLoadRect (View.loadsAt_vmem h_S2048x256))
  Prog.lift (.store arg13 (Rect.unit (s := S2048x256) ![0, 0] S2048x256.size inb_S2048x256_S2048x256_0_0) (shapeCast S2048x256 (broadcast S2048x256 (Scalar.ofBits .f32 0x00000000#32) : FVec F S2048x256 .f32) shapeCasts_S2048x256_S2048x256) Finset.univ (View.stores_vmem_bits_univ h_S2048x256 rfl) (.inl rfl))
  let _x : Vec F S2048x128 .f32 ← Prog.lift (.load arg14 (Rect.unit (s := S2048x128) ![0, 0] S2048x128.size inb_S2048x128_S2048x128_0_0).toLoadRect (View.loadsAt_vmem h_S2048x128))
  Prog.lift (.store arg14 (Rect.unit (s := S2048x128) ![0, 0] S2048x128.size inb_S2048x128_S2048x128_0_0) (shapeCast S2048x128 (broadcast S2048x128 (Scalar.ofBits .f32 0x00000000#32) : FVec F S2048x128 .f32) shapeCasts_S2048x128_S2048x128) Finset.univ (View.stores_vmem_bits_univ h_S2048x128 rfl) (.inl rfl))

theorem le4 (a : Fin 4) : 512 * a.val + 512 ≤ 2048 := by omega

/-- A list of updates, each a block of keys and a block of queries; `dg` says that the two blocks lie on the
    diagonal. -/
def updList (dg : Bool) (oq : Fin 4 → Fin 3 → Nat)
    (hq : ∀ r a, oq r a + S1x512x256.size a ≤ S1x8192x256.size a) :
    List (Fin 4 × Fin 4) → Prog (TpuEff nD τ sig (Elt F) Λ₀ .tc) PUnit
  | [] => pure ⟨⟩
  | (kk, r) :: l => do
    upd arg4 arg5 arg6 arg7 arg8 arg9 arg10 arg13 arg14 (dg && decide (kk = r)) (512 * kk.val) (512 * r.val) (le4 kk) (le4 r) (oq r) (hq r)
    updList dg oq hq l

/-- The sub-blocks of a diagonal block that hold an unmasked entry, in the kernel's order. -/
abbrev lowList : List (Fin 4 × Fin 4) :=
  [(0, 0), (0, 1), (1, 1), (0, 2), (1, 2), (2, 2), (0, 3), (1, 3), (2, 3), (3, 3)]

/-- All the sub-blocks of a block, in the kernel's order. -/
abbrev allList : List (Fin 4 × Fin 4) :=
  [(0, 0), (1, 0), (2, 0), (3, 0), (0, 1), (1, 1), (2, 1), (3, 1), (0, 2), (1, 2), (2, 2), (3, 2), (0, 3), (1, 3), (2, 3), (3, 3)]

end Cert.KernelIdeal.Bwd
end
-- ==== Proof.Regions.lean ====
/- The kernel's two regions of updates are the lists of updates of Upd.lean. -/
module

public import proofs.«01_k».proof.Proof.Upd

@[expose] public section

noncomputable section

namespace Cert.KernelIdeal.Bwd

open Idealize.ShloMosaic Idealize.ShloMosaic.TcCoe
open Idealize.SL.Sem
open Cert.KernelIdeal Cert.KernelIdeal.Gen

variable {F : FTy → Type} [FloatOps F] [Named F]

variable (i : grid0.Coords) (arg2 : Memref sig .tc .smem S10 .i32) (harg2 : arg2.IsWhole) (arg3 : Memref sig .tc .smem S10 .i32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x8192x256 .f32) (harg10 : arg10.IsWhole) (arg11 : Memref sig .tc .vmem S1x2048x256 .bf16) (harg11 : arg11.IsWhole) (arg12 : Memref sig .tc .vmem S1x2048x128 .bf16) (harg12 : arg12.IsWhole) (arg13 : Memref sig .tc .vmem S2048x256 .f32) (harg13 : arg13.IsWhole) (arg14 : Memref sig .tc .vmem S2048x128 .f32) (harg14 : arg14.IsWhole)

/-- The diagonal region as the kernel prints it. -/
def diagText (v1 v3 : Elt F .i32) (k0_hw1 : k0_chk1 v1 v3) (k0_h2 : k0_cond2 v1 v3 = 1#1) :
    Prog (TpuEff nD τ sig (Elt F) Λ₀ .tc) PUnit := do
  let v501 : FVec F S512x256 .f32 ← k0_part15 i arg2 harg2 arg3 harg3 arg4 harg4 arg5 harg5 arg6 harg6 arg7 harg7 arg8 harg8 arg9 harg9 arg10 harg10 arg11 harg11 arg12 harg12 arg13 harg13 arg14 harg14 v1 v3 k0_hw1 k0_h2
  let v503 : Vec F S1x512x256 .f32 ← Prog.lift (.load arg10 (Rect.unit (s := S1x8192x256) (k0_off2 v3 1536#32) S1x512x256.size (k0_off2_inb v1 v3 k0_hw1 k0_h2 3)).toLoadRect (View.loadsAt_vmem h_S1x512x256))
  have v505 : FVec F S1x512x256 .f32 := shapeCast S1x512x256 v501 shapeCasts_S512x256_S1x512x256
  Prog.lift (.store arg10 (Rect.unit (s := S1x8192x256) (k0_off2 v3 1536#32) S1x512x256.size (k0_off2_inb v1 v3 k0_hw1 k0_h2 3)) v505 Finset.univ (View.stores_vmem_bits_univ h_S1x512x256 rfl) (.inl rfl))

theorem diag_eq (v1 v3 : Elt F .i32) (k0_hw1 : k0_chk1 v1 v3) (k0_h2 : k0_cond2 v1 v3 = 1#1) :
    diagText i arg2 harg2 arg3 harg3 arg4 harg4 arg5 harg5 arg6 harg6 arg7 harg7 arg8 harg8 arg9 harg9 arg10 harg10 arg11 harg11 arg12 harg12 arg13 harg13 arg14 harg14 v1 v3 k0_hw1 k0_h2 = (do
      zeroAcc arg13 arg14
      updList arg4 arg5 arg6 arg7 arg8 arg9 arg10 arg13 arg14 true (fun r => k0_off2 v3 (BitVec.ofNat 32 (512 * r.val)))
        (k0_off2_inb v1 v3 k0_hw1 k0_h2) lowList) := by
  with_unfolding_all exact rfl

/-- The region below the diagonal as the kernel prints it. -/
def lowText (v1 v3 : Elt F .i32) (k0_hw1 : k0_chk1 v1 v3) (k0_h3 : k0_cond3 v1 v3 = 1#1) :
    Prog (TpuEff nD τ sig (Elt F) Λ₀ .tc) PUnit := do
  let v749 : FVec F S512x256 .f32 ← k0_part38 i arg2 harg2 arg3 harg3 arg4 harg4 arg5 harg5 arg6 harg6 arg7 harg7 arg8 harg8 arg9 harg9 arg10 harg10 arg11 harg11 arg12 harg12 arg13 harg13 arg14 harg14 v1 v3 k0_hw1 k0_h3
  have v753 : FVec F S1x512x256 .f32 := shapeCast S1x512x256 v749 shapeCasts_S512x256_S1x512x256
  Prog.lift (.store arg10 (Rect.unit (s := S1x8192x256) (k0_off3 v3 1536#32) S1x512x256.size (k0_off3_inb v1 v3 k0_hw1 k0_h3 3)) v753 Finset.univ (View.stores_vmem_bits_univ h_S1x512x256 rfl) (.inl rfl))

theorem low_eq (v1 v3 : Elt F .i32) (k0_hw1 : k0_chk1 v1 v3) (k0_h3 : k0_cond3 v1 v3 = 1#1) :
    lowText i arg2 harg2 arg3 harg3 arg4 harg4 arg5 harg5 arg6 harg6 arg7 harg7 arg8 harg8 arg9 harg9 arg10 harg10 arg11 harg11 arg12 harg12 arg13 harg13 arg14 harg14 v1 v3 k0_hw1 k0_h3 =
      updList arg4 arg5 arg6 arg7 arg8 arg9 arg10 arg13 arg14 false (fun r => k0_off3 v3 (BitVec.ofNat 32 (512 * r.val)))
        (k0_off3_inb v1 v3 k0_hw1 k0_h3) allList := by
  with_unfolding_all exact rfl

end Cert.KernelIdeal.Bwd
end
-- ==== Proof.Rules.lean ====
/- A load and a store through a rectangle of a memref that is owned: the load reads the contents there, the store
   lays its payload over them.  From these the rule of one update, of a list of updates, and of the clearing. -/
module

public import proofs.«01_k».proof.Proof.Upd
public import Idealize.ShloMosaic.Lib.Writes
public import Idealize.ShloMosaic.Lib.Memref
public import Idealize.ShloMosaic.Lib.Pipeline.Value

@[expose] public section

noncomputable section

namespace Cert.KernelIdeal.Bwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

section Owned

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

theorem load_owned {cs : CoreSpace} {m : Memref sig c.2.kind cs s e} {r : Rect s} {hl : m.view.LoadsAt r.toLoadRect}
    {q : PosShare TreeShare} {X : s.Idx → Val e}
    {k : (r.toLoadRect.shape.Idx → Val e) → Prog (TpuEff nD τ sig Val Λ c.2) α} :
    (owns c m q X) ⊢ iprop((owns c m q X -∗ wp frame (wpE defs 𝒱 c bd) E (k (fun x => X (r.emb x))) Q)
        -∗ wp frame (wpE defs 𝒱 c bd) E (.op (.load m r.toLoadRect hl) k) Q) := by
  unfold owns
  iintro ⟨%f, %hf, H⟩ K
  iapply (wp_load 𝒱 c bd E (m := m) (r := r.toLoadRect) (hl := hl) (k := k) (Q := Q) (q := q) (f := f) (View.setOn_subset_set _ _)) $$ H
  iintro H
  have hv : (m.view.readAt Val r.toLoadRect f) = fun x => X (r.emb x) := by
    subst hf; rfl
  rw [hv]
  iapply K
  iexists f
  isplitr
  · ipureintro; exact hf
  iexact H

theorem store_owned {cs : CoreSpace} {m : Memref sig c.2.kind cs s e} {r : Rect s} {w : r.shape.Idx → Val e}
    {hx : (m.access r).Stores Finset.univ} {hm : Finset.univ = Finset.univ ∨ ∀ a, r.stride a = 1} {X : s.Idx → Val e}
    {k : PUnit → Prog (TpuEff nD τ sig Val Λ c.2) α} :
    (owns c m fullShare X) ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ K
  iapply (wp_store_writes₀ 𝒱 c bd E (m := m) (r := r) (w := w) (hx := hx) (hm := hm) (k := k) (Q := Q) (f := f) (S := m.view.set) (m.view.set_slice_subset r)) $$ H
  iintro H
  iapply K
  iexists _
  isplitr
  · ipureintro
    show m.view.read Val (m.view.writes Val f [⟨r, w⟩]) = r.overlay X w
    funext y
    by_cases hy : y ∈ r.set
    · obtain ⟨x, rfl⟩ := r.exists_idx_of_mem hy
      change m.view.read Val _ (r.emb x) = r.overlay X w (r.emb x)
      rw [View.read_writes_cons_emb, Rect.overlay_emb]
    · rw [View.read_writes_cons_miss _ _ _ _ _ hy, Rect.overlay_of_not_mem _ _ _ hy]
      subst hf; rfl
  iexact H

end Owned

variable {F : FTy → Type} [FloatOps F] [Named F]

variable (arg4 : Memref sig .tc .vmem S1x2048x256 .bf16) (arg5 : Memref sig .tc .vmem S1x2048x256 .bf16)
  (arg6 : Memref sig .tc .vmem S1x2048x128 .bf16) (arg7 : Memref sig .tc .vmem S2048x128 .bf16)
  (arg8 : Memref sig .tc .vmem S1x1x2048 .f32) (arg9 : Memref sig .tc .vmem S1x1x2048 .f32)
  (arg10 : Memref sig .tc .vmem S1x8192x256 .f32) (arg13 : Memref sig .tc .vmem S2048x256 .f32)
  (arg14 : Memref sig .tc .vmem S2048x128 .f32)

/-- Everywhere the zero word. -/
def zeroVec (s : Shape) : FVec F s .f32 := broadcast s (Scalar.ofBits .f32 0x00000000#32)

theorem overlay_whole {s : Shape} {α : Type} (off : Fin s.rank → Nat) (h0 : ∀ a, off a = 0) (inb : ∀ a, off a + s.size a ≤ s.size a)
    (X : s.Idx → α) (G : s.Idx → α) : (Rect.unit (s := s) off s.size inb).overlay X G = G := by
  funext y
  have hy : (Rect.unit (s := s) off s.size inb).emb y = y := funext fun a => Fin.ext (by
    show off a + 1 * (y a).val = (y a).val
    rw [h0 a]; omega)
  conv_lhs => rw [← hy]
  exact Rect.overlay_emb _ _ _ _

/-- The contents of the three accumulators. -/
structure Acc (F : FTy → Type) where
  dq : Vec F S1x8192x256 .f32
  dk : Vec F S2048x256 .f32
  dv : Vec F S2048x128 .f32

/-- The six blocks an update reads. -/
structure Ins (F : FTy → Type) where
  q : Vec F S1x2048x256 .bf16
  k : Vec F S1x2048x256 .bf16
  v : Vec F S1x2048x128 .bf16
  d : Vec F S2048x128 .bf16
  l : Vec F S1x1x2048 .f32
  e : Vec F S1x1x2048 .f32

/-- The accumulators after one update. -/
def updAcc (B : Ins F) (masked : Bool) (kk r : Nat) (hk : kk + 512 ≤ 2048) (hr : r + 512 ≤ 2048) (oq : Fin 3 → Nat)
    (hq : ∀ a, oq a + S1x512x256.size a ≤ S1x8192x256.size a) (A : Acc F) : Acc F :=
  let k : Vec F S1x512x256 .bf16 := fun x => B.k ((Rect.unit (s := S1x2048x256) ![0, kk, 0] S1x512x256.size (inb3 hk)).emb x)
  let q : Vec F S1x512x256 .bf16 := fun x => B.q ((Rect.unit (s := S1x2048x256) ![0, r, 0] S1x512x256.size (inb3 hr)).emb x)
  let d : Vec F S512x128 .bf16 := fun x => B.d ((Rect.unit (s := S2048x128) ![r, 0] S512x128.size (inb2 hr)).emb x)
  let lse : Vec F S1x1x512 .f32 := fun x => B.l ((Rect.unit (s := S1x1x2048) ![0, 0, r] S1x1x512.size (inb3l hr)).emb x)
  let v : Vec F S1x512x128 .bf16 := fun x => B.v ((Rect.unit (s := S1x2048x128) ![0, kk, 0] S1x512x128.size (inb3v hk)).emb x)
  let del : Vec F S1x1x512 .f32 := fun x => B.e ((Rect.unit (s := S1x1x2048) ![0, 0, r] S1x1x512.size (inb3l hr)).emb x)
  { dv := (Rect.unit (s := S2048x128) ![kk, 0] S512x128.size (inb2 hk)).overlay A.dv
      (newDv masked k q lse d (fun x => A.dv ((Rect.unit (s := S2048x128) ![kk, 0] S512x128.size (inb2 hk)).emb x)))
    dk := (Rect.unit (s := S2048x256) ![kk, 0] S512x256.size (inb2k hk)).overlay A.dk
      (newDk masked k q lse d v del (fun x => A.dk ((Rect.unit (s := S2048x256) ![kk, 0] S512x256.size (inb2k hk)).emb x)))
    dq := (Rect.unit (s := S1x8192x256) oq S1x512x256.size hq).overlay A.dq
      (newDq masked k q lse d v del (fun x => A.dq ((Rect.unit (s := S1x8192x256) oq S1x512x256.size hq).emb x))) }

/-- The accumulators after a list of updates. -/
def listAcc (B : Ins F) (dg : Bool) (oq : Fin 4 → Fin 3 → Nat)
    (hq : ∀ r a, oq r a + S1x512x256.size a ≤ S1x8192x256.size a) : List (Fin 4 × Fin 4) → Acc F → Acc F
  | [], A => A
  | (kk, r) :: l, A => listAcc B dg oq hq l
      (updAcc B (dg && decide (kk = r)) (512 * kk.val) (512 * r.val) (le4 kk) (le4 r) (oq r) (hq r) A)

local notation "𝕄" => MT nD τ sig Unit (Elt F) ℕ (UR sig nD τ) ℕ

variable {defs : Defs nD τ sig (Elt F) Λ₀} (𝒱 : Variants) (c : Dev nD) (bd : Option 𝒱.V) (E : Set ℕ)
variable (q4 q5 q6 q7 q8 q9 : PosShare TreeShare)

/-- The blocks and the accumulators, owned. -/
def held (B : Ins F) (A : Acc F) : sProp 𝕄 :=
  iprop(owns (c.tc : Thread nD τ) arg4 fullShare B.q ∗ owns (c.tc : Thread nD τ) arg5 fullShare B.k ∗ owns (c.tc : Thread nD τ) arg6 fullShare B.v
    ∗ owns (c.tc : Thread nD τ) arg7 fullShare B.d ∗ owns (c.tc : Thread nD τ) arg8 fullShare B.l ∗ owns (c.tc : Thread nD τ) arg9 fullShare B.e
    ∗ owns (c.tc : Thread nD τ) arg10 fullShare A.dq ∗ owns (c.tc : Thread nD τ) arg13 fullShare A.dk ∗ owns (c.tc : Thread nD τ) arg14 fullShare A.dv)

theorem upd_rule {α : Type} {Q : α → sProp 𝕄} (B : Ins F) (masked : Bool) (kk r : Nat) (hk : kk + 512 ≤ 2048) (hr : r + 512 ≤ 2048)
    (oq : Fin 3 → Nat) (hq : ∀ a, oq a + S1x512x256.size a ≤ S1x8192x256.size a) (A : Acc F)
    (k : PUnit → Prog (TpuEff nD τ sig (Elt F) Λ₀ .tc) α) :
    held arg4 arg5 arg6 arg7 arg8 arg9 arg10 arg13 arg14 c B A ⊢
      iprop((held arg4 arg5 arg6 arg7 arg8 arg9 arg10 arg13 arg14 c B (updAcc B masked kk r hk hr oq hq A)
          -∗ wp frame (wpE defs 𝒱 (c.tc : Thread nD τ) bd) E (k ⟨⟩) Q)
        -∗ wp frame (wpE defs 𝒱 (c.tc : Thread nD τ) bd) E
          (upd arg4 arg5 arg6 arg7 arg8 arg9 arg10 arg13 arg14 masked kk r hk hr oq hq >>= k) Q) := by
  unfold held
  iintro ⟨H4, H5, H6, H7, H8, H9, H10, H13, H14⟩ K
  unfold upd
  simp only [Prog.bind_lift, bind_assoc]
  iapply (load_owned 𝒱 (c.tc : Thread nD τ) bd E) $$ H5
  iintro H5
  iapply (load_owned 𝒱 (c.tc : Thread nD τ) bd E) $$ H4
  iintro H4
  iapply (load_owned 𝒱 (c.tc : Thread nD τ) bd E) $$ H7
  iintro H7
  iapply (load_owned 𝒱 (c.tc : Thread nD τ) bd E) $$ H8
  iintro H8
  iapply (load_owned 𝒱 (c.tc : Thread nD τ) bd E) $$ H14
  iintro H14
  iapply (load_owned 𝒱 (c.tc : Thread nD τ) bd E) $$ H14
  iintro H14
  iapply (store_owned 𝒱 (c.tc : Thread nD τ) bd E) $$ H14
  iintro H14
  iapply (load_owned 𝒱 (c.tc : Thread nD τ) bd E) $$ H6
  iintro H6
  iapply (load_owned 𝒱 (c.tc : Thread nD τ) bd E) $$ H9
  iintro H9
  iapply (load_owned 𝒱 (c.tc : Thread nD τ) bd E) $$ H13
  iintro H13
  iapply (load_owned 𝒱 (c.tc : Thread nD τ) bd E) $$ H13
  iintro H13
  iapply (store_owned 𝒱 (c.tc : Thread nD τ) bd E) $$ H13
  iintro H13
  iapply (load_owned 𝒱 (c.tc : Thread nD τ) bd E) $$ H10
  iintro H10
  iapply (load_owned 𝒱 (c.tc : Thread nD τ) bd E) $$ H10
  iintro H10
  iapply (store_owned 𝒱 (c.tc : Thread nD τ) bd E) $$ H10
  iintro H10
  iapply K
  dsimp only [updAcc]
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H13]
  · iexact H13
  iexact H14

theorem list_rule {Q : PUnit → sProp 𝕄} (B : Ins F) (dg : Bool) (oq : Fin 4 → Fin 3 → Nat)
    (hq : ∀ r a, oq r a + S1x512x256.size a ≤ S1x8192x256.size a) (l : List (Fin 4 × Fin 4)) : ∀ (A : Acc F),
    held arg4 arg5 arg6 arg7 arg8 arg9 arg10 arg13 arg14 c B A ⊢
      iprop((held arg4 arg5 arg6 arg7 arg8 arg9 arg10 arg13 arg14 c B (listAcc B dg oq hq l A) -∗ Q ⟨⟩)
        -∗ wp frame (wpE defs 𝒱 (c.tc : Thread nD τ) bd) E
          (updList arg4 arg5 arg6 arg7 arg8 arg9 arg10 arg13 arg14 dg oq hq l) Q) := by
  induction l with
  | nil =>
    intro A
    iintro H K
    rw [show updList arg4 arg5 arg6 arg7 arg8 arg9 arg10 arg13 arg14 dg oq hq [] = Prog.ret ⟨⟩ from rfl, wp_ret]
    imodintro
    iapply K
    iexact H
  | cons p l ih =>
    intro A
    obtain ⟨kk, r⟩ := p
    iintro H K
    iapply (upd_rule arg4 arg5 arg6 arg7 arg8 arg9 arg10 arg13 arg14 𝒱 c bd E B (dg && decide (kk = r)) (512 * kk.val) (512 * r.val)
      (le4 kk) (le4 r) (oq r) (hq r) A (fun _ => updList arg4 arg5 arg6 arg7 arg8 arg9 arg10 arg13 arg14 dg oq hq l)) $$ H
    iintro H
    iapply (ih (updAcc B (dg && decide (kk = r)) (512 * kk.val) (512 * r.val) (le4 kk) (le4 r) (oq r) (hq r) A)) $$ H
    iexact K

theorem zero_rule {α : Type} {Q : α → sProp 𝕄} (X : Vec F S2048x256 .f32) (Y : Vec F S2048x128 .f32)
    (k : PUnit → Prog (TpuEff nD τ sig (Elt F) Λ₀ .tc) α) :
    iprop(owns (c.tc : Thread nD τ) arg13 fullShare X ∗ owns (c.tc : Thread nD τ) arg14 fullShare Y) ⊢
      iprop((iprop(owns (c.tc : Thread nD τ) arg13 fullShare (zeroVec S2048x256) ∗ owns (c.tc : Thread nD τ) arg14 fullShare (zeroVec S2048x128))
          -∗ wp frame (wpE defs 𝒱 (c.tc : Thread nD τ) bd) E (k ⟨⟩) Q)
        -∗ wp frame (wpE defs 𝒱 (c.tc : Thread nD τ) bd) E (zeroAcc arg13 arg14 >>= k) Q) := by
  iintro ⟨H13, H14⟩ K
  unfold zeroAcc
  simp only [Prog.bind_lift, bind_assoc]
  iapply (load_owned 𝒱 (c.tc : Thread nD τ) bd E) $$ H13
  iintro H13
  iapply (store_owned 𝒱 (c.tc : Thread nD τ) bd E) $$ H13
  iintro H13
  iapply (load_owned 𝒱 (c.tc : Thread nD τ) bd E) $$ H14
  iintro H14
  iapply (store_owned 𝒱 (c.tc : Thread nD τ) bd E) $$ H14
  iintro H14
  iapply K
  rw [overlay_whole _ (by intro a; fin_cases a <;> rfl), overlay_whole _ (by intro a; fin_cases a <;> rfl), shapeCast_self, shapeCast_self]
  isplitl [H13]
  · iexact H13
  iexact H14

end Cert.KernelIdeal.Bwd
end
-- ==== Proof.Body.lean ====
/- One grid point of the kernel, as its four conditional steps: clearing the queries' gradient, the diagonal
   updates, the updates below the diagonal, writing the keys' and values' gradients out. -/
module

public import proofs.«01_k».proof.Proof.Regions
public import proofs.«01_k».proof.Proof.Rules

@[expose] public section

noncomputable section

namespace Cert.KernelIdeal.Bwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

variable (i : grid0.Coords) (arg2 : Memref sig .tc .smem S10 .i32) (harg2 : arg2.IsWhole) (arg3 : Memref sig .tc .smem S10 .i32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x8192x256 .f32) (harg10 : arg10.IsWhole) (arg11 : Memref sig .tc .vmem S1x2048x256 .bf16) (harg11 : arg11.IsWhole) (arg12 : Memref sig .tc .vmem S1x2048x128 .bf16) (harg12 : arg12.IsWhole) (arg13 : Memref sig .tc .vmem S2048x256 .f32) (harg13 : arg13.IsWhole) (arg14 : Memref sig .tc .vmem S2048x128 .f32) (harg14 : arg14.IsWhole)

/-- The queries' gradient cleared. -/
def zeroDq : Prog (TpuEff nD τ sig (Elt F) Λ₀ .tc) PUnit := do
  let _x : Vec F S1x8192x256 .f32 ← Prog.lift (.load arg10 (Rect.unit (s := S1x8192x256) ![0, 0, 0] S1x8192x256.size inb_S1x8192x256_S1x8192x256_0_0_0).toLoadRect (View.loadsAt_vmem h_S1x8192x256))
  Prog.lift (.store arg10 (Rect.unit (s := S1x8192x256) ![0, 0, 0] S1x8192x256.size inb_S1x8192x256_S1x8192x256_0_0_0) (zeroVec S1x8192x256) Finset.univ (View.stores_vmem_bits_univ h_S1x8192x256 rfl) (.inl rfl))

/-- What is written out of the keys' gradient: times the logarithm of two. -/
def outK (X : Vec F S2048x256 .f32) : Vec F S1x2048x256 .bf16 :=
  shapeCast S1x2048x256 (truncf .bf16 (mulf X (broadcast S2048x256 (Named.named κ "ln2" 0x3F317218#32) : FVec F S2048x256 .f32)) bitsLt_bf16_f32 : FVec F S2048x256 .bf16) shapeCasts_S2048x256_S1x2048x256

/-- What is written out of the values' gradient. -/
def outV (X : Vec F S2048x128 .f32) : Vec F S1x2048x128 .bf16 :=
  shapeCast S1x2048x128 (truncf .bf16 X bitsLt_bf16_f32 : FVec F S2048x128 .bf16) shapeCasts_S2048x128_S1x2048x128

/-- The two gradients written out. -/
def writeOut : Prog (TpuEff nD τ sig (Elt F) Λ₀ .tc) PUnit := do
  let x : Vec F S2048x256 .f32 ← Prog.lift (.load arg13 (Rect.unit (s := S2048x256) ![0, 0] S2048x256.size inb_S2048x256_S2048x256_0_0).toLoadRect (View.loadsAt_vmem h_S2048x256))
  let _x : Vec F S1x2048x256 .bf16 ← Prog.lift (.load arg11 (Rect.unit (s := S1x2048x256) ![0, 0, 0] S1x2048x256.size inb_S1x2048x256_S1x2048x256_0_0_0).toLoadRect (View.loadsAt_vmem h_S1x2048x256))
  Prog.lift (.store arg11 (Rect.unit (s := S1x2048x256) ![0, 0, 0] S1x2048x256.size inb_S1x2048x256_S1x2048x256_0_0_0) (outK x) Finset.univ (View.stores_vmem h_S1x2048x256 (harg11.storeExact_slice rfl _ packedbf16_S1x2048x256_S1x2048x256_0_0_0) (fun _ => rfl)) (.inl rfl))
  let y : Vec F S2048x128 .f32 ← Prog.lift (.load arg14 (Rect.unit (s := S2048x128) ![0, 0] S2048x128.size inb_S2048x128_S2048x128_0_0).toLoadRect (View.loadsAt_vmem h_S2048x128))
  let _x : Vec F S1x2048x128 .bf16 ← Prog.lift (.load arg12 (Rect.unit (s := S1x2048x128) ![0, 0, 0] S1x2048x128.size inb_S1x2048x128_S1x2048x128_0_0_0).toLoadRect (View.loadsAt_vmem h_S1x2048x128))
  Prog.lift (.store arg12 (Rect.unit (s := S1x2048x128) ![0, 0, 0] S1x2048x128.size inb_S1x2048x128_S1x2048x128_0_0_0) (outV y) Finset.univ (View.stores_vmem h_S1x2048x128 (harg12.storeExact_slice rfl _ packedbf16_S1x2048x128_S1x2048x128_0_0_0) (fun _ => rfl)) (.inl rfl))

/-- A conditional step before the rest. -/
def cond (c : Prop) [Decidable c] (A : c → Prog (TpuEff nD τ sig (Elt F) Λ₀ .tc) PUnit) (K : Prog (TpuEff nD τ sig (Elt F) Λ₀ .tc) PUnit) :
    Prog (TpuEff nD τ sig (Elt F) Λ₀ .tc) PUnit :=
  if h : c then A h >>= fun _ => K else K

theorem cond_eq (c : Prop) [Decidable c] (A : c → Prog (TpuEff nD τ sig (Elt F) Λ₀ .tc) PUnit) (K : Prog (TpuEff nD τ sig (Elt F) Λ₀ .tc) PUnit) :
    cond c A K = (if h : c then A h else pure ⟨⟩) >>= fun _ => K := by
  unfold cond
  split <;> rfl

theorem cond_intro {c : Prop} [Decidable c] {A A' : c → Prog (TpuEff nD τ sig (Elt F) Λ₀ .tc) PUnit} {K K' : Prog (TpuEff nD τ sig (Elt F) Λ₀ .tc) PUnit}
    (hK : K = K') (hA : ∀ h, A' h = A h >>= fun _ => K) :
    (if h : c then A' h else K) = cond c A K' := by
  subst hK
  unfold cond
  split
  · exact hA _
  · rfl

/-- The four steps after the two words of the tables are read. -/
def steps (v1 v3 : Elt F .i32) (hw : k0_chk1 v1 v3) : Prog (TpuEff nD τ sig (Elt F) Λ₀ .tc) PUnit :=
  cond (k0_cond1 v1 v3 = 1#1) (fun _ => zeroDq (F := F) arg10)
  (cond (k0_cond2 v1 v3 = 1#1) (fun h => diagText i arg2 harg2 arg3 harg3 arg4 harg4 arg5 harg5 arg6 harg6 arg7 harg7 arg8 harg8 arg9 harg9 arg10 harg10 arg11 harg11 arg12 harg12 arg13 harg13 arg14 harg14 v1 v3 hw h)
  (cond (k0_cond3 v1 v3 = 1#1) (fun h => lowText i arg2 harg2 arg3 harg3 arg4 harg4 arg5 harg5 arg6 harg6 arg7 harg7 arg8 harg8 arg9 harg9 arg10 harg10 arg11 harg11 arg12 harg12 arg13 harg13 arg14 harg14 v1 v3 hw h)
  (cond (k0_cond4 v3 = 1#1) (fun _ => writeOut arg11 harg11 arg12 harg12 arg13 arg14) (pure ⟨⟩))))

theorem body_text : cc0_mla_attn_bwd (F := F) i arg2 harg2 arg3 harg3 arg4 harg4 arg5 harg5 arg6 harg6 arg7 harg7 arg8 harg8 arg9 harg9 arg10 harg10 arg11 harg11 arg12 harg12 arg13 harg13 arg14 harg14 = (do
    let v1 : Elt F .i32 ← smemLoad arg2 (Rect.unit (s := S10) (k0_off1 i) S1.size (k0_off1_inb i)) numel1_S1 rfl
    let v3 : Elt F .i32 ← smemLoad arg3 (Rect.unit (s := S10) (k0_off1 i) S1.size (k0_off1_inb i)) numel1_S1 rfl
    have hw : k0_chk1 v1 v3 := (← Prog.lift (TpuEff.assume (k0_chk1 v1 v3) (k0_chk1.dec v1 v3))).down
    steps i arg2 harg2 arg3 harg3 arg4 harg4 arg5 harg5 arg6 harg6 arg7 harg7 arg8 harg8 arg9 harg9 arg10 harg10 arg11 harg11 arg12 harg12 arg13 harg13 arg14 harg14 v1 v3 hw) := by
  unfold cc0_mla_attn_bwd
  refine congrArg (smemLoad _ _ _ _ >>= ·) (funext fun v1 => ?_)
  refine congrArg (smemLoad _ _ _ _ >>= ·) (funext fun v3 => ?_)
  refine congrArg (Prog.lift _ >>= ·) (funext fun hw => ?_)
  dsimp only
  unfold steps
  refine cond_intro ?_ fun h => ?_
  · refine cond_intro ?_ fun h => ?_
    · refine cond_intro ?_ fun h => ?_
      · refine cond_intro rfl fun h => ?_
        rfl
      · unfold lowText
        simp only [bind_assoc]
    · unfold diagText
      simp only [bind_assoc]
  · rfl

/-- The accumulators after the body's four steps, at the words `v1` and `v3` of the tables. -/
def stepZero (v1 v3 : BitVec 32) (A : Acc F) : Acc F :=
  if k0_cond1 v1 v3 = 1#1 then { A with dq := zeroVec S1x8192x256 } else A

def stepDiag (B : Ins F) (v1 v3 : BitVec 32) (hw : k0_chk1 v1 v3) (A : Acc F) : Acc F :=
  if h : k0_cond2 v1 v3 = 1#1 then
    listAcc B true (fun r => k0_off2 v3 (BitVec.ofNat 32 (512 * r.val))) (k0_off2_inb v1 v3 hw h) lowList
      { A with dk := zeroVec S2048x256, dv := zeroVec S2048x128 }
  else A

def stepLow (B : Ins F) (v1 v3 : BitVec 32) (hw : k0_chk1 v1 v3) (A : Acc F) : Acc F :=
  if h : k0_cond3 v1 v3 = 1#1 then
    listAcc B false (fun r => k0_off3 v3 (BitVec.ofNat 32 (512 * r.val))) (k0_off3_inb v1 v3 hw h) allList A
  else A

def stepAcc (B : Ins F) (v1 v3 : BitVec 32) (hw : k0_chk1 v1 v3) (A : Acc F) : Acc F :=
  stepLow B v1 v3 hw (stepDiag B v1 v3 hw (stepZero v1 v3 A))

local notation "𝕄" => MT nD τ sig Unit (Elt F) ℕ (UR sig nD τ) ℕ

variable {defs : Defs nD τ sig (Elt F) Λ₀} (𝒱 : Variants) (c : Dev nD) (bd : Option 𝒱.V) (E : Set ℕ)

theorem zeroDq_rule {Q : PUnit → sProp 𝕄} (X : Vec F S1x8192x256 .f32) :
    owns (c.tc : Thread nD τ) arg10 fullShare X ⊢
      iprop((owns (c.tc : Thread nD τ) arg10 fullShare (zeroVec S1x8192x256) -∗ Q ⟨⟩)
        -∗ wp frame (wpE defs 𝒱 (c.tc : Thread nD τ) bd) E (zeroDq arg10) Q) := by
  iintro H K
  unfold zeroDq
  simp only [Prog.bind_lift, bind_assoc]
  iapply (load_owned 𝒱 (c.tc : Thread nD τ) bd E) $$ H
  iintro H
  unfold Prog.lift
  iapply (store_owned 𝒱 (c.tc : Thread nD τ) bd E) $$ H
  iintro H
  rw [wp_ret]; imodintro
  iapply K
  rw [overlay_whole _ (by intro a; fin_cases a <;> rfl)]
  iexact H

theorem writeOut_rule {Q : PUnit → sProp 𝕄} (X : Vec F S2048x256 .f32) (Y : Vec F S2048x128 .f32)
    (X' : Vec F S1x2048x256 .bf16) (Y' : Vec F S1x2048x128 .bf16) :
    iprop(owns (c.tc : Thread nD τ) arg13 fullShare X ∗ owns (c.tc : Thread nD τ) arg14 fullShare Y
        ∗ owns (c.tc : Thread nD τ) arg11 fullShare X' ∗ owns (c.tc : Thread nD τ) arg12 fullShare Y') ⊢
      iprop((iprop(owns (c.tc : Thread nD τ) arg13 fullShare X ∗ owns (c.tc : Thread nD τ) arg14 fullShare Y
          ∗ owns (c.tc : Thread nD τ) arg11 fullShare (outK X) ∗ owns (c.tc : Thread nD τ) arg12 fullShare (outV Y)) -∗ Q ⟨⟩)
        -∗ wp frame (wpE defs 𝒱 (c.tc : Thread nD τ) bd) E (writeOut arg11 harg11 arg12 harg12 arg13 arg14) Q) := by
  iintro ⟨H13, H14, H11, H12⟩ K
  unfold writeOut
  simp only [Prog.bind_lift, bind_assoc]
  iapply (load_owned 𝒱 (c.tc : Thread nD τ) bd E) $$ H13
  iintro H13
  iapply (load_owned 𝒱 (c.tc : Thread nD τ) bd E) $$ H11
  iintro H11
  iapply (store_owned 𝒱 (c.tc : Thread nD τ) bd E) $$ H11
  iintro H11
  iapply (load_owned 𝒱 (c.tc : Thread nD τ) bd E) $$ H14
  iintro H14
  iapply (load_owned 𝒱 (c.tc : Thread nD τ) bd E) $$ H12
  iintro H12
  unfold Prog.lift
  iapply (store_owned 𝒱 (c.tc : Thread nD τ) bd E) $$ H12
  iintro H12
  rw [wp_ret]; imodintro
  iapply K
  rw [overlay_whole _ (by intro a; fin_cases a <;> rfl), overlay_whole _ (by intro a; fin_cases a <;> rfl)]
  isplitl [H13]
  · iexact H13
  isplitl [H14]
  · iexact H14
  isplitl [H11]
  · rw [show (outK X : Vec F S1x2048x256 .bf16) = outK (fun x => X ((Rect.unit (s := S2048x256) ![0, 0] S2048x256.size inb_S2048x256_S2048x256_0_0).emb x)) from ?_]
    · iexact H11
    · congr 1; funext x; congr 1; exact funext fun a => Fin.ext (by fin_cases a <;> simp [Rect.emb, Rect.unit])
  · rw [show (outV Y : Vec F S1x2048x128 .bf16) = outV (fun x => Y ((Rect.unit (s := S2048x128) ![0, 0] S2048x128.size inb_S2048x128_S2048x128_0_0).emb x)) from ?_]
    · iexact H12
    · congr 1; funext x; congr 1; exact funext fun a => Fin.ext (by fin_cases a <;> simp [Rect.emb, Rect.unit])

end Cert.KernelIdeal.Bwd
end
-- ==== Proof.Step.lean ====
/- The rule of the kernel's whole body: what it leaves in the accumulators and in the two blocks it writes out. -/
module

public import proofs.«01_k».proof.Proof.Body

@[expose] public section

noncomputable section

namespace Cert.KernelIdeal.Bwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

variable (i : grid0.Coords) (arg2 : Memref sig .tc .smem S10 .i32) (harg2 : arg2.IsWhole) (arg3 : Memref sig .tc .smem S10 .i32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x8192x256 .f32) (harg10 : arg10.IsWhole) (arg11 : Memref sig .tc .vmem S1x2048x256 .bf16) (harg11 : arg11.IsWhole) (arg12 : Memref sig .tc .vmem S1x2048x128 .bf16) (harg12 : arg12.IsWhole) (arg13 : Memref sig .tc .vmem S2048x256 .f32) (harg13 : arg13.IsWhole) (arg14 : Memref sig .tc .vmem S2048x128 .f32) (harg14 : arg14.IsWhole)

local notation "𝕄" => MT nD τ sig Unit (Elt F) ℕ (UR sig nD τ) ℕ

variable {defs : Defs nD τ sig (Elt F) Λ₀} (𝒱 : Variants) (c : Dev nD) (bd : Option 𝒱.V) (E : Set ℕ)

/-- What the body leaves in the block of the keys' gradient. -/
def leaveK (v3 : BitVec 32) (A : Acc F) (X : Vec F S1x2048x256 .bf16) : Vec F S1x2048x256 .bf16 :=
  if k0_cond4 v3 = 1#1 then outK A.dk else X

/-- What the body leaves in the block of the values' gradient. -/
def leaveV (v3 : BitVec 32) (A : Acc F) (X : Vec F S1x2048x128 .bf16) : Vec F S1x2048x128 .bf16 :=
  if k0_cond4 v3 = 1#1 then outV A.dv else X

theorem cond_rule {P R : sProp 𝕄} {Q : PUnit → sProp 𝕄} {p : Prop} [Decidable p]
    {A : p → Prog (TpuEff nD τ sig (Elt F) Λ₀ .tc) PUnit} {K : Prog (TpuEff nD τ sig (Elt F) Λ₀ .tc) PUnit}
    (hy : ∀ h, P ⊢ iprop((R -∗ wp frame (wpE defs 𝒱 (c.tc : Thread nD τ) bd) E K Q)
      -∗ wp frame (wpE defs 𝒱 (c.tc : Thread nD τ) bd) E (A h) (fun _ => wp frame (wpE defs 𝒱 (c.tc : Thread nD τ) bd) E K Q)))
    (hn : ¬ p → P ⊢ R) :
    P ⊢ iprop((R -∗ wp frame (wpE defs 𝒱 (c.tc : Thread nD τ) bd) E K Q)
      -∗ wp frame (wpE defs 𝒱 (c.tc : Thread nD τ) bd) E (cond p A K) Q) := by
  unfold cond
  split
  · rw [wp_bind]
    exact hy _
  · rename_i h
    have h2 := hn h
    iintro H K
    iapply K
    iapply h2 $$ H

theorem steps_rule {Q : PUnit → sProp 𝕄} (B : Ins F) (A : Acc F) (v1 v3 : Elt F .i32) (hw : k0_chk1 v1 v3)
    (X : Vec F S1x2048x256 .bf16) (Y : Vec F S1x2048x128 .bf16) :
    iprop(held arg4 arg5 arg6 arg7 arg8 arg9 arg10 arg13 arg14 c B A
        ∗ owns (c.tc : Thread nD τ) arg11 fullShare X ∗ owns (c.tc : Thread nD τ) arg12 fullShare Y) ⊢
      iprop((iprop(held arg4 arg5 arg6 arg7 arg8 arg9 arg10 arg13 arg14 c B (stepAcc B v1 v3 hw A)
          ∗ owns (c.tc : Thread nD τ) arg11 fullShare (leaveK v3 (stepAcc B v1 v3 hw A) X)
          ∗ owns (c.tc : Thread nD τ) arg12 fullShare (leaveV v3 (stepAcc B v1 v3 hw A) Y)) -∗ Q ⟨⟩)
        -∗ wp frame (wpE defs 𝒱 (c.tc : Thread nD τ) bd) E (steps i arg2 harg2 arg3 harg3 arg4 harg4 arg5 harg5 arg6 harg6 arg7 harg7 arg8 harg8 arg9 harg9 arg10 harg10 arg11 harg11 arg12 harg12 arg13 harg13 arg14 harg14 v1 v3 hw) Q) := by
  unfold steps
  iintro ⟨H, H11, H12⟩ K
  iapply (cond_rule 𝒱 c bd E (P := held arg4 arg5 arg6 arg7 arg8 arg9 arg10 arg13 arg14 c B A)
    (R := held arg4 arg5 arg6 arg7 arg8 arg9 arg10 arg13 arg14 c B (stepZero v1 v3 A)) ?_ ?_) $$ H
  · intro h
    unfold held
    iintro ⟨H4, H5, H6, H7, H8, H9, H10, H13, H14⟩ K
    iapply (zeroDq_rule arg10 𝒱 c bd E) $$ H10
    iintro H10
    iapply K
    rw [stepZero, if_pos h]
    iframe
  · intro h
    rw [stepZero, if_neg h]
  iintro H
  iapply (cond_rule 𝒱 c bd E (P := held arg4 arg5 arg6 arg7 arg8 arg9 arg10 arg13 arg14 c B (stepZero v1 v3 A))
    (R := held arg4 arg5 arg6 arg7 arg8 arg9 arg10 arg13 arg14 c B (stepDiag B v1 v3 hw (stepZero v1 v3 A))) ?_ ?_) $$ H
  · intro h
    rw [diag_eq]
    generalize stepZero v1 v3 A = A1
    rw [stepDiag, dif_pos h]
    iintro H K
    unfold held
    icases H with ⟨H4, H5, H6, H7, H8, H9, H10, H13, H14⟩
    iapply (zero_rule arg13 arg14 𝒱 c bd E A1.dk A1.dv) $$ [H13 H14]
    · iframe
    iintro ⟨H13, H14⟩
    iapply (list_rule arg4 arg5 arg6 arg7 arg8 arg9 arg10 arg13 arg14 𝒱 c bd E B true _ _ lowList
      { A1 with dk := zeroVec S2048x256, dv := zeroVec S2048x128 }) $$ [H4 H5 H6 H7 H8 H9 H10 H13 H14]
    · unfold held
      iframe
    unfold held
    iexact K
  · intro h
    rw [stepDiag, dif_neg h]
  iintro H
  iapply (cond_rule 𝒱 c bd E (P := held arg4 arg5 arg6 arg7 arg8 arg9 arg10 arg13 arg14 c B (stepDiag B v1 v3 hw (stepZero v1 v3 A)))
    (R := held arg4 arg5 arg6 arg7 arg8 arg9 arg10 arg13 arg14 c B (stepAcc B v1 v3 hw A)) ?_ ?_) $$ H
  · intro h
    rw [low_eq, stepAcc]
    generalize stepDiag B v1 v3 hw (stepZero v1 v3 A) = A1
    rw [stepLow, dif_pos h]
    iintro H K
    iapply (list_rule arg4 arg5 arg6 arg7 arg8 arg9 arg10 arg13 arg14 𝒱 c bd E B false _ _ allList A1) $$ H
    iexact K
  · intro h
    rw [stepAcc, stepLow, dif_neg h]
  iintro H
  generalize stepAcc B v1 v3 hw A = A1
  iapply (cond_rule 𝒱 c bd E (P := iprop(held arg4 arg5 arg6 arg7 arg8 arg9 arg10 arg13 arg14 c B A1
        ∗ owns (c.tc : Thread nD τ) arg11 fullShare X ∗ owns (c.tc : Thread nD τ) arg12 fullShare Y))
    (R := iprop(held arg4 arg5 arg6 arg7 arg8 arg9 arg10 arg13 arg14 c B A1
        ∗ owns (c.tc : Thread nD τ) arg11 fullShare (leaveK v3 A1 X) ∗ owns (c.tc : Thread nD τ) arg12 fullShare (leaveV v3 A1 Y))) ?_ ?_) $$ [H H11 H12]
  · intro h
    rw [leaveK, leaveV, if_pos h, if_pos h]
    unfold held
    iintro ⟨⟨H4, H5, H6, H7, H8, H9, H10, H13, H14⟩, H11, H12⟩ K
    iapply (writeOut_rule arg11 harg11 arg12 harg12 arg13 arg14 𝒱 c bd E A1.dk A1.dv X Y) $$ [H13 H14 H11 H12]
    · iframe
    iintro ⟨H13, H14, H11, H12⟩
    iapply K
    iframe
  · intro h
    rw [leaveK, leaveV, if_neg h, if_neg h]
  · iframe
  iintro H
  rw [show (pure ⟨⟩ : Prog (TpuEff nD τ sig (Elt F) Λ₀ .tc) PUnit) = Prog.ret ⟨⟩ from rfl, wp_ret]
  imodintro
  iapply K
  iexact H

/-- The one place of a table that the body reads at a point. -/
def wordIdx : S10.Idx :=
  (Rect.unit (s := S10) (k0_off1 i) S1.size (k0_off1_inb i)).emb (Shape.Idx.first (s := S1) (numel1_S1.symm ▸ Nat.one_pos))

theorem body_rule {Q : PUnit → sProp 𝕄} (B : Ins F) (A : Acc F) (q2 q3 : PosShare TreeShare) (T2 T3 : Vec F S10 .i32)
    (v1 v3 : Elt F .i32) (hv1 : T2 (wordIdx i) = v1) (hv3 : T3 (wordIdx i) = v3) (hw : k0_chk1 v1 v3)
    (X : Vec F S1x2048x256 .bf16) (Y : Vec F S1x2048x128 .bf16) :
    iprop(owns (c.tc : Thread nD τ) arg2 q2 T2 ∗ owns (c.tc : Thread nD τ) arg3 q3 T3
        ∗ held arg4 arg5 arg6 arg7 arg8 arg9 arg10 arg13 arg14 c B A
        ∗ owns (c.tc : Thread nD τ) arg11 fullShare X ∗ owns (c.tc : Thread nD τ) arg12 fullShare Y) ⊢
      iprop((iprop(owns (c.tc : Thread nD τ) arg2 q2 T2 ∗ owns (c.tc : Thread nD τ) arg3 q3 T3
          ∗ held arg4 arg5 arg6 arg7 arg8 arg9 arg10 arg13 arg14 c B (stepAcc B v1 v3 hw A)
          ∗ owns (c.tc : Thread nD τ) arg11 fullShare (leaveK v3 (stepAcc B v1 v3 hw A) X)
          ∗ owns (c.tc : Thread nD τ) arg12 fullShare (leaveV v3 (stepAcc B v1 v3 hw A) Y)) -∗ Q ⟨⟩)
        -∗ wp frame (wpE defs 𝒱 (c.tc : Thread nD τ) bd) E (cc0_mla_attn_bwd (F := F) i arg2 harg2 arg3 harg3 arg4 harg4 arg5 harg5 arg6 harg6 arg7 harg7 arg8 harg8 arg9 harg9 arg10 harg10 arg11 harg11 arg12 harg12 arg13 harg13 arg14 harg14) Q) := by
  subst hv1 hv3
  rw [body_text]
  unfold smemLoad smemLoadElt
  simp only [Prog.bind_op, Prog.bind_ret]
  iintro ⟨H2, H3, H, H11, H12⟩ K
  iapply (load_owned 𝒱 (c.tc : Thread nD τ) bd E) $$ H2
  iintro H2
  iapply (load_owned 𝒱 (c.tc : Thread nD τ) bd E) $$ H3
  iintro H3
  iapply (wp_assume 𝒱 (c.tc : Thread nD τ) bd E hw)
  iapply (steps_rule i arg2 harg2 arg3 harg3 arg4 harg4 arg5 harg5 arg6 harg6 arg7 harg7 arg8 harg8 arg9 harg9 arg10 harg10 arg11 harg11 arg12 harg12 arg13 harg13 arg14 harg14 𝒱 c bd E B A (T2 (wordIdx i)) (T3 (wordIdx i)) hw X Y) $$ [H H11 H12]
  · iframe
  iintro ⟨H, H11, H12⟩
  iapply K
  iframe

end Cert.KernelIdeal.Bwd
end
-- ==== Proof.Tables.lean ====
/- The two tables of the grid — the block of keys and the block of queries of each pair — and what the words of a
   point say: which block each window names, and when a block is written back. -/
module

public import proofs.«01_k».proof.Proof.Step

@[expose] public section

noncomputable section

namespace Cert.KernelIdeal.Bwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The block of keys of the point's pair, -/
def kWord (i : grid0.Coords) : BitVec 32 := lit0 (i 1)

/-- and its block of queries. -/
def qWord (i : grid0.Coords) : BitVec 32 := lit1 (i 1)

theorem row_wordIdx_val : ∀ i : grid0.Coords, (S10.rowMajor (wordIdx i)).val = (i 1).val := by decide +kernel

theorem row_wordIdx (i : grid0.Coords) : (S10.rowMajor (wordIdx i) : Fin 10) = i 1 := Fin.ext (row_wordIdx_val i)

/-- The tables' contents: the constants the host stores there. -/
def tabs : pre0.Contents (Elt F) := fun
  | ⟨0, _⟩ => fun x : S10.Idx => lit0 (S10.rowMajor x)
  | ⟨1, _⟩ => fun x : S10.Idx => lit1 (S10.rowMajor x)
  | ⟨_ + 2, h⟩ => absurd h (by simp)

theorem tabs_kWord (i : grid0.Coords) : (tabs (F := F) 0 : Vec F S10 .i32) (wordIdx i) = kWord i :=
  congrArg lit0 (row_wordIdx i)

theorem tabs_qWord (i : grid0.Coords) : (tabs (F := F) 1 : Vec F S10 .i32) (wordIdx i) = qWord i :=
  congrArg lit1 (row_wordIdx i)

theorem k0_off1_lt : ∀ (i : grid0.Coords) a, k0_off1 i a + 1 ≤ S10.size a := by decide

theorem tabs_atD_k (i : grid0.Coords) : (tabs (F := F)).atD 0 (k0_off1 i) = kWord i := by
  unfold Pipeline.Prefetch.Contents.atD
  split
  · exact tabs_kWord (F := F) i
  · next hn => exact absurd (k0_off1_lt i) hn

theorem tabs_atD_q (i : grid0.Coords) : (tabs (F := F)).atD 1 (k0_off1 i) = qWord i := by
  unfold Pipeline.Prefetch.Contents.atD
  split
  · exact tabs_qWord (F := F) i
  · next hn => exact absurd (k0_off1_lt i) hn

theorem chk : ∀ p : Fin 10, k0_chk1 (lit0 p) (lit1 p) := by decide +kernel

theorem hw (i : grid0.Coords) : k0_chk1 (kWord i) (qWord i) := chk (i 1)

/-- The index a window of blocks of a head's rows is at, its block named by a word. -/
def ixRow (i : grid0.Coords) (v : BitVec 32) : Fin 3 → Nat := ![(i 0).val, v.toNat, 0]

/-- The index a window of a head's lanes is at, -/
def ixLane (i : grid0.Coords) (v : BitVec 32) : Fin 3 → Nat := ![(i 0).val, 0, v.toNat]

/-- and of the columns of a head. -/
def ixCol (i : grid0.Coords) (v : BitVec 32) : Fin 2 → Nat := ![v.toNat, (i 0).val]

theorem head_word : ∀ i : grid0.Coords, (BitVec.ofNat 32 (i 0).val).toNat = (i 0).val := by decide

theorem tr0 (i : grid0.Coords) : cc0_transform_0 k0_off1_inb numel1_S1 (tabs (F := F)) i = ixRow i (qWord i) := by
  show ![(BitVec.ofNat 32 (i 0).val).toNat, BitVec.toNat ((tabs (F := F) 1 : Vec F S10 .i32) (wordIdx i)), 0] = _
  rw [tabs_qWord, head_word]; rfl
theorem tr1 (i : grid0.Coords) : cc0_transform_1 k0_off1_inb numel1_S1 (tabs (F := F)) i = ixRow i (kWord i) := by
  show ![(BitVec.ofNat 32 (i 0).val).toNat, BitVec.toNat ((tabs (F := F) 0 : Vec F S10 .i32) (wordIdx i)), 0] = _
  rw [tabs_kWord, head_word]; rfl
theorem tr2 (i : grid0.Coords) : cc0_transform_2 k0_off1_inb numel1_S1 (tabs (F := F)) i = ixRow i (kWord i) := by
  show ![(BitVec.ofNat 32 (i 0).val).toNat, BitVec.toNat ((tabs (F := F) 0 : Vec F S10 .i32) (wordIdx i)), 0] = _
  rw [tabs_kWord, head_word]; rfl
theorem tr3 (i : grid0.Coords) : cc0_transform_3 k0_off1_inb numel1_S1 (tabs (F := F)) i = ixCol i (qWord i) := by
  show ![BitVec.toNat ((tabs (F := F) 1 : Vec F S10 .i32) (wordIdx i)), (BitVec.ofNat 32 (i 0).val).toNat] = _
  rw [tabs_qWord, head_word]; rfl
theorem tr4 (i : grid0.Coords) : cc0_transform_4 k0_off1_inb numel1_S1 (tabs (F := F)) i = ixLane i (qWord i) := by
  show ![(BitVec.ofNat 32 (i 0).val).toNat, 0, BitVec.toNat ((tabs (F := F) 1 : Vec F S10 .i32) (wordIdx i))] = _
  rw [tabs_qWord, head_word]; rfl
theorem tr5 (i : grid0.Coords) : cc0_transform_5 k0_off1_inb numel1_S1 (tabs (F := F)) i = ixLane i (qWord i) := by
  show ![(BitVec.ofNat 32 (i 0).val).toNat, 0, BitVec.toNat ((tabs (F := F) 1 : Vec F S10 .i32) (wordIdx i))] = _
  rw [tabs_qWord, head_word]; rfl
theorem tr6 (i : grid0.Coords) : cc0_transform_6 i = ixRow i 0#32 := by
  show ![(BitVec.ofNat 32 (i 0).val).toNat, 0, 0] = _
  rw [head_word]; rfl
theorem tr7 (i : grid0.Coords) : cc0_transform_7 k0_off1_inb numel1_S1 (tabs (F := F)) i = ixRow i (kWord i) := by
  show ![(BitVec.ofNat 32 (i 0).val).toNat, BitVec.toNat ((tabs (F := F) 0 : Vec F S10 .i32) (wordIdx i)), 0] = _
  rw [tabs_kWord, head_word]; rfl
theorem tr8 (i : grid0.Coords) : cc0_transform_8 k0_off1_inb numel1_S1 (tabs (F := F)) i = ixRow i (kWord i) := by
  show ![(BitVec.ofNat 32 (i 0).val).toNat, BitVec.toNat ((tabs (F := F) 0 : Vec F S10 .i32) (wordIdx i)), 0] = _
  rw [tabs_kWord, head_word]; rfl

theorem in_qx : ∀ (i : grid0.Coords) a, (ixRow i (qWord i) a + 1) * S1x2048x256.size a ≤ S8x8192x256.size a := by decide +kernel
theorem in_kx : ∀ (i : grid0.Coords) a, (ixRow i (kWord i) a + 1) * S1x2048x256.size a ≤ S8x8192x256.size a := by decide +kernel
theorem in_vx : ∀ (i : grid0.Coords) a, (ixRow i (kWord i) a + 1) * S1x2048x128.size a ≤ S8x8192x256.size a := by decide +kernel
theorem in_do : ∀ (i : grid0.Coords) a, (ixCol i (qWord i) a + 1) * S2048x128.size a ≤ S8192x1024.size a := by decide +kernel
theorem in_ln : ∀ (i : grid0.Coords) a, (ixLane i (qWord i) a + 1) * S1x1x2048.size a ≤ S8x1x8192.size a := by decide +kernel
theorem in_dv : ∀ (i : grid0.Coords) a, (ixRow i (kWord i) a + 1) * S1x2048x128.size a ≤ S8x8192x128.size a := by decide +kernel

/-- At these tables every window's block lies in its array and is moved by whole words. -/
theorem ok_tabs : ok0 (F := F) tabs := by
  unfold ok0
  refine ⟨fun i => ?_, fun i => ?_, fun i => ?_, fun i => ?_, fun i => ?_, fun i => ?_, fun i => ?_, fun i => ?_⟩
  · exact ⟨by rw [tr0]; exact in_qx i, .inr (Affine.block_words_dvd (by decide) (by decide))⟩
  · exact ⟨by rw [tr1]; exact in_kx i, .inr (Affine.block_words_dvd (by decide) (by decide))⟩
  · exact ⟨by rw [tr2]; exact in_vx i, .inr (Affine.block_words_dvd (by decide) (by decide))⟩
  · exact ⟨by rw [tr3]; exact in_do i, .inr (Affine.block_words_dvd (by decide) (by decide))⟩
  · exact ⟨by rw [tr4]; exact in_ln i, .inl rfl⟩
  · exact ⟨by rw [tr5]; exact in_ln i, .inl rfl⟩
  · exact ⟨by rw [tr7]; exact in_kx i, .inr (Affine.block_words_dvd (by decide) (by decide))⟩
  · exact ⟨by rw [tr8]; exact in_dv i, .inr (Affine.block_words_dvd (by decide) (by decide))⟩

/-- The tables as the launch takes them. -/
def adm : (pcfg0 (F := F)).Adm := ⟨tabs, ok_tabs⟩

/-- The call at these tables. -/
abbrev cfg : Pipeline.Cfg sig Λ₀ := cfg0 (adm (F := F))

/-! ### When the blocks are written back -/

theorem flush_dq : ∀ t : Fin grid0.N, (decide (t.val + 1 = grid0.N) || decide (∃ h : t.val + 1 < grid0.N, ixRow (grid0.coords ⟨t.val + 1, h⟩) 0#32 ≠ ixRow (grid0.coords t) 0#32))
    = decide (t.val % 10 = 9) := by decide +kernel

theorem flush_dk : ∀ t : Fin grid0.N, (decide (t.val + 1 = grid0.N) || decide (∃ h : t.val + 1 < grid0.N,
      ixRow (grid0.coords ⟨t.val + 1, h⟩) (kWord (grid0.coords ⟨t.val + 1, h⟩)) ≠ ixRow (grid0.coords t) (kWord (grid0.coords t))))
    = (k0_cond4 (qWord (grid0.coords t)) == 1#1) := by decide +kernel

theorem flush_of {G : Pipeline.Grid} (w : Pipeline.Window sig G) (g : Fin G.N → Fin w.shape.rank → Nat) (h : ∀ t, w.index t = g t) (t : Fin G.N) :
    w.flush t = (w.isOut && (decide (t.val + 1 = G.N) || decide (∃ h : t.val + 1 < G.N, g ⟨t.val + 1, h⟩ ≠ g t))) := by
  unfold Pipeline.Window.flush; simp only [h]

theorem flush6 (t : Fin grid0.N) : ((cfg (F := F)).win 6).flush t = decide (t.val % 10 = 9) :=
  (flush_of ((cfg (F := F)).win 6) (fun t => ixRow (grid0.coords t) 0#32) (fun t => tr6 (grid0.coords t)) t).trans
    ((Bool.true_and _).trans (flush_dq t))
theorem flush7 (t : Fin grid0.N) : ((cfg (F := F)).win 7).flush t = (k0_cond4 (qWord (grid0.coords t)) == 1#1) :=
  (flush_of ((cfg (F := F)).win 7) (fun t => ixRow (grid0.coords t) (kWord (grid0.coords t))) (fun t => tr7 (grid0.coords t)) t).trans
    ((Bool.true_and _).trans (flush_dk t))
theorem flush8 (t : Fin grid0.N) : ((cfg (F := F)).win 8).flush t = (k0_cond4 (qWord (grid0.coords t)) == 1#1) :=
  (flush_of ((cfg (F := F)).win 8) (fun t => ixRow (grid0.coords t) (kWord (grid0.coords t))) (fun t => tr8 (grid0.coords t)) t).trans
    ((Bool.true_and _).trans (flush_dk t))

theorem idle6 : ∀ i : grid0.Coords, (!(k0_cond1 (kWord i) (qWord i) == 1#1) && !(k0_cond2 (kWord i) (qWord i) == 1#1) && !(k0_cond3 (kWord i) (qWord i) == 1#1)) = false := by
  decide +kernel

theorem live6 (i : grid0.Coords) : (cfg (F := F)).idle 6 i = false := by
  show (!(k0_cond1 ((tabs (F := F)).atD 0 (k0_off1 i)) ((tabs (F := F)).atD 1 (k0_off1 i)) == 1#1) && !(k0_cond2 ((tabs (F := F)).atD 0 (k0_off1 i)) ((tabs (F := F)).atD 1 (k0_off1 i)) == 1#1) && !(k0_cond3 ((tabs (F := F)).atD 0 (k0_off1 i)) ((tabs (F := F)).atD 1 (k0_off1 i)) == 1#1)) = false
  rw [tabs_atD_k, tabs_atD_q]; exact idle6 i
theorem live7 (i : grid0.Coords) : (cfg (F := F)).idle 7 i = !(k0_cond4 (qWord i) == 1#1) := by
  show (!(k0_cond4 ((tabs (F := F)).atD 1 (k0_off1 i)) == 1#1)) = _
  rw [tabs_atD_q]
theorem live8 (i : grid0.Coords) : (cfg (F := F)).idle 8 i = !(k0_cond4 (qWord i) == 1#1) := by
  show (!(k0_cond4 ((tabs (F := F)).atD 1 (k0_off1 i)) == 1#1)) = _
  rw [tabs_atD_q]

/-- At a head's first pair everything is set to zero. -/
theorem start_conds : ∀ t : Fin grid0.N, t.val % 10 = 0 → k0_cond1 (kWord (grid0.coords t)) (qWord (grid0.coords t)) = 1#1
    ∧ k0_cond2 (kWord (grid0.coords t)) (qWord (grid0.coords t)) = 1#1 := by decide +kernel

end Cert.KernelIdeal.Bwd

end
-- ==== Proof.Data.lean ====
/- What the buffers hold at each point of the grid, and the body's obligation there. -/
module

public import proofs.«01_k».proof.Proof.Tables

@[expose] public section

noncomputable section

namespace Cert.KernelIdeal.Bwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal Cert.KernelIdeal.Gen

variable {F : FTy → Type} [FloatOps F] [Named F]

variable (m : (ℓ : Loc nD τ sig) → Buf (Elt F) ℓ)

local notation "𝕄" => MT nD τ sig Unit (Elt F) ℕ (UR sig nD τ) ℕ

/-- What core `c`'s buffers hold once the host's operations have run. -/
def V (c : Dev nD) (b : Ref sig .tc) : Buf (Elt F) ((c.tc : Thread nD τ).loc b) :=
  StableHlo.after hostOps0 (fun b => m (c, b)) b

/-- Window `w`'s block at point `t`, of its array as the call finds it. -/
def blkAt (c : Dev nD) (w : Fin 9) (t : Fin grid0.N) : Vec F (spec0 w).block (spec0 w).elt :=
  (((cfg (F := F)).win w).blk t).view.read (Elt F) (V m c (Pipeline.arrRef spec0 w))

/-- The six blocks the body reads at point `t`. -/
def insAt (c : Dev nD) (t : Fin grid0.N) : Ins F where
  q := blkAt m c 0 t
  k := blkAt m c 1 t
  v := blkAt m c 2 t
  d := blkAt m c 3 t
  l := blkAt m c 4 t
  e := blkAt m c 5 t

/-- The body's step at point `t`. -/
def stepAt (c : Dev nD) (t : Fin grid0.N) (A : Acc F) : Acc F :=
  stepAcc (insAt m c t) (kWord (grid0.coords t)) (qWord (grid0.coords t)) (hw (grid0.coords t)) A

/-- Accumulators all zero. -/
def zeroA : Acc F := ⟨zeroVec _, zeroVec _, zeroVec _⟩

/-- The accumulators after point `n`. -/
def sa (c : Dev nD) : (n : ℕ) → n < grid0.N → Acc F
  | 0, h => stepAt m c ⟨0, h⟩ zeroA
  | n + 1, h => stepAt m c ⟨n + 1, h⟩ (sa c n (Nat.lt_of_succ_lt h))

theorem stepAcc_start (B : Ins F) (v1 v3 : BitVec 32) (h : k0_chk1 v1 v3) (h1 : k0_cond1 v1 v3 = 1#1) (h2 : k0_cond2 v1 v3 = 1#1)
    (A A' : Acc F) : stepAcc B v1 v3 h A = stepAcc B v1 v3 h A' := by
  unfold stepAcc stepDiag stepZero
  rw [dif_pos h2, dif_pos h2, if_pos h1, if_pos h1]

/-- At a head's first pair the step forgets what the accumulators held. -/
theorem stepAt_start (c : Dev nD) (t : Fin grid0.N) (ht : t.val % 10 = 0) (A A' : Acc F) : stepAt m c t A = stepAt m c t A' :=
  stepAcc_start _ _ _ _ (start_conds t ht).1 (start_conds t ht).2 A A'

theorem sa_eq (c : Dev nD) (t : Fin grid0.N) (A : Acc F)
    (h : ∀ p (hp : p + 1 = t.val), t.val % 10 ≠ 0 → A = sa m c p (by have := t.isLt; omega)) : sa m c t.val t.isLt = stepAt m c t A := by
  obtain ⟨n, hn⟩ := t
  by_cases h0 : n % 10 = 0
  · cases n with
    | zero => exact stepAt_start m c ⟨0, hn⟩ h0 _ _
    | succ p => exact stepAt_start m c ⟨p + 1, hn⟩ h0 _ _
  · cases n with
    | zero => exact absurd rfl h0
    | succ p => rw [h p rfl h0]; rfl

/-- The two scratch accumulators, the random state and the tables before point `n`: the scratches hold what the point
    before left there. -/
def inv (c : Dev nD) (n : ℕ) (hn : n ≤ grid0.N) : sProp 𝕄 :=
  iprop(∃ (X : Vec F S2048x256 .f32) (Y : Vec F S2048x128 .f32),
    ⌜∀ p (hp : p + 1 = n), X = (sa m c p (by omega)).dk ∧ Y = (sa m c p (by omega)).dv⌝
      ∗ owns (c.tc : Thread nD τ) (Memref.whole cc0_scratch0) fullShare X
      ∗ owns (c.tc : Thread nD τ) (Memref.whole cc0_scratch1) fullShare Y
      ∗ (∃ r, prngReg c r)
      ∗ owns (c.tc : Thread nD τ) (Memref.whole main_c) fullShare.right (tabs (F := F) 0)
      ∗ owns (c.tc : Thread nD τ) (Memref.whole main_c_0) fullShare.right (tabs (F := F) 1))

/-- What each window's buffer holds after the body at each point. -/
def dats (_ : Fin 1) (c : Dev nD) : Dat τ (Elt F) Unit ℕ (UR sig nD τ) ℕ (cfg (F := F)) c where
  A w := V m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => blkAt m c 5 t
    | ⟨6, _⟩ => (sa m c t.val t.isLt).dq
    | ⟨7, _⟩ => outK (sa m c t.val t.isLt).dk
    | ⟨8, _⟩ => outV (sa m c t.val t.isLt).dv
    | ⟨_ + 9, h⟩ => absurd h (Nat.not_lt.2 (Nat.le_add_left _ _))
  Φ t := inv m c t.val (Nat.le_of_lt_succ t.isLt)
  q _ := fullShare
  owed _ := 0

/-- An input window's buffer holds its block. -/
theorem before0 (c : Dev nD) (t : Fin grid0.N) (d) : (dats m 0 c).before 0 t d = blkAt m c 0 t :=
  (Dat.before_in_eq_fetched (dats m 0 c) 0 rfl (fun _ => rfl) (fun _ _ _ => rfl) (fun t => rfl) t d).trans rfl
theorem before1 (c : Dev nD) (t : Fin grid0.N) (d) : (dats m 0 c).before 1 t d = blkAt m c 1 t :=
  (Dat.before_in_eq_fetched (dats m 0 c) 1 rfl (fun _ => rfl) (fun _ _ _ => rfl) (fun t => rfl) t d).trans rfl
theorem before2 (c : Dev nD) (t : Fin grid0.N) (d) : (dats m 0 c).before 2 t d = blkAt m c 2 t :=
  (Dat.before_in_eq_fetched (dats m 0 c) 2 rfl (fun _ => rfl) (fun _ _ _ => rfl) (fun t => rfl) t d).trans rfl
theorem before3 (c : Dev nD) (t : Fin grid0.N) (d) : (dats m 0 c).before 3 t d = blkAt m c 3 t :=
  (Dat.before_in_eq_fetched (dats m 0 c) 3 rfl (fun _ => rfl) (fun _ _ _ => rfl) (fun t => rfl) t d).trans rfl
theorem before4 (c : Dev nD) (t : Fin grid0.N) (d) : (dats m 0 c).before 4 t d = blkAt m c 4 t :=
  (Dat.before_in_eq_fetched (dats m 0 c) 4 rfl (fun _ => rfl) (fun _ _ _ => rfl) (fun t => rfl) t d).trans rfl
theorem before5 (c : Dev nD) (t : Fin grid0.N) (d) : (dats m 0 c).before 5 t d = blkAt m c 5 t :=
  (Dat.before_in_eq_fetched (dats m 0 c) 5 rfl (fun _ => rfl) (fun _ _ _ => rfl) (fun t => rfl) t d).trans rfl

/-- The queries' accumulator holds what the point before left, within a head. -/
theorem before6 (c : Dev nD) (t : Fin grid0.N) (d) (p : ℕ) (hp : p + 1 = t.val) (h0 : t.val % 10 ≠ 0) :
    (dats m 0 c).before 6 t d = (sa m c p (by have := t.isLt; omega)).dq := by
  obtain ⟨n, hn⟩ := t
  dsimp only at hp
  subst hp
  refine (Dat.before_out_kept (dats m 0 c) 6 rfl ⟨p + 1, hn⟩ (Nat.succ_ne_zero p) ?_ live6 (fun _ _ => rfl) d).trans rfl
  refine (flush6 (F := F) ⟨p, by omega⟩).trans ?_
  dsimp only at h0 ⊢
  exact decide_eq_false (by omega)

end Cert.KernelIdeal.Bwd

end
-- ==== Proof.Oblig.lean ====
/- The body's obligation at every point of the grid. -/
module

public import proofs.«01_k».proof.Proof.Data

@[expose] public section

noncomputable section

namespace Cert.KernelIdeal.Bwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal Cert.KernelIdeal.Gen

variable {F : FTy → Type} [FloatOps F] [Named F]

variable (m : (ℓ : Loc nD τ sig) → Buf (Elt F) ℓ)

local notation "𝕄" => MT nD τ sig Unit (Elt F) ℕ (UR sig nD τ) ℕ

/-- A block written only where `b` says: `Z` there, and elsewhere some contents it had. -/
def leaveOut {sp : Space} {s : Shape} {φ : EltTy} (c : Dev nD) (a : Memref sig .tc sp s φ) (P : Vec F s φ → Prop) (b : Bool) (Z : Vec F s φ) : sProp 𝕄 :=
  match b with
  | true => owns (c.tc : Thread nD τ) a fullShare Z
  | false => iprop(∃ X, ⌜P X⌝ ∗ owns (c.tc : Thread nD τ) a fullShare X)

theorem leaveOut_intro {sp : Space} {s : Shape} {φ : EltTy} (c : Dev nD) (a : Memref sig .tc sp s φ) (P : Vec F s φ → Prop) (v : BitVec 1) (Z X : Vec F s φ)
    (hX : P X) : (owns (c.tc : Thread nD τ) a fullShare (if v = 1#1 then Z else X) : sProp 𝕄) ⊢ leaveOut c a P (v == 1#1) Z := by
  unfold leaveOut
  by_cases h : v = 1#1
  · rw [if_pos h, beq_iff_eq.mpr h]
  · rw [if_neg h, beq_eq_false_iff_ne.mpr h]
    iintro H; iexists X; isplitr
    · ipureintro; exact hX
    iexact H

section

variable (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x8192x256 .f32) (harg10 : arg10.IsWhole) (arg11 : Memref sig .tc .vmem S1x2048x256 .bf16) (harg11 : arg11.IsWhole) (arg12 : Memref sig .tc .vmem S1x2048x128 .bf16) (harg12 : arg12.IsWhole)

theorem body_point (c : Dev nD) (t : Fin grid0.N) (R : sProp 𝕄) (P7 : Vec F S1x2048x256 .bf16 → Prop) (P8 : Vec F S1x2048x128 .bf16 → Prop) :
    iprop(inv m c t.val (Nat.le_of_lt t.isLt) ∗ R
      ∗ owns (c.tc : Thread nD τ) arg4 fullShare (insAt m c t).q
      ∗ owns (c.tc : Thread nD τ) arg5 fullShare (insAt m c t).k
      ∗ owns (c.tc : Thread nD τ) arg6 fullShare (insAt m c t).v
      ∗ owns (c.tc : Thread nD τ) arg7 fullShare (insAt m c t).d
      ∗ owns (c.tc : Thread nD τ) arg8 fullShare (insAt m c t).l
      ∗ owns (c.tc : Thread nD τ) arg9 fullShare (insAt m c t).e
      ∗ (∃ X, ⌜∀ p (hp : p + 1 = t.val), t.val % 10 ≠ 0 → X = (sa m c p (by have := t.isLt; omega)).dq⌝ ∗ owns (c.tc : Thread nD τ) arg10 fullShare X)
      ∗ (∃ X, ⌜P7 X⌝ ∗ owns (c.tc : Thread nD τ) arg11 fullShare X)
      ∗ (∃ X, ⌜P8 X⌝ ∗ owns (c.tc : Thread nD τ) arg12 fullShare X))
    ⊢ wp frame (wpE (defs₀ (F := F)) Variants.none (c.tc : Thread nD τ) none) Set.univ
        (cc0_mla_attn_bwd (grid0.coords t) (Memref.whole main_c) (Memref.isWhole_whole _) (Memref.whole main_c_0) (Memref.isWhole_whole _)
          arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _)) fun _ =>
        iprop(inv m c (t.val + 1) t.isLt ∗ R
          ∗ owns (c.tc : Thread nD τ) arg4 fullShare (insAt m c t).q
          ∗ owns (c.tc : Thread nD τ) arg5 fullShare (insAt m c t).k
          ∗ owns (c.tc : Thread nD τ) arg6 fullShare (insAt m c t).v
          ∗ owns (c.tc : Thread nD τ) arg7 fullShare (insAt m c t).d
          ∗ owns (c.tc : Thread nD τ) arg8 fullShare (insAt m c t).l
          ∗ owns (c.tc : Thread nD τ) arg9 fullShare (insAt m c t).e
          ∗ owns (c.tc : Thread nD τ) arg10 fullShare (sa m c t.val t.isLt).dq
          ∗ leaveOut c arg11 P7 (k0_cond4 (qWord (grid0.coords t)) == 1#1) (outK (sa m c t.val t.isLt).dk)
          ∗ leaveOut c arg12 P8 (k0_cond4 (qWord (grid0.coords t)) == 1#1) (outV (sa m c t.val t.isLt).dv)) := by
  unfold inv
  iintro ⟨⟨%X, %Y, %hXY, H13, H14, Hr, H2, H3⟩, Ho, H4, H5, H6, H7, H8, H9, ⟨%Q, %hQ, H10⟩, ⟨%X7, %h7, H11⟩, ⟨%X8, %h8, H12⟩⟩
  have hA : stepAt m c t ⟨Q, X, Y⟩ = sa m c t.val t.isLt := by
    refine (sa_eq m c t _ fun p hp h0 => ?_).symm
    rw [hQ p hp h0, (hXY p hp).1, (hXY p hp).2]
  iapply (body_rule (grid0.coords t) (Memref.whole main_c) (Memref.isWhole_whole _) (Memref.whole main_c_0) (Memref.isWhole_whole _)
    arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _)
    Variants.none c none Set.univ (insAt m c t) ⟨Q, X, Y⟩ fullShare.right fullShare.right
    (tabs (F := F) 0) (tabs (F := F) 1) (kWord (grid0.coords t)) (qWord (grid0.coords t)) (tabs_kWord _) (tabs_qWord _) (hw _)
    X7 X8) $$ [H2 H3 H4 H5 H6 H7 H8 H9 H10 H11 H12 H13 H14]
  · unfold held
    isplitl [H2]; · iexact H2
    isplitl [H3]; · iexact H3
    isplitl [H4 H5 H6 H7 H8 H9 H10 H13 H14]
    · isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H13]; · iexact H13
      iexact H14
    isplitl [H11]; · iexact H11
    iexact H12
  rw [show stepAcc (insAt m c t) (kWord (grid0.coords t)) (qWord (grid0.coords t)) (hw (grid0.coords t)) ⟨Q, X, Y⟩
    = sa m c t.val t.isLt from hA]
  unfold held leaveK leaveV
  iintro ⟨H2, H3, ⟨H4, H5, H6, H7, H8, H9, H10, H13, H14⟩, H11, H12⟩
  isplitl [H13 H14 Hr H2 H3]
  · iexists (sa m c t.val t.isLt).dk, (sa m c t.val t.isLt).dv
    isplitr
    · ipureintro; intro p hp; obtain rfl : p = t.val := by omega
      exact ⟨rfl, rfl⟩
    isplitl [H13]; · iexact H13
    isplitl [H14]; · iexact H14
    isplitl [Hr]; · iexact Hr
    isplitl [H2]; · iexact H2
    iexact H3
  isplitl [Ho]; · iexact Ho
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaveOut_intro c arg11 P7 _ _ _ h7); iexact H11
  iapply (leaveOut_intro c arg12 P8 _ _ _ h8); iexact H12

end

/-- Window `w`'s staging buffer at point `t`. -/
abbrev stg (w : Fin 9) (t : Fin grid0.N) := ((cfg (F := F)).win w).stage ((cfg (F := F)).slots t w)

/-- What the point finds in window `w`'s buffer. -/
abbrev found (c : Dev nD) (w : Fin 9) (t : Fin grid0.N) : sProp 𝕄 :=
  iprop(∃ d, owns (c.tc : Thread nD τ) (stg (F := F) w t) fullShare ((dats m 0 c).before w t d))

theorem found_eq (c : Dev nD) (w : Fin 9) (t : Fin grid0.N) (X) (h : ∀ d, (dats m 0 c).before w t d = X) :
    found m c w t ⊢ owns (c.tc : Thread nD τ) (stg (F := F) w t) fullShare X := by
  iintro ⟨%d, H⟩; rw [h d]; iexact H

theorem found_P (c : Dev nD) (w : Fin 9) (t : Fin grid0.N) :
    found m c w t ⊢ (iprop(∃ X, ⌜∃ d, X = (dats m 0 c).before w t d⌝ ∗ owns (c.tc : Thread nD τ) (stg (F := F) w t) fullShare X) : sProp 𝕄) := by
  iintro ⟨%d, H⟩; iexists _; isplitr
  · ipureintro; exact ⟨d, rfl⟩
  iexact H

theorem found_6 (c : Dev nD) (t : Fin grid0.N) :
    found m c 6 t ⊢ (iprop(∃ X, ⌜∀ p (hp : p + 1 = t.val), t.val % 10 ≠ 0 → X = (sa m c p (by have := t.isLt; omega)).dq⌝
      ∗ owns (c.tc : Thread nD τ) (stg (F := F) 6 t) fullShare X) : sProp 𝕄) := by
  iintro ⟨%d, H⟩; iexists _; isplitr
  · ipureintro; exact fun p hp h0 => before6 m c t d p hp h0
  iexact H

/-- What the point must leave in window `w`'s buffer. -/
def leaveW (c : Dev nD) (w : Fin 9) (t : Fin grid0.N) (i fl : Bool) : sProp 𝕄 :=
  match i with
  | true =>
    match fl with
    | false => iprop(∃ d, owns (c.tc : Thread nD τ) (stg (F := F) w t) fullShare ((dats m 0 c).before w t d))
    | true => owns (c.tc : Thread nD τ) (stg (F := F) w t) fullShare ((dats m 0 c).after w t)
  | false => owns (c.tc : Thread nD τ) (stg (F := F) w t) fullShare ((dats m 0 c).after w t)

theorem leaveW_of (c : Dev nD) (w : Fin 9) (t : Fin grid0.N) (i fl b : Bool) (hi : i = !b) (hf : fl = b) :
    leaveOut c (stg (F := F) w t) (fun X => ∃ d, X = (dats m 0 c).before w t d) b ((dats m 0 c).after w t) ⊢ leaveW m c w t i fl := by
  subst hi hf
  cases fl
  · show iprop(∃ X, ⌜∃ d, X = (dats m 0 c).before w t d⌝ ∗ owns (c.tc : Thread nD τ) (stg (F := F) w t) fullShare X)
      ⊢ iprop(∃ d, owns (c.tc : Thread nD τ) (stg (F := F) w t) fullShare ((dats m 0 c).before w t d))
    iintro ⟨%X, %h, H⟩
    obtain ⟨d, rfl⟩ := h
    iexists d; iexact H
  · exact .rfl

theorem leaveW_live (c : Dev nD) (w : Fin 9) (t : Fin grid0.N) (i fl : Bool) (hi : i = false) :
    owns (c.tc : Thread nD τ) (stg (F := F) w t) fullShare ((dats m 0 c).after w t) ⊢ leaveW m c w t i fl := by
  subst hi; exact .rfl

set_option maxHeartbeats 4000000 in
theorem body_obligation (c : Dev nD) : BodyObligationLoose (dats m 0 c) (defs₀ (F := F)) Variants.none () Set.univ := fun t => by
  rw [bigSep_W0, bigSep_W0]
  refine (BIClass.sep_mono .rfl (BIClass.sep_mono .rfl (BIClass.sep_mono (found_eq m c 0 t _ (before0 m c t)) (BIClass.sep_mono (found_eq m c 1 t _ (before1 m c t))
    (BIClass.sep_mono (found_eq m c 2 t _ (before2 m c t)) (BIClass.sep_mono (found_eq m c 3 t _ (before3 m c t)) (BIClass.sep_mono (found_eq m c 4 t _ (before4 m c t))
    (BIClass.sep_mono (found_eq m c 5 t _ (before5 m c t)) (BIClass.sep_mono (found_6 m c t) (BIClass.sep_mono (found_P m c 7 t) (found_P m c 8 t))))))))))).trans ?_
  refine (body_point m (stg (F := F) 0 t) (hstage0_0 _) (stg (F := F) 1 t) (hstage0_1 _) (stg (F := F) 2 t) (hstage0_2 _) (stg (F := F) 3 t) (hstage0_3 _)
    (stg (F := F) 4 t) (hstage0_4 _) (stg (F := F) 5 t) (hstage0_5 _) (stg (F := F) 6 t) (hstage0_6 _) (stg (F := F) 7 t) (hstage0_7 _)
    (stg (F := F) 8 t) (hstage0_8 _) c t _ _ _).trans (wp_mono _ _ _ fun _ => ?_)
  exact BIClass.sep_mono .rfl (BIClass.sep_mono .rfl (BIClass.sep_mono .rfl (BIClass.sep_mono .rfl (BIClass.sep_mono .rfl (BIClass.sep_mono .rfl (BIClass.sep_mono .rfl (BIClass.sep_mono .rfl
    (BIClass.sep_mono (leaveW_live m c 6 t _ _ (live6 _)) (BIClass.sep_mono (leaveW_of m c 7 t _ _ _ (live7 _) (flush7 t)) (leaveW_of m c 8 t _ _ _ (live8 _) (flush8 t)))))))))))

end Cert.KernelIdeal.Bwd

end
-- ==== Proof.Run.lean ====
/- The run of the program: what every buffer holds at its end. -/
module

public import proofs.«01_k».proof.Proof.Oblig

@[expose] public section

noncomputable section

namespace Cert.KernelIdeal.Bwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal Cert.KernelIdeal.Gen

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

theorem tables_pair (c : Dev nD) (v : pre0.Contents (Elt F)) :
    (Pipeline.prefHeld pre0 c (fun _ => fullShare.right) v : sProp 𝕄)
      = iprop(owns (c.tc : Thread nD τ) (Memref.whole main_c) fullShare.right (v 0)
          ∗ owns (c.tc : Thread nD τ) (Memref.whole main_c_0) fullShare.right (v 1)) := by
  unfold Pipeline.prefHeld
  rw [show (Finset.univ : Finset (Fin 2)) = insert 0 {1} from by decide, bigSep_insert (by decide), bigSep_singleton]
  exact congrArg₂ BI.sep (owns_whole (c.tc : Thread nD τ) main_c fullShare.right (v 0)).symm
    (owns_whole (c.tc : Thread nD τ) main_c_0 fullShare.right (v 1)).symm

theorem owned0 (c : Dev nD) (X : Vec F S2048x256 .f32) :
    (owns (c.tc : Thread nD τ) (Memref.whole cc0_scratch0) fullShare X : sProp 𝕄) ⊢ ((c.tc : Thread nD τ).loc cc0_scratch0) ↦{fullShare} X := by
  rw [owns_whole (c.tc : Thread nD τ) cc0_scratch0]
theorem owned1 (c : Dev nD) (X : Vec F S2048x128 .f32) :
    (owns (c.tc : Thread nD τ) (Memref.whole cc0_scratch1) fullShare X : sProp 𝕄) ⊢ ((c.tc : Thread nD τ).loc cc0_scratch1) ↦{fullShare} X := by
  rw [owns_whole (c.tc : Thread nD τ) cc0_scratch1]

theorem inv_in (c : Dev nD) :
    iprop(Pipeline.ΦA (U := UR sig nD τ) (Val := Elt F) spec0 c ∗ Pipeline.prefHeld pre0 c (fun _ => fullShare.right) (tabs (F := F)))
      ⊢ (inv m c 0 (Nat.zero_le _) : sProp 𝕄) := by
  rw [tables_pair]
  unfold Pipeline.ΦA inv
  rw [scopedRest0_eq]
  iintro ⟨⟨⟨⟨%f, H13⟩, ⟨%g, H14⟩⟩, Hr⟩, H2, H3⟩
  iexists f, g
  rw [owns_whole (c.tc : Thread nD τ) cc0_scratch0, owns_whole (c.tc : Thread nD τ) cc0_scratch1]
  isplitr
  · ipureintro; exact fun p hp => absurd hp (Nat.succ_ne_zero p)
  isplitl [H13]; · iexact H13
  isplitl [H14]; · iexact H14
  isplitl [Hr]; · iexact Hr
  isplitl [H2]; · iexact H2
  iexact H3

theorem inv_out (c : Dev nD) (n : ℕ) (hn : n ≤ grid0.N) :
    inv m c n hn ⊢ (Pipeline.ΦA (U := UR sig nD τ) (Val := Elt F) spec0 c : sProp 𝕄) := by
  unfold Pipeline.ΦA inv
  rw [scopedRest0_eq]
  iintro ⟨%X, %Y, -, H13, H14, Hr, -, -⟩
  isplitl [H13 H14]
  · isplitl [H13]
    · iexists X; iapply (owned0 c X); iexact H13
    iexists Y; iapply (owned1 c Y); iexact H14
  iexact Hr

/-- The host's operations leave the arguments and the tables' constants in place. -/
theorem V_c (c : Dev nD) : V m c main_c = (tabs (F := F) 0) := by
  unfold V; after_results_simp <;> rfl
theorem V_c_0 (c : Dev nD) : V m c main_c_0 = (tabs (F := F) 1) := by
  unfold V; after_results_simp <;> rfl
theorem V_arg0 (c : Dev nD) : V m c main_arg0 = m ((c.tc : Thread nD τ).loc main_arg0) := by
  unfold V; after_results_simp <;> rfl
theorem V_arg1 (c : Dev nD) : V m c main_arg1 = m ((c.tc : Thread nD τ).loc main_arg1) := by
  unfold V; after_results_simp <;> rfl
theorem V_arg2 (c : Dev nD) : V m c main_arg2 = m ((c.tc : Thread nD τ).loc main_arg2) := by
  unfold V; after_results_simp <;> rfl
theorem V_arg3 (c : Dev nD) : V m c main_arg3 = m ((c.tc : Thread nD τ).loc main_arg3) := by
  unfold V; after_results_simp <;> rfl

theorem fresh0 : (hostOps0 : List (HloOp τ sig (Elt F))).Forall fun op => op.fresh = ∅ := by
  simp only [hostOps0, List.forall_cons, List.Forall, and_true]
  repeat' constructor

/-- The run: every window's array ends at what its write-backs leave, every other buffer at what the host left. -/
theorem run : θ_run defs (onTc (τ := τ) (main (F := F))) ⟨m, fun _ => 0, ρ⟩ fun r =>
    Pipeline.FramePost (Pipeline.pin (pcfgs (F := F)) fun _ => adm) (dats m) 0 (V m) r ∧ r.2.sem = fun _ => 0 :=
  Pipeline.θ_run_frameP_track (pcfgs (F := F)) (fun _ => adm) (dats m) 0 launch0 defs₀ Variants.none m ρ main
    (fun c => body_obligation m c) (fun c w => by fin_cases w <;> rfl) (fun _ _ => rfl) (V m)
    (Pipeline.hmainP_prefix (pcfgs (F := F)) 0 defs₀ Variants.none m main hostOps0 hostOps0_sub fresh0 main_chain)
    (fun _ _ => rfl) (fun c k => by fin_cases k; exacts [V_c m c, V_c_0 m c])
    (fun c => inv_in m c) (fun c => inv_out m c grid0.N (le_refl _)) _ (fun _ h => h)

/-- The three results after the run. -/
def outDq (c : Dev nD) : Buf (Elt F) ((c.tc : Thread nD τ).loc main_v49_0) := (dats m 0 c).arrAt 6 grid0.N
def outDk (c : Dev nD) : Buf (Elt F) ((c.tc : Thread nD τ).loc main_v49_1) := (dats m 0 c).arrAt 7 grid0.N
def outDv (c : Dev nD) : Buf (Elt F) ((c.tc : Thread nD τ).loc main_v49_2) := (dats m 0 c).arrAt 8 grid0.N

/-- The run read: the results at what the write-backs leave, the arguments unchanged, every counter at zero. -/
theorem run_main : θ_run defs (onTc (τ := τ) (main (F := F))) ⟨m, fun _ => 0, ρ⟩ fun r =>
    (∀ c : Dev nD, r.2.mem ((c.tc : Thread nD τ).loc main_v49_0) = outDq m c
      ∧ r.2.mem ((c.tc : Thread nD τ).loc main_v49_1) = outDk m c
      ∧ r.2.mem ((c.tc : Thread nD τ).loc main_v49_2) = outDv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun r h => ⟨fun c => ⟨(h.1 c).1 6, (h.1 c).1 7, (h.1 c).1 8,
      ((h.1 c).2 main_arg0 (show _ ∈ Pipeline.restRefs sig spec0 by decide)).trans (V_arg0 m c), ((h.1 c).2 main_arg1 (show _ ∈ Pipeline.restRefs sig spec0 by decide)).trans (V_arg1 m c),
      ((h.1 c).2 main_arg2 (show _ ∈ Pipeline.restRefs sig spec0 by decide)).trans (V_arg2 m c), ((h.1 c).2 main_arg3 (show _ ∈ Pipeline.restRefs sig spec0 by decide)).trans (V_arg3 m c)⟩, h.2⟩)
    (run m ρ)

end Cert.KernelIdeal.Bwd

end
-- ==== Proof.RefValue.lean ====
module

public import proofs.«01_k».proof.Proof.Gen.ReferenceIdeal.Run
public import proofs.«01_k».proof.Proof.Gen.ReferenceIdeal.Read
-- ==== Proof.Frames.lean ====
/- The frames of the three programs, and the constants the idealised kernel names. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.WordRun
public import proofs.«01_k».proof.Proof.RefValue

@[expose] public section

noncomputable section

namespace Cert.Bwd

open Idealize.ShloMosaic Idealize.ShloMosaic.TcCoe
open Idealize.SL Idealize.SL.Sem

theorem frame_kernel : Cert.quiescent_Kernel := fun m ρ _ =>
  (θ_run Cert.Kernel.defs _ _).mono (fun r h => ⟨fun c => ((h.1 c).2.2.2), h.2⟩)
    (Cert.Kernel.Bwd.run_main (F := Bits) m ρ)

theorem frame_kernelIdeal : Cert.quiescent_KernelIdeal := fun m ρ _ =>
  (θ_run Cert.KernelIdeal.defs _ _).mono (fun r h => ⟨fun c => ((h.1 c).2.2.2), h.2⟩)
    (Cert.KernelIdeal.Bwd.run_main (F := Ideal) m ρ)

theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

end Cert.Bwd

end
-- ==== Proof.Entry.lean ====
/- One update of the accumulators over the extended reals, read at an entry. -/
module

public import proofs.«01_k».proof.Proof.Upd
public import Idealize.ShloMosaic.Lib.Pointwise

@[expose] public section

noncomputable section

namespace Cert.KernelIdeal.Bwd

open Idealize.ShloMosaic Idealize.ShloMosaic.TcCoe
open Cert.KernelIdeal Cert.KernelIdeal.Gen

/-- The score of key `x` and query `y` of two sub-blocks. -/
def sc (k q : Vec Ideal S1x512x256 .bf16) (x y : Fin 512) : EReal :=
  ∑ d : Fin 256, (k (ix3 0 x d) : EReal) * q (ix3 0 y d)

/-- Its weight: none where the mask hides the key. -/
def wt (masked : Bool) (k q : Vec Ideal S1x512x256 .bf16) (lse : Vec Ideal S1x1x512 .f32) (x y : Fin 512) : EReal :=
  if masked = true ∧ y.val < x.val then 0 else Ideal.exp2 (sc k q x y - lse (ix3 0 0 y))

/-- The gradient of the score. -/
def gs (masked : Bool) (k q : Vec Ideal S1x512x256 .bf16) (lse : Vec Ideal S1x1x512 .f32) (d : Vec Ideal S512x128 .bf16)
    (v : Vec Ideal S1x512x128 .bf16) (del : Vec Ideal S1x1x512 .f32) (x y : Fin 512) : EReal :=
  wt masked k q lse x y * ((∑ e : Fin 128, (v (ix3 0 x e) : EReal) * d (ix2 y e)) - del (ix3 0 0 y))

theorem mask_eq : (Named.named κ "mask" 0xF149F2CA#32 : Ideal .f32) = (⊥ : EReal) := rfl

theorem sle_eq (x y : Fin 512) :
    IntOp.cmpi .sle (BitVec.ofNat 32 x.val) (BitVec.ofNat 32 y.val) = BitVec.ofBool (decide (x.val ≤ y.val)) := by
  show BitVec.ofBool (BitVec.sle _ _) = _
  congr 1
  rw [BitVec.sle_eq_decide]
  have hx := x.isLt; have hy := y.isLt
  rw [BitVec.toInt_ofNat', BitVec.toInt_ofNat']
  simp only [Int.bmod_def]
  congr 1
  apply propext
  constructor <;> intro h <;> split_ifs at * <;> omega

theorem sT_apply (masked : Bool) (k q : Vec Ideal S1x512x256 .bf16) (x y : Fin 512) :
    sT (F := Ideal) masked k q (ix2 x y) = if masked = true ∧ y.val < x.val then ⊥ else sc k q x y := by
  cases masked
  · pointwise [sT, sc]
    simp
  · pointwise [sT, sc]
    rw [mask_eq, sle_eq]
    by_cases h : y.val < x.val
    · rw [if_pos h, decide_eq_false (by omega)]; rfl
    · rw [if_neg h, decide_eq_true (by omega)]; rfl

theorem pT_apply (masked : Bool) (k q : Vec Ideal S1x512x256 .bf16) (lse : Vec Ideal S1x1x512 .f32) (x y : Fin 512) :
    pT (F := Ideal) masked k q lse (ix2 x y) = wt masked k q lse x y := by
  pointwise [pT, wt, sT_apply]
  split
  · show Ideal.exp2 (⊥ - lse (ix3 0 0 y)) = 0
    rw [EReal.bot_sub]; rfl
  · rfl

theorem dsT_apply (masked : Bool) (k q : Vec Ideal S1x512x256 .bf16) (lse : Vec Ideal S1x1x512 .f32) (d : Vec Ideal S512x128 .bf16)
    (v : Vec Ideal S1x512x128 .bf16) (del : Vec Ideal S1x1x512 .f32) (x y : Fin 512) :
    dsT (F := Ideal) masked k q lse d v del (ix2 x y) = gs masked k q lse d v del x y := by
  pointwise [dsT, gs, pT_apply]

theorem newDv_apply (masked : Bool) (k q : Vec Ideal S1x512x256 .bf16) (lse : Vec Ideal S1x1x512 .f32) (d : Vec Ideal S512x128 .bf16)
    (acc : Vec Ideal S512x128 .f32) (x : Fin 512) (e : Fin 128) :
    newDv (F := Ideal) masked k q lse d acc (ix2 x e) = acc (ix2 x e) + ∑ y : Fin 512, wt masked k q lse x y * d (ix2 y e) := by
  pointwise [newDv, pT_apply]

theorem newDk_apply (masked : Bool) (k q : Vec Ideal S1x512x256 .bf16) (lse : Vec Ideal S1x1x512 .f32) (d : Vec Ideal S512x128 .bf16)
    (v : Vec Ideal S1x512x128 .bf16) (del : Vec Ideal S1x1x512 .f32) (acc : Vec Ideal S512x256 .f32) (x : Fin 512) (e : Fin 256) :
    newDk (F := Ideal) masked k q lse d v del acc (ix2 x e)
      = acc (ix2 x e) + ∑ y : Fin 512, gs masked k q lse d v del x y * q (ix3 0 y e) := by
  pointwise [newDk, dsT_apply]

theorem newDq_apply (masked : Bool) (k q : Vec Ideal S1x512x256 .bf16) (lse : Vec Ideal S1x1x512 .f32) (d : Vec Ideal S512x128 .bf16)
    (v : Vec Ideal S1x512x128 .bf16) (del : Vec Ideal S1x1x512 .f32) (acc : Vec Ideal S1x512x256 .f32) (y : Fin 512) (e : Fin 256) :
    newDq (F := Ideal) masked k q lse d v del acc (ix3 0 y e)
      = acc (ix3 0 y e) + ∑ x : Fin 512, gs masked k q lse d v del x y * k (ix3 0 x e) := by
  pointwise [newDq, dsT_apply]

end Cert.KernelIdeal.Bwd

end
-- ==== Proof.Sums.lean ====
/- The accumulators over the extended reals after the updates of one grid point, as sums over a whole block of keys
   or of queries. -/
module

public import proofs.«01_k».proof.Proof.Entry
public import proofs.«01_k».proof.Proof.Body

@[expose] public section

noncomputable section

namespace Cert.KernelIdeal.Bwd

open Idealize.ShloMosaic Idealize.ShloMosaic.TcCoe
open Cert.KernelIdeal Cert.KernelIdeal.Gen

/-- One head's arrays: queries, keys, values, the output's gradient, the saved logarithms and the row sums. -/
structure Head where
  q : Fin 8192 → Fin 256 → EReal
  k : Fin 8192 → Fin 256 → EReal
  v : Fin 8192 → Fin 128 → EReal
  d : Fin 8192 → Fin 128 → EReal
  l : Fin 8192 → EReal
  e : Fin 8192 → EReal

namespace Head

variable (H : Head)

/-- The score of key `K` and query `Q`. -/
def S (K Q : Fin 8192) : EReal := ∑ d : Fin 256, H.k K d * H.q Q d

/-- The weight of key `K` for query `Q`: none for a later key. -/
def W (K Q : Fin 8192) : EReal := if Q.val < K.val then 0 else Ideal.exp2 (H.S K Q - H.l Q)

/-- The gradient of the score. -/
def G (K Q : Fin 8192) : EReal := H.W K Q * ((∑ e : Fin 128, H.v K e * H.d Q e) - H.e Q)

theorem W_zero {K Q : Fin 8192} (h : Q.val < K.val) : H.W K Q = 0 := if_pos h

theorem G_zero {K Q : Fin 8192} (h : Q.val < K.val) : H.G K Q = 0 := by unfold G; rw [H.W_zero h, zero_mul]

end Head

/-- Row `x` of sub-block `b` of 16. -/
def row (b : Fin 16) (x : Fin 512) : Fin 8192 := ⟨512 * b.val + x.val, by omega⟩

/-- Row `X` of block `b` of 4. -/
def brow (b : Fin 4) (X : Fin 2048) : Fin 8192 := ⟨2048 * b.val + X.val, by omega⟩

/-- Row `x` of sub-block `r` of a block. -/
def srow (r : Fin 4) (x : Fin 512) : Fin 2048 := ⟨512 * r.val + x.val, by omega⟩

/-- The blocks read at a point are blocks `kb` and `qb` of the head's arrays. -/
structure Reads (H : Head) (kb qb : Fin 4) (B : Ins Ideal) : Prop where
  q : ∀ Y d, B.q (ix3 0 Y d) = H.q (brow qb Y) d
  k : ∀ X d, B.k (ix3 0 X d) = H.k (brow kb X) d
  v : ∀ X e, B.v (ix3 0 X e) = H.v (brow kb X) e
  d : ∀ Y e, B.d (ix2 Y e) = H.d (brow qb Y) e
  l : ∀ Y, B.l (ix3 0 0 Y) = H.l (brow qb Y)
  e : ∀ Y, B.e (ix3 0 0 Y) = H.e (brow qb Y)

theorem emb_k {o : Nat} (inb) (x : Fin 512) (d : Fin 256) (X : Fin 2048) (h : X.val = o + x.val) :
    (Rect.unit (s := S1x2048x256) ![0, o, 0] S1x512x256.size inb).emb (ix3 0 x d) = ix3 0 X d := by
  funext a
  apply Fin.ext
  fin_cases a
  · rfl
  · show o + 1 * x.val = X.val
    omega
  · show 0 + 1 * d.val = d.val
    omega

theorem emb_v {o : Nat} (inb) (x : Fin 512) (d : Fin 128) (X : Fin 2048) (h : X.val = o + x.val) :
    (Rect.unit (s := S1x2048x128) ![0, o, 0] S1x512x128.size inb).emb (ix3 0 x d) = ix3 0 X d := by
  funext a
  apply Fin.ext
  fin_cases a
  · rfl
  · show o + 1 * x.val = X.val
    omega
  · show 0 + 1 * d.val = d.val
    omega

theorem emb_l {o : Nat} (inb) (x : Fin 512) (X : Fin 2048) (h : X.val = o + x.val) :
    (Rect.unit (s := S1x1x2048) ![0, 0, o] S1x1x512.size inb).emb (ix3 0 0 x) = ix3 0 0 X := by
  funext a
  apply Fin.ext
  fin_cases a
  · rfl
  · rfl
  · show o + 1 * x.val = X.val
    omega

theorem emb_d {o : Nat} (inb) (x : Fin 512) (d : Fin 128) (X : Fin 2048) (h : X.val = o + x.val) :
    (Rect.unit (s := S2048x128) ![o, 0] S512x128.size inb).emb (ix2 x d) = ix2 X d := by
  funext a
  apply Fin.ext
  fin_cases a
  · show o + 1 * x.val = X.val
    omega
  · show 0 + 1 * d.val = d.val
    omega

theorem emb_a {o : Nat} (inb) (x : Fin 512) (d : Fin 256) (X : Fin 2048) (h : X.val = o + x.val) :
    (Rect.unit (s := S2048x256) ![o, 0] S512x256.size inb).emb (ix2 x d) = ix2 X d := by
  funext a
  apply Fin.ext
  fin_cases a
  · show o + 1 * x.val = X.val
    omega
  · show 0 + 1 * d.val = d.val
    omega

theorem emb_q {o : Nat} (inb) (x : Fin 512) (d : Fin 256) (X : Fin 8192) (h : X.val = o + x.val) :
    (Rect.unit (s := S1x8192x256) ![0, o, 0] S1x512x256.size inb).emb (ix3 0 x d) = ix3 0 X d := by
  funext a
  apply Fin.ext
  fin_cases a
  · rfl
  · show o + 1 * x.val = X.val
    omega
  · show 0 + 1 * d.val = d.val
    omega

/-- An overlay read at an entry the rectangle holds, or does not. -/
theorem overlay_v {o : Nat} (inb) (A : Vec Ideal S2048x128 .f32) (N : Vec Ideal S512x128 .f32) (X : Fin 2048) (d : Fin 128) :
    (Rect.unit (s := S2048x128) ![o, 0] S512x128.size inb).overlay A N (ix2 X d)
      = if h : o ≤ X.val ∧ X.val < o + 512 then N (ix2 (⟨X.val - o, by omega⟩ : Fin 512) d) else A (ix2 X d) := by
  split
  · rename_i h
    rw [← emb_d inb ⟨X.val - o, by omega⟩ d X (by dsimp only; omega), Rect.overlay_emb]
  · rename_i h
    refine Rect.overlay_of_not_mem _ _ _ fun hm => h ?_
    obtain ⟨x, hx⟩ := (Rect.unit (s := S2048x128) ![o, 0] S512x128.size inb).exists_idx_of_mem hm
    have := congrArg (fun f => (f 0).val) hx
    have h' : o + 1 * (x 0).val = X.val := this
    have hx0 : (x 0).val < 512 := (x 0).isLt
    omega

theorem overlay_a {o : Nat} (inb) (A : Vec Ideal S2048x256 .f32) (N : Vec Ideal S512x256 .f32) (X : Fin 2048) (d : Fin 256) :
    (Rect.unit (s := S2048x256) ![o, 0] S512x256.size inb).overlay A N (ix2 X d)
      = if h : o ≤ X.val ∧ X.val < o + 512 then N (ix2 (⟨X.val - o, by omega⟩ : Fin 512) d) else A (ix2 X d) := by
  split
  · rename_i h
    rw [← emb_a inb ⟨X.val - o, by omega⟩ d X (by dsimp only; omega), Rect.overlay_emb]
  · rename_i h
    refine Rect.overlay_of_not_mem _ _ _ fun hm => h ?_
    obtain ⟨x, hx⟩ := (Rect.unit (s := S2048x256) ![o, 0] S512x256.size inb).exists_idx_of_mem hm
    have := congrArg (fun f => (f 0).val) hx
    have h' : o + 1 * (x 0).val = X.val := this
    have hx0 : (x 0).val < 512 := (x 0).isLt
    omega

theorem overlay_q {o : Nat} (inb) (A : Vec Ideal S1x8192x256 .f32) (N : Vec Ideal S1x512x256 .f32) (X : Fin 8192) (d : Fin 256) :
    (Rect.unit (s := S1x8192x256) ![0, o, 0] S1x512x256.size inb).overlay A N (ix3 0 X d)
      = if h : o ≤ X.val ∧ X.val < o + 512 then N (ix3 0 (⟨X.val - o, by omega⟩ : Fin 512) d) else A (ix3 0 X d) := by
  split
  · rename_i h
    rw [← emb_q inb ⟨X.val - o, by omega⟩ d X (by dsimp only; omega), Rect.overlay_emb]
  · rename_i h
    refine Rect.overlay_of_not_mem _ _ _ fun hm => h ?_
    obtain ⟨x, hx⟩ := (Rect.unit (s := S1x8192x256) ![0, o, 0] S1x512x256.size inb).exists_idx_of_mem hm
    have := congrArg (fun f => (f 1).val) hx
    have h' : o + 1 * (x 1).val = X.val := this
    have hx0 : (x 1).val < 512 := (x 1).isLt
    omega

section Update

variable {H : Head} {kb qb : Fin 4} {B : Ins Ideal} (R : Reads H kb qb B)

/-- Sub-block `r` of block `b`. -/
def sub (b r : Fin 4) : Fin 16 := ⟨4 * b.val + r.val, by omega⟩

/-- What one update adds to a row of the values' gradient, of the keys' and of the queries'. -/
def cV (H : Head) (K : Fin 8192) (b : Fin 16) (e : Fin 128) : EReal := ∑ y : Fin 512, H.W K (row b y) * H.d (row b y) e
def cK (H : Head) (K : Fin 8192) (b : Fin 16) (e : Fin 256) : EReal := ∑ y : Fin 512, H.G K (row b y) * H.q (row b y) e
def cQ (H : Head) (a : Fin 16) (Q : Fin 8192) (e : Fin 256) : EReal := ∑ x : Fin 512, H.G (row a x) Q * H.k (row a x) e

theorem brow_srow (b r : Fin 4) (x : Fin 512) : brow b (srow r x) = row (sub b r) x := Fin.ext (by
  show 2048 * b.val + (512 * r.val + x.val) = 512 * (4 * b.val + r.val) + x.val
  omega)

/-- The weight within the two sub-blocks is the head's. -/
theorem wt_eq (R : Reads H kb qb B) (dg : Bool) (kk r : Fin 4) (hdg : dg = decide (kb = qb)) (hle : (sub kb kk).val ≤ (sub qb r).val)
    (hk) (hr) (hl) (x y : Fin 512) :
    wt (dg && decide (kk = r)) (fun z => B.k ((Rect.unit (s := S1x2048x256) ![0, 512 * kk.val, 0] S1x512x256.size hk).emb z))
      (fun z => B.q ((Rect.unit (s := S1x2048x256) ![0, 512 * r.val, 0] S1x512x256.size hr).emb z))
      (fun z => B.l ((Rect.unit (s := S1x1x2048) ![0, 0, 512 * r.val] S1x1x512.size hl).emb z)) x y
      = H.W (row (sub kb kk) x) (row (sub qb r) y) := by
  unfold wt sc Head.W Head.S
  have e1 : ∀ d : Fin 256, B.k ((Rect.unit (s := S1x2048x256) ![0, 512 * kk.val, 0] S1x512x256.size hk).emb (ix3 0 x d)) = H.k (row (sub kb kk) x) d := fun d => by
    rw [emb_k hk x d (srow kk x) rfl, R.k, brow_srow]
  have e2 : ∀ d : Fin 256, B.q ((Rect.unit (s := S1x2048x256) ![0, 512 * r.val, 0] S1x512x256.size hr).emb (ix3 0 y d)) = H.q (row (sub qb r) y) d := fun d => by
    rw [emb_k hr y d (srow r y) rfl, R.q, brow_srow]
  have e3 : B.l ((Rect.unit (s := S1x1x2048) ![0, 0, 512 * r.val] S1x1x512.size hl).emb (ix3 0 0 y)) = H.l (row (sub qb r) y) := by
    rw [emb_l hl y (srow r y) rfl, R.l, brow_srow]
  simp only [e1, e2, e3]
  refine if_congr ?_ rfl rfl
  subst hdg
  simp only [Bool.and_eq_true, decide_eq_true_eq]
  have hx := x.isLt; have hy := y.isLt
  simp only [sub] at hle
  simp only [row, sub]
  constructor
  · rintro ⟨⟨h1, h2⟩, h3⟩
    subst h1; subst h2; omega
  · intro h
    refine ⟨⟨Fin.ext ?_, Fin.ext ?_⟩, ?_⟩ <;> omega

theorem gs_eq (R : Reads H kb qb B) (dg : Bool) (kk r : Fin 4) (hdg : dg = decide (kb = qb)) (hle : (sub kb kk).val ≤ (sub qb r).val)
    (hk) (hr) (hl) (hd) (hv) (x y : Fin 512) :
    gs (dg && decide (kk = r)) (fun z => B.k ((Rect.unit (s := S1x2048x256) ![0, 512 * kk.val, 0] S1x512x256.size hk).emb z))
      (fun z => B.q ((Rect.unit (s := S1x2048x256) ![0, 512 * r.val, 0] S1x512x256.size hr).emb z))
      (fun z => B.l ((Rect.unit (s := S1x1x2048) ![0, 0, 512 * r.val] S1x1x512.size hl).emb z))
      (fun z => B.d ((Rect.unit (s := S2048x128) ![512 * r.val, 0] S512x128.size hd).emb z))
      (fun z => B.v ((Rect.unit (s := S1x2048x128) ![0, 512 * kk.val, 0] S1x512x128.size hv).emb z))
      (fun z => B.e ((Rect.unit (s := S1x1x2048) ![0, 0, 512 * r.val] S1x1x512.size hl).emb z)) x y
      = H.G (row (sub kb kk) x) (row (sub qb r) y) := by
  unfold gs Head.G
  rw [wt_eq R dg kk r hdg hle hk hr hl x y]
  have e1 : ∀ d : Fin 128, B.v ((Rect.unit (s := S1x2048x128) ![0, 512 * kk.val, 0] S1x512x128.size hv).emb (ix3 0 x d)) = H.v (row (sub kb kk) x) d := fun d => by
    rw [emb_v hv x d (srow kk x) rfl, R.v, brow_srow]
  have e2 : ∀ d : Fin 128, B.d ((Rect.unit (s := S2048x128) ![512 * r.val, 0] S512x128.size hd).emb (ix2 y d)) = H.d (row (sub qb r) y) d := fun d => by
    rw [emb_d hd y d (srow r y) rfl, R.d, brow_srow]
  have e3 : B.e ((Rect.unit (s := S1x1x2048) ![0, 0, 512 * r.val] S1x1x512.size hl).emb (ix3 0 0 y)) = H.e (row (sub qb r) y) := by
    rw [emb_l hl y (srow r y) rfl, R.e, brow_srow]
  simp only [e1, e2, e3]

variable (dg : Bool) (kk r : Fin 4) (hdg : dg = decide (kb = qb)) (hle : (sub kb kk).val ≤ (sub qb r).val)

theorem upd_dv (R : Reads H kb qb B) (hdg : dg = decide (kb = qb)) (hle : (sub kb kk).val ≤ (sub qb r).val) (oq) (hq) (A : Acc Ideal) (X : Fin 2048) (e : Fin 128) :
    (updAcc B (dg && decide (kk = r)) (512 * kk.val) (512 * r.val) (le4 kk) (le4 r) oq hq A).dv (ix2 X e)
      = A.dv (ix2 X e) + if X.val / 512 = kk.val then cV H (brow kb X) (sub qb r) e else 0 := by
  unfold updAcc
  dsimp only
  rw [overlay_v]
  split
  · rename_i h
    rw [newDv_apply, if_pos (by omega)]
    have hx : X = srow kk ⟨X.val - 512 * kk.val, by omega⟩ := Fin.ext (by show X.val = 512 * kk.val + (X.val - 512 * kk.val); omega)
    congr 1
    · exact congrArg A.dv (emb_d _ _ _ X (by dsimp only; omega))
    · unfold cV
      refine Finset.sum_congr rfl fun y _ => ?_
      congr 1
      · rw [wt_eq R dg kk r hdg hle]
        conv_rhs => rw [hx, brow_srow]
      · rw [emb_d _ y e (srow r y) rfl, R.d, brow_srow]
  · rename_i h
    rw [if_neg (by omega), add_zero]

theorem upd_dk (R : Reads H kb qb B) (hdg : dg = decide (kb = qb)) (hle : (sub kb kk).val ≤ (sub qb r).val) (oq) (hq) (A : Acc Ideal) (X : Fin 2048) (e : Fin 256) :
    (updAcc B (dg && decide (kk = r)) (512 * kk.val) (512 * r.val) (le4 kk) (le4 r) oq hq A).dk (ix2 X e)
      = A.dk (ix2 X e) + if X.val / 512 = kk.val then cK H (brow kb X) (sub qb r) e else 0 := by
  unfold updAcc
  dsimp only
  rw [overlay_a]
  split
  · rename_i h
    rw [newDk_apply, if_pos (by omega)]
    have hx : X = srow kk ⟨X.val - 512 * kk.val, by omega⟩ := Fin.ext (by show X.val = 512 * kk.val + (X.val - 512 * kk.val); omega)
    congr 1
    · exact congrArg A.dk (emb_a _ _ _ X (by dsimp only; omega))
    · unfold cK
      refine Finset.sum_congr rfl fun y _ => ?_
      congr 1
      · rw [gs_eq R dg kk r hdg hle]
        conv_rhs => rw [hx, brow_srow]
      · rw [emb_k _ y e (srow r y) rfl, R.q, brow_srow]
  · rename_i h
    rw [if_neg (by omega), add_zero]

theorem upd_dq (R : Reads H kb qb B) (hdg : dg = decide (kb = qb)) (hle : (sub kb kk).val ≤ (sub qb r).val) (oq) (hq)
    (ho : oq = ![0, 512 * (sub qb r).val, 0]) (A : Acc Ideal) (Q : Fin 8192) (e : Fin 256) :
    (updAcc B (dg && decide (kk = r)) (512 * kk.val) (512 * r.val) (le4 kk) (le4 r) oq hq A).dq (ix3 0 Q e)
      = A.dq (ix3 0 Q e) + if Q.val / 512 = (sub qb r).val then cQ H (sub kb kk) Q e else 0 := by
  subst ho
  unfold updAcc
  dsimp only
  rw [overlay_q]
  split
  · rename_i h
    rw [newDq_apply, if_pos (by omega)]
    have hx : Q = row (sub qb r) ⟨Q.val - 512 * (sub qb r).val, by omega⟩ := Fin.ext (by show Q.val = 512 * (sub qb r).val + (Q.val - 512 * (sub qb r).val); omega)
    congr 1
    · exact congrArg A.dq (emb_q _ _ _ Q (by dsimp only; omega))
    · unfold cQ
      refine Finset.sum_congr rfl fun x _ => ?_
      congr 1
      · rw [gs_eq R dg kk r hdg hle]
        conv_rhs => rw [hx]
      · rw [emb_k _ x e (srow kk x) rfl, R.k, brow_srow]
  · rename_i h
    rw [if_neg (by omega), add_zero]

end Update

end Cert.KernelIdeal.Bwd

end
-- ==== Proof.Fold.lean ====
/- The accumulators over the extended reals after one grid point, and after the points of a head. -/
module

public import proofs.«01_k».proof.Proof.Sums
public import proofs.«01_k».proof.Proof.Tables

@[expose] public section

noncomputable section

namespace Cert.KernelIdeal.Bwd

open Idealize.ShloMosaic Idealize.ShloMosaic.TcCoe
open Cert.KernelIdeal Cert.KernelIdeal.Gen

/-- The key block and the query block of a pair. -/
def kB : Fin 10 → Fin 4 := ![0, 0, 0, 0, 1, 1, 1, 2, 2, 3]
def qB : Fin 10 → Fin 4 := ![0, 1, 2, 3, 1, 2, 3, 2, 3, 3]

theorem cond1_iff : ∀ p : Fin 10, k0_cond1 (lit0 p) (lit1 p) = 1#1 ↔ p = 0 := by decide +kernel
theorem cond2_iff : ∀ p : Fin 10, k0_cond2 (lit0 p) (lit1 p) = 1#1 ↔ kB p = qB p := by decide +kernel
theorem cond3_iff : ∀ p : Fin 10, k0_cond3 (lit0 p) (lit1 p) = 1#1 ↔ ¬kB p = qB p := by decide +kernel
theorem kB_le_qB : ∀ p : Fin 10, kB p ≤ qB p := by decide +kernel
theorem off2_eq : ∀ (p : Fin 10) (r : Fin 4), k0_off2 (lit1 p) (BitVec.ofNat 32 (512 * r.val)) = ![0, 512 * (sub (qB p) r).val, 0] := by decide +kernel
theorem off3_eq : ∀ (p : Fin 10) (r : Fin 4), k0_off3 (lit1 p) (BitVec.ofNat 32 (512 * r.val)) = ![0, 512 * (sub (qB p) r).val, 0] := by decide +kernel

section Lists

variable {H : Head} {kb qb : Fin 4} {B : Ins Ideal} (R : Reads H kb qb B) (dg : Bool) (hdg : dg = decide (kb = qb))
  (oq : Fin 4 → Fin 3 → Nat) (hq : ∀ r a, oq r a + S1x512x256.size a ≤ S1x8192x256.size a)

theorem list_dv (R : Reads H kb qb B) (hdg : dg = decide (kb = qb)) (X : Fin 2048) (e : Fin 128) :
    ∀ (l : List (Fin 4 × Fin 4)) (hl : ∀ x ∈ l, (sub kb x.1).val ≤ (sub qb x.2).val) (A : Acc Ideal),
    (listAcc B dg oq hq l A).dv (ix2 X e)
      = A.dv (ix2 X e) + (l.map fun x => if X.val / 512 = x.1.val then cV H (brow kb X) (sub qb x.2) e else 0).sum
  | [], _, A => by rw [List.map_nil, List.sum_nil, add_zero]; rfl
  | (kk, r) :: l, hl, A => by
    rw [List.map_cons, List.sum_cons, ← add_assoc]
    refine (list_dv R hdg X e l (fun x hx => hl x (List.mem_cons_of_mem _ hx)) _).trans ?_
    rw [upd_dv dg kk r R hdg (hl (kk, r) List.mem_cons_self)]

theorem list_dk (R : Reads H kb qb B) (hdg : dg = decide (kb = qb)) (X : Fin 2048) (e : Fin 256) :
    ∀ (l : List (Fin 4 × Fin 4)) (hl : ∀ x ∈ l, (sub kb x.1).val ≤ (sub qb x.2).val) (A : Acc Ideal),
    (listAcc B dg oq hq l A).dk (ix2 X e)
      = A.dk (ix2 X e) + (l.map fun x => if X.val / 512 = x.1.val then cK H (brow kb X) (sub qb x.2) e else 0).sum
  | [], _, A => by rw [List.map_nil, List.sum_nil, add_zero]; rfl
  | (kk, r) :: l, hl, A => by
    rw [List.map_cons, List.sum_cons, ← add_assoc]
    refine (list_dk R hdg X e l (fun x hx => hl x (List.mem_cons_of_mem _ hx)) _).trans ?_
    rw [upd_dk dg kk r R hdg (hl (kk, r) List.mem_cons_self)]

theorem list_dq (R : Reads H kb qb B) (hdg : dg = decide (kb = qb)) (ho : ∀ r, oq r = ![0, 512 * (sub qb r).val, 0]) (Q : Fin 8192) (e : Fin 256) :
    ∀ (l : List (Fin 4 × Fin 4)) (hl : ∀ x ∈ l, (sub kb x.1).val ≤ (sub qb x.2).val) (A : Acc Ideal),
    (listAcc B dg oq hq l A).dq (ix3 0 Q e)
      = A.dq (ix3 0 Q e) + (l.map fun x => if Q.val / 512 = (sub qb x.2).val then cQ H (sub kb x.1) Q e else 0).sum
  | [], _, A => by rw [List.map_nil, List.sum_nil, add_zero]; rfl
  | (kk, r) :: l, hl, A => by
    rw [List.map_cons, List.sum_cons, ← add_assoc]
    refine (list_dq R hdg ho Q e l (fun x hx => hl x (List.mem_cons_of_mem _ hx)) _).trans ?_
    rw [upd_dq dg kk r R hdg (hl (kk, r) List.mem_cons_self) _ _ (ho r)]

end Lists

theorem low_fst (j : ℕ) (hj : j < 4) (f : Fin 4 → EReal) (h0 : ∀ r : Fin 4, r.val < j → f r = 0) :
    (lowList.map fun x => if j = x.1.val then f x.2 else 0).sum = ∑ r, f r := by
  obtain rfl | rfl | rfl | rfl : j = 0 ∨ j = 1 ∨ j = 2 ∨ j = 3 := by omega
  all_goals simp only [Fin.forall_fin_succ, Fin.val_zero, Fin.val_succ, Nat.lt_irrefl] at h0
  all_goals simp [lowList, Fin.sum_univ_four, Fin.isValue, add_assoc] at h0 ⊢
  all_goals simp [h0]

theorem low_snd (j : ℕ) (hj : j < 4) (f : Fin 4 → EReal) (h0 : ∀ r : Fin 4, j < r.val → f r = 0) :
    (lowList.map fun x => if j = x.2.val then f x.1 else 0).sum = ∑ r, f r := by
  obtain rfl | rfl | rfl | rfl : j = 0 ∨ j = 1 ∨ j = 2 ∨ j = 3 := by omega
  all_goals simp only [Fin.forall_fin_succ, Fin.val_zero, Fin.val_succ, Nat.lt_irrefl] at h0
  all_goals simp [lowList, Fin.sum_univ_four, Fin.isValue, add_assoc] at h0 ⊢
  all_goals simp [h0]

theorem all_fst (j : ℕ) (hj : j < 4) (f : Fin 4 → EReal) :
    (allList.map fun x => if j = x.1.val then f x.2 else 0).sum = ∑ r, f r := by
  obtain rfl | rfl | rfl | rfl : j = 0 ∨ j = 1 ∨ j = 2 ∨ j = 3 := by omega
  all_goals simp [allList, Fin.sum_univ_four, Fin.isValue, add_assoc]

theorem all_snd (j : ℕ) (hj : j < 4) (f : Fin 4 → EReal) :
    (allList.map fun x => if j = x.2.val then f x.1 else 0).sum = ∑ r, f r := by
  obtain rfl | rfl | rfl | rfl : j = 0 ∨ j = 1 ∨ j = 2 ∨ j = 3 := by omega
  all_goals simp [allList, Fin.sum_univ_four, Fin.isValue, add_assoc]

theorem cV_zero {H : Head} {K : Fin 8192} {b : Fin 16} (h : b.val < K.val / 512) (e : Fin 128) : cV H K b e = 0 :=
  Finset.sum_eq_zero fun y _ => by
    rw [H.W_zero (by show 512 * b.val + y.val < K.val; omega), zero_mul]
theorem cK_zero {H : Head} {K : Fin 8192} {b : Fin 16} (h : b.val < K.val / 512) (e : Fin 256) : cK H K b e = 0 :=
  Finset.sum_eq_zero fun y _ => by
    rw [H.G_zero (by show 512 * b.val + y.val < K.val; omega), zero_mul]
theorem cQ_zero {H : Head} {Q : Fin 8192} {a : Fin 16} (h : Q.val / 512 < a.val) (e : Fin 256) : cQ H a Q e = 0 :=
  Finset.sum_eq_zero fun x _ => by
    rw [H.G_zero (by show Q.val < 512 * a.val + x.val; omega), zero_mul]

/-- What a grid point adds: a whole block of queries, or of keys. -/
def bV (H : Head) (K : Fin 8192) (b : Fin 4) (e : Fin 128) : EReal := ∑ r : Fin 4, cV H K (sub b r) e
def bK (H : Head) (K : Fin 8192) (b : Fin 4) (e : Fin 256) : EReal := ∑ r : Fin 4, cK H K (sub b r) e
def bQ (H : Head) (a : Fin 4) (Q : Fin 8192) (e : Fin 256) : EReal := ∑ r : Fin 4, cQ H (sub a r) Q e

theorem low_le (b : Fin 4) : ∀ x ∈ lowList, (sub b x.1).val ≤ (sub b x.2).val := by
  revert b; decide +kernel
theorem all_le (a b : Fin 4) (h : a < b) : ∀ x ∈ allList, (sub a x.1).val ≤ (sub b x.2).val := by
  revert a b; decide +kernel

section Step

variable {H : Head} {B : Ins Ideal} (p : Fin 10) (R : Reads H (kB p) (qB p) B) (hw : k0_chk1 (lit0 p) (lit1 p)) (A : Acc Ideal)

theorem zeroVec_apply {s : Shape} (j : s.Idx) : (zeroVec (F := Ideal) s) j = (0 : EReal) := Ideal.ofBits_zero_f32

theorem step_dv (R : Reads H (kB p) (qB p) B) (X : Fin 2048) (e : Fin 128) :
    (stepAcc B (lit0 p) (lit1 p) hw A).dv (ix2 X e)
      = (if kB p = qB p then 0 else A.dv (ix2 X e)) + bV H (brow (kB p) X) (qB p) e := by
  have hj : X.val / 512 < 4 := by omega
  by_cases h : kB p = qB p
  · unfold stepAcc stepLow stepDiag
    rw [dif_neg (fun h3 => (cond3_iff p).1 h3 h), dif_pos ((cond2_iff p).2 h), if_pos h]
    rw [list_dv (H := H) (kb := kB p) (qb := qB p) true _ _ R (by rw [h]; exact (decide_eq_true rfl).symm) X e lowList (h ▸ low_le (qB p))]
    refine congrArg₂ (· + ·) (zeroVec_apply (s := S2048x128) (ix2 X e)) ?_
    refine low_fst _ hj (fun r => cV H (brow (kB p) X) (sub (qB p) r) e) fun r hr => cV_zero ?_ e
    rw [h]
    show 4 * (qB p).val + r.val < (2048 * (qB p).val + X.val) / 512
    omega
  · unfold stepAcc stepLow stepDiag stepZero
    rw [dif_pos ((cond3_iff p).2 h), dif_neg (fun h2 => h ((cond2_iff p).1 h2)), if_neg h]
    rw [list_dv (H := H) (kb := kB p) (qb := qB p) false _ _ R (decide_eq_false h).symm X e allList (all_le _ _ (lt_of_le_of_ne (kB_le_qB p) h))]
    congr 1
    · split <;> rfl
    · exact all_fst _ hj (fun r => cV H (brow (kB p) X) (sub (qB p) r) e)

theorem step_dk (R : Reads H (kB p) (qB p) B) (X : Fin 2048) (e : Fin 256) :
    (stepAcc B (lit0 p) (lit1 p) hw A).dk (ix2 X e)
      = (if kB p = qB p then 0 else A.dk (ix2 X e)) + bK H (brow (kB p) X) (qB p) e := by
  have hj : X.val / 512 < 4 := by omega
  by_cases h : kB p = qB p
  · unfold stepAcc stepLow stepDiag
    rw [dif_neg (fun h3 => (cond3_iff p).1 h3 h), dif_pos ((cond2_iff p).2 h), if_pos h]
    rw [list_dk (H := H) (kb := kB p) (qb := qB p) true _ _ R (by rw [h]; exact (decide_eq_true rfl).symm) X e lowList (h ▸ low_le (qB p))]
    refine congrArg₂ (· + ·) (zeroVec_apply (s := S2048x256) (ix2 X e)) ?_
    refine low_fst _ hj (fun r => cK H (brow (kB p) X) (sub (qB p) r) e) fun r hr => cK_zero ?_ e
    rw [h]
    show 4 * (qB p).val + r.val < (2048 * (qB p).val + X.val) / 512
    omega
  · unfold stepAcc stepLow stepDiag stepZero
    rw [dif_pos ((cond3_iff p).2 h), dif_neg (fun h2 => h ((cond2_iff p).1 h2)), if_neg h]
    rw [list_dk (H := H) (kb := kB p) (qb := qB p) false _ _ R (decide_eq_false h).symm X e allList (all_le _ _ (lt_of_le_of_ne (kB_le_qB p) h))]
    congr 1
    · split <;> rfl
    · exact all_fst _ hj (fun r => cK H (brow (kB p) X) (sub (qB p) r) e)

theorem step_dq (R : Reads H (kB p) (qB p) B) (Q : Fin 8192) (e : Fin 256) :
    (stepAcc B (lit0 p) (lit1 p) hw A).dq (ix3 0 Q e)
      = (if p = 0 then 0 else A.dq (ix3 0 Q e)) + if Q.val / 2048 = (qB p).val then bQ H (kB p) Q e else 0 := by
  have e0 : ∀ A' : Acc Ideal, A'.dq = (stepZero (lit0 p) (lit1 p) A).dq → A'.dq (ix3 0 Q e) = if p = 0 then 0 else A.dq (ix3 0 Q e) := by
    intro A' hA'
    rw [hA']
    unfold stepZero
    by_cases hp : p = 0
    · rw [if_pos ((cond1_iff p).2 hp), if_pos hp]; exact zeroVec_apply (s := S1x8192x256) (ix3 0 Q e)
    · rw [if_neg (fun h1 => hp ((cond1_iff p).1 h1)), if_neg hp]
  have key : ∀ (l : List (Fin 4 × Fin 4)), (∀ j, j < 4 → j = Q.val / 512 - 4 * (qB p).val → 4 * (qB p).val + j = Q.val / 512 → (l.map fun x => if j = x.2.val then cQ H (sub (kB p) x.1) Q e else 0).sum = bQ H (kB p) Q e) →
      (l.map fun x => if Q.val / 512 = (sub (qB p) x.2).val then cQ H (sub (kB p) x.1) Q e else 0).sum
        = if Q.val / 2048 = (qB p).val then bQ H (kB p) Q e else 0 := by
    intro l hl
    split
    · rename_i hQ
      rw [← hl (Q.val / 512 - 4 * (qB p).val) (by omega) rfl (by omega)]
      congr 1
      refine List.map_congr_left fun x _ => if_congr ?_ rfl rfl
      show Q.val / 512 = 4 * (qB p).val + x.2.val ↔ _
      omega
    · rename_i hQ
      refine List.sum_eq_zero fun y hy => ?_
      obtain ⟨x, _, rfl⟩ := List.mem_map.1 hy
      refine if_neg ?_
      show ¬ Q.val / 512 = 4 * (qB p).val + x.2.val
      omega
  by_cases h : kB p = qB p
  · unfold stepAcc stepLow stepDiag
    rw [dif_neg (fun h3 => (cond3_iff p).1 h3 h), dif_pos ((cond2_iff p).2 h)]
    rw [list_dq (H := H) (kb := kB p) (qb := qB p) true _ _ R (by rw [h]; exact (decide_eq_true rfl).symm) (off2_eq p) Q e lowList (h ▸ low_le (qB p))]
    rw [e0 _ rfl]
    congr 1
    refine key _ fun j hj _ hjQ => low_snd j hj (fun r => cQ H (sub (kB p) r) Q e) fun r hr => cQ_zero ?_ e
    rw [h]
    show Q.val / 512 < 4 * (qB p).val + r.val
    omega
  · unfold stepAcc stepLow stepDiag
    rw [dif_pos ((cond3_iff p).2 h), dif_neg (fun h2 => h ((cond2_iff p).1 h2))]
    rw [list_dq (H := H) (kb := kB p) (qb := qB p) false _ _ R (decide_eq_false h).symm (off3_eq p) Q e allList (all_le _ _ (lt_of_le_of_ne (kB_le_qB p) h))]
    rw [e0 _ rfl]
    congr 1
    exact key _ fun j hj _ hjQ => all_snd j hj (fun r => cQ H (sub (kB p) r) Q e)

end Step

end Cert.KernelIdeal.Bwd

end
-- ==== Proof.Chain.lean ====
/- The three results over the extended reals: what the points of a head leave in the accumulators, and the arrays the
   write-backs fill. -/
module

public import proofs.«01_k».proof.Proof.Fold
public import proofs.«01_k».proof.Proof.Data

@[expose] public section

noncomputable section

namespace Cert.KernelIdeal.Bwd

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (c : Dev nD)

/-- The arrays the call reads. -/
def aQ : S8x8192x256.Idx → EReal := V m c main_v38
def aK : S8x8192x256.Idx → EReal := V m c main_v41
def aV : S8x8192x256.Idx → EReal := V m c main_v45
def aD : S8192x1024.Idx → EReal := V m c main_v46
def aL : S8x1x8192.Idx → EReal := V m c main_v47
def aE : S8x1x8192.Idx → EReal := V m c main_v48

/-- Head `h` of them. -/
def hd (h : Fin 8) : Head where
  q Q d := aQ m c (ix3 h Q d)
  k K d := aK m c (ix3 h K d)
  v K e := aV m c (ix3 h K (⟨e.val, by omega⟩ : Fin 256))
  d Q e := aD m c (ix2 Q (⟨128 * h.val + e.val, by omega⟩ : Fin 1024))
  l Q := aL m c (ix3 h 0 Q)
  e Q := aE m c (ix3 h 0 Q)

/-- The head and the pair of a point. -/
def tH (t : Fin grid0.N) : Fin 8 := grid0.coords t 0
def tP (t : Fin grid0.N) : Fin 10 := grid0.coords t 1

theorem tH_val : ∀ t : Fin grid0.N, (tH t).val = t.val / 10 := by decide +kernel
theorem tP_val : ∀ t : Fin grid0.N, (tP t).val = t.val % 10 := by decide +kernel
theorem kW_val : ∀ p : Fin 10, (lit0 p).toNat = (kB p).val := by decide +kernel
theorem qW_val : ∀ p : Fin 10, (lit1 p).toNat = (qB p).val := by decide +kernel

theorem at_row (t : Fin grid0.N) (A : S8x8192x256.Idx → EReal) (w : BitVec 32) (b : Fin 4) (hw : w.toNat = b.val) (Y : Fin 2048) (d : Fin 256)
    (i : S8x8192x256.Idx) (h : ∀ a : Fin 3, (i a).val = ixRow (grid0.coords t) w a * S1x2048x256.size a + 1 * ((ix3 0 Y d : S1x2048x256.Idx) a).val) :
    A i = A (ix3 (tH t) (brow b Y) d) := by
  refine congrArg A (funext fun a => Fin.ext ?_)
  rw [h a]
  fin_cases a
  · show (tH t).val * 1 + 1 * 0 = (tH t).val
    omega
  · show w.toNat * 2048 + 1 * Y.val = 2048 * b.val + Y.val
    omega
  · show 0 * 256 + 1 * d.val = d.val
    omega

theorem at_rowv (t : Fin grid0.N) (A : S8x8192x256.Idx → EReal) (w : BitVec 32) (b : Fin 4) (hw : w.toNat = b.val) (Y : Fin 2048) (d : Fin 128)
    (i : S8x8192x256.Idx) (h : ∀ a : Fin 3, (i a).val = ixRow (grid0.coords t) w a * S1x2048x128.size a + 1 * ((ix3 0 Y d : S1x2048x128.Idx) a).val) :
    A i = A (ix3 (tH t) (brow b Y) (⟨d.val, by omega⟩ : Fin 256)) := by
  refine congrArg A (funext fun a => Fin.ext ?_)
  rw [h a]
  fin_cases a
  · show (tH t).val * 1 + 1 * 0 = (tH t).val
    omega
  · show w.toNat * 2048 + 1 * Y.val = 2048 * b.val + Y.val
    omega
  · show 0 * 128 + 1 * d.val = d.val
    omega

theorem at_lane (t : Fin grid0.N) (A : S8x1x8192.Idx → EReal) (w : BitVec 32) (b : Fin 4) (hw : w.toNat = b.val) (Y : Fin 2048)
    (i : S8x1x8192.Idx) (h : ∀ a : Fin 3, (i a).val = ixLane (grid0.coords t) w a * S1x1x2048.size a + 1 * ((ix3 0 0 Y : S1x1x2048.Idx) a).val) :
    A i = A (ix3 (tH t) 0 (brow b Y)) := by
  refine congrArg A (funext fun a => Fin.ext ?_)
  rw [h a]
  fin_cases a
  · show (tH t).val * 1 + 1 * 0 = (tH t).val
    omega
  · rfl
  · show w.toNat * 2048 + 1 * Y.val = 2048 * b.val + Y.val
    omega

theorem at_col (t : Fin grid0.N) (A : S8192x1024.Idx → EReal) (w : BitVec 32) (b : Fin 4) (hw : w.toNat = b.val) (Y : Fin 2048) (e : Fin 128)
    (i : S8192x1024.Idx) (h : ∀ a : Fin 2, (i a).val = ixCol (grid0.coords t) w a * S2048x128.size a + 1 * ((ix2 Y e : S2048x128.Idx) a).val) :
    A i = A (ix2 (brow b Y) (⟨128 * (tH t).val + e.val, by omega⟩ : Fin 1024)) := by
  refine congrArg A (funext fun a => Fin.ext ?_)
  rw [h a]
  fin_cases a
  · show w.toNat * 2048 + 1 * Y.val = 2048 * b.val + Y.val
    omega
  · show (tH t).val * 128 + 1 * e.val = 128 * (tH t).val + e.val
    omega

theorem reads_q (t : Fin grid0.N) (Y : Fin 2048) (d : Fin 256) : (insAt m c t).q (ix3 0 Y d) = (hd m c (tH t)).q (brow (qB (tP t)) Y) d :=
  at_row t (aQ m c) _ _ (qW_val (tP t)) Y d (((cfg (F := Ideal)).win 0).blk t |>.view.emb (ix3 0 Y d)) fun a =>
    congrArg (fun f : Fin 3 → Nat => f a * S1x2048x256.size a + 1 * ((ix3 0 Y d : S1x2048x256.Idx) a).val) (tr0 (grid0.coords t))
theorem reads_k (t : Fin grid0.N) (Y : Fin 2048) (d : Fin 256) : (insAt m c t).k (ix3 0 Y d) = (hd m c (tH t)).k (brow (kB (tP t)) Y) d :=
  at_row t (aK m c) _ _ (kW_val (tP t)) Y d (((cfg (F := Ideal)).win 1).blk t |>.view.emb (ix3 0 Y d)) fun a =>
    congrArg (fun f : Fin 3 → Nat => f a * S1x2048x256.size a + 1 * ((ix3 0 Y d : S1x2048x256.Idx) a).val) (tr1 (grid0.coords t))
theorem reads_v (t : Fin grid0.N) (Y : Fin 2048) (d : Fin 128) : (insAt m c t).v (ix3 0 Y d) = (hd m c (tH t)).v (brow (kB (tP t)) Y) d :=
  at_rowv t (aV m c) _ _ (kW_val (tP t)) Y d (((cfg (F := Ideal)).win 2).blk t |>.view.emb (ix3 0 Y d)) fun a =>
    congrArg (fun f : Fin 3 → Nat => f a * S1x2048x128.size a + 1 * ((ix3 0 Y d : S1x2048x128.Idx) a).val) (tr2 (grid0.coords t))
theorem reads_d (t : Fin grid0.N) (Y : Fin 2048) (e : Fin 128) : (insAt m c t).d (ix2 Y e) = (hd m c (tH t)).d (brow (qB (tP t)) Y) e :=
  at_col t (aD m c) _ _ (qW_val (tP t)) Y e (((cfg (F := Ideal)).win 3).blk t |>.view.emb (ix2 Y e)) fun a =>
    congrArg (fun f : Fin 2 → Nat => f a * S2048x128.size a + 1 * ((ix2 Y e : S2048x128.Idx) a).val) (tr3 (grid0.coords t))
theorem reads_l (t : Fin grid0.N) (Y : Fin 2048) : (insAt m c t).l (ix3 0 0 Y) = (hd m c (tH t)).l (brow (qB (tP t)) Y) :=
  at_lane t (aL m c) _ _ (qW_val (tP t)) Y (((cfg (F := Ideal)).win 4).blk t |>.view.emb (ix3 0 0 Y)) fun a =>
    congrArg (fun f : Fin 3 → Nat => f a * S1x1x2048.size a + 1 * ((ix3 0 0 Y : S1x1x2048.Idx) a).val) (tr4 (grid0.coords t))
theorem reads_e (t : Fin grid0.N) (Y : Fin 2048) : (insAt m c t).e (ix3 0 0 Y) = (hd m c (tH t)).e (brow (qB (tP t)) Y) :=
  at_lane t (aE m c) _ _ (qW_val (tP t)) Y (((cfg (F := Ideal)).win 5).blk t |>.view.emb (ix3 0 0 Y)) fun a =>
    congrArg (fun f : Fin 3 → Nat => f a * S1x1x2048.size a + 1 * ((ix3 0 0 Y : S1x1x2048.Idx) a).val) (tr5 (grid0.coords t))

/-- The blocks a point reads. -/
theorem reads (t : Fin grid0.N) : Reads (hd m c (tH t)) (kB (tP t)) (qB (tP t)) (insAt m c t) :=
  ⟨reads_q m c t, reads_k m c t, reads_v m c t, reads_d m c t, reads_l m c t, reads_e m c t⟩

/-- Point `p` of head `h`. -/
def pt (h : Fin 8) (p : Fin 10) : Fin grid0.N := ⟨10 * h.val + p.val, by have : grid0.N = 80 := N_0; omega⟩

theorem tH_pt (h : Fin 8) (p : Fin 10) : tH (pt h p) = h := Fin.ext (by rw [tH_val]; show (10 * h.val + p.val) / 10 = _; omega)
theorem tP_pt (h : Fin 8) (p : Fin 10) : tP (pt h p) = p := Fin.ext (by rw [tP_val]; show (10 * h.val + p.val) % 10 = _; omega)

/-- The accumulators after pair `p` of head `h`. -/
def sp (h : Fin 8) (p : Fin 10) : Acc Ideal := sa m c (pt h p).val (pt h p).isLt

theorem reads_pt (h : Fin 8) (p : Fin 10) : Reads (hd m c h) (kB p) (qB p) (insAt m c (pt h p)) := by
  have := reads m c (pt h p)
  rwa [tH_pt, tP_pt] at this

theorem stepAt_pt (h : Fin 8) (p : Fin 10) (A : Acc Ideal) :
    stepAt m c (pt h p) A = stepAcc (insAt m c (pt h p)) (lit0 p) (lit1 p) (chk p) A := by
  have e : ∀ p', p' = p → ∀ h', stepAcc (insAt m c (pt h p)) (lit0 p') (lit1 p') h' A = stepAcc (insAt m c (pt h p)) (lit0 p) (lit1 p) (chk p) A := by
    rintro _ rfl _; rfl
  exact e _ (tP_pt h p) _

theorem sp_zero (h : Fin 8) : ∃ A, sp m c h 0 = stepAcc (insAt m c (pt h 0)) (lit0 0) (lit1 0) (chk 0) A := by
  refine ⟨zeroA, ?_⟩
  rw [← stepAt_pt]
  exact sa_eq m c (pt h 0) zeroA fun p hp h0 => absurd (by show (10 * h.val + 0) % 10 = 0; omega) h0

theorem sp_succ (h : Fin 8) (p : Fin 10) (p' : Fin 10) (hp : p'.val = p.val + 1) :
    sp m c h p' = stepAcc (insAt m c (pt h p')) (lit0 p') (lit1 p') (chk p') (sp m c h p) := by
  rw [← stepAt_pt]
  refine sa_eq m c (pt h p') _ fun q hq h0 => ?_
  have : q = (pt h p).val := by
    have : q + 1 = 10 * h.val + p'.val := hq
    show q = 10 * h.val + p.val
    omega
  subst this; rfl

theorem dv_zero (h : Fin 8) (X : Fin 2048) (e : Fin 128) : (sp m c h 0).dv (ix2 X e) = 0 + bV (hd m c h) (brow 0 X) 0 e := by
  obtain ⟨A, hA⟩ := sp_zero m c h
  rw [hA, step_dv 0 _ _ (reads_pt m c h 0)]; rfl
theorem dk_zero (h : Fin 8) (X : Fin 2048) (e : Fin 256) : (sp m c h 0).dk (ix2 X e) = 0 + bK (hd m c h) (brow 0 X) 0 e := by
  obtain ⟨A, hA⟩ := sp_zero m c h
  rw [hA, step_dk 0 _ _ (reads_pt m c h 0)]; rfl
theorem dq_zero (h : Fin 8) (Q : Fin 8192) (e : Fin 256) :
    (sp m c h 0).dq (ix3 0 Q e) = 0 + if Q.val / 2048 = 0 then bQ (hd m c h) 0 Q e else 0 := by
  obtain ⟨A, hA⟩ := sp_zero m c h
  rw [hA, step_dq 0 _ _ (reads_pt m c h 0)]; rfl

theorem dv_succ (h : Fin 8) (p p' : Fin 10) (hp : p'.val = p.val + 1) (X : Fin 2048) (e : Fin 128) :
    (sp m c h p').dv (ix2 X e) = (if kB p' = qB p' then 0 else (sp m c h p).dv (ix2 X e)) + bV (hd m c h) (brow (kB p') X) (qB p') e := by
  rw [sp_succ m c h p p' hp, step_dv p' _ _ (reads_pt m c h p')]
theorem dk_succ (h : Fin 8) (p p' : Fin 10) (hp : p'.val = p.val + 1) (X : Fin 2048) (e : Fin 256) :
    (sp m c h p').dk (ix2 X e) = (if kB p' = qB p' then 0 else (sp m c h p).dk (ix2 X e)) + bK (hd m c h) (brow (kB p') X) (qB p') e := by
  rw [sp_succ m c h p p' hp, step_dk p' _ _ (reads_pt m c h p')]
theorem dq_succ (h : Fin 8) (p p' : Fin 10) (hp : p'.val = p.val + 1) (h0 : p' ≠ 0) (Q : Fin 8192) (e : Fin 256) :
    (sp m c h p').dq (ix3 0 Q e) = (sp m c h p).dq (ix3 0 Q e) + if Q.val / 2048 = (qB p').val then bQ (hd m c h) (kB p') Q e else 0 := by
  rw [sp_succ m c h p p' hp, step_dq p' _ _ (reads_pt m c h p'), if_neg h0]

/-- A head's three gradients (the keys' in units of the logarithm of two). -/
def tV (H : Head) (K : Fin 8192) (e : Fin 128) : EReal := ∑ Q : Fin 8192, H.W K Q * H.d Q e
def tK (H : Head) (K : Fin 8192) (e : Fin 256) : EReal := ∑ Q : Fin 8192, H.G K Q * H.q Q e
def tQ (H : Head) (Q : Fin 8192) (e : Fin 256) : EReal := ∑ K : Fin 8192, H.G K Q * H.k K e

theorem sum_rows (f : Fin 8192 → EReal) : ∑ b : Fin 4, ∑ r : Fin 4, ∑ y : Fin 512, f (row (sub b r) y) = ∑ Q, f Q := by
  rw [← (finProdFinEquiv (m := 16) (n := 512)).sum_comp f, Fintype.sum_prod_type,
    ← (finProdFinEquiv (m := 4) (n := 4)).sum_comp, Fintype.sum_prod_type]
  refine Finset.sum_congr rfl fun b _ => Finset.sum_congr rfl fun r _ => Finset.sum_congr rfl fun y _ => congrArg f (Fin.ext ?_)
  show 512 * (4 * b.val + r.val) + y.val = y.val + 512 * (r.val + 4 * b.val)
  omega

theorem sum_bV (H : Head) (K : Fin 8192) (e : Fin 128) : ∑ b : Fin 4, bV H K b e = tV H K e :=
  sum_rows fun Q => H.W K Q * H.d Q e
theorem sum_bK (H : Head) (K : Fin 8192) (e : Fin 256) : ∑ b : Fin 4, bK H K b e = tK H K e :=
  sum_rows fun Q => H.G K Q * H.q Q e
theorem sum_bQ (H : Head) (Q : Fin 8192) (e : Fin 256) : ∑ b : Fin 4, bQ H b Q e = tQ H Q e :=
  sum_rows fun K => H.G K Q * H.k K e

theorem bV_zero {H : Head} {K : Fin 8192} {b : Fin 4} (h : b.val < K.val / 2048) (e : Fin 128) : bV H K b e = 0 :=
  Finset.sum_eq_zero fun r _ => cV_zero (by show 4 * b.val + r.val < _; omega) e
theorem bK_zero {H : Head} {K : Fin 8192} {b : Fin 4} (h : b.val < K.val / 2048) (e : Fin 256) : bK H K b e = 0 :=
  Finset.sum_eq_zero fun r _ => cK_zero (by show 4 * b.val + r.val < _; omega) e
theorem bQ_zero {H : Head} {Q : Fin 8192} {a : Fin 4} (h : Q.val / 2048 < a.val) (e : Fin 256) : bQ H a Q e = 0 :=
  Finset.sum_eq_zero fun r _ => cQ_zero (by show _ < 4 * a.val + r.val; omega) e

/-- After a head's last pair the queries' accumulator holds the whole gradient. -/
theorem dq_last (h : Fin 8) (Q : Fin 8192) (e : Fin 256) : (sp m c h 9).dq (ix3 0 Q e) = tQ (hd m c h) Q e := by
  rw [dq_succ m c h 8 9 rfl (by decide), dq_succ m c h 7 8 rfl (by decide), dq_succ m c h 6 7 rfl (by decide), dq_succ m c h 5 6 rfl (by decide),
    dq_succ m c h 4 5 rfl (by decide), dq_succ m c h 3 4 rfl (by decide), dq_succ m c h 2 3 rfl (by decide), dq_succ m c h 1 2 rfl (by decide),
    dq_succ m c h 0 1 rfl (by decide), dq_zero]
  rw [← sum_bQ, Fin.sum_univ_four]
  have hz : ∀ a : Fin 4, Q.val / 2048 < a.val → bQ (hd m c h) a Q e = 0 := fun a ha => bQ_zero ha e
  have hQ : Q.val / 2048 < 4 := by omega
  generalize Q.val / 2048 = j at hz hQ ⊢
  obtain rfl | rfl | rfl | rfl : j = 0 ∨ j = 1 ∨ j = 2 ∨ j = 3 := by omega
  · have h1 := hz 1 (by decide); have h2 := hz 2 (by decide); have h3 := hz 3 (by decide)
    simp [qB, kB, h1, h2, h3]
  · have h2 := hz 2 (by decide); have h3 := hz 3 (by decide)
    simp [qB, kB, h2, h3]
  · have h3 := hz 3 (by decide)
    simp [qB, kB, h3]
  · simp [qB, kB]

theorem ends : ∀ p : Fin 10, qB p = 3 → p = 3 ∨ p = 6 ∨ p = 8 ∨ p = 9 := by decide +kernel

/-- A pair that ends its block of keys. -/
theorem dv_last (h : Fin 8) (p : Fin 10) (hp : qB p = 3) (X : Fin 2048) (e : Fin 128) :
    (sp m c h p).dv (ix2 X e) = tV (hd m c h) (brow (kB p) X) e := by
  rw [← sum_bV, Fin.sum_univ_four]
  have hz : ∀ b : Fin 4, b.val < (kB p).val → bV (hd m c h) (brow (kB p) X) b e = 0 := fun b hb =>
    bV_zero (by show _ < (2048 * (kB p).val + X.val) / 2048; omega) e
  obtain rfl | rfl | rfl | rfl := ends p hp
  · rw [dv_succ m c h 2 3 rfl, dv_succ m c h 1 2 rfl, dv_succ m c h 0 1 rfl, dv_zero]
    simp [qB, kB]
  · have h0 := hz 0 (by decide)
    rw [dv_succ m c h 5 6 rfl, dv_succ m c h 4 5 rfl, dv_succ m c h 3 4 rfl]
    simp [qB, kB] at h0 ⊢
    simp [h0]
  · have h0 := hz 0 (by decide); have h1 := hz 1 (by decide)
    rw [dv_succ m c h 7 8 rfl, dv_succ m c h 6 7 rfl]
    simp [qB, kB] at h0 h1 ⊢
    simp [h0, h1]
  · have h0 := hz 0 (by decide); have h1 := hz 1 (by decide); have h2 := hz 2 (by decide)
    rw [dv_succ m c h 8 9 rfl]
    simp [qB, kB] at h0 h1 h2 ⊢
    simp [h0, h1, h2]

theorem dk_last (h : Fin 8) (p : Fin 10) (hp : qB p = 3) (X : Fin 2048) (e : Fin 256) :
    (sp m c h p).dk (ix2 X e) = tK (hd m c h) (brow (kB p) X) e := by
  rw [← sum_bK, Fin.sum_univ_four]
  have hz : ∀ b : Fin 4, b.val < (kB p).val → bK (hd m c h) (brow (kB p) X) b e = 0 := fun b hb =>
    bK_zero (by show _ < (2048 * (kB p).val + X.val) / 2048; omega) e
  obtain rfl | rfl | rfl | rfl := ends p hp
  · rw [dk_succ m c h 2 3 rfl, dk_succ m c h 1 2 rfl, dk_succ m c h 0 1 rfl, dk_zero]
    simp [qB, kB]
  · have h0 := hz 0 (by decide)
    rw [dk_succ m c h 5 6 rfl, dk_succ m c h 4 5 rfl, dk_succ m c h 3 4 rfl]
    simp [qB, kB] at h0 ⊢
    simp [h0]
  · have h0 := hz 0 (by decide); have h1 := hz 1 (by decide)
    rw [dk_succ m c h 7 8 rfl, dk_succ m c h 6 7 rfl]
    simp [qB, kB] at h0 h1 ⊢
    simp [h0, h1]
  · have h0 := hz 0 (by decide); have h1 := hz 1 (by decide); have h2 := hz 2 (by decide)
    rw [dk_succ m c h 8 9 rfl]
    simp [qB, kB] at h0 h1 h2 ⊢
    simp [h0, h1, h2]

end Cert.KernelIdeal.Bwd

end
-- ==== Proof.Final.lean ====
/- The arrays the run leaves, over the extended reals, as sums over all rows of a head. -/
module

public import proofs.«01_k».proof.Proof.Chain
public import proofs.«01_k».proof.Proof.Run
public import Idealize.ShloMosaic.Lib.Pipeline.ValueKit

@[expose] public section

noncomputable section

namespace Cert.KernelIdeal.Bwd

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (c : Dev nD)

/-- The three results. -/
def rQ : S8x8192x256.Idx → EReal := fun i => tQ (hd m c (i 0)) (i 1) (i 2)
def rK : S8x8192x256.Idx → EReal := fun i => tK (hd m c (i 0)) (i 1) (i 2) * ((Real.log 2 : ℝ) : EReal)
def rV : S8x8192x128.Idx → EReal := fun i => tV (hd m c (i 0)) (i 1) (i 2)

theorem pt_of (t : Fin grid0.N) : t = pt (tH t) (tP t) := Fin.ext (by
  show t.val = 10 * (tH t).val + (tP t).val
  rw [tH_val, tP_val]; omega)

theorem pt_tP (t : Fin grid0.N) (p : Fin 10) (h : tP t = p) : sa m c t.val t.isLt = sp m c (tH t) p := by
  subst h
  have e : ∀ s : Fin grid0.N, s = t → sa m c t.val t.isLt = sa m c s.val s.isLt := by rintro _ rfl; rfl
  exact e _ (pt_of t).symm

theorem outK_apply (X : Vec Ideal S2048x256 .f32) (Y : Fin 2048) (d : Fin 256) :
    outK X (ix3 0 Y d) = X (ix2 Y d) * ((Real.log 2 : ℝ) : EReal) := by
  unfold outK; pointwise; rfl
theorem outV_apply (X : Vec Ideal S2048x128 .f32) (Y : Fin 2048) (d : Fin 128) : outV X (ix3 0 Y d) = X (ix2 Y d) := by
  unfold outV; pointwise

theorem after_dq (t : Fin grid0.N) (ht : t.val % 10 = 9) (y : S1x8192x256.Idx) (i : S8x8192x256.Idx)
    (h : ∀ a : Fin 3, (i a).val = ixRow (grid0.coords t) 0#32 a * S1x8192x256.size a + 1 * (y a).val) :
    (sa m c t.val t.isLt).dq y = rQ m c i := by
  rw [pt_tP m c t 9 (Fin.ext ((tP_val t).trans ht))]
  obtain ⟨y0, y1, y2, rfl⟩ : ∃ (a : Fin 1) (b : Fin 8192) (e : Fin 256), y = ix3 a b e := ⟨y 0, y 1, y 2, funext fun a => by fin_cases a <;> rfl⟩
  obtain rfl : y0 = 0 := Subsingleton.elim _ _
  rw [dq_last]
  have e0 : i 0 = tH t := Fin.ext ((h 0).trans (by show (tH t).val * 1 + 1 * 0 = _; omega))
  have e1 : i 1 = y1 := Fin.ext ((h 1).trans (by show 0 * 8192 + 1 * y1.val = _; omega))
  have e2 : i 2 = y2 := Fin.ext ((h 2).trans (by show 0 * 256 + 1 * y2.val = _; omega))
  unfold rQ
  rw [e0, e1, e2]

theorem after_dk (t : Fin grid0.N) (ht : qB (tP t) = 3) (y : S1x2048x256.Idx) (i : S8x8192x256.Idx)
    (h : ∀ a : Fin 3, (i a).val = ixRow (grid0.coords t) (kWord (grid0.coords t)) a * S1x2048x256.size a + 1 * (y a).val) :
    outK (sa m c t.val t.isLt).dk y = rK m c i := by
  rw [pt_tP m c t _ rfl]
  obtain ⟨y0, y1, y2, rfl⟩ : ∃ (a : Fin 1) (b : Fin 2048) (e : Fin 256), y = ix3 a b e := ⟨y 0, y 1, y 2, funext fun a => by fin_cases a <;> rfl⟩
  obtain rfl : y0 = 0 := Subsingleton.elim _ _
  rw [outK_apply, dk_last m c _ _ ht]
  have e0 : i 0 = tH t := Fin.ext ((h 0).trans (by show (tH t).val * 1 + 1 * 0 = _; omega))
  have e1 : i 1 = brow (kB (tP t)) y1 := Fin.ext ((h 1).trans (by
    show (lit0 (tP t)).toNat * 2048 + 1 * y1.val = 2048 * (kB (tP t)).val + y1.val
    rw [kW_val]; omega))
  have e2 : i 2 = y2 := Fin.ext ((h 2).trans (by show 0 * 256 + 1 * y2.val = _; omega))
  unfold rK
  rw [e0, e1, e2]

theorem after_dv (t : Fin grid0.N) (ht : qB (tP t) = 3) (y : S1x2048x128.Idx) (i : S8x8192x128.Idx)
    (h : ∀ a : Fin 3, (i a).val = ixRow (grid0.coords t) (kWord (grid0.coords t)) a * S1x2048x128.size a + 1 * (y a).val) :
    outV (sa m c t.val t.isLt).dv y = rV m c i := by
  rw [pt_tP m c t _ rfl]
  obtain ⟨y0, y1, y2, rfl⟩ : ∃ (a : Fin 1) (b : Fin 2048) (e : Fin 128), y = ix3 a b e := ⟨y 0, y 1, y 2, funext fun a => by fin_cases a <;> rfl⟩
  obtain rfl : y0 = 0 := Subsingleton.elim _ _
  rw [outV_apply, dv_last m c _ _ ht]
  have e0 : i 0 = tH t := Fin.ext ((h 0).trans (by show (tH t).val * 1 + 1 * 0 = _; omega))
  have e1 : i 1 = brow (kB (tP t)) y1 := Fin.ext ((h 1).trans (by
    show (lit0 (tP t)).toNat * 2048 + 1 * y1.val = 2048 * (kB (tP t)).val + y1.val
    rw [kW_val]; omega))
  have e2 : i 2 = y2 := Fin.ext ((h 2).trans (by show 0 * 128 + 1 * y2.val = _; omega))
  unfold rV
  rw [e0, e1, e2]

theorem flush_q : ∀ t : Fin grid0.N, (k0_cond4 (qWord (grid0.coords t)) == 1#1) = true ↔ qB (tP t) = 3 := by decide +kernel

/-- The pair after which a block of keys is written out. -/
def pEnd : Fin 4 → Fin 10 := ![3, 6, 8, 9]
theorem kB_pEnd : ∀ b, kB (pEnd b) = b := by decide +kernel
theorem qB_pEnd : ∀ b, qB (pEnd b) = 3 := by decide +kernel

theorem cover_dq (i : S8x8192x256.Idx) : ∃ t : Fin grid0.N, ((cfg (F := Ideal)).win 6).flush t = true ∧ i ∈ (((cfg (F := Ideal)).win 6).blk t).view.set := by
  refine ⟨pt (i 0) 9, ?_, ?_⟩
  · rw [flush6]
    exact decide_eq_true (by show (10 * (i 0).val + 9) % 10 = 9; omega)
  · show i ∈ ((View.whole main_v49_0).slice (((cfg (F := Ideal)).win 6).rect (pt (i 0) 9))).set
    rw [View.set_slice_whole, Rect.mem_set_unit]
    intro a
    have e : cc0_transform_6 (grid0.coords (pt (i 0) 9)) = ixRow (grid0.coords (pt (i 0) 9)) 0#32 := tr6 _
    show cc0_transform_6 (grid0.coords (pt (i 0) 9)) a * S1x8192x256.size a ≤ (i a).val ∧
      (i a).val < cc0_transform_6 (grid0.coords (pt (i 0) 9)) a * S1x8192x256.size a + S1x8192x256.size a
    rw [e]
    have h0 : (tH (pt (i 0) 9)).val = (i 0).val := congrArg Fin.val (tH_pt (i 0) 9)
    fin_cases a
    · show (tH (pt (i 0) 9)).val * 1 ≤ (i 0).val ∧ (i 0).val < (tH (pt (i 0) 9)).val * 1 + 1
      omega
    · have := (i 1).isLt
      show 0 * 8192 ≤ (i 1).val ∧ (i 1).val < 0 * 8192 + 8192
      exact ⟨by omega, by simpa using this⟩
    · have := (i 2).isLt
      show 0 * 256 ≤ (i 2).val ∧ (i 2).val < 0 * 256 + 256
      exact ⟨by omega, by simpa using this⟩

theorem cover_dk (i : S8x8192x256.Idx) : ∃ t : Fin grid0.N, ((cfg (F := Ideal)).win 7).flush t = true ∧ i ∈ (((cfg (F := Ideal)).win 7).blk t).view.set := by
  obtain ⟨p, hp, hq⟩ : ∃ p, (kB p).val = (i 1).val / 2048 ∧ qB p = 3 :=
    ⟨pEnd (⟨(i 1).val / 2048, by have : (i 1).val < 8192 := (i 1).isLt; omega⟩ : Fin 4), by rw [kB_pEnd], qB_pEnd _⟩
  refine ⟨pt (i 0) p, ?_, ?_⟩
  · rw [flush7, flush_q]; exact (congrArg qB (tP_pt _ _)).trans hq
  · show i ∈ ((View.whole main_v49_1).slice (((cfg (F := Ideal)).win 7).rect (pt (i 0) p))).set
    rw [View.set_slice_whole, Rect.mem_set_unit]
    intro a
    show cc0_transform_7 k0_off1_inb numel1_S1 (tabs (F := Ideal)) (grid0.coords (pt (i 0) p)) a * S1x2048x256.size a ≤ (i a).val ∧
      (i a).val < cc0_transform_7 k0_off1_inb numel1_S1 (tabs (F := Ideal)) (grid0.coords (pt (i 0) p)) a * S1x2048x256.size a + S1x2048x256.size a
    rw [tr7]
    have h0 : (tH (pt (i 0) p)).val = (i 0).val := congrArg Fin.val (tH_pt (i 0) p)
    have h1 : (lit0 (tP (pt (i 0) p))).toNat = (i 1).val / 2048 :=
      (kW_val _).trans ((congrArg (fun q => (kB q).val) (tP_pt _ _)).trans hp)
    fin_cases a
    · show (tH (pt (i 0) p)).val * 1 ≤ (i 0).val ∧ (i 0).val < (tH (pt (i 0) p)).val * 1 + 1
      omega
    · show (lit0 (tP (pt (i 0) p))).toNat * 2048 ≤ (i 1).val ∧ (i 1).val < (lit0 (tP (pt (i 0) p))).toNat * 2048 + 2048
      omega
    · have := (i 2).isLt
      show 0 * 256 ≤ (i 2).val ∧ (i 2).val < 0 * 256 + 256
      exact ⟨by omega, by simpa using this⟩

theorem cover_dv (i : S8x8192x128.Idx) : ∃ t : Fin grid0.N, ((cfg (F := Ideal)).win 8).flush t = true ∧ i ∈ (((cfg (F := Ideal)).win 8).blk t).view.set := by
  obtain ⟨p, hp, hq⟩ : ∃ p, (kB p).val = (i 1).val / 2048 ∧ qB p = 3 :=
    ⟨pEnd (⟨(i 1).val / 2048, by have : (i 1).val < 8192 := (i 1).isLt; omega⟩ : Fin 4), by rw [kB_pEnd], qB_pEnd _⟩
  refine ⟨pt (i 0) p, ?_, ?_⟩
  · rw [flush8, flush_q]; exact (congrArg qB (tP_pt _ _)).trans hq
  · show i ∈ ((View.whole main_v49_2).slice (((cfg (F := Ideal)).win 8).rect (pt (i 0) p))).set
    rw [View.set_slice_whole, Rect.mem_set_unit]
    intro a
    show cc0_transform_8 k0_off1_inb numel1_S1 (tabs (F := Ideal)) (grid0.coords (pt (i 0) p)) a * S1x2048x128.size a ≤ (i a).val ∧
      (i a).val < cc0_transform_8 k0_off1_inb numel1_S1 (tabs (F := Ideal)) (grid0.coords (pt (i 0) p)) a * S1x2048x128.size a + S1x2048x128.size a
    rw [tr8]
    have h0 : (tH (pt (i 0) p)).val = (i 0).val := congrArg Fin.val (tH_pt (i 0) p)
    have h1 : (lit0 (tP (pt (i 0) p))).toNat = (i 1).val / 2048 :=
      (kW_val _).trans ((congrArg (fun q => (kB q).val) (tP_pt _ _)).trans hp)
    fin_cases a
    · show (tH (pt (i 0) p)).val * 1 ≤ (i 0).val ∧ (i 0).val < (tH (pt (i 0) p)).val * 1 + 1
      omega
    · show (lit0 (tP (pt (i 0) p))).toNat * 2048 ≤ (i 1).val ∧ (i 1).val < (lit0 (tP (pt (i 0) p))).toNat * 2048 + 2048
      omega
    · have := (i 2).isLt
      show 0 * 128 ≤ (i 2).val ∧ (i 2).val < 0 * 128 + 128
      exact ⟨by omega, by simpa using this⟩

theorem outDq_eq : outDq m c = rQ m c :=
  (dats m 0 c).arrAt_eq_of_emb 6 (rQ m c) (fun t ht y =>
    after_dq m c t (of_decide_eq_true ((flush6 (F := Ideal) t).symm.trans ht)) _ _ fun a =>
      congrArg (fun f : Fin 3 → Nat => f a * S1x8192x256.size a + 1 * (y a).val) (tr6 (grid0.coords t))) cover_dq

theorem outDk_eq : outDk m c = rK m c :=
  (dats m 0 c).arrAt_eq_of_emb 7 (rK m c) (fun t ht y =>
    after_dk m c t ((flush_q t).1 ((flush7 (F := Ideal) t).symm.trans ht)) _ _ fun a =>
      congrArg (fun f : Fin 3 → Nat => f a * S1x2048x256.size a + 1 * (y a).val) (tr7 (F := Ideal) (grid0.coords t))) cover_dk

theorem outDv_eq : outDv m c = rV m c :=
  (dats m 0 c).arrAt_eq_of_emb 8 (rV m c) (fun t ht y =>
    after_dv m c t ((flush_q t).1 ((flush8 (F := Ideal) t).symm.trans ht)) _ _ fun a =>
      congrArg (fun f : Fin 3 → Nat => f a * S1x2048x128.size a + 1 * (y a).val) (tr8 (F := Ideal) (grid0.coords t))) cover_dv

end Cert.KernelIdeal.Bwd

end
-- ==== Proof.Attn.lean ====
/- Causal attention and its gradients over the reals, and the operations on extended reals that stay on real numbers. -/
module

public import Idealize.ShloMosaic.PureOps.Ideal
public import Idealize.ShloMosaic.Lib.Pointwise

@[expose] public section

noncomputable section

namespace Cert.Attn

open Idealize.ShloMosaic

/-! ## Extended reals that are reals -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

theorem log_coe (x : ℝ) (hx : 0 < x) : Ideal.log (x : EReal) = ((Real.log x : ℝ) : EReal) := by
  show (if x ≤ 0 then (⊥ : EReal) else ((Real.log x : ℝ) : EReal)) = _
  rw [if_neg (not_le.2 hx)]

theorem exp_coe (x : ℝ) : Ideal.exp (x : EReal) = ((Real.exp x : ℝ) : EReal) := rfl
theorem exp2_coe (x : ℝ) : Ideal.exp2 (x : EReal) = ((Real.rpow 2 x : ℝ) : EReal) := rfl

/-! ## Words -/

theorem le_word (x y : Fin 8192) :
    IntOp.cmpi .sle (BitVec.ofNat 32 x.val) (BitVec.ofNat 32 y.val) = BitVec.ofBool (decide (x ≤ y)) := by
  show BitVec.ofBool (BitVec.sle _ _) = _
  congr 1
  rw [BitVec.sle_eq_decide]
  have hx := x.isLt; have hy := y.isLt
  rw [BitVec.toInt_ofNat', BitVec.toInt_ofNat']
  simp only [Int.bmod_def, Fin.le_def]
  congr 1
  apply propext
  constructor <;> intro h <;> split_ifs at * <;> omega

theorem bot_word : Ideal.ofBits .f32 0xFF800000#32 = (⊥ : EReal) := by
  show Ideal.ieee 8 23 0xFF800000#32 = ⊥
  unfold Ideal.ieee
  simp

theorem two_word : Ideal.ofBits .f32 0x40000000#32 = ((2 : ℝ) : EReal) := by
  show Ideal.ieee 8 23 0x40000000#32 = _
  unfold Ideal.ieee
  simp
  rw [← EReal.coe_mul]
  norm_num

/-- The factor on the scores is a real number. -/
theorem scale_word : Ideal.ofBits .f32 0x3D93CD3A#32 = (((Ideal.ofBits .f32 0x3D93CD3A#32 : EReal).toReal : ℝ) : EReal) := by
  obtain ⟨σ, hσ⟩ : ∃ σ : ℝ, Ideal.ofBits .f32 0x3D93CD3A#32 = (σ : EReal) := by
    refine ⟨(9686330 : ℝ) * (2 ^ 27 : ℝ)⁻¹, ?_⟩
    show Ideal.ieee 8 23 0x3D93CD3A#32 = _
    unfold Ideal.ieee
    simp
  rw [hσ, EReal.toReal_coe]

theorem one_word : Ideal.ofBits .f32 0x3F800000#32 = ((1 : ℝ) : EReal) := Ideal.ofBits_one_f32

/-! ## Attention of one head -/

/-- One head: queries, keys, values, the gradient of the output, and the factor on the queries. -/
structure Args where
  q : Fin 8192 → Fin 192 → ℝ
  k : Fin 8192 → Fin 192 → ℝ
  v : Fin 8192 → Fin 128 → ℝ
  d : Fin 8192 → Fin 128 → ℝ
  σ : ℝ

namespace Args

variable (A : Args)

/-- The score of query `Q` and key `K`. -/
def s (Q K : Fin 8192) : ℝ := ∑ i : Fin 192, A.q Q i * A.σ * A.k K i
/-- The same with the keys after the query hidden. -/
def sm (Q K : Fin 8192) : EReal := if K ≤ Q then (A.s Q K : EReal) else ⊥
/-- A query's largest score. -/
def mx (Q : Fin 8192) : EReal := Finset.univ.fold max ⊥ (A.sm Q)
def M (Q : Fin 8192) : ℝ := (A.mx Q).toReal

theorem mx_eq (Q : Fin 8192) : A.mx Q = (A.M Q : EReal) := by
  have hs : A.mx Q = Finset.univ.sup (A.sm Q) := rfl
  refine (EReal.coe_toReal ?_ ?_).symm
  · rw [hs]
    refine ne_of_lt ((Finset.sup_lt_iff (by exact bot_lt_top)).2 fun K _ => ?_)
    unfold sm; split
    · exact EReal.coe_lt_top _
    · exact bot_lt_top
  · rw [hs]
    intro h
    have := (Finset.sup_eq_bot_iff _ _).1 h Q (Finset.mem_univ _)
    unfold sm at this
    rw [if_pos (le_refl _)] at this
    exact EReal.coe_ne_bot _ this

/-- The unnormalised weight. -/
def w (Q K : Fin 8192) : ℝ := if K ≤ Q then Real.exp (A.s Q K - A.M Q) else 0
def l (Q : Fin 8192) : ℝ := ∑ K, A.w Q K

theorem exp_sm (Q K : Fin 8192) : Ideal.exp (A.sm Q K - A.mx Q) = (A.w Q K : EReal) := by
  rw [mx_eq]; unfold sm w
  split
  · rw [← EReal.coe_sub, exp_coe]
  · rw [EReal.bot_sub]; rfl

theorem w_nonneg (Q K : Fin 8192) : 0 ≤ A.w Q K := by
  unfold w; split
  · exact (Real.exp_pos _).le
  · exact le_refl _

theorem l_pos (Q : Fin 8192) : 0 < A.l Q := by
  refine Finset.sum_pos' (fun K _ => A.w_nonneg Q K) ⟨Q, Finset.mem_univ _, ?_⟩
  unfold w; rw [if_pos (le_refl _)]; exact Real.exp_pos _

theorem l_ne (Q : Fin 8192) : A.l Q ≠ 0 := (A.l_pos Q).ne'

/-- The weight of key `K` for query `Q`. -/
def p (Q K : Fin 8192) : ℝ := A.w Q K / A.l Q
/-- The gradient of the weight. -/
def dp (Q K : Fin 8192) : ℝ := ∑ e : Fin 128, A.d Q e * A.v K e
/-- Its mean under the weights. -/
def del (Q : Fin 8192) : ℝ := ∑ K, A.p Q K * A.dp Q K
/-- The gradient of the score. -/
def ds (Q K : Fin 8192) : ℝ := A.p Q K * (A.dp Q K - A.del Q)

/-- The three gradients. -/
def gq (Q : Fin 8192) (i : Fin 192) : ℝ := ∑ K, A.ds Q K * A.k K i
def gk (K : Fin 8192) (i : Fin 192) : ℝ := ∑ Q, A.ds Q K * (A.q Q i * A.σ)
def gv (K : Fin 8192) (e : Fin 128) : ℝ := ∑ Q, A.p Q K * A.d Q e

/-- The logarithm of a query's sum, in base two: the weight is a power of two of the score. -/
theorem weight (Q K : Fin 8192) (h : K ≤ Q) :
    Real.rpow 2 (A.s Q K / Real.log 2 - (A.M Q + Real.log (A.l Q)) / Real.log 2) = A.p Q K := by
  have h2 : Real.log 2 ≠ 0 := (Real.log_pos (by norm_num)).ne'
  have e : A.s Q K / Real.log 2 - (A.M Q + Real.log (A.l Q)) / Real.log 2 = (A.s Q K - A.M Q - Real.log (A.l Q)) / Real.log 2 := by
    field_simp; ring
  rw [e]
  show (2 : ℝ) ^ ((A.s Q K - A.M Q - Real.log (A.l Q)) / Real.log 2) = _
  rw [Real.rpow_def_of_pos (by norm_num), mul_div_cancel₀ _ h2, Real.exp_sub, Real.exp_log (A.l_pos Q)]
  unfold p w; rw [if_pos h]

theorem p_zero {Q K : Fin 8192} (h : ¬ K ≤ Q) : A.p Q K = 0 := by unfold p w; rw [if_neg h, zero_div]

/-- The mean of the weight's gradient is the output's product with its own gradient. -/
theorem del_eq (Q : Fin 8192) : ∑ e : Fin 128, A.d Q e * ∑ K, A.p Q K * A.v K e = A.del Q := by
  unfold del dp
  simp only [Finset.mul_sum]
  rw [Finset.sum_comm]
  exact Finset.sum_congr rfl fun K _ => Finset.sum_congr rfl fun e _ => by ring

/-- The score's gradient as the quotient rule gives it. -/
theorem ds_eq (Q K : Fin 8192) :
    (A.dp Q K / A.l Q + -(∑ K', A.dp Q K' * (1 / (A.l Q * A.l Q)) * A.w Q K')) * A.w Q K = A.ds Q K := by
  have h := A.l_ne Q
  have e : ∑ K', A.dp Q K' * (1 / (A.l Q * A.l Q)) * A.w Q K' = A.del Q / A.l Q := by
    unfold del p
    rw [Finset.sum_div]
    exact Finset.sum_congr rfl fun K' _ => by field_simp
  rw [e]; unfold ds p
  field_simp; ring

theorem ds_zero {Q K : Fin 8192} (h : ¬ K ≤ Q) : A.ds Q K = 0 := by unfold ds; rw [A.p_zero h, zero_mul]

end Args

/-- The column of the keys a lane of the widened keys holds: the last 64 are there twice. -/
def wide (i : Fin 256) : Fin 192 := if hi : i.val < 192 then ⟨i.val, hi⟩ else ⟨128 + (i.val - 192), by omega⟩

/-- The arguments, head by head, are real. -/
structure Reals (A : Fin 8 → Args) (x0 x1 : (⟨3, ![8, 8192, 192]⟩ : Shape).Idx → EReal) (x2 : (⟨3, ![8, 8192, 128]⟩ : Shape).Idx → EReal) (x3 : (⟨2, ![8192, 1024]⟩ : Shape).Idx → EReal) : Prop where
  q : ∀ h Q i, x0 (ix3 h Q i) = ((A h).q Q i : EReal)
  k : ∀ h K i, x1 (ix3 h K i) = ((A h).k K i : EReal)
  v : ∀ h K e, x2 (ix3 h K e) = ((A h).v K e : EReal)
  d : ∀ (h : Fin 8) Q (e : Fin 128), x3 (ix2 Q (⟨128 * h.val + e.val, by omega⟩ : Fin 1024)) = ((A h).d Q e : EReal)
  σ : ∀ h, Ideal.ofBits .f32 0x3D93CD3A#32 = ((A h).σ : EReal)

end Cert.Attn

end
-- ==== Proof.Host.lean ====
/- The host's part of the program: the arrays the call reads, computed from the arguments. -/
module

public import proofs.«01_k».proof.Proof.Final
public import proofs.«01_k».proof.Proof.Attn
public import Idealize.ShloMosaic.Lib.StableHlo.RunRead

@[expose] public section

noncomputable section

namespace Cert.KernelIdeal.Bwd

open Idealize.ShloMosaic Idealize.ShloMosaic.TcCoe
open Idealize.SL Idealize.SL.Sem
open Cert.KernelIdeal Cert.KernelIdeal.Gen
open Cert.Attn

/-! ## The arrays of the forward pass -/

def hLn2 : FVec Ideal S_ .f32 := Host.log (constant (F := Ideal) S_ .f32 0x40000000#32)
def hScr (x0 x1 : FVec Ideal S8x8192x192 .f32) : FVec Ideal S8x8192x8192 .f32 :=
  Host.dotGeneral (F := Ideal) dot_S8x8192x192_S8x8192x192_S8x8192x8192_2_2_1_1_0_0 none
    (mulf x0 (broadcastInDim S8x8192x192 ![] bcast_S_S8x8192x192 (constant (F := Ideal) S_ .f32 0x3D93CD3A#32))) x1
def hSee : Vec Ideal S8x8192x8192 .i1 :=
  broadcastInDim S8x8192x8192 ![0, 1, 2] bcast_S1x8192x8192_S8x8192x8192_0_1_2
    (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
def hBot : FVec Ideal S8x8192x8192 .f32 := broadcastInDim S8x8192x8192 ![] bcast_S_S8x8192x8192 (constant (F := Ideal) S_ .f32 0xFF800000#32)
def hMsk (x0 x1 : FVec Ideal S8x8192x192 .f32) : FVec Ideal S8x8192x8192 .f32 := select hSee (hScr x0 x1) hBot
def hMax (x0 x1 : FVec Ideal S8x8192x192 .f32) : FVec Ideal S8x8192 .f32 :=
  Host.reduce (FloatOps.maximumf (F := Ideal) (φ := .f32)) (hMsk x0 x1) (constant (F := Ideal) S_ .f32 0xFF800000#32) reducesTo_S8x8192x8192_S8x8192_d2 h_S_
def hMax1 (x0 x1 : FVec Ideal S8x8192x192 .f32) : FVec Ideal S8x8192x1 .f32 := broadcastInDim S8x8192x1 ![0, 1] bcast_S8x8192_S8x8192x1_0_1 (hMax x0 x1)
def hMaxB (x0 x1 : FVec Ideal S8x8192x192 .f32) : FVec Ideal S8x8192x8192 .f32 := broadcastInDim S8x8192x8192 ![0, 1, 2] bcast_S8x8192x1_S8x8192x8192_0_1_2 (hMax1 x0 x1)
def hExp (x0 x1 : FVec Ideal S8x8192x192 .f32) : FVec Ideal S8x8192x8192 .f32 := Host.exp (F := Ideal) (φ := .f32) (subf (hMsk x0 x1) (hMaxB x0 x1))
def hSum (x0 x1 : FVec Ideal S8x8192x192 .f32) : FVec Ideal S8x8192 .f32 :=
  Host.reduceAdd (F := Ideal) (φ := .f32) (hExp x0 x1) (constant (F := Ideal) S_ .f32 0x00000000#32) reducesTo_S8x8192x8192_S8x8192_d2 h_S_
def hSum1 (x0 x1 : FVec Ideal S8x8192x192 .f32) : FVec Ideal S8x8192x1 .f32 := broadcastInDim S8x8192x1 ![0, 1] bcast_S8x8192_S8x8192x1_0_1 (hSum x0 x1)
def hLse1 (x0 x1 : FVec Ideal S8x8192x192 .f32) : FVec Ideal S8x8192x1 .f32 :=
  Host.divf (F := Ideal) (φ := .f32) (addf (hMax1 x0 x1) (Host.log (F := Ideal) (φ := .f32) (hSum1 x0 x1))) (broadcastInDim S8x8192x1 ![] bcast_S_S8x8192x1 hLn2)
def hLse (x0 x1 : FVec Ideal S8x8192x192 .f32) : FVec Ideal S8x8192 .f32 := shapeCast S8x8192 (hLse1 x0 x1) shapeCasts_S8x8192x1_S8x8192
def hPrb (x0 x1 : FVec Ideal S8x8192x192 .f32) : FVec Ideal S8x8192x8192 .f32 :=
  Host.divf (F := Ideal) (φ := .f32) (hExp x0 x1) (broadcastInDim S8x8192x8192 ![0, 1, 2] bcast_S8x8192x1_S8x8192x8192_0_1_2 (hSum1 x0 x1))
def hOut (x0 x1 : FVec Ideal S8x8192x192 .f32) (x2 : FVec Ideal S8x8192x128 .f32) : FVec Ideal S8x8192x128 .f32 :=
  Host.dotGeneral (F := Ideal) dot_S8x8192x8192_S8x8192x128_S8x8192x128_2_1_1_2_0_0 none (hPrb x0 x1) x2
def hDo (x3 : FVec Ideal S8192x1024 .f32) : FVec Ideal S8x8192x128 .f32 :=
  transpose S8x8192x128 [1, 0, 2] (shapeCast S8192x8x128 x3 shapeCasts_S8192x1024_S8192x8x128) transposes_S8192x8x128_S8x8192x128_1_0_2
def hDel (x0 x1 : FVec Ideal S8x8192x192 .f32) (x2 : FVec Ideal S8x8192x128 .f32) (x3 : FVec Ideal S8192x1024 .f32) : FVec Ideal S8x8192 .f32 :=
  Host.reduceAdd (F := Ideal) (φ := .f32) (mulf (hDo x3) (hOut x0 x1 x2)) (constant (F := Ideal) S_ .f32 0x00000000#32) reducesTo_S8x8192x128_S8x8192_d2 h_S_

/-! ## The arrays the call reads -/

def hFac : FVec Ideal S_ .f32 := Host.divf (F := Ideal) (φ := .f32) (constant (F := Ideal) S_ .f32 0x3D93CD3A#32) hLn2
def hQ (x0 : FVec Ideal S8x8192x192 .f32) : FVec Ideal S8x8192x256 .bf16 :=
  truncf .bf16 (concatenate S8x8192x256 2 [⟨S8x8192x192, (mulf x0 (broadcastInDim S8x8192x192 ![] bcast_S_S8x8192x192 hFac) : FVec Ideal S8x8192x192 .f32)⟩,
    ⟨S8x8192x64, (broadcastInDim S8x8192x64 ![] bcast_S_S8x8192x64 (constant (F := Ideal) S_ .f32 0x00000000#32) : FVec Ideal S8x8192x64 .f32)⟩]
    concatenates_S8x8192x192_S8x8192x64_S8x8192x256_d2) bitsLt_bf16_f32
def hK (x1 : FVec Ideal S8x8192x192 .f32) : FVec Ideal S8x8192x256 .bf16 :=
  truncf .bf16 (concatenate S8x8192x256 2 [⟨S8x8192x192, x1⟩,
    ⟨S8x8192x64, (extractStridedSlice S8x8192x64 ![0, 0, 128] x1 slices_S8x8192x192_S8x8192x64_0_0_128 : FVec Ideal S8x8192x64 .f32)⟩]
    concatenates_S8x8192x192_S8x8192x64_S8x8192x256_d2) bitsLt_bf16_f32
def hV (x2 : FVec Ideal S8x8192x128 .f32) : FVec Ideal S8x8192x256 .bf16 :=
  truncf .bf16 (concatenate S8x8192x256 2 [⟨S8x8192x128, x2⟩,
    ⟨S8x8192x1, (broadcastInDim S8x8192x1 ![] bcast_S_S8x8192x1 (constant (F := Ideal) S_ .f32 0x3F800000#32) : FVec Ideal S8x8192x1 .f32)⟩,
    ⟨S8x8192x127, (broadcastInDim S8x8192x127 ![] bcast_S_S8x8192x127 (constant (F := Ideal) S_ .f32 0x00000000#32) : FVec Ideal S8x8192x127 .f32)⟩]
    concatenates_S8x8192x128_S8x8192x1_S8x8192x127_S8x8192x256_d2) bitsLt_bf16_f32
def hL (x0 x1 : FVec Ideal S8x8192x192 .f32) : FVec Ideal S8x1x8192 .f32 := broadcastInDim S8x1x8192 ![0, 2] bcast_S8x8192_S8x1x8192_0_2 (hLse x0 x1)
def hE (x0 x1 : FVec Ideal S8x8192x192 .f32) (x2 : FVec Ideal S8x8192x128 .f32) (x3 : FVec Ideal S8192x1024 .f32) : FVec Ideal S8x1x8192 .f32 :=
  broadcastInDim S8x1x8192 ![0, 2] bcast_S8x8192_S8x1x8192_0_2 (hDel x0 x1 x2 x3)

section
variable (m : (ℓ : Loc nD τ sig) → Buf (Elt Ideal) ℓ) (c : Dev nD)

/-- The arguments. -/
def a0 : FVec Ideal S8x8192x192 .f32 := m ((c.tc : Thread nD τ).loc main_arg0)
def a1 : FVec Ideal S8x8192x192 .f32 := m ((c.tc : Thread nD τ).loc main_arg1)
def a2 : FVec Ideal S8x8192x128 .f32 := m ((c.tc : Thread nD τ).loc main_arg2)
def a3 : FVec Ideal S8192x1024 .f32 := m ((c.tc : Thread nD τ).loc main_arg3)

theorem aQ_eq : aQ m c = hQ (a0 m c) := by unfold aQ V; after_reads_simp <;> rfl
theorem aK_eq : aK m c = hK (a1 m c) := by unfold aK V; after_reads_simp <;> rfl
theorem aV_eq : aV m c = hV (a2 m c) := by unfold aV V; after_reads_simp <;> rfl
theorem aD_eq : aD m c = (truncf .bf16 (a3 m c) bitsLt_bf16_f32 : FVec Ideal S8192x1024 .bf16) := by unfold aD V; after_reads_simp <;> rfl
theorem aL_eq : aL m c = hL (a0 m c) (a1 m c) := by unfold aL V; after_reads_simp <;> rfl
theorem aE_eq : aE m c = hE (a0 m c) (a1 m c) (a2 m c) (a3 m c) := by unfold aE V; after_reads_simp <;> rfl
end

/-! ## The same at an index -/

section
variable (x0 x1 : FVec Ideal S8x8192x192 .f32) (x2 : FVec Ideal S8x8192x128 .f32) (x3 : FVec Ideal S8192x1024 .f32)

theorem div_at (s : Shape) (x y : FVec Ideal s .f32) (i : s.Idx) : Host.divf x y i = Ideal.div (x i) (y i) := rfl
theorem add_at (s : Shape) (x y : FVec Ideal s .f32) (i : s.Idx) : addf x y i = x i + y i := rfl
theorem log_at (s : Shape) (x : FVec Ideal s .f32) (i : s.Idx) : Host.log x i = Ideal.log (x i) := rfl
theorem exp_at (s : Shape) (x : FVec Ideal s .f32) (i : s.Idx) : Host.exp x i = Ideal.exp (x i) := rfl
theorem sub_at (s : Shape) (x y : FVec Ideal s .f32) (i : s.Idx) : subf x y i = x i - y i := rfl
theorem ln2_at (h : Fin 8) (Q : Fin 8192) (z : Fin 1) :
    broadcastInDim S8x8192x1 ![] bcast_S_S8x8192x1 hLn2 (ix3 h Q z) = hLn2 Idealize.ShloMosaic.ix0 := by pointwise

theorem hLn2_at (i : S_.Idx) : hLn2 i = ((Real.log 2 : ℝ) : EReal) := by
  show Ideal.log (Ideal.ofBits .f32 0x40000000#32) = _
  rw [two_word, log_coe 2 (by norm_num)]

theorem hSee_at (h : Fin 8) (Q K : Fin 8192) : hSee (ix3 h Q K) = BitVec.ofBool (decide (K ≤ Q)) := by
  pointwise [hSee]
  exact le_word _ _

theorem hScr_at (h : Fin 8) (Q K : Fin 8192) : hScr x0 x1 (ix3 h Q K)
    = ∑ i : Fin 192, x0 (ix3 h Q i) * Ideal.ofBits .f32 0x3D93CD3A#32 * x1 (ix3 h K i) := by
  pointwise [hScr]

theorem hBot_at (h : Fin 8) (Q K : Fin 8192) : hBot (ix3 h Q K) = Ideal.ofBits .f32 0xFF800000#32 := by
  pointwise [hBot]

theorem hMax_at (h : Fin 8) (Q : Fin 8192) : hMax x0 x1 (ix2 h Q)
    = Finset.univ.fold max (Ideal.ofBits .f32 0xFF800000#32) (fun x => hMsk x0 x1 (ix3 h Q x)) := by
  pointwise [hMax]

theorem hMax1_at (h : Fin 8) (Q : Fin 8192) (z : Fin 1) : hMax1 x0 x1 (ix3 h Q z) = hMax x0 x1 (ix2 h Q) := by
  pointwise [hMax1]

theorem hMaxB_at (h : Fin 8) (Q K : Fin 8192) : hMaxB x0 x1 (ix3 h Q K) = hMax1 x0 x1 (ix3 h Q 0) := by
  pointwise [hMaxB]

theorem hSum_at (h : Fin 8) (Q : Fin 8192) : hSum x0 x1 (ix2 h Q) = ∑ K, hExp x0 x1 (ix3 h Q K) := by
  pointwise [hSum]

theorem hSum1_at (h : Fin 8) (Q : Fin 8192) (z : Fin 1) : hSum1 x0 x1 (ix3 h Q z) = hSum x0 x1 (ix2 h Q) := by
  pointwise [hSum1]

theorem hLse1_at (h : Fin 8) (Q : Fin 8192) (z : Fin 1) : hLse1 x0 x1 (ix3 h Q z)
    = Ideal.div (hMax1 x0 x1 (ix3 h Q z) + Ideal.log (hSum1 x0 x1 (ix3 h Q z))) (hLn2 Idealize.ShloMosaic.ix0) := by
  unfold hLse1
  rw [div_at, add_at, log_at, ln2_at]

theorem hLse_at (h : Fin 8) (Q : Fin 8192) : hLse x0 x1 (ix2 h Q) = hLse1 x0 x1 (ix3 h Q 0) := by
  pointwise [hLse]

theorem hPrb_at (h : Fin 8) (Q K : Fin 8192) : hPrb x0 x1 (ix3 h Q K) = Ideal.div (hExp x0 x1 (ix3 h Q K)) (hSum1 x0 x1 (ix3 h Q 0)) := by
  pointwise [hPrb]

theorem hOut_at (h : Fin 8) (Q : Fin 8192) (e : Fin 128) : hOut x0 x1 x2 (ix3 h Q e) = ∑ K, hPrb x0 x1 (ix3 h Q K) * x2 (ix3 h K e) := by
  pointwise [hOut]

theorem hDo_at (h : Fin 8) (Q : Fin 8192) (e : Fin 128) : hDo x3 (ix3 h Q e) = x3 (ix2 Q (⟨h.val * 128 + e.val, by omega⟩ : Fin 1024)) := by
  pointwise [hDo]

theorem hDel_at (h : Fin 8) (Q : Fin 8192) : hDel x0 x1 x2 x3 (ix2 h Q) = ∑ e, hDo x3 (ix3 h Q e) * hOut x0 x1 x2 (ix3 h Q e) := by
  pointwise [hDel]

theorem hQ_at (h : Fin 8) (Q : Fin 8192) (i : Fin 256) : hQ x0 (ix3 h Q i)
    = if hi : i.val < 192 then x0 (ix3 h Q (⟨i.val, hi⟩ : Fin 192)) * hFac Idealize.ShloMosaic.ix0 else 0 := by
  pointwise [hQ]

theorem hK_at (h : Fin 8) (K : Fin 8192) (i : Fin 256) : hK x1 (ix3 h K i) = x1 (ix3 h K (wide i)) := by
  pointwise [hK]
  unfold wide
  split <;> rfl

theorem hV_at (h : Fin 8) (K : Fin 8192) (e : Fin 128) : hV x2 (ix3 h K (⟨e.val, by omega⟩ : Fin 256)) = x2 (ix3 h K e) := by
  pointwise [hV]

theorem hL_at (h : Fin 8) (Q : Fin 8192) : hL x0 x1 (ix3 h 0 Q) = hLse x0 x1 (ix2 h Q) := by
  pointwise [hL]

theorem hE_at (h : Fin 8) (Q : Fin 8192) : hE x0 x1 x2 x3 (ix3 h 0 Q) = hDel x0 x1 x2 x3 (ix2 h Q) := by
  pointwise [hE]
end

end Cert.KernelIdeal.Bwd

end
-- ==== Proof.HostReal.lean ====
/- Under real arguments: the arrays the call reads and the three results are those of the attention's gradient. -/
module

public import proofs.«01_k».proof.Proof.Host

@[expose] public section

noncomputable section

namespace Cert.KernelIdeal.Bwd

open Idealize.ShloMosaic Idealize.ShloMosaic.TcCoe
open Cert.KernelIdeal Cert.KernelIdeal.Gen
open Cert.Attn

/-! ## A head of real arrays -/

/-- The arrays of a head hold the attention's arrays: the queries scaled for powers of two and followed by zeros, the keys
    with their last 64 columns twice, and a query's normaliser and the mean of its gradients. -/
structure IsHead (A : Args) (H : Head) : Prop where
  q : ∀ Q i, H.q Q i = if hi : i.val < 192 then ((A.q Q ⟨i.val, hi⟩ * (A.σ / Real.log 2) : ℝ) : EReal) else 0
  k : ∀ K i, H.k K i = (A.k K (wide i) : EReal)
  v : ∀ K e, H.v K e = (A.v K e : EReal)
  d : ∀ Q e, H.d Q e = (A.d Q e : EReal)
  l : ∀ Q, H.l Q = (((A.M Q + Real.log (A.l Q)) / Real.log 2 : ℝ) : EReal)
  e : ∀ Q, H.e Q = (A.del Q : EReal)

theorem IsHead.of {A : Args} {q k : Fin 8192 → Fin 256 → EReal} {v d : Fin 8192 → Fin 128 → EReal} {l e : Fin 8192 → EReal}
    (hq : ∀ Q i, q Q i = if hi : i.val < 192 then ((A.q Q ⟨i.val, hi⟩ * (A.σ / Real.log 2) : ℝ) : EReal) else 0)
    (hk : ∀ K i, k K i = (A.k K (wide i) : EReal)) (hv : ∀ K e, v K e = (A.v K e : EReal)) (hd : ∀ Q e, d Q e = (A.d Q e : EReal))
    (hl : ∀ Q, l Q = (((A.M Q + Real.log (A.l Q)) / Real.log 2 : ℝ) : EReal)) (he : ∀ Q, e Q = (A.del Q : EReal)) :
    IsHead A ⟨q, k, v, d, l, e⟩ := ⟨hq, hk, hv, hd, hl, he⟩

theorem log2_ne : Real.log 2 ≠ 0 := (Real.log_pos one_lt_two).ne'

theorem cancel (a b s t : ℝ) (ht : t ≠ 0) : a * (b * (s / t)) * t = a * (b * s) := by field_simp

theorem wide_low (i : Fin 192) : wide (Fin.castAdd 64 i : Fin (192 + 64)) = i := by
  unfold wide; exact dif_pos i.isLt

namespace IsHead

variable {A : Args} {H : Head} (R : IsHead A H)
include R

theorem q_low (Q : Fin 8192) (i : Fin 192) : H.q Q (Fin.castAdd 64 i : Fin (192 + 64)) = ((A.q Q i * (A.σ / Real.log 2) : ℝ) : EReal) := by
  rw [R.q]; exact dif_pos i.isLt

theorem q_high (Q : Fin 8192) (i : Fin 64) : H.q Q (Fin.natAdd 192 i : Fin (192 + 64)) = 0 := by
  rw [R.q]; exact dif_neg (by show ¬ (192 + i.val < 192); omega)

theorem S (K Q : Fin 8192) : H.S K Q = ((A.s Q K / Real.log 2 : ℝ) : EReal) := by
  unfold Head.S
  have e : ∑ d : Fin 256, H.k K d * H.q Q d = ∑ d : Fin (192 + 64), H.k K d * H.q Q d := rfl
  rw [e, Fin.sum_univ_add]
  have hi : ∑ i : Fin 64, H.k K (Fin.natAdd 192 i : Fin (192 + 64)) * H.q Q (Fin.natAdd 192 i : Fin (192 + 64)) = 0 :=
    Finset.sum_eq_zero fun i _ => by rw [R.q_high, mul_zero]
  have lo : ∑ i : Fin 192, H.k K (Fin.castAdd 64 i : Fin (192 + 64)) * H.q Q (Fin.castAdd 64 i : Fin (192 + 64))
      = ((∑ i : Fin 192, A.k K i * (A.q Q i * (A.σ / Real.log 2)) : ℝ) : EReal) := by
    rw [← coe_sum]
    exact Finset.sum_congr rfl fun i _ => by rw [R.q_low, R.k, wide_low, ← EReal.coe_mul]
  refine (congrArg₂ (· + ·) lo hi).trans ?_
  rw [add_zero]
  congr 1
  unfold Args.s
  rw [Finset.sum_div]
  exact Finset.sum_congr rfl fun i _ => by ring

theorem W (K Q : Fin 8192) : H.W K Q = (A.p Q K : EReal) := by
  unfold Head.W
  by_cases h : Q.val < K.val
  · rw [if_pos h, A.p_zero (by rw [Fin.le_def]; omega), EReal.coe_zero]
  · rw [if_neg h, R.S, R.l, ← EReal.coe_sub, exp2_coe, A.weight Q K (by rw [Fin.le_def]; omega)]

theorem G (K Q : Fin 8192) : H.G K Q = (A.ds Q K : EReal) := by
  unfold Head.G
  have e : ∑ e : Fin 128, H.v K e * H.d Q e = (A.dp Q K : EReal) := by
    unfold Args.dp
    rw [← coe_sum]
    exact Finset.sum_congr rfl fun e _ => by rw [R.v, R.d, ← EReal.coe_mul, mul_comm]
  rw [e, R.W, R.e, ← EReal.coe_sub, ← EReal.coe_mul]
  rfl

theorem tQ (Q : Fin 8192) (i : Fin 256) : tQ H Q i = (A.gq Q (wide i) : EReal) := by
  unfold Bwd.tQ Args.gq
  rw [← coe_sum]
  exact Finset.sum_congr rfl fun K _ => by rw [R.G, R.k, ← EReal.coe_mul]

theorem tK (K : Fin 8192) (i : Fin 256) : tK H K i * ((Real.log 2 : ℝ) : EReal)
    = if hi : i.val < 192 then (A.gk K ⟨i.val, hi⟩ : EReal) else 0 := by
  unfold Bwd.tK
  by_cases hi : i.val < 192
  · rw [dif_pos hi]
    have e : ∑ Q : Fin 8192, H.G K Q * H.q Q i = ((∑ Q, A.ds Q K * (A.q Q ⟨i.val, hi⟩ * (A.σ / Real.log 2)) : ℝ) : EReal) := by
      rw [← coe_sum]
      exact Finset.sum_congr rfl fun Q _ => by rw [R.G, R.q, dif_pos hi, ← EReal.coe_mul]
    rw [e, ← EReal.coe_mul]
    refine congrArg (fun r : ℝ => (r : EReal)) ?_
    unfold Args.gk
    rw [Finset.sum_mul]
    refine Finset.sum_congr rfl fun Q _ => ?_
    exact cancel _ _ _ _ log2_ne
  · rw [dif_neg hi]
    have e : ∑ Q : Fin 8192, H.G K Q * H.q Q i = 0 :=
      Finset.sum_eq_zero fun Q _ => by rw [R.q, dif_neg hi, mul_zero]
    rw [e, zero_mul]

theorem tV (K : Fin 8192) (e : Fin 128) : tV H K e = (A.gv K e : EReal) := by
  unfold Bwd.tV Args.gv
  rw [← coe_sum]
  exact Finset.sum_congr rfl fun Q _ => by rw [R.W, R.d, ← EReal.coe_mul]

end IsHead

/-! ## The host's arrays -/

section
variable {A : Fin 8 → Args} {x0 x1 : FVec Ideal S8x8192x192 .f32} {x2 : FVec Ideal S8x8192x128 .f32} {x3 : FVec Ideal S8192x1024 .f32}
variable (R : Reals A x0 x1 x2 x3)
include R

theorem hMsk_real (h : Fin 8) (Q K : Fin 8192) : hMsk x0 x1 (ix3 h Q K) = (A h).sm Q K := by
  have e : hMsk x0 x1 (ix3 h Q K) = Scalar.select (hSee (ix3 h Q K)) (hScr x0 x1 (ix3 h Q K)) (hBot (ix3 h Q K)) := rfl
  rw [e, hSee_at, hScr_at, hBot_at, bot_word]
  unfold Args.sm Args.s
  by_cases hk : K ≤ Q
  · rw [if_pos hk, decide_eq_true hk, ← coe_sum]
    show (∑ i : Fin 192, x0 (ix3 h Q i) * Ideal.ofBits .f32 0x3D93CD3A#32 * x1 (ix3 h K i)) = _
    refine Finset.sum_congr rfl fun i _ => ?_
    rw [R.q, R.k, R.σ h, ← EReal.coe_mul, ← EReal.coe_mul]
  · rw [if_neg hk, decide_eq_false hk]; rfl

theorem hMax_real (h : Fin 8) (Q : Fin 8192) : hMax x0 x1 (ix2 h Q) = (A h).mx Q := by
  rw [hMax_at, bot_word]
  unfold Args.mx
  exact congrArg (fun f => Finset.univ.fold max ⊥ f) (funext fun K => hMsk_real R h Q K)

theorem hExp_real (h : Fin 8) (Q K : Fin 8192) : hExp x0 x1 (ix3 h Q K) = ((A h).w Q K : EReal) := by
  unfold hExp
  rw [exp_at, sub_at, hMaxB_at, hMax1_at, hMax_real R, hMsk_real R]
  exact (A h).exp_sm Q K

theorem hSum_real (h : Fin 8) (Q : Fin 8192) : hSum x0 x1 (ix2 h Q) = ((A h).l Q : EReal) := by
  rw [hSum_at]
  unfold Args.l
  rw [← coe_sum]
  exact Finset.sum_congr rfl fun K _ => hExp_real R h Q K

theorem hLse_real (h : Fin 8) (Q : Fin 8192) : hLse x0 x1 (ix2 h Q) = ((((A h).M Q + Real.log ((A h).l Q)) / Real.log 2 : ℝ) : EReal) := by
  rw [hLse_at, hLse1_at, hMax1_at, hSum1_at, hMax_real R, hSum_real R, hLn2_at, (A h).mx_eq, log_coe _ ((A h).l_pos Q), ← EReal.coe_add,
    div_coe _ _ log2_ne]

theorem hPrb_real (h : Fin 8) (Q K : Fin 8192) : hPrb x0 x1 (ix3 h Q K) = ((A h).p Q K : EReal) := by
  rw [hPrb_at, hExp_real R, hSum1_at, hSum_real R, div_coe _ _ ((A h).l_ne Q)]
  rfl

theorem hOut_real (h : Fin 8) (Q : Fin 8192) (e : Fin 128) : hOut x0 x1 x2 (ix3 h Q e) = ((∑ K, (A h).p Q K * (A h).v K e : ℝ) : EReal) := by
  rw [hOut_at, ← coe_sum]
  exact Finset.sum_congr rfl fun K _ => by rw [hPrb_real R, R.v, ← EReal.coe_mul]

theorem hDo_real (h : Fin 8) (Q : Fin 8192) (e : Fin 128) : hDo x3 (ix3 h Q e) = ((A h).d Q e : EReal) := by
  rw [hDo_at, ← R.d]
  exact congrArg (fun j => x3 (ix2 Q j)) (Fin.ext (by show h.val * 128 + e.val = 128 * h.val + e.val; omega))

theorem hDel_real (h : Fin 8) (Q : Fin 8192) : hDel x0 x1 x2 x3 (ix2 h Q) = ((A h).del Q : EReal) := by
  rw [hDel_at, ← (A h).del_eq, ← coe_sum]
  exact Finset.sum_congr rfl fun e _ => by rw [hDo_real R, hOut_real R, ← EReal.coe_mul]

theorem hFac_real (h : Fin 8) : hFac Idealize.ShloMosaic.ix0 = (((A h).σ / Real.log 2 : ℝ) : EReal) := by
  have e : hFac Idealize.ShloMosaic.ix0 = Ideal.div (Ideal.ofBits .f32 0x3D93CD3A#32) (hLn2 Idealize.ShloMosaic.ix0) := rfl
  rw [e, hLn2_at, R.σ h, div_coe _ _ log2_ne]

theorem hQ_real (h : Fin 8) (Q : Fin 8192) (i : Fin 256) : hQ x0 (ix3 h Q i)
    = if hi : i.val < 192 then (((A h).q Q ⟨i.val, hi⟩ * ((A h).σ / Real.log 2) : ℝ) : EReal) else 0 := by
  rw [hQ_at]
  split
  · rw [R.q, hFac_real R h, ← EReal.coe_mul]
  · rfl
end

/-! ## The results -/

section
variable (m : (ℓ : Loc nD τ sig) → Buf (Elt Ideal) ℓ) (c : Dev nD)
variable {A : Fin 8 → Args} (R : Reals A (a0 m c) (a1 m c) (a2 m c) (a3 m c))
include R

theorem hd_q (h : Fin 8) (Q : Fin 8192) (i : Fin 256) : aQ m c (ix3 h Q i)
    = if hi : i.val < 192 then (((A h).q Q ⟨i.val, hi⟩ * ((A h).σ / Real.log 2) : ℝ) : EReal) else 0 := by
  rw [aQ_eq]; exact hQ_real R h Q i
theorem hd_k (h : Fin 8) (K : Fin 8192) (i : Fin 256) : aK m c (ix3 h K i) = ((A h).k K (wide i) : EReal) := by
  rw [aK_eq, hK_at]; exact R.k h K (wide i)
theorem hd_v (h : Fin 8) (K : Fin 8192) (e : Fin 128) : aV m c (ix3 h K (⟨e.val, by omega⟩ : Fin 256)) = ((A h).v K e : EReal) := by
  rw [aV_eq, hV_at]; exact R.v h K e
theorem hd_d (h : Fin 8) (Q : Fin 8192) (e : Fin 128) :
    aD m c (ix2 Q (⟨128 * h.val + e.val, by omega⟩ : Fin 1024)) = ((A h).d Q e : EReal) := by
  rw [aD_eq]; exact R.d h Q e
theorem hd_l (h : Fin 8) (Q : Fin 8192) : aL m c (ix3 h 0 Q) = ((((A h).M Q + Real.log ((A h).l Q)) / Real.log 2 : ℝ) : EReal) := by
  rw [aL_eq, hL_at]; exact hLse_real R h Q
theorem hd_e (h : Fin 8) (Q : Fin 8192) : aE m c (ix3 h 0 Q) = ((A h).del Q : EReal) := by
  rw [aE_eq, hE_at]; exact hDel_real R h Q

theorem isHead (h : Fin 8) : IsHead (A h) (hd m c h) :=
  IsHead.of (hd_q m c R h) (hd_k m c R h) (hd_v m c R h) (hd_d m c R h) (hd_l m c R h) (hd_e m c R h)

theorem rQ_real (h : Fin 8) (Q : Fin 8192) (i : Fin 256) : rQ m c (ix3 h Q i) = ((A h).gq Q (wide i) : EReal) :=
  (isHead m c R h).tQ Q i

theorem rK_real (h : Fin 8) (K : Fin 8192) (i : Fin 256) : rK m c (ix3 h K i)
    = if hi : i.val < 192 then ((A h).gk K ⟨i.val, hi⟩ : EReal) else 0 :=
  (isHead m c R h).tK K i

theorem rV_real (h : Fin 8) (K : Fin 8192) (e : Fin 128) : rV m c (ix3 h K e) = ((A h).gv K e : EReal) :=
  (isHead m c R h).tV K e
end

end Cert.KernelIdeal.Bwd

end
-- ==== Proof.RefRead.lean ====
/- The reference's three results, read: the gradients of causal attention. -/
module

public import proofs.«01_k».proof.Proof.RefValue
public import proofs.«01_k».proof.Proof.Attn
public import Idealize.ShloMosaic.Lib.Pointwise

@[expose] public section

noncomputable section

namespace Cert.ReferenceIdeal.Att

open Idealize.ShloMosaic Idealize.ShloMosaic.TcCoe
open Cert.ReferenceIdeal Cert.ReferenceIdeal.Read
open Cert.Attn

variable {A : Fin 8 → Args} {x0 x1 : S8x8192x192.Idx → EReal} {x2 : S8x8192x128.Idx → EReal} {x3 : S8192x1024.Idx → EReal}
variable (R : Reals A x0 x1 x2 x3)

theorem v12_apply (h : Fin 8) (Q K : Fin 8192) : val_main_v12 (F := Ideal) (ix3 h Q K) = BitVec.ofBool (decide (K ≤ Q)) := by
  pointwise [val_main_v12, val_main_v11, val_main_v10, val_main_v9, val_main_v8, val_main_v7, val_main_v6, val_main_v5]
  exact le_word _ _

theorem v4_read (h : Fin 8) (Q K : Fin 8192) : val_main_v4 (F := Ideal) x0 x1 (ix3 h Q K)
    = ∑ i : Fin 192, x0 (ix3 h Q i) * Ideal.ofBits .f32 0x3D93CD3A#32 * x1 (ix3 h K i) := by
  pointwise [val_main_v4, val_main_v3, val_main_v2, val_main_cst]

theorem v13_read (h : Fin 8) (Q K : Fin 8192) : val_main_v13 (F := Ideal) (ix3 h Q K) = Ideal.ofBits .f32 0xFF800000#32 := by
  pointwise [val_main_v13, val_main_cst_0]

theorem v16_read (h : Fin 8) (Q : Fin 8192) : val_main_v16 (F := Ideal) x0 x1 (ix2 h Q)
    = Finset.univ.fold max (Ideal.ofBits .f32 0xFF800000#32) (fun x => val_main_v14 (F := Ideal) x0 x1 (ix3 h Q x)) := by
  pointwise [val_main_v16, val_main_cst_2]

theorem v34_read (h : Fin 8) (Q K : Fin 8192) : val_main_v34 (F := Ideal) x0 x1 (ix3 h Q K) = val_main_v23 (F := Ideal) x0 x1 (ix2 h Q) := by
  pointwise [val_main_v34, val_main_v33]

theorem v22_read (h : Fin 8) (Q : Fin 8192) : val_main_v22 (F := Ideal) (ix2 h Q) = Ideal.ofBits .f32 0xFF800000#32 := by
  pointwise [val_main_v22, val_main_cst_4]

theorem v38_read (h : Fin 8) (Q : Fin 8192) : val_main_v38 (F := Ideal) x0 x1 (ix3 h Q 0) = ∑ K, val_main_v36 (F := Ideal) x0 x1 (ix3 h Q K) := by
  pointwise [val_main_v38, val_main_v37, val_main_cst_10]

theorem v47_read (h : Fin 8) (Q K : Fin 8192) : val_main_v47 (F := Ideal) x2 x3 (ix3 h Q K)
    = ∑ e : Fin 128, x3 (ix2 Q (⟨h.val * 128 + e.val, by omega⟩ : Fin 1024)) * x2 (ix3 h K e) := by
  pointwise [val_main_v47, val_main_v1, val_main_v0]

theorem v59_read (h : Fin 8) (Q K : Fin 8192) : val_main_v59 (F := Ideal) x0 x1 x2 x3 (ix3 h Q K)
    = (Ideal.div (val_main_v47 (F := Ideal) x2 x3 (ix3 h Q K)) (val_main_v38 (F := Ideal) x0 x1 (ix3 h Q 0))
        + ∑ _x : Fin 1, -∑ K' : Fin 8192, val_main_v47 (F := Ideal) x2 x3 (ix3 h Q K')
            * Ideal.div 1 (val_main_v38 (F := Ideal) x0 x1 (ix3 h Q 0) * val_main_v38 (F := Ideal) x0 x1 (ix3 h Q 0))
            * val_main_v36 (F := Ideal) x0 x1 (ix3 h Q K')) * val_main_v36 (F := Ideal) x0 x1 (ix3 h Q K) := by
  pointwise [val_main_v59, val_main_v58, val_main_v57, val_main_v56, val_main_v55, val_main_v54, val_main_v53, val_main_v52, val_main_v51, val_main_v50, val_main_v49, val_main_v48,
    val_main_v43, val_main_v42, val_main_v41, val_main_cst_12, val_main_cst_13, val_main_cst_11]

theorem v61_read (h : Fin 8) (Q K : Fin 8192) : val_main_v61 (F := Ideal) x0 x1 x2 x3 (ix3 h Q K)
    = if K ≤ Q then val_main_v59 (F := Ideal) x0 x1 x2 x3 (ix3 h Q K) else 0 := by
  pointwise [val_main_v61, val_main_v60, val_main_cst_14, v12_apply]

theorem v65_read (h : Fin 8) (Q : Fin 8192) (i : Fin 256) : val_main_v65 (F := Ideal) x0 x1 x2 x3 (ix3 h Q i)
    = if hi : i.val < 192 then ∑ K, val_main_v61 (F := Ideal) x0 x1 x2 x3 (ix3 h Q K) * x1 (ix3 h K (⟨i.val, hi⟩ : Fin 192))
      else ∑ K, val_main_v61 (F := Ideal) x0 x1 x2 x3 (ix3 h Q K) * x1 (ix3 h K (⟨128 + (i.val - 192), by omega⟩ : Fin 192)) := by
  pointwise [val_main_v65, val_main_v64, val_main_v63]

theorem v69_read (h : Fin 8) (K : Fin 8192) (i : Fin 256) : val_main_v69 (F := Ideal) x0 x1 x2 x3 (ix3 h K i)
    = if hi : i.val < 192 then ∑ Q, val_main_v61 (F := Ideal) x0 x1 x2 x3 (ix3 h Q K)
        * (x0 (ix3 h Q (⟨i.val, hi⟩ : Fin 192)) * Ideal.ofBits .f32 0x3D93CD3A#32) else 0 := by
  pointwise [val_main_v69, val_main_v68, val_main_v67, val_main_v62, val_main_cst_15, val_main_v3, val_main_v2, val_main_cst]

theorem v70_read (h : Fin 8) (K : Fin 8192) (e : Fin 128) : val_main_v70 (F := Ideal) x0 x1 x3 (ix3 h K e)
    = ∑ Q, x3 (ix2 Q (⟨h.val * 128 + e.val, by omega⟩ : Fin 1024))
        * Ideal.div (val_main_v36 (F := Ideal) x0 x1 (ix3 h Q K)) (val_main_v38 (F := Ideal) x0 x1 (ix3 h Q 0)) := by
  pointwise [val_main_v70, val_main_v46, val_main_v45, val_main_v40, val_main_v39, val_main_v1, val_main_v0]

/-! ## Under real arguments -/

section
include R

theorem v14_real (h : Fin 8) (Q K : Fin 8192) : val_main_v14 (F := Ideal) x0 x1 (ix3 h Q K) = (A h).sm Q K := by
  rw [val_main_v14_apply, v12_apply, v4_read, v13_read, bot_word]
  unfold Args.sm Args.s
  by_cases hk : K ≤ Q
  · rw [if_pos hk, decide_eq_true hk, ← coe_sum]
    show (∑ i : Fin 192, x0 (ix3 h Q i) * Ideal.ofBits .f32 0x3D93CD3A#32 * x1 (ix3 h K i)) = _
    refine Finset.sum_congr rfl fun i _ => ?_
    rw [R.q, R.k, R.σ h, ← EReal.coe_mul, ← EReal.coe_mul]
  · rw [if_neg hk, decide_eq_false hk]; rfl

theorem v16_real (h : Fin 8) (Q : Fin 8192) : val_main_v16 (F := Ideal) x0 x1 (ix2 h Q) = (A h).mx Q := by
  rw [v16_read, bot_word]
  unfold Args.mx
  exact congrArg (fun f => Finset.univ.fold max ⊥ f) (funext fun K => v14_real R h Q K)

theorem v34_real (h : Fin 8) (Q K : Fin 8192) : val_main_v34 (F := Ideal) x0 x1 (ix3 h Q K) = (A h).mx Q := by
  rw [v34_read, val_main_v23_apply, v22_read, v16_real R, bot_word]
  exact bot_sup_eq ((A h).mx Q)

theorem v36_real (h : Fin 8) (Q K : Fin 8192) : val_main_v36 (F := Ideal) x0 x1 (ix3 h Q K) = ((A h).w Q K : EReal) := by
  rw [val_main_v36_apply, val_main_v35_apply, v14_real R, v34_real R]
  exact (A h).exp_sm Q K

theorem v38_real (h : Fin 8) (Q : Fin 8192) : val_main_v38 (F := Ideal) x0 x1 (ix3 h Q 0) = ((A h).l Q : EReal) := by
  rw [v38_read]
  unfold Args.l
  rw [← coe_sum]
  exact Finset.sum_congr rfl fun K _ => v36_real R h Q K

theorem d_real (h : Fin 8) (Q : Fin 8192) (e : Fin 128) : x3 (ix2 Q (⟨h.val * 128 + e.val, by omega⟩ : Fin 1024)) = ((A h).d Q e : EReal) := by
  rw [← R.d]
  exact congrArg (fun j => x3 (ix2 Q j)) (Fin.ext (by show h.val * 128 + e.val = 128 * h.val + e.val; omega))

theorem v47_real (h : Fin 8) (Q K : Fin 8192) : val_main_v47 (F := Ideal) x2 x3 (ix3 h Q K) = ((A h).dp Q K : EReal) := by
  rw [v47_read]
  unfold Args.dp
  rw [← coe_sum]
  refine Finset.sum_congr rfl fun e _ => ?_
  rw [d_real R, R.v, EReal.coe_mul]

theorem v59_real (h : Fin 8) (Q K : Fin 8192) : val_main_v59 (F := Ideal) x0 x1 x2 x3 (ix3 h Q K) = ((A h).ds Q K : EReal) := by
  have hl := (A h).l_ne Q
  have e1 : Ideal.div 1 (((A h).l Q : EReal) * ((A h).l Q : EReal)) = ((1 / ((A h).l Q * (A h).l Q) : ℝ) : EReal) := by
    rw [← EReal.coe_mul]; exact div_coe 1 _ (mul_ne_zero hl hl)
  have e2 : ∑ K' : Fin 8192, ((A h).dp Q K' : EReal) * ((1 / ((A h).l Q * (A h).l Q) : ℝ) : EReal) * ((A h).w Q K' : EReal)
      = ((∑ K', (A h).dp Q K' * (1 / ((A h).l Q * (A h).l Q)) * (A h).w Q K' : ℝ) : EReal) := by
    rw [← coe_sum]
    exact Finset.sum_congr rfl fun K' _ => by rw [← EReal.coe_mul, ← EReal.coe_mul]
  rw [v59_read, Fin.sum_univ_one]
  simp only [v47_real R, v36_real R, v38_real R]
  rw [e1, e2, div_coe _ _ hl, ← EReal.coe_neg, ← EReal.coe_add, ← EReal.coe_mul, (A h).ds_eq]

theorem v61_real (h : Fin 8) (Q K : Fin 8192) : val_main_v61 (F := Ideal) x0 x1 x2 x3 (ix3 h Q K) = ((A h).ds Q K : EReal) := by
  rw [v61_read, v59_real R]
  by_cases hk : K ≤ Q
  · rw [if_pos hk]
  · rw [if_neg hk, (A h).ds_zero hk, EReal.coe_zero]

/-- The three results of the reference. -/
theorem q_real (h : Fin 8) (Q : Fin 8192) (i : Fin 256) : val_main_v65 (F := Ideal) x0 x1 x2 x3 (ix3 h Q i)
    = (((A h).gq Q (wide i) : ℝ) : EReal) := by
  rw [v65_read]
  unfold Args.gq wide
  rw [← coe_sum]
  split <;> exact Finset.sum_congr rfl fun K _ => by rw [v61_real R, R.k, ← EReal.coe_mul]

theorem k_real (h : Fin 8) (K : Fin 8192) (i : Fin 256) : val_main_v69 (F := Ideal) x0 x1 x2 x3 (ix3 h K i)
    = if hi : i.val < 192 then (((A h).gk K ⟨i.val, hi⟩ : ℝ) : EReal) else 0 := by
  rw [v69_read]
  unfold Args.gk
  split
  · rw [← coe_sum]
    exact Finset.sum_congr rfl fun Q _ => by rw [v61_real R, R.q, R.σ h, ← EReal.coe_mul, ← EReal.coe_mul]
  · rfl

theorem v_real (h : Fin 8) (K : Fin 8192) (e : Fin 128) : val_main_v70 (F := Ideal) x0 x1 x3 (ix3 h K e)
    = (((A h).gv K e : ℝ) : EReal) := by
  rw [v70_read]
  unfold Args.gv Args.p
  rw [← coe_sum]
  refine Finset.sum_congr rfl fun Q _ => ?_
  rw [d_real R, v36_real R, v38_real R, div_coe _ _ ((A h).l_ne Q), ← EReal.coe_mul, mul_comm]

end

end Cert.ReferenceIdeal.Att

end
-- ==== Proof.Value.lean ====
/- The two idealised programs end with the same three gradients when no argument is infinite. -/
module

public import proofs.«01_k».proof.Defs
public import proofs.«01_k».proof.Proof.Frames
public import proofs.«01_k».proof.Proof.HostReal
public import proofs.«01_k».proof.Proof.RefRead

@[expose] public section

noncomputable section

namespace Cert.Bwd

open Idealize.ShloMosaic Idealize.ShloMosaic.TcCoe
open Idealize.SL Idealize.SL.Sem
open Cert.Attn

theorem facts_finite : Cert.Pre_finite.Facts where
  bcast_S_S8x8192x192 := by decide
  bcast_S_S8x8192x128 := by decide
  bcast_S_S8192x1024 := by decide

/-! ## The precondition: every element is a real number -/

theorem top_word : Ideal.ofBits .f32 0x7F800000#32 = (⊤ : EReal) := by
  show Ideal.ieee 8 23 0x7F800000#32 = ⊤
  unfold Ideal.ieee
  simp

theorem real_of_abs (x : EReal) (h : Ideal.cmp .olt (max x (-x)) (Ideal.ofBits .f32 0x7F800000#32) = 1#1) : x = (x.toReal : EReal) := by
  rw [top_word] at h
  have hlt : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  have h1 : x ≠ ⊤ := fun e => absurd ((le_max_left x (-x)).trans_lt hlt) (by rw [e]; exact lt_irrefl _)
  have h2 : x ≠ ⊥ := fun e => absurd ((le_max_right x (-x)).trans_lt hlt) (by rw [e, EReal.neg_bot]; exact lt_irrefl _)
  exact (EReal.coe_toReal h1 h2).symm

/-- The comparison at an element. -/
theorem elem {s : Shape} (x : FVec Ideal s .f32) (b : (⟨0, ![]⟩ : Shape).BroadcastsInDim s (![] : Fin 0 → Fin s.rank))
    (h : cmpf .olt (Host.absf x) (broadcastInDim s ![] b (constant (F := Ideal) ⟨0, ![]⟩ .f32 0x7F800000#32)) = fun _ => 1#1)
    (i : s.Idx) : x i = ((x i : EReal).toReal : EReal) := by
  have e := congrFun h i
  exact real_of_abs (x i) e

/-- A head's real arguments. -/
def args (x0 x1 : (⟨3, ![8, 8192, 192]⟩ : Shape).Idx → EReal) (x2 : (⟨3, ![8, 8192, 128]⟩ : Shape).Idx → EReal)
    (x3 : (⟨2, ![8192, 1024]⟩ : Shape).Idx → EReal) (h : Fin 8) : Args where
  q Q i := (x0 (ix3 h Q i)).toReal
  k K i := (x1 (ix3 h K i)).toReal
  v K e := (x2 (ix3 h K e)).toReal
  d Q e := (x3 (ix2 Q (⟨128 * h.val + e.val, by omega⟩ : Fin 1024))).toReal
  σ := (Ideal.ofBits .f32 0x3D93CD3A#32 : EReal).toReal

theorem reals [Cert.Pre_finite.Facts] (x0 x1 : FVec Ideal (⟨3, ![8, 8192, 192]⟩ : Shape) .f32) (x2 : FVec Ideal (⟨3, ![8, 8192, 128]⟩ : Shape) .f32)
    (x3 : FVec Ideal (⟨2, ![8192, 1024]⟩ : Shape) .f32)
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2.1 = (fun _ => 1#1)
      ∧ (Cert.Pre_finite.fn (F := Ideal) x0 x1 x2 x3).2.2.2 = (fun _ => 1#1)) :
    Reals (args x0 x1 x2 x3) x0 x1 x2 x3 where
  q h' Q i := elem x0 _ h.1 (ix3 h' Q i)
  k h' K i := elem x1 _ h.2.1 (ix3 h' K i)
  v h' K e := elem x2 _ h.2.2.1 (ix3 h' K e)
  d h' Q e := elem x3 _ h.2.2.2 (ix2 Q _)
  σ _ := scale_word

/-! ## The results -/

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

open Cert.KernelIdeal.Bwd (a0 a1 a2 a3 outDq outDk outDv rQ rK rV rQ_real rK_real rV_real outDq_eq outDk_eq outDv_eq)
open Cert.ReferenceIdeal.Value (res_main_v65 res_main_v69 res_main_v70)

variable {A : Fin 8 → Args} (R : Reals A (a0 m c) (a1 m c) (a2 m c) (a3 m c))
variable (h0 : m' ((c.tc : Thread Cert.ReferenceIdeal.nD Cert.ReferenceIdeal.τ).loc Cert.ReferenceIdeal.main_arg0) = a0 m c)
variable (h1 : m' ((c.tc : Thread Cert.ReferenceIdeal.nD Cert.ReferenceIdeal.τ).loc Cert.ReferenceIdeal.main_arg1) = a1 m c)
variable (h2 : m' ((c.tc : Thread Cert.ReferenceIdeal.nD Cert.ReferenceIdeal.τ).loc Cert.ReferenceIdeal.main_arg2) = a2 m c)
variable (h3 : m' ((c.tc : Thread Cert.ReferenceIdeal.nD Cert.ReferenceIdeal.τ).loc Cert.ReferenceIdeal.main_arg3) = a3 m c)
include R h0 h1 h3

include h2 in
theorem dq_eq : (res_main_v65 m' c : (⟨3, ![8, 8192, 256]⟩ : Shape).Idx → EReal) = outDq m c := by
  rw [outDq_eq, Cert.ReferenceIdeal.Read.val_main_v65_eq, h0, h1, h2, h3]
  funext i
  obtain ⟨x, y, z, rfl⟩ : ∃ (x : Fin 8) (y : Fin 8192) (z : Fin 256), i = ix3 x y z := ⟨i 0, i 1, i 2, funext fun a => by fin_cases a <;> rfl⟩
  exact (Cert.ReferenceIdeal.Att.q_real R x y z).trans (rQ_real m c R x y z).symm

include h2 in
theorem dk_eq : (res_main_v69 m' c : (⟨3, ![8, 8192, 256]⟩ : Shape).Idx → EReal) = outDk m c := by
  rw [outDk_eq, Cert.ReferenceIdeal.Read.val_main_v69_eq, h0, h1, h2, h3]
  funext i
  obtain ⟨x, y, z, rfl⟩ : ∃ (x : Fin 8) (y : Fin 8192) (z : Fin 256), i = ix3 x y z := ⟨i 0, i 1, i 2, funext fun a => by fin_cases a <;> rfl⟩
  exact (Cert.ReferenceIdeal.Att.k_real R x y z).trans (rK_real m c R x y z).symm

theorem dv_eq : (res_main_v70 m' c : (⟨3, ![8, 8192, 128]⟩ : Shape).Idx → EReal) = outDv m c := by
  rw [outDv_eq, Cert.ReferenceIdeal.Read.val_main_v70_eq, h0, h1, h3]
  funext i
  obtain ⟨x, y, z, rfl⟩ : ∃ (x : Fin 8) (y : Fin 8192) (z : Fin 128), i = ix3 x y z := ⟨i 0, i 1, i 2, funext fun a => by fin_cases a <;> rfl⟩
  exact (Cert.ReferenceIdeal.Att.v_real R x y z).trans (rV_real m c R x y z).symm
end

theorem algebraic : Cert.algebraic_KernelIdeal_ReferenceIdeal_pre_finite (hPre_finite := facts_finite) := fun m g m' g' hpre hargs => by
  have R := fun c : Dev Cert.KernelIdeal.nD => @reals facts_finite (Cert.KernelIdeal.Bwd.a0 m c) (Cert.KernelIdeal.Bwd.a1 m c)
    (Cert.KernelIdeal.Bwd.a2 m c) (Cert.KernelIdeal.Bwd.a3 m c) (hpre c)
  refine ⟨Cert.KernelIdeal.Bwd.outDq m, Cert.KernelIdeal.Bwd.outDk m, Cert.KernelIdeal.Bwd.outDv m, ?_, ?_⟩
  · exact (θ_run Cert.KernelIdeal.defs _ _).mono (fun r h => h.1) (Cert.KernelIdeal.Bwd.run_main (F := Ideal) m g)
  · refine (θ_run Cert.ReferenceIdeal.defs _ _).mono (fun r h c => ?_) (Cert.ReferenceIdeal.Value.run (F := Ideal) m' g')
    obtain ⟨e0, e1, e2, e3⟩ := hargs c
    exact ⟨(h c).1.trans (dq_eq m m' c (R c) e0 e1 e2 e3), (h c).2.1.trans (dk_eq m m' c (R c) e0 e1 e2 e3),
      (h c).2.2.1.trans (dv_eq m m' c (R c) e0 e1 e3), (h c).2.2.2⟩

theorem frame_kernelIdeal_finite : Cert.quiescent_KernelIdeal_pre_finite (hPre_finite := facts_finite) := fun m g _ => frame_kernelIdeal m g trivial

theorem frame_referenceIdeal_finite : Cert.quiescent_ReferenceIdeal_pre_finite (hPre_finite := facts_finite) := fun m g _ => frame_referenceIdeal m g trivial

end Cert.Bwd

end
-- ==== Proof.Mlp.lean ====
/- The forward pass of a layer's network: what a grid point computes, what the four points of a block of tokens add up to, and the arrays left. -/
module

public import proofs.«01_k».proof.Defs
public import proofs.«01_k».proof.Proof.Gen.KernelMlp.Frame
public import proofs.«01_k».proof.Proof.Gen.KernelMlpIdeal.Value
public import proofs.«01_k».proof.Proof.Gen.ReferenceMlpIdeal.Run
public import proofs.«01_k».proof.Proof.Gen.ReferenceMlpIdeal.Read
public import Idealize.ShloMosaic.Lib.Pointwise
public import Idealize.ShloMosaic.Lib.StableHlo.RunRead
public import Idealize.ShloMosaic.Lib.Tactic

@[expose] public section

noncomputable section

namespace Cert.KernelMlpIdeal.Layer

open Idealize.ShloMosaic Idealize.ShloMosaic.TcCoe Idealize.SL.Sem
open Idealize.ShloMosaic.Pipeline (Dat)
open Cert.KernelMlpIdeal Cert.KernelMlpIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The gate, row 5 of the eight vectors. -/
def gateRow (x : Vec Ideal S8x1024 .f32) : Vec Ideal S1x1024 .f32 := fun y => x (ix2 5 ⟨(y 1).val, (y 1).isLt⟩)

section
variable (c : Dev nD) (i : grid0.Coords) (a2 : Memref sig .tc .vmem S1024x1024 .bf16) (h2 : a2.IsWhole)
  (a3 : Memref sig .tc .vmem S1x1024x1024 .bf16) (h3 : a3.IsWhole) (a4 : Memref sig .tc .vmem S1x1024x1024 .bf16) (h4 : a4.IsWhole)
  (a5 : Memref sig .tc .vmem S1024x1024 .f32) (h5 : a5.IsWhole) (a6 : Memref sig .tc .vmem S8x1024 .f32) (h6 : a6.IsWhole)
  (a7 : Memref sig .tc .vmem S1024x1024 .bf16) (h7 : a7.IsWhole) (a8 : Memref sig .tc .vmem S1024x1024 .bf16) (h8 : a8.IsWhole)
  (a9 : Memref sig .tc .vmem S1024x1024 .f32) (h9 : a9.IsWhole) (a10 : Memref sig .tc .vmem S1024x1024 .f32) (h10 : a10.IsWhole)
  (x0 : Vec Ideal S1024x1024 .bf16) (x1 x2 : Vec Ideal S1x1024x1024 .bf16) (x3 : Vec Ideal S1024x1024 .f32) (x4 : Vec Ideal S8x1024 .f32)
  (xs : Vec Ideal S1024x1024 .f32)

/-! What each of the three kinds of point writes: the activations at every point … -/

theorem acts_A (hc : cond0_0 i) (hd : ¬cond0_1 i) :
    out0_A_5 c i a2 h2 a3 h3 a4 h4 a5 h5 a6 h6 a7 h7 a8 h8 a9 h9 a10 h10 hc hd x0 x1 x2 x3 x4 = k0_pay2 x0 x1 := by
  unfold out0_A_5
  rw [View.read_writes_eq_canon _ _ _ (cover0_A_5 c i a2 h2 a3 h3 a4 h4 a5 h5 a6 h6 a7 h7 a8 h8 a9 h9 a10 h10 hc hd x0 x1 x2 x3 x4)]
  unfold kernelRun0_A
  dsimp only
  rw [View.canon_unit_zero hz2]
  simp only [View.readAt_eq_ld, h2.read_unread, h3.read_unread, View.ld_unit_zero (S := S1024x1024) hz2, View.ld_unit_zero (S := S1x1024x1024) hz3]

theorem acts_B (hc : ¬cond0_0 i) (hd : ¬cond0_1 i) :
    out0_B_5 c i a2 h2 a3 h3 a4 h4 a5 h5 a6 h6 a7 h7 a8 h8 a9 h9 a10 h10 hc hd x0 x1 x2 x3 x4 xs = k0_pay2 x0 x1 := by
  unfold out0_B_5
  rw [View.read_writes_eq_canon _ _ _ (cover0_B_5 c i a2 h2 a3 h3 a4 h4 a5 h5 a6 h6 a7 h7 a8 h8 a9 h9 a10 h10 hc hd x0 x1 x2 x3 x4 xs)]
  unfold kernelRun0_B
  dsimp only
  rw [View.canon_unit_zero hz2]
  simp only [View.readAt_eq_ld, h2.read_unread, h3.read_unread, View.ld_unit_zero (S := S1024x1024) hz2, View.ld_unit_zero (S := S1x1024x1024) hz3]

theorem acts_C (hc : ¬cond0_0 i) (hd : cond0_1 i) :
    out0_C_5 c i a2 h2 a3 h3 a4 h4 a5 h5 a6 h6 a7 h7 a8 h8 a9 h9 a10 h10 hc hd x0 x1 x2 x3 x4 xs = k0_pay2 x0 x1 := by
  unfold out0_C_5
  rw [View.read_writes_eq_canon _ _ _ (cover0_C_5 c i a2 h2 a3 h3 a4 h4 a5 h5 a6 h6 a7 h7 a8 h8 a9 h9 a10 h10 hc hd x0 x1 x2 x3 x4 xs)]
  unfold kernelRun0_C
  dsimp only
  rw [View.canon_unit_zero hz2]
  simp only [View.readAt_eq_ld, h2.read_unread, h3.read_unread, View.ld_unit_zero (S := S1024x1024) hz2, View.ld_unit_zero (S := S1x1024x1024) hz3]

/-! … the running sum, which the first point sets to zero … -/

theorem sum_A (hc : cond0_0 i) (hd : ¬cond0_1 i) :
    sout0_A_0 c i a2 h2 a3 h3 a4 h4 a5 h5 a6 h6 a7 h7 a8 h8 a9 h9 a10 h10 hc hd x0 x1 x2 x3 x4 = k0_pay3 x0 x1 (k0_pay1 (F := Ideal)) x2 := by
  unfold sout0_A_0
  rw [View.read_writes_eq_canon _ _ _ (scover0_A_0 c i a2 h2 a3 h3 a4 h4 a5 h5 a6 h6 a7 h7 a8 h8 a9 h9 a10 h10 hc hd x0 x1 x2 x3 x4)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h4.read_unread, View.ld_unit_zero (S := S1024x1024) hz2, View.ld_unit_zero (S := S1x1024x1024) hz3]

theorem sum_B (hc : ¬cond0_0 i) (hd : ¬cond0_1 i) :
    sout0_B_0 c i a2 h2 a3 h3 a4 h4 a5 h5 a6 h6 a7 h7 a8 h8 a9 h9 a10 h10 hc hd x0 x1 x2 x3 x4 xs = k0_pay3 x0 x1 xs x2 := by
  unfold sout0_B_0
  rw [View.read_writes_eq_canon _ _ _ (scover0_B_0 c i a2 h2 a3 h3 a4 h4 a5 h5 a6 h6 a7 h7 a8 h8 a9 h9 a10 h10 hc hd x0 x1 x2 x3 x4 xs)]
  unfold kernelRun0_B
  dsimp only
  rw [View.canon_unit_zero hz2]
  simp only [View.readAt_eq_ld, h2.read_unread, h3.read_unread, h4.read_unread, h10.read_unread, View.ld_unit_zero (S := S1024x1024) hz2, View.ld_unit_zero (S := S1x1024x1024) hz3]

/-! … and at the last point the sum itself and the residual. -/

theorem last_y (hc : ¬cond0_0 i) (hd : cond0_1 i) :
    out0_C_6 c i a2 h2 a3 h3 a4 h4 a5 h5 a6 h6 a7 h7 a8 h8 a9 h9 a10 h10 hc hd x0 x1 x2 x3 x4 xs = k0_pay4 (k0_pay3 x0 x1 xs x2) := by
  unfold out0_C_6
  rw [View.read_writes_eq_canon _ _ _ (cover0_C_6 c i a2 h2 a3 h3 a4 h4 a5 h5 a6 h6 a7 h7 a8 h8 a9 h9 a10 h10 hc hd x0 x1 x2 x3 x4 xs)]
  unfold kernelRun0_C
  dsimp only
  sl_unfold_words
  rw [View.canon_unit_zero hz2, View.readCov_unit_zero (S := S1024x1024) _ hz2]
  simp only [View.readAt_eq_ld, h2.read_unread, h3.read_unread, h4.read_unread, h10.read_unread, View.ld_unit_zero (S := S1024x1024) hz2, View.ld_unit_zero (S := S1x1024x1024) hz3]

theorem last_x (hc : ¬cond0_0 i) (hd : cond0_1 i) :
    out0_C_7 c i a2 h2 a3 h3 a4 h4 a5 h5 a6 h6 a7 h7 a8 h8 a9 h9 a10 h10 hc hd x0 x1 x2 x3 x4 xs = k0_pay5 (k0_pay3 x0 x1 xs x2) x3 (gateRow x4) := by
  unfold out0_C_7
  rw [View.read_writes_eq_canon _ _ _ (cover0_C_7 c i a2 h2 a3 h3 a4 h4 a5 h5 a6 h6 a7 h7 a8 h8 a9 h9 a10 h10 hc hd x0 x1 x2 x3 x4 xs)]
  unfold kernelRun0_C
  dsimp only
  sl_unfold_words
  rw [View.canon_unit_zero hz2, View.readCov_unit_zero (S := S1024x1024) _ hz2]
  simp only [View.readAt_eq_ld, h2.read_unread, h3.read_unread, h4.read_unread, h5.read_unread, h6.read_unread, h10.read_unread, View.ld_unit_zero (S := S1024x1024) hz2, View.ld_unit_zero (S := S1x1024x1024) hz3]
  refine congrArg (k0_pay5 (k0_pay3 x0 x1 xs x2) x3) ?_
  funext y
  refine congrArg x4 ?_
  funext a
  apply Fin.ext
  match a with
  | ⟨0, _⟩ => have h : (y 0).val < 1 := (y 0).isLt; show 5 + 1 * (y 0).val = 5; omega
  | ⟨1, _⟩ => show 0 + 1 * (y 1).val = (y 1).val; omega

/-! The same at an element. -/

theorem acts_apply (r n : Fin 1024) : (k0_pay2 x0 x1 (ix2 r n) : EReal)
    = max (∑ k : Fin 1024, (x0 (ix2 r k) : EReal) * x1 (ix3 0 k n)) 0 * max (∑ k : Fin 1024, (x0 (ix2 r k) : EReal) * x1 (ix3 0 k n)) 0 := by
  pointwise [k0_pay2]

theorem sum_apply (r n : Fin 1024) : (k0_pay3 x0 x1 xs x2 (ix2 r n) : EReal)
    = xs (ix2 r n) + ∑ k : Fin 1024, (k0_pay2 x0 x1 (ix2 r k) : EReal) * x2 (ix3 0 k n) := by
  unfold k0_pay3
  generalize k0_pay2 x0 x1 = z
  pointwise []

theorem zero_apply (r n : Fin 1024) : (k0_pay1 (F := Ideal) (ix2 r n) : EReal) = 0 := by
  pointwise [k0_pay1]

theorem res_apply (r n : Fin 1024) : (k0_pay5 xs x3 (gateRow x4) (ix2 r n) : EReal)
    = x3 (ix2 r n) + x4 (ix2 5 n) * xs (ix2 r n) := by
  pointwise [k0_pay5, gateRow]
end

/-- Row `r` of block `p` of the tokens, and column `n` of block `q` of the hidden width. -/
def row (p : Fin 8) (r : Fin 1024) : Fin 8192 := ⟨1024 * p.val + r.val, by omega⟩
def col (q : Fin 4) (n : Fin 1024) : Fin 4096 := ⟨1024 * q.val + n.val, by omega⟩

/-- A sum over the hidden width is the sum over its four blocks, taken in order from zero. -/
theorem sum_quarters (f : Fin 4096 → EReal) :
    (((0 + ∑ k : Fin 1024, f (col 0 k)) + ∑ k : Fin 1024, f (col 1 k)) + ∑ k : Fin 1024, f (col 2 k)) + ∑ k : Fin 1024, f (col 3 k)
      = ∑ t : Fin 4096, f t := by
  rw [zero_add]
  refine Eq.trans ?_ (Fin.sum_univ_add (a := 3072) (b := 1024) f).symm
  refine congrArg₂ (· + ·) ?_ (Finset.sum_congr rfl fun k _ => congrArg f (Fin.ext ?_))
  · refine Eq.trans ?_ (Fin.sum_univ_add (a := 2048) (b := 1024) fun k => f (Fin.castAdd 1024 k)).symm
    refine congrArg₂ (· + ·) ?_ (Finset.sum_congr rfl fun k _ => congrArg f (Fin.ext ?_))
    · refine Eq.trans ?_ (Fin.sum_univ_add (a := 1024) (b := 1024) fun k => f (Fin.castAdd 1024 (Fin.castAdd 1024 k))).symm
      refine congrArg₂ (· + ·) (Finset.sum_congr rfl fun k _ => congrArg f (Fin.ext ?_)) (Finset.sum_congr rfl fun k _ => congrArg f (Fin.ext ?_))
      · show 1024 * 0 + k.val = k.val; omega
      · show 1024 * 1 + k.val = 1024 + k.val; omega
    · show 1024 * 2 + k.val = 2048 + k.val; omega
  · show 1024 * 3 + k.val = 3072 + k.val; omega

/-- The arrays the host hands over: the weights in blocks of the hidden width, and the eight vectors. -/
def w1b (x5 : S1024x4096.Idx → EReal) : FVec Ideal S4x1024x1024 .bf16 :=
  truncf .bf16 (transpose S4x1024x1024 [1, 0, 2] (shapeCast S1024x4x1024 (x5 : FVec Ideal S1024x4096 .f32) shapeCasts_S1024x4096_S1024x4x1024 : FVec Ideal S1024x4x1024 .f32)
    transposes_S1024x4x1024_S4x1024x1024_1_0_2 : FVec Ideal S4x1024x1024 .f32) bitsLt_bf16_f32
def w2b (x6 : S4096x1024.Idx → EReal) : FVec Ideal S4x1024x1024 .bf16 :=
  truncf .bf16 (shapeCast S4x1024x1024 (x6 : FVec Ideal S4096x1024 .f32) shapeCasts_S4096x1024_S4x1024x1024 : FVec Ideal S4x1024x1024 .f32) bitsLt_bf16_f32
def zeros : FVec Ideal S3x1024 .f32 := broadcastInDim S3x1024 ![] bcast_S_S3x1024 (constant S_ .f32 0x00000000#32)
def asRow (x : S1024.Idx → EReal) : FVec Ideal S1x1024 .f32 := broadcastInDim S1x1024 ![1] bcast_S1024_S1x1024_1 x
def vecs (x1 x2 x3 x4 : S1024.Idx → EReal) : FVec Ideal S8x1024 .f32 :=
  concatenate S8x1024 0 [⟨S3x1024, zeros⟩, ⟨S1x1024, asRow x2⟩, ⟨S1x1024, asRow x3⟩, ⟨S1x1024, asRow x4⟩,
    ⟨S1x1024, (extractStridedSlice S1x1024 ![0, 0] zeros slices_S3x1024_S1x1024_0_0 : FVec Ideal S1x1024 .f32)⟩, ⟨S1x1024, asRow x1⟩]
    concatenates_S3x1024_S1x1024_S1x1024_S1x1024_S1x1024_S1x1024_S8x1024_d0

theorem w1b_at (x5 : S1024x4096.Idx → EReal) (q : Fin 4) (k n : Fin 1024) : (w1b x5 (ix3 q k n) : EReal) = x5 (ix2 k (col q n)) := by
  pointwise [w1b]
  refine congrArg x5 ?_
  funext a
  apply Fin.ext
  match a with
  | ⟨0, _⟩ => rfl
  | ⟨1, _⟩ => show _ = 1024 * q.val + n.val; simp; omega

theorem w2b_at (x6 : S4096x1024.Idx → EReal) (q : Fin 4) (k n : Fin 1024) : (w2b x6 (ix3 q k n) : EReal) = x6 (ix2 (col q k) n) := by
  pointwise [w2b]
  refine congrArg x6 ?_
  funext a
  apply Fin.ext
  match a with
  | ⟨0, _⟩ => show _ = 1024 * q.val + k.val; simp; omega
  | ⟨1, _⟩ => rfl

theorem vecs_at (x1 x2 x3 x4 : S1024.Idx → EReal) (n : Fin 1024) : (vecs x1 x2 x3 x4 (ix2 5 n) : EReal) = x4 (ix1 n) := by
  unfold vecs
  refine Eq.trans (concatenate_apply_piece (t := S8x1024) 0 [⟨S3x1024, zeros⟩, ⟨S1x1024, asRow x2⟩, ⟨S1x1024, asRow x3⟩, ⟨S1x1024, asRow x4⟩,
    ⟨S1x1024, (extractStridedSlice S1x1024 ![0, 0] zeros slices_S3x1024_S1x1024_0_0 : FVec Ideal S1x1024 .f32)⟩, ⟨S1x1024, asRow x1⟩]
    concatenates_S3x1024_S1x1024_S1x1024_S1x1024_S1x1024_S1x1024_S8x1024_d0 (ix2 5 n) 3 (by decide : 3 < 6) S1x1024 (asRow x4) rfl rfl 5 rfl (ix2 0 n)
    (fun b hb => ?_) rfl) ?_
  · match b with
    | ⟨0, _⟩ => exact absurd rfl hb
    | ⟨1, _⟩ => rfl
  · pointwise [asRow]

section
variable (m : (ℓ : Loc nD τ sig) → Buf (Elt Ideal) ℓ) (ρ : Dev nD → PrngReg) (c : Dev nD)

/-- The stream entering the layer, the norm's gain, shift, scale and gate, and the two weights. -/
abbrev x0 : S8192x1024.Idx → EReal := m ((c.tc : Thread nD τ).loc main_arg0)
abbrev x1 : S1024.Idx → EReal := m ((c.tc : Thread nD τ).loc main_arg1)
abbrev x2 : S1024.Idx → EReal := m ((c.tc : Thread nD τ).loc main_arg2)
abbrev x3 : S1024.Idx → EReal := m ((c.tc : Thread nD τ).loc main_arg3)
abbrev x4 : S1024.Idx → EReal := m ((c.tc : Thread nD τ).loc main_arg4)
abbrev x5 : S1024x4096.Idx → EReal := m ((c.tc : Thread nD τ).loc main_arg5)
abbrev x6 : S4096x1024.Idx → EReal := m ((c.tc : Thread nD τ).loc main_arg6)

/-- The normed and modulated stream, the squared rectified activations, and the network's output. -/
def nrm : S8192x1024.Idx → EReal := Cert.ReferenceMlpIdeal.Read.val_main_v20 (F := Ideal) (x0 m c) (x1 m c) (x2 m c) (x3 m c)
def act (i : Fin 8192) (f : Fin 4096) : EReal :=
  max (∑ d : Fin 1024, nrm m c (ix2 i d) * x5 m c (ix2 d f)) 0 * max (∑ d : Fin 1024, nrm m c (ix2 i d) * x5 m c (ix2 d f)) 0
def net (i : Fin 8192) (n : Fin 1024) : EReal := ∑ f : Fin 4096, act m c i f * x6 m c (ix2 f n)

set_option maxRecDepth 4096 in
theorem entry_nrm : V m c main_v33 = nrm m c := by
  unfold V nrm
  after_reads_simp <;> rfl
theorem entry_w1 : V m c main_v30 = w1b (x5 m c) := by
  unfold V
  after_reads_simp <;> rfl
theorem entry_w2 : V m c main_v32 = w2b (x6 m c) := by
  unfold V
  after_reads_simp <;> rfl
theorem entry_vecs : V m c main_v27 = vecs (x1 m c) (x2 m c) (x3 m c) (x4 m c) := by
  unfold V
  after_reads_simp <;> rfl

theorem index0 : ∀ t : Fin grid0.N, win0_0.index t 0 = t.val / 4 ∧ win0_0.index t 1 = 0 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val % 4 ∧ win0_2.index t 1 = 0 ∧ win0_2.index t 2 = 0 := by decide +kernel
theorem index3 : ∀ t : Fin grid0.N, win0_3.index t 0 = t.val / 4 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 4 ∧ win0_5.index t 1 = t.val % 4 := by decide +kernel
theorem index6 : ∀ t : Fin grid0.N, win0_6.index t 0 = t.val / 4 ∧ win0_6.index t 1 = 0 := by decide +kernel
theorem index7 : ∀ t : Fin grid0.N, win0_7.index t 0 = t.val / 4 ∧ win0_7.index t 1 = 0 := by decide +kernel

/-! The tiles read at point `q` of block `p`. -/
section
variable (t : Fin cfg0.N) (p : Fin 8) (q : Fin 4) (ht : t.val = 4 * p.val + q.val)
include ht

theorem tile0 (r d : Fin 1024) : (iblk m c 0 t (ix2 r d) : EReal) = nrm m c (ix2 (row p r) d) := by
  have hi := index0 t
  unfold iblk
  rw [View.read_apply]
  show V m c main_v33 _ = _
  rw [entry_nrm]
  refine congrArg (nrm m c) ?_
  funext a
  apply Fin.ext
  match a with
  | ⟨0, _⟩ => show win0_0.index t 0 * 1024 + 1 * r.val = 1024 * p.val + r.val; rw [hi.1]; omega
  | ⟨1, _⟩ => show win0_0.index t 1 * 1024 + 1 * d.val = d.val; rw [hi.2]; omega

theorem tile1 (k n : Fin 1024) : (iblk m c 1 t (ix3 0 k n) : EReal) = x5 m c (ix2 k (col q n)) := by
  have hi := index1 t
  unfold iblk
  rw [View.read_apply]
  show V m c main_v30 _ = _
  rw [entry_w1, ← w1b_at (x5 m c) q k n]
  refine congrArg (w1b (x5 m c)) ?_
  funext a
  apply Fin.ext
  match a with
  | ⟨0, _⟩ => show win0_1.index t 0 * 1 + 1 * 0 = q.val; rw [hi.1]; omega
  | ⟨1, _⟩ => show win0_1.index t 1 * 1024 + 1 * k.val = k.val; rw [hi.2.1]; omega
  | ⟨2, _⟩ => show win0_1.index t 2 * 1024 + 1 * n.val = n.val; rw [hi.2.2]; omega

theorem tile2 (k n : Fin 1024) : (iblk m c 2 t (ix3 0 k n) : EReal) = x6 m c (ix2 (col q k) n) := by
  have hi := index2 t
  unfold iblk
  rw [View.read_apply]
  show V m c main_v32 _ = _
  rw [entry_w2, ← w2b_at (x6 m c) q k n]
  refine congrArg (w2b (x6 m c)) ?_
  funext a
  apply Fin.ext
  match a with
  | ⟨0, _⟩ => show win0_2.index t 0 * 1 + 1 * 0 = q.val; rw [hi.1]; omega
  | ⟨1, _⟩ => show win0_2.index t 1 * 1024 + 1 * k.val = k.val; rw [hi.2.1]; omega
  | ⟨2, _⟩ => show win0_2.index t 2 * 1024 + 1 * n.val = n.val; rw [hi.2.2]; omega

theorem tile3 (r n : Fin 1024) : (iblk m c 3 t (ix2 r n) : EReal) = x0 m c (ix2 (row p r) n) := by
  have hi := index3 t
  unfold iblk
  rw [View.read_apply]
  show V m c main_arg0 _ = x0 m c _
  rw [V_main_arg0]
  refine congrArg (x0 m c) ?_
  funext a
  apply Fin.ext
  match a with
  | ⟨0, _⟩ => show win0_3.index t 0 * 1024 + 1 * r.val = 1024 * p.val + r.val; rw [hi.1]; omega
  | ⟨1, _⟩ => show win0_3.index t 1 * 1024 + 1 * n.val = n.val; rw [hi.2]; omega

omit ht in
theorem tile4 (n : Fin 1024) : (iblk m c 4 t (ix2 5 n) : EReal) = x4 m c (ix1 n) := by
  have hi := index4 t
  unfold iblk
  rw [View.read_apply]
  show V m c main_v27 _ = _
  rw [entry_vecs, ← vecs_at (x1 m c) (x2 m c) (x3 m c) (x4 m c) n]
  refine congrArg (vecs (x1 m c) (x2 m c) (x3 m c) (x4 m c)) ?_
  funext a
  apply Fin.ext
  match a with
  | ⟨0, _⟩ => show win0_4.index t 0 * 8 + 1 * 5 = 5; rw [hi.1]
  | ⟨1, _⟩ => show win0_4.index t 1 * 1024 + 1 * n.val = n.val; rw [hi.2]; omega

/-- The activations computed there. -/
theorem acts_at (r n : Fin 1024) : (k0_pay2 (F := Ideal) (iblk m c 0 t) (iblk m c 1 t) (ix2 r n) : EReal) = act m c (row p r) (col q n) := by
  refine (acts_apply _ _ r n).trans (congrArg (fun z : EReal => max z 0 * max z 0) ?_)
  exact Finset.sum_congr rfl fun d _ => congrArg₂ (fun a b : EReal => a * b) (tile0 m c t p q ht r d) (tile1 m c t p q ht d n)

/-- What the point adds to the running sum. -/
theorem sum_at (xs : Vec Ideal S1024x1024 .f32) (r n : Fin 1024) :
    (k0_pay3 (F := Ideal) (iblk m c 0 t) (iblk m c 1 t) xs (iblk m c 2 t) (ix2 r n) : EReal)
      = xs (ix2 r n) + ∑ k : Fin 1024, act m c (row p r) (col q k) * x6 m c (ix2 (col q k) n) := by
  refine (sum_apply _ _ _ _ r n).trans (congrArg (fun z : EReal => (xs (ix2 r n) : EReal) + z) ?_)
  exact Finset.sum_congr rfl fun k _ => congrArg₂ (fun a b : EReal => a * b) (acts_at m c t p q ht r k) (tile2 m c t p q ht k n)
end

theorem lt32 (t : Fin cfg0.N) : t.val < 32 := lt_of_lt_of_eq t.isLt (show cfg0.N = 32 from N_0)

/-- The activations written at every point. -/
theorem acts_eq (t : Fin cfg0.N) (p : Fin 8) (q : Fin 4) (ht : t.val = 4 * p.val + q.val) (r n : Fin 1024) :
    ((outsAt0 m c t.val t.isLt).1 (ix2 r n) : EReal) = act m c (row p r) (col q n) := by
  refine Eq.trans ?_ (acts_at m c t p q ht r n)
  by_cases h0 : t.val % 4 = 0
  · rw [outsAt0_A m c t h0 (by omega)]
    dsimp only
    rw [acts_A]
  · by_cases h1 : t.val % 4 = 3
    · rw [outsAt0_C m c t h0 h1]
      dsimp only
      rw [acts_C]
    · rw [outsAt0_B m c t h0 h1]
      dsimp only
      rw [acts_B]

/-- What block `q` of the hidden width adds. -/
def part (p : Fin 8) (q : Fin 4) (r n : Fin 1024) : EReal := ∑ k : Fin 1024, act m c (row p r) (col q k) * x6 m c (ix2 (col q k) n)

/-- The running sum after a block's first point … -/
theorem sum_first (t : Fin cfg0.N) (p : Fin 8) (ht : t.val = 4 * p.val) (r n : Fin 1024) :
    ((outsAt0 m c t.val t.isLt).2.2.2 (ix2 r n) : EReal) = 0 + part m c p 0 r n := by
  rw [outsAt0_A m c t (by omega) (by omega)]
  dsimp only
  rw [sum_A]
  refine (sum_at m c t p 0 (by show t.val = 4 * p.val + 0; omega) _ r n).trans ?_
  exact congrArg (fun z : EReal => z + part m c p 0 r n) (zero_apply r n)

/-- … and after a point in the middle. -/
theorem sum_next (t : Fin cfg0.N) (p : Fin 8) (q : Fin 4) (ht : t.val = 4 * p.val + q.val) (h0 : q.val ≠ 0) (h3 : q.val ≠ 3) (z : EReal)
    (s : Fin cfg0.N) (hs : s.val + 1 = t.val) (r n : Fin 1024) (hz : ((outsAt0 m c s.val s.isLt).2.2.2 (ix2 r n) : EReal) = z) :
    ((outsAt0 m c t.val t.isLt).2.2.2 (ix2 r n) : EReal) = z + part m c p q r n := by
  obtain rfl : s = ⟨t.val - 1, Nat.lt_of_le_of_lt (Nat.sub_le _ _) t.isLt⟩ := Fin.ext (by show s.val = t.val - 1; omega)
  rw [outsAt0_B m c t (by omega) (by omega)]
  dsimp only
  rw [sum_B]
  refine (sum_at m c t p q ht _ r n).trans ?_
  exact congrArg (fun z : EReal => z + part m c p q r n) hz

/-- The sum a block's last point finds. -/
theorem sum_before (t : Fin cfg0.N) (p : Fin 8) (ht : t.val = 4 * p.val + 3) (r n : Fin 1024) :
    ((outsAt0 m c (t.val - 1) (Nat.lt_of_le_of_lt (Nat.sub_le _ _) t.isLt)).2.2.2 (ix2 r n) : EReal)
      = ((0 + part m c p 0 r n) + part m c p 1 r n) + part m c p 2 r n := by
  have hN := lt32 t
  have l0 : 4 * p.val < cfg0.N := lt_of_lt_of_eq (by omega) (show cfg0.N = 32 from N_0).symm
  have l1 : 4 * p.val + 1 < cfg0.N := lt_of_lt_of_eq (by omega) (show cfg0.N = 32 from N_0).symm
  have e0 := sum_first m c ⟨4 * p.val, l0⟩ p rfl r n
  have e1 := sum_next m c ⟨4 * p.val + 1, l1⟩ p 1 rfl (by decide) (by decide) _ ⟨4 * p.val, l0⟩ rfl r n e0
  exact sum_next m c ⟨t.val - 1, Nat.lt_of_le_of_lt (Nat.sub_le _ _) t.isLt⟩ p 2 (by show t.val - 1 = 4 * p.val + 2; omega) (by decide) (by decide) _
    ⟨4 * p.val + 1, l1⟩ (by show 4 * p.val + 1 + 1 = t.val - 1; omega) r n e1

/-- The whole sum. -/
theorem sum_whole (t : Fin cfg0.N) (p : Fin 8) (ht : t.val = 4 * p.val + 3) (r n : Fin 1024) :
    (k0_pay3 (F := Ideal) (iblk m c 0 t) (iblk m c 1 t) (outsAt0 m c (t.val - 1) (Nat.lt_of_le_of_lt (Nat.sub_le _ _) t.isLt)).2.2.2 (iblk m c 2 t) (ix2 r n) : EReal)
      = net m c (row p r) n := by
  refine (sum_at m c t p 3 ht _ r n).trans ?_
  refine (congrArg (fun z : EReal => z + part m c p 3 r n) (sum_before m c t p ht r n)).trans ?_
  exact sum_quarters fun f => act m c (row p r) f * x6 m c (ix2 f n)

theorem y_eq (t : Fin cfg0.N) (p : Fin 8) (ht : t.val = 4 * p.val + 3) (r n : Fin 1024) :
    ((outsAt0 m c t.val t.isLt).2.1 (ix2 r n) : EReal) = net m c (row p r) n := by
  rw [outsAt0_C m c t (by omega) (by omega)]
  dsimp only
  rw [last_y]
  exact sum_whole m c t p ht r n

theorem x_eq (t : Fin cfg0.N) (p : Fin 8) (ht : t.val = 4 * p.val + 3) (r n : Fin 1024) :
    ((outsAt0 m c t.val t.isLt).2.2.1 (ix2 r n) : EReal) = x0 m c (ix2 (row p r) n) + x4 m c (ix1 n) * net m c (row p r) n := by
  rw [outsAt0_C m c t (by omega) (by omega)]
  dsimp only
  rw [last_x]
  refine (res_apply _ _ _ r n).trans ?_
  exact congrArg₂ (fun a b : EReal => a + b) (tile3 m c t p 3 ht r n)
    (congrArg₂ (fun a b : EReal => a * b) (tile4 m c t n) (sum_whole m c t p ht r n))

/-! The arrays left. -/

def outA : S8192x4096.Idx → EReal := fun i => act m c (i 0) (i 1)
def outY : S8192x1024.Idx → EReal := fun i => net m c (i 0) (i 1)
def outX : S8192x1024.Idx → EReal := fun i => x0 m c i + x4 m c (ix1 (i 1)) * net m c (i 0) (i 1)

theorem flushed_A (t : Fin cfg0.N) (hf : (cfg0.win 5).flush t = true) :
    (dats m 0 c).flushed 5 t = ((cfg0.win 5).blk t).view.read (Elt Ideal) (outA m c) := by
  have hN := lt32 t
  have hi := index5 t
  rw [Cert.KernelMlpIdeal.Value.flushed5]
  funext y
  have y0 : (y 0).val < 1024 := (y 0).isLt
  have y1 : (y 1).val < 1024 := (y 1).isLt
  have e : ((cfg0.win 5).blk t).view.emb y = (ix2 (row ⟨t.val / 4, by omega⟩ ⟨(y 0).val, y0⟩) (col ⟨t.val % 4, by omega⟩ ⟨(y 1).val, y1⟩) : S8192x4096.Idx) := by
    funext a
    apply Fin.ext
    match a with
    | ⟨0, _⟩ => show win0_5.index t 0 * 1024 + 1 * (y 0).val = 1024 * (t.val / 4) + (y 0).val; rw [hi.1]; omega
    | ⟨1, _⟩ => show win0_5.index t 1 * 1024 + 1 * (y 1).val = 1024 * (t.val % 4) + (y 1).val; rw [hi.2]; omega
  have e' : (cfg0.win 5).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h := acts_eq m c t ⟨t.val / 4, by omega⟩ ⟨t.val % 4, by omega⟩ (by show t.val = 4 * (t.val / 4) + t.val % 4; omega) ⟨(y 0).val, y0⟩ ⟨(y 1).val, y1⟩
  rw [← e'] at h
  exact h.trans (congrArg (outA m c) e).symm

theorem flushed_Y (t : Fin cfg0.N) (hf : (cfg0.win 6).flush t = true) :
    (dats m 0 c).flushed 6 t = ((cfg0.win 6).blk t).view.read (Elt Ideal) (outY m c) := by
  have hN := lt32 t
  have h3 : t.val % 4 = 3 := (flush0_6 t).mp hf
  have hi := index6 t
  rw [Cert.KernelMlpIdeal.Value.flushed6]
  funext y
  have y0 : (y 0).val < 1024 := (y 0).isLt
  have y1 : (y 1).val < 1024 := (y 1).isLt
  have e : ((cfg0.win 6).blk t).view.emb y = (ix2 (row ⟨t.val / 4, by omega⟩ ⟨(y 0).val, y0⟩) ⟨(y 1).val, y1⟩ : S8192x1024.Idx) := by
    funext a
    apply Fin.ext
    match a with
    | ⟨0, _⟩ => show win0_6.index t 0 * 1024 + 1 * (y 0).val = 1024 * (t.val / 4) + (y 0).val; rw [hi.1]; omega
    | ⟨1, _⟩ => show win0_6.index t 1 * 1024 + 1 * (y 1).val = (y 1).val; rw [hi.2]; omega
  have e' : (cfg0.win 6).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h := y_eq m c t ⟨t.val / 4, by omega⟩ (by show t.val = 4 * (t.val / 4) + 3; omega) ⟨(y 0).val, y0⟩ ⟨(y 1).val, y1⟩
  rw [← e'] at h
  exact h.trans (congrArg (outY m c) e).symm

theorem flushed_X (t : Fin cfg0.N) (hf : (cfg0.win 7).flush t = true) :
    (dats m 0 c).flushed 7 t = ((cfg0.win 7).blk t).view.read (Elt Ideal) (outX m c) := by
  have hN := lt32 t
  have h3 : t.val % 4 = 3 := (flush0_7 t).mp hf
  have hi := index7 t
  rw [Cert.KernelMlpIdeal.Value.flushed7]
  funext y
  have y0 : (y 0).val < 1024 := (y 0).isLt
  have y1 : (y 1).val < 1024 := (y 1).isLt
  have e : ((cfg0.win 7).blk t).view.emb y = (ix2 (row ⟨t.val / 4, by omega⟩ ⟨(y 0).val, y0⟩) ⟨(y 1).val, y1⟩ : S8192x1024.Idx) := by
    funext a
    apply Fin.ext
    match a with
    | ⟨0, _⟩ => show win0_7.index t 0 * 1024 + 1 * (y 0).val = 1024 * (t.val / 4) + (y 0).val; rw [hi.1]; omega
    | ⟨1, _⟩ => show win0_7.index t 1 * 1024 + 1 * (y 1).val = (y 1).val; rw [hi.2]; omega
  have e' : (cfg0.win 7).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h := x_eq m c t ⟨t.val / 4, by omega⟩ (by show t.val = 4 * (t.val / 4) + 3; omega) ⟨(y 0).val, y0⟩ ⟨(y 1).val, y1⟩
  rw [← e'] at h
  exact h.trans (congrArg (outX m c) e).symm

theorem final_A : (dats m 0 c).arrAt 5 cfg0.N = outA m c :=
  (dats m 0 c).arrAt_eq_of_cover 5 (outA m c) (flushed_A m c) fun i => (Cert.KernelMlpIdeal.Value.covered_iff5 i).mpr
    (by have h0 : (i 0).val < 8192 := (i 0).isLt; have h1 : (i 1).val < 4096 := (i 1).isLt; refine ⟨?_, ?_⟩ <;> omega)
theorem final_Y : (dats m 0 c).arrAt 6 cfg0.N = outY m c :=
  (dats m 0 c).arrAt_eq_of_cover 6 (outY m c) (flushed_Y m c) fun i => (Cert.KernelMlpIdeal.Value.covered_iff6 i).mpr
    (by have h0 : (i 0).val < 8192 := (i 0).isLt; have h1 : (i 1).val < 1024 := (i 1).isLt; refine ⟨?_, ?_⟩ <;> omega)
theorem final_X : (dats m 0 c).arrAt 7 cfg0.N = outX m c :=
  (dats m 0 c).arrAt_eq_of_cover 7 (outX m c) (flushed_X m c) fun i => (Cert.KernelMlpIdeal.Value.covered_iff7 i).mpr
    (by have h0 : (i 0).val < 8192 := (i 0).isLt; have h1 : (i 1).val < 1024 := (i 1).isLt; refine ⟨?_, ?_⟩ <;> omega)
end

end Cert.KernelMlpIdeal.Layer

namespace Cert.Mlp

open Idealize.ShloMosaic Idealize.ShloMosaic.TcCoe Idealize.SL.Sem
open Cert.ReferenceMlpIdeal.Read

section
variable (x0 : Cert.ReferenceMlpIdeal.S8192x1024.Idx → EReal) (x1 x2 x3 x4 : Cert.ReferenceMlpIdeal.S1024.Idx → EReal)
  (x5 : Cert.ReferenceMlpIdeal.S1024x4096.Idx → EReal) (x6 : Cert.ReferenceMlpIdeal.S4096x1024.Idx → EReal)

theorem lidx (i : Fin 8192) (f : Fin 4096) (d : Fin 1024) : lidx_main_v21 (ix2 i f) d = ix2 i d := funext fun a => by
  match a with
  | ⟨0, _⟩ => rfl
  | ⟨1, _⟩ => rfl
theorem ridx (i : Fin 8192) (f : Fin 4096) (d : Fin 1024) : ridx_main_v21 (ix2 i f) d = ix2 d f := funext fun a => by
  match a with
  | ⟨0, _⟩ => rfl
  | ⟨1, _⟩ => rfl
theorem lidx' (i : Fin 8192) (n : Fin 1024) (f : Fin 4096) : lidx_main_v24 (ix2 i n) f = ix2 i f := funext fun a => by
  match a with
  | ⟨0, _⟩ => rfl
  | ⟨1, _⟩ => rfl
theorem ridx' (i : Fin 8192) (n : Fin 1024) (f : Fin 4096) : ridx_main_v24 (ix2 i n) f = ix2 f n := funext fun a => by
  match a with
  | ⟨0, _⟩ => rfl
  | ⟨1, _⟩ => rfl

/-- The reference's activations … -/
theorem ref_pre (i : Fin 8192) (f : Fin 4096) : (val_main_v21 (F := Ideal) x0 x1 x2 x3 x5 (ix2 i f) : EReal)
    = ∑ d : Fin 1024, (val_main_v20 (F := Ideal) x0 x1 x2 x3 (ix2 i d) : EReal) * x5 (ix2 d f) := by
  rw [val_main_v21_apply]
  exact Finset.sum_congr rfl fun d _ => by rw [lidx, ridx]

theorem ref_act (i : Fin 8192) (f : Fin 4096) : (val_main_v23 (F := Ideal) x0 x1 x2 x3 x5 (ix2 i f) : EReal)
    = max (∑ d : Fin 1024, (val_main_v20 (F := Ideal) x0 x1 x2 x3 (ix2 i d) : EReal) * x5 (ix2 d f)) 0
      * max (∑ d : Fin 1024, (val_main_v20 (F := Ideal) x0 x1 x2 x3 (ix2 i d) : EReal) * x5 (ix2 d f)) 0 := by
  rw [← ref_pre, val_main_v23_apply, val_main_v22_apply, val_main_call0_v0_apply, val_main_call0_cst_apply]
  generalize val_main_v21 (F := Ideal) x0 x1 x2 x3 x5 (ix2 i f) = z
  show max z (Ideal.ofBits .f32 0x00000000#32) * max z (Ideal.ofBits .f32 0x00000000#32) = _
  rw [Ideal.ofBits_zero_f32]

/-- … and its output. -/
theorem ref_net (i : Fin 8192) (n : Fin 1024) : (val_main_v24 (F := Ideal) x0 x1 x2 x3 x5 x6 (ix2 i n) : EReal)
    = ∑ f : Fin 4096, (val_main_v23 (F := Ideal) x0 x1 x2 x3 x5 (ix2 i f) : EReal) * x6 (ix2 f n) := by
  rw [val_main_v24_apply]
  exact Finset.sum_congr rfl fun d _ => by rw [lidx', ridx']

theorem ref_gate (i : Fin 8192) (n : Fin 1024) : (val_main_v28 (F := Ideal) x4 (ix2 i n) : EReal) = x4 (ix1 n) := by
  rw [val_main_v28_apply, val_main_v27_apply]
  refine congrArg x4 (funext fun a => ?_)
  match a with
  | ⟨0, _⟩ => rfl
end

section
open Cert.KernelMlpIdeal Cert.KernelMlpIdeal.Layer
variable (m : (ℓ : Loc nD τ sig) → Buf (Elt Ideal) ℓ) (c : Dev nD)

theorem act_eq (i : Fin 8192) (f : Fin 4096) :
    (val_main_v23 (F := Ideal) (x0 m c) (x1 m c) (x2 m c) (x3 m c) (x5 m c) (ix2 i f) : EReal) = act m c i f := ref_act _ _ _ _ _ i f

theorem net_eq (i : Fin 8192) (n : Fin 1024) :
    (val_main_v24 (F := Ideal) (x0 m c) (x1 m c) (x2 m c) (x3 m c) (x5 m c) (x6 m c) (ix2 i n) : EReal) = net m c i n :=
  (ref_net _ _ _ _ _ _ i n).trans (Finset.sum_congr rfl fun f _ => congrArg (fun z : EReal => z * x6 m c (ix2 f n)) (act_eq m c i f))

theorem eq_ix2 {a b : Nat} (i : (⟨2, ![a, b]⟩ : Shape).Idx) : i = ix2 (i 0) (i 1) := funext fun k => by fin_cases k <;> rfl

theorem outA_eq : val_main_v25 (F := Ideal) (x0 m c) (x1 m c) (x2 m c) (x3 m c) (x5 m c) = outA m c := funext fun i => by
  rw [eq_ix2 i]; exact act_eq m c (i 0) (i 1)
theorem outY_eq : val_main_v26 (F := Ideal) (x0 m c) (x1 m c) (x2 m c) (x3 m c) (x5 m c) (x6 m c) = outY m c := funext fun i => by
  rw [eq_ix2 i]; exact net_eq m c (i 0) (i 1)
theorem outX_eq : val_main_v30 (F := Ideal) (x0 m c) (x1 m c) (x2 m c) (x3 m c) (x4 m c) (x5 m c) (x6 m c) = outX m c := funext fun i => by
  rw [eq_ix2 i]
  exact congrArg (fun z : EReal => x0 m c (ix2 (i 0) (i 1)) + z) (congrArg₂ (fun a b : EReal => a * b) (ref_gate (x4 m c) (i 0) (i 1)) (net_eq m c (i 0) (i 1)))
end

theorem frame_kernel : Cert.quiescent_KernelMlp := fun m ρ _ => Cert.KernelMlp.Gen.frame (F := Bits) m ρ

theorem frame_kernelIdeal : Cert.quiescent_KernelMlpIdeal := fun m ρ _ => Cert.KernelMlpIdeal.Gen.frame (F := Ideal) m ρ

theorem frame_referenceIdeal : Cert.quiescent_ReferenceMlpIdeal := fun m ρ _ =>
  (θ_run Cert.ReferenceMlpIdeal.defs _ _).mono (fun r h => ⟨fun c => (h c).2.2.2, sem_eq_zero_of_no_sems (by decide) r.2⟩)
    (Cert.ReferenceMlpIdeal.Value.run (F := Ideal) m ρ)

theorem algebraic : Cert.algebraic_KernelMlpIdeal_ReferenceMlpIdeal := fun m g m' g' _ hargs => by
  refine ⟨Cert.KernelMlpIdeal.Layer.outA m, Cert.KernelMlpIdeal.Layer.outY m, Cert.KernelMlpIdeal.Layer.outX m, ?_, ?_⟩
  · exact (θ_run Cert.KernelMlpIdeal.defs _ _).mono (fun r h c => ⟨(h c).1.trans (Cert.KernelMlpIdeal.Layer.final_A m c),
      (h c).2.1.trans (Cert.KernelMlpIdeal.Layer.final_Y m c), (h c).2.2.1.trans (Cert.KernelMlpIdeal.Layer.final_X m c), (h c).2.2.2⟩)
      (Cert.KernelMlpIdeal.Value.run_blocks (F := Ideal) m g)
  · refine (θ_run Cert.ReferenceMlpIdeal.defs _ _).mono (fun r h c => ⟨(h c).1.trans ?_, (h c).2.1.trans ?_, (h c).2.2.1.trans ?_, (h c).2.2.2⟩)
      (Cert.ReferenceMlpIdeal.Value.run (F := Ideal) m' g')
    all_goals obtain ⟨e0, e1, e2, e3, e4, e5, e6⟩ := hargs c
    · rw [e0, e1, e2, e3, e5]
      exact outA_eq m c
    · rw [e0, e1, e2, e3, e5, e6]
      exact outY_eq m c
    · rw [e0, e1, e2, e3, e4, e5, e6]
      exact outX_eq m c

end Cert.Mlp

end
-- ==== Proof.Halves.lean ====
/- A sum over the tokens is the sum over its two halves. -/
module

public import Idealize.ShloMosaic.Lib.Pointwise

@[expose] public section

noncomputable section

namespace Cert.Grad

/-- Token `k` of half `b`. -/
def tok (b : Nat) (hb : b < 2) (k : Fin 4096) : Fin 8192 := ⟨4096 * b + k.val, by omega⟩

theorem sum_halves (f : Fin 8192 → EReal) :
    (0 + ∑ k : Fin 4096, f (tok 0 (by decide) k)) + ∑ k : Fin 4096, f (tok 1 (by decide) k) = ∑ t : Fin 8192, f t := by
  rw [zero_add]
  refine Eq.trans ?_ (Fin.sum_univ_add (a := 4096) (b := 4096) f).symm
  refine congrArg₂ (· + ·) (Finset.sum_congr rfl fun k _ => congrArg f (Fin.ext ?_)) (Finset.sum_congr rfl fun k _ => congrArg f (Fin.ext ?_))
  · show 4096 * 0 + k.val = k.val; omega
  · show 4096 * 1 + k.val = 4096 + k.val; omega

/-- The same of two sums whose terms are those of the halves. -/
theorem halves_eq (f : Fin 8192 → EReal) (a b : Fin 4096 → EReal) (ha : ∀ k, a k = f (tok 0 (by decide) k))
    (hb : ∀ k, b k = f (tok 1 (by decide) k)) : (0 + ∑ k, a k) + ∑ k, b k = ∑ t, f t := by
  rw [← sum_halves f, Finset.sum_congr rfl fun k _ => ha k, Finset.sum_congr rfl fun k _ => hb k]

end Cert.Grad

end
-- ==== Proof.Down.lean ====
/- The gradient of a layer's second weight: what the product of the activations and the output's gradient leaves. -/
module

public import proofs.«01_k».proof.Defs
public import proofs.«01_k».proof.Proof.Halves
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.ReferenceDownIdeal.Read
public import Idealize.ShloMosaic.Lib.Pointwise
public import Idealize.ShloMosaic.Lib.Tactic

@[expose] public section

noncomputable section

namespace Cert.KernelDownIdeal.Grad

open Idealize.ShloMosaic Idealize.ShloMosaic.TcCoe Idealize.SL.Sem
open Idealize.ShloMosaic.Pipeline (Dat)
open Cert.KernelDownIdeal Cert.KernelDownIdeal.Gen Cert.Grad

theorem hz2 : (![0, 0] : Fin 2 → Nat) = fun _ => 0 := funext fun a => by fin_cases a <;> rfl
theorem hz4 : (![0, 0, 0, 0] : Fin 4 → Nat) = fun _ => 0 := funext fun a => by fin_cases a <;> rfl

section
variable (c : Dev nD) (i : grid0.Coords) (a3 : Memref sig .tc .vmem S4096x1024 .bf16) (h3 : a3.IsWhole)
  (a4 : Memref sig .tc .vmem S4096x1024 .bf16) (h4 : a4.IsWhole) (a6 : Memref sig .tc .vmem S1x1x1024x1024 .f32) (h6 : a6.IsWhole)
  (x0 x1 : Vec Ideal S4096x1024 .bf16) (xo : Vec Ideal S1x1x1024x1024 .f32)

/-- A point past the first of its block adds the tile's product. -/
theorem out_B (hc : ¬cond0_0 i) : out0_B_2 c i a3 h3 a4 h4 a6 h6 hc x0 x1 xo = k0_pay2 xo x0 x1 := by
  unfold out0_B_2
  rw [View.read_writes_eq_canon _ _ _ (cover0_B_2 c i a3 h3 a4 h4 a6 h6 hc x0 x1 xo)]
  unfold kernelRun0_B
  dsimp only
  rw [View.canon_unit_zero hz4]
  simp only [View.readAt_eq_ld, h3.read_unread, h4.read_unread, h6.read_unread, View.ld_unit_zero (S := S4096x1024) hz2,
    View.ld_unit_zero (S := S1x1x1024x1024) hz4]

/-- The first point of a block sets it to zero and adds the tile's product. -/
theorem out_A (hc : cond0_0 i) : out0_A_2 c i a3 h3 a4 h4 a6 h6 hc x0 x1 = k0_pay2 k0_pay1 x0 x1 := by
  unfold out0_A_2
  rw [View.read_writes_eq_canon _ _ _ (cover0_A_2 c i a3 h3 a4 h4 a6 h6 hc x0 x1)]
  unfold kernelRun0_A
  dsimp only
  sl_unfold_words
  rw [View.canon_cons_unit_zero (S := S1x1x1024x1024) hz4, View.readCov_unit_zero (S := S1x1x1024x1024) _ hz4]
  simp only [View.readAt_eq_ld, h3.read_unread, h4.read_unread, View.ld_unit_zero (S := S4096x1024) hz2]

theorem pay_apply (r n : Fin 1024) :
    (k0_pay2 xo x0 x1 (ix4 0 0 r n) : EReal) = xo (ix4 0 0 r n) + ∑ k : Fin 4096, (x0 (ix2 k r) : EReal) * x1 (ix2 k n) := by
  pointwise [k0_pay2]

theorem zero_apply (r n : Fin 1024) : (k0_pay1 (F := Ideal) (ix4 0 0 r n) : EReal) = 0 := by
  pointwise [k0_pay1]
end

section
variable (m : (ℓ : Loc nD τ sig) → Buf (Elt Ideal) ℓ) (ρ : Dev nD → PrngReg) (c : Dev nD)

/-- The activations, the gradient of the output, and the array of the two layers' gradients. -/
abbrev x0 : S8192x4096.Idx → EReal := m ((c.tc : Thread nD τ).loc main_arg0)
abbrev x1 : S8192x1024.Idx → EReal := m ((c.tc : Thread nD τ).loc main_arg1)
abbrev x2 : S4x2x1024x1024.Idx → EReal := m ((c.tc : Thread nD τ).loc main_arg2)

/-- Row `r` of block `q` of the hidden width. -/
def hid (q : Fin 4) (r : Fin 1024) : Fin 4096 := ⟨1024 * q.val + r.val, by omega⟩

/-- The result: the first layer's gradient in its place, the other layer's as given. -/
def out : S4x2x1024x1024.Idx → EReal := fun i =>
  if (i 1).val = 0 then ∑ t : Fin 8192, x0 m c (ix2 t (hid (i 0) (i 2))) * x1 m c (ix2 t (i 3)) else x2 m c i

theorem index0 : ∀ t : Fin grid0.N, win0_0.index t 0 = t.val % 2 ∧ win0_0.index t 1 = t.val / 2 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = 0 ∧ win0_2.index t 2 = 0 ∧ win0_2.index t 3 = 0 := by
  decide +kernel

/-- The tile of activations read at point `t`. -/
theorem tile0 (t : Fin cfg0.N) (q : Fin 4) (b : Nat) (hb : b < 2) (ht : t.val = 2 * q.val + b) (k : Fin 4096) (r : Fin 1024) :
    (iblk m c 0 t (ix2 k r) : EReal) = x0 m c (ix2 (tok b hb k) (hid q r)) := by
  have hi := index0 t
  unfold iblk
  rw [View.read_apply]
  show V m c main_arg0 _ = x0 m c _
  rw [V_main_arg0]
  refine congrArg (x0 m c) ?_
  funext a
  apply Fin.ext
  match a with
  | ⟨0, _⟩ => show win0_0.index t 0 * 4096 + 1 * k.val = 4096 * b + k.val; rw [hi.1]; omega
  | ⟨1, _⟩ => show win0_0.index t 1 * 1024 + 1 * r.val = 1024 * q.val + r.val; rw [hi.2]; omega

/-- The tile of the gradient read at point `t`. -/
theorem tile1 (t : Fin cfg0.N) (q : Fin 4) (b : Nat) (hb : b < 2) (ht : t.val = 2 * q.val + b) (k : Fin 4096) (n : Fin 1024) :
    (iblk m c 1 t (ix2 k n) : EReal) = x1 m c (ix2 (tok b hb k) n) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 4096 + 1 * k.val = 4096 * b + k.val; rw [hi.1]; omega
  | ⟨1, _⟩ => show win0_1.index t 1 * 1024 + 1 * n.val = n.val; rw [hi.2]; omega

/-- After the second point of block `q` its staging buffer holds the whole product. -/
theorem outsAt_apply (t : Fin cfg0.N) (q : Fin 4) (ht : t.val = 2 * q.val + 1) (r n : Fin 1024) :
    (outsAt0 m c t.val t.isLt (ix4 0 0 r n) : EReal) = ∑ k : Fin 8192, x0 m c (ix2 k (hid q r)) * x1 m c (ix2 k n) := by
  rw [outsAt0_B m c t (by omega), out_B, pay_apply]
  have h8 : t.val < 8 := lt_of_lt_of_eq t.isLt (show cfg0.N = 8 from N_0)
  have hs : t.val - 1 < cfg0.N := Nat.lt_of_le_of_lt (Nat.sub_le _ _) t.isLt
  have e := outsAt0_A m c ⟨t.val - 1, hs⟩ (by show (t.val - 1) % 2 = 0; omega)
  rw [show outsAt0 m c (t.val - 1) _ = _ from e, out_A, pay_apply, zero_apply]
  refine halves_eq (fun k => x0 m c (ix2 k (hid q r)) * x1 m c (ix2 k n)) _ _ (fun k => ?_) (fun k => ?_)
  · rw [tile0 m c _ q 0 (by decide) (by show t.val - 1 = _; omega), tile1 m c _ q 0 (by decide) (by show t.val - 1 = _; omega)]
  · rw [tile0 m c t q 1 (by decide) ht, tile1 m c t q 1 (by decide) ht]

/-- What is written back is its block of `out`. -/
theorem flushed_eq (t : Fin cfg0.N) (hf : (cfg0.win 2).flush t = true) :
    (dats m 0 c).flushed 2 t = ((cfg0.win 2).blk t).view.read (Elt Ideal) (out m c) := by
  have h8 : t.val < 8 := lt_of_lt_of_eq t.isLt (show cfg0.N = 8 from N_0)
  have h1 : t.val % 2 = 1 := (flush0_2 t).mp hf
  have hi := index2 t
  rw [Cert.KernelDownIdeal.Value.flushed2]
  funext y
  have y0 : (y 0).val < 1 := (y 0).isLt
  have y1 : (y 1).val < 1 := (y 1).isLt
  have y2 : (y 2).val < 1024 := (y 2).isLt
  have y3 : (y 3).val < 1024 := (y 3).isLt
  have e : ((cfg0.win 2).blk t).view.emb y = (ix4 ⟨t.val / 2, by omega⟩ 0 ⟨(y 2).val, y2⟩ ⟨(y 3).val, y3⟩ : S4x2x1024x1024.Idx) := by
    funext a
    apply Fin.ext
    match a with
    | ⟨0, _⟩ => show win0_2.index t 0 * 1 + 1 * (y 0).val = t.val / 2; rw [hi.1]; omega
    | ⟨1, _⟩ => show win0_2.index t 1 * 1 + 1 * (y 1).val = 0; rw [hi.2.1]; omega
    | ⟨2, _⟩ => show win0_2.index t 2 * 1024 + 1 * (y 2).val = (y 2).val; rw [hi.2.2.1]; omega
    | ⟨3, _⟩ => show win0_2.index t 3 * 1024 + 1 * (y 3).val = (y 3).val; rw [hi.2.2.2]; omega
  have e' : (cfg0.win 2).xinj (grid0.coords t) y = (ix4 0 0 ⟨(y 2).val, y2⟩ ⟨(y 3).val, y3⟩ : S1x1x1024x1024.Idx) := by
    funext a
    apply Fin.ext
    match a with
    | ⟨0, _⟩ => show (y 0).val = 0; omega
    | ⟨1, _⟩ => show (y 1).val = 0; omega
    | ⟨2, _⟩ => rfl
    | ⟨3, _⟩ => rfl
  have h := outsAt_apply m c t ⟨t.val / 2, by omega⟩ (by show t.val = 2 * (t.val / 2) + 1; omega) ⟨(y 2).val, y2⟩ ⟨(y 3).val, y3⟩
  rw [← e'] at h
  exact h.trans (congrArg (out m c) e).symm

/-- An index is in the block written back at point `t` when it is of the first layer and of that block. -/
theorem mem_blk (t : Fin cfg0.N) (i : S4x2x1024x1024.Idx) :
    i ∈ ((cfg0.win 2).blk t).view.set ↔ (i 0).val = t.val / 2 ∧ (i 1).val = 0 := by
  have hi := index2 t
  show i ∈ ((View.whole main_v0).slice (win0_2.rect t)).set ↔ _
  rw [View.set_slice_whole, Rect.mem_set_unit]
  have b2 : (i 2).val < 1024 := (i 2).isLt
  have b3 : (i 3).val < 1024 := (i 3).isLt
  constructor
  · intro h
    have h0 : win0_2.index t 0 * 1 ≤ (i 0).val ∧ (i 0).val < win0_2.index t 0 * 1 + 1 := h 0
    have h1 : win0_2.index t 1 * 1 ≤ (i 1).val ∧ (i 1).val < win0_2.index t 1 * 1 + 1 := h 1
    rw [hi.1] at h0; rw [hi.2.1] at h1
    omega
  · rintro ⟨h0, h1⟩ a
    match a with
    | ⟨0, _⟩ => show win0_2.index t 0 * 1 ≤ (i 0).val ∧ (i 0).val < win0_2.index t 0 * 1 + 1; rw [hi.1]; omega
    | ⟨1, _⟩ => show win0_2.index t 1 * 1 ≤ (i 1).val ∧ (i 1).val < win0_2.index t 1 * 1 + 1; rw [hi.2.1]; omega
    | ⟨2, _⟩ => show win0_2.index t 2 * 1024 ≤ (i 2).val ∧ (i 2).val < win0_2.index t 2 * 1024 + 1024; rw [hi.2.2.1]; omega
    | ⟨3, _⟩ => show win0_2.index t 3 * 1024 ≤ (i 3).val ∧ (i 3).val < win0_2.index t 3 * 1024 + 1024; rw [hi.2.2.2]; omega

/-- The array after the call. -/
theorem final : (dats m 0 c).arrAt 2 cfg0.N = out m c := by
  funext i
  rw [(dats m 0 c).arrAt_eq_piecewise 2 (out m c) (flushed_eq m c) i]
  split
  · rfl
  · rename_i h
    have hl : (i 1).val ≠ 0 := fun e => h ⟨⟨2 * (i 0).val + 1, by
        have h4 : (i 0).val < 4 := (i 0).isLt
        show _ < cfg0.N
        rw [show cfg0.N = 8 from N_0]; omega⟩,
      (flush0_2 _).mpr (by show (2 * (i 0).val + 1) % 2 = 1; omega), (mem_blk _ i).mpr ⟨by show (i 0).val = (2 * (i 0).val + 1) / 2; omega, e⟩⟩
    rw [A_eq]
    show V m c main_v0 i = out m c i
    unfold out
    rw [if_neg hl]
    rfl
end

end Cert.KernelDownIdeal.Grad

namespace Cert.Down

open Idealize.ShloMosaic Idealize.ShloMosaic.TcCoe Idealize.SL.Sem
open Cert.Grad Cert.ReferenceDownIdeal.Read

/-- The reference's result is the same array. -/
theorem reference_eq (x0 : Cert.ReferenceDownIdeal.S8192x4096.Idx → EReal) (x1 : Cert.ReferenceDownIdeal.S8192x1024.Idx → EReal)
    (x2 : Cert.ReferenceDownIdeal.S4x2x1024x1024.Idx → EReal) (i : Cert.ReferenceDownIdeal.S4x2x1024x1024.Idx) :
    (Cert.ReferenceDownIdeal.Read.val_main_v11 (F := Ideal) x0 x1 x2 i : EReal)
      = if (i 1).val = 0 then ∑ t : Fin 8192, x0 (ix2 t (Cert.KernelDownIdeal.Grad.hid (i 0) (i 2))) * x1 (ix2 t (i 3)) else x2 i := by
  obtain ⟨q, l, r, n, rfl⟩ : ∃ (q : Fin 4) (l : Fin 2) (r n : Fin 1024), i = ix4 q l r n := ⟨i 0, i 1, i 2, i 3, funext fun a => by fin_cases a <;> rfl⟩
  unfold Cert.ReferenceDownIdeal.Read.val_main_v11
  by_cases hl : l.val = 0
  · rw [if_pos (show ((ix4 q l r n : Cert.ReferenceDownIdeal.S4x2x1024x1024.Idx) 1).val = 0 from hl)]
    refine (concatenate_pair_apply_left 1 (val_main_v9 (F := Ideal) x0 x1) (val_main_v10 (F := Ideal) x2) _ (ix4 q l r n) rfl (ix4 q 0 r n)
      fun b => ?_).trans ?_
    · match b with
      | ⟨0, _⟩ => rfl
      | ⟨1, _⟩ => exact hl.symm
      | ⟨2, _⟩ => rfl
      | ⟨3, _⟩ => rfl
    rw [val_main_v9_apply, val_main_v6_apply, val_main_v5_apply, val_main_v4_apply]
    refine Finset.sum_congr rfl fun t _ => ?_
    rw [val_main_v0_apply, val_main_v1_apply, mul_comm]
    refine congrArg₂ (· * ·) (congrArg x0 ?_) (congrArg x1 ?_) <;> funext a <;> apply Fin.ext <;>
      match a with
      | ⟨0, _⟩ => rfl
      | ⟨1, _⟩ => first
        | (show ((q.val * 1024 + r.val) * 1024 + n.val) / 1024 = 1024 * q.val + r.val; omega)
        | (show ((q.val * 1024 + r.val) * 1024 + n.val) % 1024 = n.val; omega)
  · have hl1 : l.val = 1 := by omega
    rw [if_neg (show ¬((ix4 q l r n : Cert.ReferenceDownIdeal.S4x2x1024x1024.Idx) 1).val = 0 from hl)]
    refine (concatenate_pair_apply_right 1 (val_main_v9 (F := Ideal) x0 x1) (val_main_v10 (F := Ideal) x2) _ (ix4 q l r n) rfl rfl (ix4 q 0 r n)
      (fun b hb => ?_) hl1.symm).trans ?_
    · match b with
      | ⟨0, _⟩ => rfl
      | ⟨1, _⟩ => exact absurd rfl hb
      | ⟨2, _⟩ => rfl
      | ⟨3, _⟩ => rfl
    rw [val_main_v10_apply, val_main_v8_apply, val_main_v7_apply]
    refine congrArg x2 ?_
    funext a
    apply Fin.ext
    match a with
    | ⟨0, _⟩ => show ((q.val * 1024 + r.val) * 1024 + n.val) / 1048576 = q.val; omega
    | ⟨1, _⟩ => exact hl1.symm
    | ⟨2, _⟩ => show ((q.val * 1024 + r.val) * 1024 + n.val) / 1024 % 1024 = r.val; omega
    | ⟨3, _⟩ => show ((q.val * 1024 + r.val) * 1024 + n.val) % 1024 = n.val; omega

theorem frame_kernel : Cert.quiescent_KernelDown := fun m ρ _ => Cert.KernelDown.Gen.frame (F := Bits) m ρ

theorem frame_kernelIdeal : Cert.quiescent_KernelDownIdeal := fun m ρ _ => Cert.KernelDownIdeal.Gen.frame (F := Ideal) m ρ

theorem frame_referenceIdeal : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

theorem algebraic : Cert.algebraic_KernelDownIdeal_ReferenceDownIdeal := fun m g m' g' _ hargs => by
  refine ⟨Cert.KernelDownIdeal.Grad.out m, ?_, ?_⟩
  · exact (θ_run Cert.KernelDownIdeal.defs _ _).mono (fun r h c => ⟨(h c).1.trans (Cert.KernelDownIdeal.Grad.final m c), (h c).2⟩)
      (Cert.KernelDownIdeal.Value.run_blocks (F := Ideal) m g)
  · refine (θ_run Cert.ReferenceDownIdeal.defs _ _).mono (fun r h c => ⟨(h c).1.trans ?_, (h c).2⟩)
      (Cert.ReferenceDownIdeal.Value.run (F := Ideal) m' g')
    obtain ⟨e0, e1, e2⟩ := hargs c
    rw [e0, e1, e2]
    exact funext fun i => reference_eq _ _ _ i

end Cert.Down

end
-- ==== Proof.Up.lean ====
/- The gradient of a layer's first weight: what the product of the layer's input and the hidden gradient leaves. -/
module

public import proofs.«01_k».proof.Defs
public import proofs.«01_k».proof.Proof.Halves
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.ReferenceUpIdeal.Read
public import Idealize.ShloMosaic.Lib.Pointwise
public import Idealize.ShloMosaic.Lib.Tactic

@[expose] public section

noncomputable section

namespace Cert.KernelUpIdeal.Grad

open Idealize.ShloMosaic Idealize.ShloMosaic.TcCoe Idealize.SL.Sem
open Idealize.ShloMosaic.Pipeline (Dat)
open Cert.KernelUpIdeal Cert.KernelUpIdeal.Gen Cert.Grad

theorem hz2 : (![0, 0] : Fin 2 → Nat) = fun _ => 0 := funext fun a => by fin_cases a <;> rfl
theorem hz4 : (![0, 0, 0, 0] : Fin 4 → Nat) = fun _ => 0 := funext fun a => by fin_cases a <;> rfl

section
variable (c : Dev nD) (i : grid0.Coords) (a3 : Memref sig .tc .vmem S4096x1024 .bf16) (h3 : a3.IsWhole)
  (a4 : Memref sig .tc .vmem S4096x1024 .bf16) (h4 : a4.IsWhole) (a6 : Memref sig .tc .vmem S1x1x1024x1024 .f32) (h6 : a6.IsWhole)
  (x0 x1 : Vec Ideal S4096x1024 .bf16) (xo : Vec Ideal S1x1x1024x1024 .f32)

/-- A point past the first of its block adds the tile's product. -/
theorem out_B (hc : ¬cond0_0 i) : out0_B_2 c i a3 h3 a4 h4 a6 h6 hc x0 x1 xo = k0_pay2 xo x0 x1 := by
  unfold out0_B_2
  rw [View.read_writes_eq_canon _ _ _ (cover0_B_2 c i a3 h3 a4 h4 a6 h6 hc x0 x1 xo)]
  unfold kernelRun0_B
  dsimp only
  rw [View.canon_unit_zero hz4]
  simp only [View.readAt_eq_ld, h3.read_unread, h4.read_unread, h6.read_unread, View.ld_unit_zero (S := S4096x1024) hz2,
    View.ld_unit_zero (S := S1x1x1024x1024) hz4]

/-- The first point of a block sets it to zero and adds the tile's product. -/
theorem out_A (hc : cond0_0 i) : out0_A_2 c i a3 h3 a4 h4 a6 h6 hc x0 x1 = k0_pay2 k0_pay1 x0 x1 := by
  unfold out0_A_2
  rw [View.read_writes_eq_canon _ _ _ (cover0_A_2 c i a3 h3 a4 h4 a6 h6 hc x0 x1)]
  unfold kernelRun0_A
  dsimp only
  sl_unfold_words
  rw [View.canon_cons_unit_zero (S := S1x1x1024x1024) hz4, View.readCov_unit_zero (S := S1x1x1024x1024) _ hz4]
  simp only [View.readAt_eq_ld, h3.read_unread, h4.read_unread, View.ld_unit_zero (S := S4096x1024) hz2]

theorem pay_apply (r n : Fin 1024) :
    (k0_pay2 xo x0 x1 (ix4 0 0 r n) : EReal) = xo (ix4 0 0 r n) + ∑ k : Fin 4096, (x0 (ix2 k r) : EReal) * x1 (ix2 k n) := by
  pointwise [k0_pay2]

theorem zero_apply (r n : Fin 1024) : (k0_pay1 (F := Ideal) (ix4 0 0 r n) : EReal) = 0 := by
  pointwise [k0_pay1]
end

section
variable (m : (ℓ : Loc nD τ sig) → Buf (Elt Ideal) ℓ) (ρ : Dev nD → PrngReg) (c : Dev nD)

/-- The layer's input, the gradient at the hidden width, and the array of the two layers' gradients. -/
abbrev x0 : S8192x1024.Idx → EReal := m ((c.tc : Thread nD τ).loc main_arg0)
abbrev x1 : S8192x4096.Idx → EReal := m ((c.tc : Thread nD τ).loc main_arg1)
abbrev x2 : S4x2x1024x1024.Idx → EReal := m ((c.tc : Thread nD τ).loc main_arg2)

/-- Column `r` of block `q` of the hidden width. -/
def hid (q : Fin 4) (r : Fin 1024) : Fin 4096 := ⟨1024 * q.val + r.val, by omega⟩

/-- The result: the first layer's gradient in its place, the other layer's as given. -/
def out : S4x2x1024x1024.Idx → EReal := fun i =>
  if (i 1).val = 0 then ∑ t : Fin 8192, x0 m c (ix2 t (i 2)) * x1 m c (ix2 t (hid (i 0) (i 3))) else x2 m c i

theorem index0 : ∀ t : Fin grid0.N, win0_0.index t 0 = t.val % 2 ∧ win0_0.index t 1 = 0 := by decide +kernel
theorem index1 : ∀ t : Fin grid0.N, win0_1.index t 0 = t.val % 2 ∧ win0_1.index t 1 = t.val / 2 := by decide +kernel
theorem index2 : ∀ t : Fin grid0.N, win0_2.index t 0 = t.val / 2 ∧ win0_2.index t 1 = 0 ∧ win0_2.index t 2 = 0 ∧ win0_2.index t 3 = 0 := by
  decide +kernel

/-- The tile of the input read at point `t`. -/
theorem tile0 (t : Fin cfg0.N) (q : Fin 4) (b : Nat) (hb : b < 2) (ht : t.val = 2 * q.val + b) (k : Fin 4096) (r : Fin 1024) :
    (iblk m c 0 t (ix2 k r) : EReal) = x0 m c (ix2 (tok b hb k) r) := by
  have hi := index0 t
  unfold iblk
  rw [View.read_apply]
  show V m c main_arg0 _ = x0 m c _
  rw [V_main_arg0]
  refine congrArg (x0 m c) ?_
  funext a
  apply Fin.ext
  match a with
  | ⟨0, _⟩ => show win0_0.index t 0 * 4096 + 1 * k.val = 4096 * b + k.val; rw [hi.1]; omega
  | ⟨1, _⟩ => show win0_0.index t 1 * 1024 + 1 * r.val = r.val; rw [hi.2]; omega

/-- The tile of the gradient read at point `t`. -/
theorem tile1 (t : Fin cfg0.N) (q : Fin 4) (b : Nat) (hb : b < 2) (ht : t.val = 2 * q.val + b) (k : Fin 4096) (n : Fin 1024) :
    (iblk m c 1 t (ix2 k n) : EReal) = x1 m c (ix2 (tok b hb k) (hid q n)) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 4096 + 1 * k.val = 4096 * b + k.val; rw [hi.1]; omega
  | ⟨1, _⟩ => show win0_1.index t 1 * 1024 + 1 * n.val = 1024 * q.val + n.val; rw [hi.2]; omega

/-- After the second point of block `q` its staging buffer holds the whole product. -/
theorem outsAt_apply (t : Fin cfg0.N) (q : Fin 4) (ht : t.val = 2 * q.val + 1) (r n : Fin 1024) :
    (outsAt0 m c t.val t.isLt (ix4 0 0 r n) : EReal) = ∑ k : Fin 8192, x0 m c (ix2 k r) * x1 m c (ix2 k (hid q n)) := by
  rw [outsAt0_B m c t (by omega), out_B, pay_apply]
  have h8 : t.val < 8 := lt_of_lt_of_eq t.isLt (show cfg0.N = 8 from N_0)
  have hs : t.val - 1 < cfg0.N := Nat.lt_of_le_of_lt (Nat.sub_le _ _) t.isLt
  have e := outsAt0_A m c ⟨t.val - 1, hs⟩ (by show (t.val - 1) % 2 = 0; omega)
  rw [show outsAt0 m c (t.val - 1) _ = _ from e, out_A, pay_apply, zero_apply]
  refine halves_eq (fun k => x0 m c (ix2 k r) * x1 m c (ix2 k (hid q n))) _ _ (fun k => ?_) (fun k => ?_)
  · rw [tile0 m c _ q 0 (by decide) (by show t.val - 1 = _; omega), tile1 m c _ q 0 (by decide) (by show t.val - 1 = _; omega)]
  · rw [tile0 m c t q 1 (by decide) ht, tile1 m c t q 1 (by decide) ht]

/-- What is written back is its block of `out`. -/
theorem flushed_eq (t : Fin cfg0.N) (hf : (cfg0.win 2).flush t = true) :
    (dats m 0 c).flushed 2 t = ((cfg0.win 2).blk t).view.read (Elt Ideal) (out m c) := by
  have h8 : t.val < 8 := lt_of_lt_of_eq t.isLt (show cfg0.N = 8 from N_0)
  have h1 : t.val % 2 = 1 := (flush0_2 t).mp hf
  have hi := index2 t
  rw [Cert.KernelUpIdeal.Value.flushed2]
  funext y
  have y0 : (y 0).val < 1 := (y 0).isLt
  have y1 : (y 1).val < 1 := (y 1).isLt
  have y2 : (y 2).val < 1024 := (y 2).isLt
  have y3 : (y 3).val < 1024 := (y 3).isLt
  have e : ((cfg0.win 2).blk t).view.emb y = (ix4 ⟨t.val / 2, by omega⟩ 0 ⟨(y 2).val, y2⟩ ⟨(y 3).val, y3⟩ : S4x2x1024x1024.Idx) := by
    funext a
    apply Fin.ext
    match a with
    | ⟨0, _⟩ => show win0_2.index t 0 * 1 + 1 * (y 0).val = t.val / 2; rw [hi.1]; omega
    | ⟨1, _⟩ => show win0_2.index t 1 * 1 + 1 * (y 1).val = 0; rw [hi.2.1]; omega
    | ⟨2, _⟩ => show win0_2.index t 2 * 1024 + 1 * (y 2).val = (y 2).val; rw [hi.2.2.1]; omega
    | ⟨3, _⟩ => show win0_2.index t 3 * 1024 + 1 * (y 3).val = (y 3).val; rw [hi.2.2.2]; omega
  have e' : (cfg0.win 2).xinj (grid0.coords t) y = (ix4 0 0 ⟨(y 2).val, y2⟩ ⟨(y 3).val, y3⟩ : S1x1x1024x1024.Idx) := by
    funext a
    apply Fin.ext
    match a with
    | ⟨0, _⟩ => show (y 0).val = 0; omega
    | ⟨1, _⟩ => show (y 1).val = 0; omega
    | ⟨2, _⟩ => rfl
    | ⟨3, _⟩ => rfl
  have h := outsAt_apply m c t ⟨t.val / 2, by omega⟩ (by show t.val = 2 * (t.val / 2) + 1; omega) ⟨(y 2).val, y2⟩ ⟨(y 3).val, y3⟩
  rw [← e'] at h
  exact h.trans (congrArg (out m c) e).symm

/-- An index is in the block written back at point `t` when it is of the first layer and of that block. -/
theorem mem_blk (t : Fin cfg0.N) (i : S4x2x1024x1024.Idx) :
    i ∈ ((cfg0.win 2).blk t).view.set ↔ (i 0).val = t.val / 2 ∧ (i 1).val = 0 := by
  have hi := index2 t
  show i ∈ ((View.whole main_v0).slice (win0_2.rect t)).set ↔ _
  rw [View.set_slice_whole, Rect.mem_set_unit]
  have b2 : (i 2).val < 1024 := (i 2).isLt
  have b3 : (i 3).val < 1024 := (i 3).isLt
  constructor
  · intro h
    have h0 : win0_2.index t 0 * 1 ≤ (i 0).val ∧ (i 0).val < win0_2.index t 0 * 1 + 1 := h 0
    have h1 : win0_2.index t 1 * 1 ≤ (i 1).val ∧ (i 1).val < win0_2.index t 1 * 1 + 1 := h 1
    rw [hi.1] at h0; rw [hi.2.1] at h1
    omega
  · rintro ⟨h0, h1⟩ a
    match a with
    | ⟨0, _⟩ => show win0_2.index t 0 * 1 ≤ (i 0).val ∧ (i 0).val < win0_2.index t 0 * 1 + 1; rw [hi.1]; omega
    | ⟨1, _⟩ => show win0_2.index t 1 * 1 ≤ (i 1).val ∧ (i 1).val < win0_2.index t 1 * 1 + 1; rw [hi.2.1]; omega
    | ⟨2, _⟩ => show win0_2.index t 2 * 1024 ≤ (i 2).val ∧ (i 2).val < win0_2.index t 2 * 1024 + 1024; rw [hi.2.2.1]; omega
    | ⟨3, _⟩ => show win0_2.index t 3 * 1024 ≤ (i 3).val ∧ (i 3).val < win0_2.index t 3 * 1024 + 1024; rw [hi.2.2.2]; omega

/-- The array after the call. -/
theorem final : (dats m 0 c).arrAt 2 cfg0.N = out m c := by
  funext i
  rw [(dats m 0 c).arrAt_eq_piecewise 2 (out m c) (flushed_eq m c) i]
  split
  · rfl
  · rename_i h
    have hl : (i 1).val ≠ 0 := fun e => h ⟨⟨2 * (i 0).val + 1, by
        have h4 : (i 0).val < 4 := (i 0).isLt
        show _ < cfg0.N
        rw [show cfg0.N = 8 from N_0]; omega⟩,
      (flush0_2 _).mpr (by show (2 * (i 0).val + 1) % 2 = 1; omega), (mem_blk _ i).mpr ⟨by show (i 0).val = (2 * (i 0).val + 1) / 2; omega, e⟩⟩
    rw [A_eq]
    show V m c main_v0 i = out m c i
    unfold out
    rw [if_neg hl]
    rfl
end

end Cert.KernelUpIdeal.Grad

namespace Cert.Up

open Idealize.ShloMosaic Idealize.ShloMosaic.TcCoe Idealize.SL.Sem
open Cert.Grad Cert.ReferenceUpIdeal.Read

/-- The reference's result is the same array. -/
theorem reference_eq (x0 : Cert.ReferenceUpIdeal.S8192x1024.Idx → EReal) (x1 : Cert.ReferenceUpIdeal.S8192x4096.Idx → EReal)
    (x2 : Cert.ReferenceUpIdeal.S4x2x1024x1024.Idx → EReal) (i : Cert.ReferenceUpIdeal.S4x2x1024x1024.Idx) :
    (Cert.ReferenceUpIdeal.Read.val_main_v12 (F := Ideal) x0 x1 x2 i : EReal)
      = if (i 1).val = 0 then ∑ t : Fin 8192, x0 (ix2 t (i 2)) * x1 (ix2 t (Cert.KernelUpIdeal.Grad.hid (i 0) (i 3))) else x2 i := by
  obtain ⟨q, l, r, n, rfl⟩ : ∃ (q : Fin 4) (l : Fin 2) (r n : Fin 1024), i = ix4 q l r n := ⟨i 0, i 1, i 2, i 3, funext fun a => by fin_cases a <;> rfl⟩
  unfold Cert.ReferenceUpIdeal.Read.val_main_v12
  by_cases hl : l.val = 0
  · rw [if_pos (show ((ix4 q l r n : Cert.ReferenceUpIdeal.S4x2x1024x1024.Idx) 1).val = 0 from hl)]
    refine (concatenate_pair_apply_left 1 (val_main_v10 (F := Ideal) x0 x1) (val_main_v11 (F := Ideal) x2) _ (ix4 q l r n) rfl (ix4 q 0 r n)
      fun b => ?_).trans ?_
    · match b with
      | ⟨0, _⟩ => rfl
      | ⟨1, _⟩ => exact hl.symm
      | ⟨2, _⟩ => rfl
      | ⟨3, _⟩ => rfl
    rw [val_main_v10_apply, val_main_v7_apply, val_main_v6_apply, val_main_v5_apply, val_main_v4_apply]
    refine Finset.sum_congr rfl fun t _ => ?_
    rw [val_main_v0_apply, val_main_v1_apply, mul_comm]
    refine congrArg₂ (· * ·) (congrArg x0 ?_) (congrArg x1 ?_) <;> funext a <;> apply Fin.ext <;>
      match a with
      | ⟨0, _⟩ => rfl
      | ⟨1, _⟩ => first
        | (show ((r.val * 4 + q.val) * 1024 + n.val) / 4096 = r.val; omega)
        | (show ((r.val * 4 + q.val) * 1024 + n.val) % 4096 = 1024 * q.val + n.val; omega)
  · have hl1 : l.val = 1 := by omega
    rw [if_neg (show ¬((ix4 q l r n : Cert.ReferenceUpIdeal.S4x2x1024x1024.Idx) 1).val = 0 from hl)]
    refine (concatenate_pair_apply_right 1 (val_main_v10 (F := Ideal) x0 x1) (val_main_v11 (F := Ideal) x2) _ (ix4 q l r n) rfl rfl (ix4 q 0 r n)
      (fun b hb => ?_) hl1.symm).trans ?_
    · match b with
      | ⟨0, _⟩ => rfl
      | ⟨1, _⟩ => exact absurd rfl hb
      | ⟨2, _⟩ => rfl
      | ⟨3, _⟩ => rfl
    rw [val_main_v11_apply, val_main_v9_apply, val_main_v8_apply]
    refine congrArg x2 ?_
    funext a
    apply Fin.ext
    match a with
    | ⟨0, _⟩ => show ((q.val * 1024 + r.val) * 1024 + n.val) / 1048576 = q.val; omega
    | ⟨1, _⟩ => exact hl1.symm
    | ⟨2, _⟩ => show ((q.val * 1024 + r.val) * 1024 + n.val) / 1024 % 1024 = r.val; omega
    | ⟨3, _⟩ => show ((q.val * 1024 + r.val) * 1024 + n.val) % 1024 = n.val; omega

theorem frame_kernel : Cert.quiescent_KernelUp := fun m ρ _ => Cert.KernelUp.Gen.frame (F := Bits) m ρ

theorem frame_kernelIdeal : Cert.quiescent_KernelUpIdeal := fun m ρ _ => Cert.KernelUpIdeal.Gen.frame (F := Ideal) m ρ

theorem frame_referenceIdeal : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

theorem algebraic : Cert.algebraic_KernelUpIdeal_ReferenceUpIdeal := fun m g m' g' _ hargs => by
  refine ⟨Cert.KernelUpIdeal.Grad.out m, ?_, ?_⟩
  · exact (θ_run Cert.KernelUpIdeal.defs _ _).mono (fun r h c => ⟨(h c).1.trans (Cert.KernelUpIdeal.Grad.final m c), (h c).2⟩)
      (Cert.KernelUpIdeal.Value.run_blocks (F := Ideal) m g)
  · refine (θ_run Cert.ReferenceUpIdeal.defs _ _).mono (fun r h c => ⟨(h c).1.trans ?_, (h c).2⟩)
      (Cert.ReferenceUpIdeal.Value.run (F := Ideal) m' g')
    obtain ⟨e0, e1, e2⟩ := hargs c
    rw [e0, e1, e2]
    exact funext fun i => reference_eq _ _ _ i

end Cert.Up

end
-- ==== Proof.DownB.lean ====
/- The gradient of the last layer's second weight: what the product of the activations and the output's gradient leaves. -/
module

public import proofs.«01_k».proof.Defs
public import proofs.«01_k».proof.Proof.Halves
public import proofs.«01_k».proof.Proof.Gen.KernelDownB.Frame
public import proofs.«01_k».proof.Proof.Gen.KernelDownBIdeal.Frame
public import proofs.«01_k».proof.Proof.Gen.ReferenceDownBIdeal.Run
public import proofs.«01_k».proof.Proof.Gen.ReferenceDownBIdeal.Read
public import Idealize.ShloMosaic.Lib.Pipeline.Value
public import Idealize.ShloMosaic.Lib.Pointwise
public import Idealize.ShloMosaic.Lib.StableHlo.ReadAt
public import Idealize.ShloMosaic.Lib.Tactic

@[expose] public section

noncomputable section

namespace Cert.KernelDownBIdeal.Grad

open Idealize.ShloMosaic Idealize.ShloMosaic.TcCoe Idealize.SL.Sem
open Idealize.ShloMosaic.Pipeline (Dat)
open Cert.KernelDownBIdeal Cert.KernelDownBIdeal.Gen Cert.Grad

theorem hz2 : (![0, 0] : Fin 2 → Nat) = fun _ => 0 := funext fun a => by fin_cases a <;> rfl
theorem hz4 : (![0, 0, 0, 0] : Fin 4 → Nat) = fun _ => 0 := funext fun a => by fin_cases a <;> rfl

section
variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1x1x1024x1024 .f32) (h5 : a5.IsWhole)
  (x0 x1 : Vec Ideal S4096x1024 .bf16) (xo : Vec Ideal S1x1x1024x1024 .f32)

/-- A point past the first of its block adds the tile's product. -/
theorem out_B (hc : ¬cond0_0 i) : out0_B_2 c i a3 h3 a4 h4 a5 h5 hc x0 x1 xo = k0_pay2 xo x0 x1 := by
  unfold out0_B_2
  rw [View.read_writes_eq_canon _ _ _ (cover0_B_2 c i a3 h3 a4 h4 a5 h5 hc x0 x1 xo)]
  unfold kernelRun0_B
  dsimp only
  rw [View.canon_unit_zero hz4]
  simp only [View.readAt_eq_ld, h3.read_unread, h4.read_unread, h5.read_unread, View.ld_unit_zero (S := S4096x1024) hz2,
    View.ld_unit_zero (S := S1x1x1024x1024) hz4]

/-- The first point of a block sets it to zero and adds the tile's product. -/
theorem out_A (hc : cond0_0 i) : out0_A_2 c i a3 h3 a4 h4 a5 h5 hc x0 x1 = k0_pay2 k0_pay1 x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1x1024x1024) hz4, View.readCov_unit_zero (S := S1x1x1024x1024) _ hz4]
  simp only [View.readAt_eq_ld, h3.read_unread, h4.read_unread, View.ld_unit_zero (S := S4096x1024) hz2]

theorem pay_apply (r n : Fin 1024) :
    (k0_pay2 xo x0 x1 (ix4 0 0 r n) : EReal) = xo (ix4 0 0 r n) + ∑ k : Fin 4096, (x0 (ix2 k r) : EReal) * x1 (ix2 k n) := by
  pointwise [k0_pay2]

theorem zero_apply (r n : Fin 1024) : (k0_pay1 (F := Ideal) (ix4 0 0 r n) : EReal) = 0 := by
  pointwise [k0_pay1]
end

section
variable (m : (ℓ : Loc nD τ sig) → Buf (Elt Ideal) ℓ) (ρ : Dev nD → PrngReg) (c : Dev nD)

/-- The activations and the gradient of the output. -/
abbrev x0 : S8192x4096.Idx → EReal := m ((c.tc : Thread nD τ).loc main_arg0)
abbrev x1 : S8192x1024.Idx → EReal := m ((c.tc : Thread nD τ).loc main_arg1)

/-- Row `r` of block `q` of the hidden width. -/
def hid (q : Fin 4) (r : Fin 1024) : Fin 4096 := ⟨1024 * q.val + r.val, by omega⟩

/-- The gradient, at a place of either layer. -/
def out : S4x2x1024x1024.Idx → EReal := fun i => ∑ t : Fin 8192, x0 m c (ix2 t (hid (i 0) (i 2))) * x1 m c (ix2 t (i 3))

theorem out_apply (q : Fin 4) (l : Fin 2) (r n : Fin 1024) :
    out m c (ix4 q l r n) = ∑ t : Fin 8192, x0 m c (ix2 t (hid q r)) * x1 m c (ix2 t n) := rfl

/-- The layer's own half: what is returned. -/
def half : S4x1024x1024.Idx → EReal := fun i => out m c (ix4 (i 0) 1 (i 1) (i 2))

theorem index0 : ∀ t : Fin grid0.N, win0_0.index t 0 = t.val % 2 ∧ win0_0.index t 1 = t.val / 2 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = 1 ∧ win0_2.index t 2 = 0 ∧ win0_2.index t 3 = 0 := by
  decide +kernel

/-- The tile of activations read at point `t`. -/
theorem tile0 (t : Fin cfg0.N) (q : Fin 4) (b : Nat) (hb : b < 2) (ht : t.val = 2 * q.val + b) (k : Fin 4096) (r : Fin 1024) :
    (iblk m c 0 t (ix2 k r) : EReal) = x0 m c (ix2 (tok b hb k) (hid q r)) := by
  have hi := index0 t
  unfold iblk
  rw [View.read_apply]
  show V m c main_arg0 _ = x0 m c _
  rw [V_main_arg0]
  refine congrArg (x0 m c) ?_
  funext a
  apply Fin.ext
  match a with
  | ⟨0, _⟩ => show win0_0.index t 0 * 4096 + 1 * k.val = 4096 * b + k.val; rw [hi.1]; omega
  | ⟨1, _⟩ => show win0_0.index t 1 * 1024 + 1 * r.val = 1024 * q.val + r.val; rw [hi.2]; omega

/-- The tile of the gradient read at point `t`. -/
theorem tile1 (t : Fin cfg0.N) (q : Fin 4) (b : Nat) (hb : b < 2) (ht : t.val = 2 * q.val + b) (k : Fin 4096) (n : Fin 1024) :
    (iblk m c 1 t (ix2 k n) : EReal) = x1 m c (ix2 (tok b hb k) n) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 4096 + 1 * k.val = 4096 * b + k.val; rw [hi.1]; omega
  | ⟨1, _⟩ => show win0_1.index t 1 * 1024 + 1 * n.val = n.val; rw [hi.2]; omega

/-- After the second point of block `q` its staging buffer holds the whole product. -/
theorem outsAt_apply (t : Fin cfg0.N) (q : Fin 4) (ht : t.val = 2 * q.val + 1) (r n : Fin 1024) :
    (outsAt0 m c t.val t.isLt (ix4 0 0 r n) : EReal) = ∑ k : Fin 8192, x0 m c (ix2 k (hid q r)) * x1 m c (ix2 k n) := by
  rw [outsAt0_B m c t (by omega), out_B, pay_apply]
  have h8 : t.val < 8 := lt_of_lt_of_eq t.isLt (show cfg0.N = 8 from N_0)
  have hs : t.val - 1 < cfg0.N := Nat.lt_of_le_of_lt (Nat.sub_le _ _) t.isLt
  have e := outsAt0_A m c ⟨t.val - 1, hs⟩ (by show (t.val - 1) % 2 = 0; omega)
  rw [show outsAt0 m c (t.val - 1) _ = _ from e, out_A, pay_apply, zero_apply]
  refine halves_eq (fun k => x0 m c (ix2 k (hid q r)) * x1 m c (ix2 k n)) _ _ (fun k => ?_) (fun k => ?_)
  · rw [tile0 m c _ q 0 (by decide) (by show t.val - 1 = _; omega), tile1 m c _ q 0 (by decide) (by show t.val - 1 = _; omega)]
  · rw [tile0 m c t q 1 (by decide) ht, tile1 m c t q 1 (by decide) ht]

/-- What is written back is its block of `out`. -/
theorem flushed_eq (t : Fin cfg0.N) (hf : (cfg0.win 2).flush t = true) :
    (dats m 0 c).flushed 2 t = ((cfg0.win 2).blk t).view.read (Elt Ideal) (out m c) := by
  have h8 : t.val < 8 := lt_of_lt_of_eq t.isLt (show cfg0.N = 8 from N_0)
  have h1 : t.val % 2 = 1 := (flush0_2 t).mp hf
  have hi := index2 t
  show (cfg0.win 2).cut (grid0.coords t) ((dats m 0 c).after 2 t) = _
  rw [after0_2]
  funext y
  have y0 : (y 0).val < 1 := (y 0).isLt
  have y1 : (y 1).val < 1 := (y 1).isLt
  have y2 : (y 2).val < 1024 := (y 2).isLt
  have y3 : (y 3).val < 1024 := (y 3).isLt
  have e : ((cfg0.win 2).blk t).view.emb y = (ix4 ⟨t.val / 2, by omega⟩ 1 ⟨(y 2).val, y2⟩ ⟨(y 3).val, y3⟩ : S4x2x1024x1024.Idx) := by
    funext a
    apply Fin.ext
    match a with
    | ⟨0, _⟩ => show win0_2.index t 0 * 1 + 1 * (y 0).val = t.val / 2; rw [hi.1]; omega
    | ⟨1, _⟩ => show win0_2.index t 1 * 1 + 1 * (y 1).val = 1; rw [hi.2.1]; omega
    | ⟨2, _⟩ => show win0_2.index t 2 * 1024 + 1 * (y 2).val = (y 2).val; rw [hi.2.2.1]; omega
    | ⟨3, _⟩ => show win0_2.index t 3 * 1024 + 1 * (y 3).val = (y 3).val; rw [hi.2.2.2]; omega
  have e' : (cfg0.win 2).xinj (grid0.coords t) y = (ix4 0 0 ⟨(y 2).val, y2⟩ ⟨(y 3).val, y3⟩ : S1x1x1024x1024.Idx) := by
    funext a
    apply Fin.ext
    match a with
    | ⟨0, _⟩ => show (y 0).val = 0; omega
    | ⟨1, _⟩ => show (y 1).val = 0; omega
    | ⟨2, _⟩ => rfl
    | ⟨3, _⟩ => rfl
  have h := outsAt_apply m c t ⟨t.val / 2, by omega⟩ (by show t.val = 2 * (t.val / 2) + 1; omega) ⟨(y 2).val, y2⟩ ⟨(y 3).val, y3⟩
  rw [← e'] at h
  have k : ∀ G : S4x2x1024x1024.Idx → EReal, ((cfg0.win 2).blk t).view.read (Elt Ideal) G y
      = G (ix4 ⟨t.val / 2, by omega⟩ 1 ⟨(y 2).val, y2⟩ ⟨(y 3).val, y3⟩) := fun G => congrArg G e
  exact h.trans ((out_apply m c _ _ _ _).symm.trans (k (out m c)).symm)

/-- An index of the layer is in the block written back at the last point of its block. -/
theorem mem_blk (t : Fin cfg0.N) (i : S4x2x1024x1024.Idx) (h0 : (i 0).val = t.val / 2) (h1 : (i 1).val = 1) :
    i ∈ ((cfg0.win 2).blk t).view.set := by
  have hi := index2 t
  show i ∈ ((View.whole main_v0).slice (win0_2.rect t)).set
  rw [View.set_slice_whole, Rect.mem_set_unit]
  have b2 : (i 2).val < 1024 := (i 2).isLt
  have b3 : (i 3).val < 1024 := (i 3).isLt
  intro a
  match a with
  | ⟨0, _⟩ => show win0_2.index t 0 * 1 ≤ (i 0).val ∧ (i 0).val < win0_2.index t 0 * 1 + 1; rw [hi.1]; omega
  | ⟨1, _⟩ => show win0_2.index t 1 * 1 ≤ (i 1).val ∧ (i 1).val < win0_2.index t 1 * 1 + 1; rw [hi.2.1]; omega
  | ⟨2, _⟩ => show win0_2.index t 2 * 1024 ≤ (i 2).val ∧ (i 2).val < win0_2.index t 2 * 1024 + 1024; rw [hi.2.2.1]; omega
  | ⟨3, _⟩ => show win0_2.index t 3 * 1024 ≤ (i 3).val ∧ (i 3).val < win0_2.index t 3 * 1024 + 1024; rw [hi.2.2.2]; omega

/-- The layer's half of the array after the call. -/
theorem final (q : Fin 4) (r n : Fin 1024) : (dats m 0 c).arrAt 2 cfg0.N (ix4 q 1 r n : S4x2x1024x1024.Idx) = out m c (ix4 q 1 r n) := by
  rw [(dats m 0 c).arrAt_eq_piecewise 2 (out m c) (flushed_eq m c)]
  exact if_pos ⟨⟨2 * q.val + 1, by show _ < cfg0.N; rw [show cfg0.N = 8 from N_0]; omega⟩,
    (flush0_2 _).mpr (by show (2 * q.val + 1) % 2 = 1; omega), mem_blk _ _ (by show q.val = (2 * q.val + 1) / 2; omega) rfl⟩

/-- What the lines after the call return of an array. -/
theorem tail_apply (W : Valuation τ sig (Elt Ideal)) (q : Fin 4) (r n : Fin 1024) :
    StableHlo.after hostOps1 W (Proc.devRef .tc main_v2) (ix3 q r n : S4x1024x1024.Idx) = W (Proc.devRef .tc main_v0) (ix4 q 1 r n : S4x2x1024x1024.Idx) := by
  after_reads_at

/-- What is returned. -/
theorem returned : Pipeline.afterTail₀ cfgs (dats m) 0 (V0 m) [hostOps1] c main_v2 = half m c := by
  unfold Pipeline.afterTail₀
  funext i
  obtain ⟨q, r, n, rfl⟩ : ∃ (q : Fin 4) (r n : Fin 1024), i = (ix3 q r n : S4x1024x1024.Idx) := ⟨i 0, i 1, i 2, funext fun a => by fin_cases a <;> rfl⟩
  refine (tail_apply _ q r n).trans ?_
  have e := Pipeline.withArrays_arr spec0 winFacts0.arr_inj c (V0 m c) (fun w => (dats m 0 c).arrAt w cfg0.N) 2
  exact (congrFun e (ix4 q 1 r n : S4x2x1024x1024.Idx)).trans (final m c q r n)

theorem run (ρ : Dev nD → PrngReg) : θ_run defs (onTc (τ := τ) (main (F := Ideal))) ⟨m, fun _ => 0, ρ⟩ fun r => ∀ c : Dev nD,
      r.2.mem ((c.tc : Thread nD τ).loc main_v2) = half m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (Pipeline.mem_restRefs_of main_v2 (by decide) (by decide))).trans (returned m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)
end

end Cert.KernelDownBIdeal.Grad

namespace Cert.DownB

open Idealize.ShloMosaic Idealize.ShloMosaic.TcCoe Idealize.SL.Sem
open Cert.Grad Cert.ReferenceDownBIdeal.Read

/-- The reference's result is the same array. -/
theorem reference_eq (x0 : Cert.ReferenceDownBIdeal.S8192x4096.Idx → EReal) (x1 : Cert.ReferenceDownBIdeal.S8192x1024.Idx → EReal) (i : Cert.ReferenceDownBIdeal.S4x1024x1024.Idx) :
    (Cert.ReferenceDownBIdeal.Read.val_main_v6 (F := Ideal) x0 x1 i : EReal)
      = ∑ t : Fin 8192, x0 (ix2 t (Cert.KernelDownBIdeal.Grad.hid (i 0) (i 1))) * x1 (ix2 t (i 2)) := by
  obtain ⟨q, r, n, rfl⟩ : ∃ (q : Fin 4) (r n : Fin 1024), i = ix3 q r n := ⟨i 0, i 1, i 2, funext fun a => by fin_cases a <;> rfl⟩
  rw [val_main_v6_apply, val_main_v5_apply, val_main_v4_apply]
  refine Finset.sum_congr rfl fun t _ => ?_
  rw [val_main_v0_apply, val_main_v1_apply, mul_comm]
  refine congrArg₂ (· * ·) (congrArg x0 ?_) (congrArg x1 ?_) <;> funext a <;> apply Fin.ext <;>
    match a with
      | ⟨0, _⟩ => rfl
      | ⟨1, _⟩ => first
        | (show ((q.val * 1024 + r.val) * 1024 + n.val) / 1024 = 1024 * q.val + r.val; omega)
        | (show ((q.val * 1024 + r.val) * 1024 + n.val) % 1024 = n.val; omega)

theorem frame_kernel : Cert.quiescent_KernelDownB := fun m ρ _ => Cert.KernelDownB.Gen.frame (F := Bits) m ρ

theorem frame_kernelIdeal : Cert.quiescent_KernelDownBIdeal := fun m ρ _ => Cert.KernelDownBIdeal.Gen.frame (F := Ideal) m ρ

theorem frame_referenceIdeal : Cert.quiescent_ReferenceDownBIdeal := fun m ρ _ =>
  (θ_run Cert.ReferenceDownBIdeal.defs _ _).mono (fun r h => ⟨fun c => (h c).2, sem_eq_zero_of_no_sems (by decide) r.2⟩)
    (Cert.ReferenceDownBIdeal.Value.run (F := Ideal) m ρ)

theorem algebraic : Cert.algebraic_KernelDownBIdeal_ReferenceDownBIdeal := fun m g m' g' _ hargs => by
  refine ⟨Cert.KernelDownBIdeal.Grad.half m, Cert.KernelDownBIdeal.Grad.run m g, ?_⟩
  refine (θ_run Cert.ReferenceDownBIdeal.defs _ _).mono (fun r h c => ⟨(h c).1.trans ?_, (h c).2⟩)
    (Cert.ReferenceDownBIdeal.Value.run (F := Ideal) m' g')
  obtain ⟨e0, e1⟩ := hargs c
  rw [e0, e1]
  exact funext fun i => reference_eq _ _ i

end Cert.DownB

end
-- ==== Proof.UpB.lean ====
/- The gradient of the last layer's first weight: what the product of the layer's input and the hidden gradient leaves. -/
module

public import proofs.«01_k».proof.Defs
public import proofs.«01_k».proof.Proof.Halves
public import proofs.«01_k».proof.Proof.Gen.KernelUpB.Frame
public import proofs.«01_k».proof.Proof.Gen.KernelUpBIdeal.Frame
public import proofs.«01_k».proof.Proof.Gen.ReferenceUpBIdeal.Run
public import proofs.«01_k».proof.Proof.Gen.ReferenceUpBIdeal.Read
public import Idealize.ShloMosaic.Lib.Pipeline.Value
public import Idealize.ShloMosaic.Lib.Pointwise
public import Idealize.ShloMosaic.Lib.StableHlo.ReadAt
public import Idealize.ShloMosaic.Lib.Tactic

@[expose] public section

noncomputable section

namespace Cert.KernelUpBIdeal.Grad

open Idealize.ShloMosaic Idealize.ShloMosaic.TcCoe Idealize.SL.Sem
open Idealize.ShloMosaic.Pipeline (Dat)
open Cert.KernelUpBIdeal Cert.KernelUpBIdeal.Gen Cert.Grad

theorem hz2 : (![0, 0] : Fin 2 → Nat) = fun _ => 0 := funext fun a => by fin_cases a <;> rfl
theorem hz4 : (![0, 0, 0, 0] : Fin 4 → Nat) = fun _ => 0 := funext fun a => by fin_cases a <;> rfl

section
variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1x1x1024x1024 .f32) (h5 : a5.IsWhole)
  (x0 x1 : Vec Ideal S4096x1024 .bf16) (xo : Vec Ideal S1x1x1024x1024 .f32)

/-- A point past the first of its block adds the tile's product. -/
theorem out_B (hc : ¬cond0_0 i) : out0_B_2 c i a3 h3 a4 h4 a5 h5 hc x0 x1 xo = k0_pay2 xo x0 x1 := by
  unfold out0_B_2
  rw [View.read_writes_eq_canon _ _ _ (cover0_B_2 c i a3 h3 a4 h4 a5 h5 hc x0 x1 xo)]
  unfold kernelRun0_B
  dsimp only
  rw [View.canon_unit_zero hz4]
  simp only [View.readAt_eq_ld, h3.read_unread, h4.read_unread, h5.read_unread, View.ld_unit_zero (S := S4096x1024) hz2,
    View.ld_unit_zero (S := S1x1x1024x1024) hz4]

/-- The first point of a block sets it to zero and adds the tile's product. -/
theorem out_A (hc : cond0_0 i) : out0_A_2 c i a3 h3 a4 h4 a5 h5 hc x0 x1 = k0_pay2 k0_pay1 x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1x1024x1024) hz4, View.readCov_unit_zero (S := S1x1x1024x1024) _ hz4]
  simp only [View.readAt_eq_ld, h3.read_unread, h4.read_unread, View.ld_unit_zero (S := S4096x1024) hz2]

theorem pay_apply (r n : Fin 1024) :
    (k0_pay2 xo x0 x1 (ix4 0 0 r n) : EReal) = xo (ix4 0 0 r n) + ∑ k : Fin 4096, (x0 (ix2 k r) : EReal) * x1 (ix2 k n) := by
  pointwise [k0_pay2]

theorem zero_apply (r n : Fin 1024) : (k0_pay1 (F := Ideal) (ix4 0 0 r n) : EReal) = 0 := by
  pointwise [k0_pay1]
end

section
variable (m : (ℓ : Loc nD τ sig) → Buf (Elt Ideal) ℓ) (ρ : Dev nD → PrngReg) (c : Dev nD)

/-- The layer's input and the gradient at the hidden width. -/
abbrev x0 : S8192x1024.Idx → EReal := m ((c.tc : Thread nD τ).loc main_arg0)
abbrev x1 : S8192x4096.Idx → EReal := m ((c.tc : Thread nD τ).loc main_arg1)

/-- Column `r` of block `q` of the hidden width. -/
def hid (q : Fin 4) (r : Fin 1024) : Fin 4096 := ⟨1024 * q.val + r.val, by omega⟩

/-- The gradient, at a place of either layer. -/
def out : S4x2x1024x1024.Idx → EReal := fun i => ∑ t : Fin 8192, x0 m c (ix2 t (i 2)) * x1 m c (ix2 t (hid (i 0) (i 3)))

theorem out_apply (q : Fin 4) (l : Fin 2) (r n : Fin 1024) :
    out m c (ix4 q l r n) = ∑ t : Fin 8192, x0 m c (ix2 t r) * x1 m c (ix2 t (hid q n)) := rfl

/-- The layer's own half: what is returned. -/
def half : S4x1024x1024.Idx → EReal := fun i => out m c (ix4 (i 0) 1 (i 1) (i 2))

theorem index0 : ∀ t : Fin grid0.N, win0_0.index t 0 = t.val % 2 ∧ win0_0.index t 1 = 0 := by decide +kernel
theorem index1 : ∀ t : Fin grid0.N, win0_1.index t 0 = t.val % 2 ∧ win0_1.index t 1 = t.val / 2 := by decide +kernel
theorem index2 : ∀ t : Fin grid0.N, win0_2.index t 0 = t.val / 2 ∧ win0_2.index t 1 = 1 ∧ win0_2.index t 2 = 0 ∧ win0_2.index t 3 = 0 := by
  decide +kernel

/-- The tile of the input read at point `t`. -/
theorem tile0 (t : Fin cfg0.N) (q : Fin 4) (b : Nat) (hb : b < 2) (ht : t.val = 2 * q.val + b) (k : Fin 4096) (r : Fin 1024) :
    (iblk m c 0 t (ix2 k r) : EReal) = x0 m c (ix2 (tok b hb k) r) := by
  have hi := index0 t
  unfold iblk
  rw [View.read_apply]
  show V m c main_arg0 _ = x0 m c _
  rw [V_main_arg0]
  refine congrArg (x0 m c) ?_
  funext a
  apply Fin.ext
  match a with
  | ⟨0, _⟩ => show win0_0.index t 0 * 4096 + 1 * k.val = 4096 * b + k.val; rw [hi.1]; omega
  | ⟨1, _⟩ => show win0_0.index t 1 * 1024 + 1 * r.val = r.val; rw [hi.2]; omega

/-- The tile of the gradient read at point `t`. -/
theorem tile1 (t : Fin cfg0.N) (q : Fin 4) (b : Nat) (hb : b < 2) (ht : t.val = 2 * q.val + b) (k : Fin 4096) (n : Fin 1024) :
    (iblk m c 1 t (ix2 k n) : EReal) = x1 m c (ix2 (tok b hb k) (hid q n)) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 4096 + 1 * k.val = 4096 * b + k.val; rw [hi.1]; omega
  | ⟨1, _⟩ => show win0_1.index t 1 * 1024 + 1 * n.val = 1024 * q.val + n.val; rw [hi.2]; omega

/-- After the second point of block `q` its staging buffer holds the whole product. -/
theorem outsAt_apply (t : Fin cfg0.N) (q : Fin 4) (ht : t.val = 2 * q.val + 1) (r n : Fin 1024) :
    (outsAt0 m c t.val t.isLt (ix4 0 0 r n) : EReal) = ∑ k : Fin 8192, x0 m c (ix2 k r) * x1 m c (ix2 k (hid q n)) := by
  rw [outsAt0_B m c t (by omega), out_B, pay_apply]
  have h8 : t.val < 8 := lt_of_lt_of_eq t.isLt (show cfg0.N = 8 from N_0)
  have hs : t.val - 1 < cfg0.N := Nat.lt_of_le_of_lt (Nat.sub_le _ _) t.isLt
  have e := outsAt0_A m c ⟨t.val - 1, hs⟩ (by show (t.val - 1) % 2 = 0; omega)
  rw [show outsAt0 m c (t.val - 1) _ = _ from e, out_A, pay_apply, zero_apply]
  refine halves_eq (fun k => x0 m c (ix2 k r) * x1 m c (ix2 k (hid q n))) _ _ (fun k => ?_) (fun k => ?_)
  · rw [tile0 m c _ q 0 (by decide) (by show t.val - 1 = _; omega), tile1 m c _ q 0 (by decide) (by show t.val - 1 = _; omega)]
  · rw [tile0 m c t q 1 (by decide) ht, tile1 m c t q 1 (by decide) ht]

/-- What is written back is its block of `out`. -/
theorem flushed_eq (t : Fin cfg0.N) (hf : (cfg0.win 2).flush t = true) :
    (dats m 0 c).flushed 2 t = ((cfg0.win 2).blk t).view.read (Elt Ideal) (out m c) := by
  have h8 : t.val < 8 := lt_of_lt_of_eq t.isLt (show cfg0.N = 8 from N_0)
  have h1 : t.val % 2 = 1 := (flush0_2 t).mp hf
  have hi := index2 t
  show (cfg0.win 2).cut (grid0.coords t) ((dats m 0 c).after 2 t) = _
  rw [after0_2]
  funext y
  have y0 : (y 0).val < 1 := (y 0).isLt
  have y1 : (y 1).val < 1 := (y 1).isLt
  have y2 : (y 2).val < 1024 := (y 2).isLt
  have y3 : (y 3).val < 1024 := (y 3).isLt
  have e : ((cfg0.win 2).blk t).view.emb y = (ix4 ⟨t.val / 2, by omega⟩ 1 ⟨(y 2).val, y2⟩ ⟨(y 3).val, y3⟩ : S4x2x1024x1024.Idx) := by
    funext a
    apply Fin.ext
    match a with
    | ⟨0, _⟩ => show win0_2.index t 0 * 1 + 1 * (y 0).val = t.val / 2; rw [hi.1]; omega
    | ⟨1, _⟩ => show win0_2.index t 1 * 1 + 1 * (y 1).val = 1; rw [hi.2.1]; omega
    | ⟨2, _⟩ => show win0_2.index t 2 * 1024 + 1 * (y 2).val = (y 2).val; rw [hi.2.2.1]; omega
    | ⟨3, _⟩ => show win0_2.index t 3 * 1024 + 1 * (y 3).val = (y 3).val; rw [hi.2.2.2]; omega
  have e' : (cfg0.win 2).xinj (grid0.coords t) y = (ix4 0 0 ⟨(y 2).val, y2⟩ ⟨(y 3).val, y3⟩ : S1x1x1024x1024.Idx) := by
    funext a
    apply Fin.ext
    match a with
    | ⟨0, _⟩ => show (y 0).val = 0; omega
    | ⟨1, _⟩ => show (y 1).val = 0; omega
    | ⟨2, _⟩ => rfl
    | ⟨3, _⟩ => rfl
  have h := outsAt_apply m c t ⟨t.val / 2, by omega⟩ (by show t.val = 2 * (t.val / 2) + 1; omega) ⟨(y 2).val, y2⟩ ⟨(y 3).val, y3⟩
  rw [← e'] at h
  have k : ∀ G : S4x2x1024x1024.Idx → EReal, ((cfg0.win 2).blk t).view.read (Elt Ideal) G y
      = G (ix4 ⟨t.val / 2, by omega⟩ 1 ⟨(y 2).val, y2⟩ ⟨(y 3).val, y3⟩) := fun G => congrArg G e
  exact h.trans ((out_apply m c _ _ _ _).symm.trans (k (out m c)).symm)

/-- An index of the layer is in the block written back at the last point of its block. -/
theorem mem_blk (t : Fin cfg0.N) (i : S4x2x1024x1024.Idx) (h0 : (i 0).val = t.val / 2) (h1 : (i 1).val = 1) :
    i ∈ ((cfg0.win 2).blk t).view.set := by
  have hi := index2 t
  show i ∈ ((View.whole main_v0).slice (win0_2.rect t)).set
  rw [View.set_slice_whole, Rect.mem_set_unit]
  have b2 : (i 2).val < 1024 := (i 2).isLt
  have b3 : (i 3).val < 1024 := (i 3).isLt
  intro a
  match a with
  | ⟨0, _⟩ => show win0_2.index t 0 * 1 ≤ (i 0).val ∧ (i 0).val < win0_2.index t 0 * 1 + 1; rw [hi.1]; omega
  | ⟨1, _⟩ => show win0_2.index t 1 * 1 ≤ (i 1).val ∧ (i 1).val < win0_2.index t 1 * 1 + 1; rw [hi.2.1]; omega
  | ⟨2, _⟩ => show win0_2.index t 2 * 1024 ≤ (i 2).val ∧ (i 2).val < win0_2.index t 2 * 1024 + 1024; rw [hi.2.2.1]; omega
  | ⟨3, _⟩ => show win0_2.index t 3 * 1024 ≤ (i 3).val ∧ (i 3).val < win0_2.index t 3 * 1024 + 1024; rw [hi.2.2.2]; omega

/-- The layer's half of the array after the call. -/
theorem final (q : Fin 4) (r n : Fin 1024) : (dats m 0 c).arrAt 2 cfg0.N (ix4 q 1 r n : S4x2x1024x1024.Idx) = out m c (ix4 q 1 r n) := by
  rw [(dats m 0 c).arrAt_eq_piecewise 2 (out m c) (flushed_eq m c)]
  exact if_pos ⟨⟨2 * q.val + 1, by show _ < cfg0.N; rw [show cfg0.N = 8 from N_0]; omega⟩,
    (flush0_2 _).mpr (by show (2 * q.val + 1) % 2 = 1; omega), mem_blk _ _ (by show q.val = (2 * q.val + 1) / 2; omega) rfl⟩

/-- What the lines after the call return of an array. -/
theorem tail_apply (W : Valuation τ sig (Elt Ideal)) (q : Fin 4) (r n : Fin 1024) :
    StableHlo.after hostOps1 W (Proc.devRef .tc main_v2) (ix3 q r n : S4x1024x1024.Idx) = W (Proc.devRef .tc main_v0) (ix4 q 1 r n : S4x2x1024x1024.Idx) := by
  after_reads_at

/-- What is returned. -/
theorem returned : Pipeline.afterTail₀ cfgs (dats m) 0 (V0 m) [hostOps1] c main_v2 = half m c := by
  unfold Pipeline.afterTail₀
  funext i
  obtain ⟨q, r, n, rfl⟩ : ∃ (q : Fin 4) (r n : Fin 1024), i = (ix3 q r n : S4x1024x1024.Idx) := ⟨i 0, i 1, i 2, funext fun a => by fin_cases a <;> rfl⟩
  refine (tail_apply _ q r n).trans ?_
  have e := Pipeline.withArrays_arr spec0 winFacts0.arr_inj c (V0 m c) (fun w => (dats m 0 c).arrAt w cfg0.N) 2
  exact (congrFun e (ix4 q 1 r n : S4x2x1024x1024.Idx)).trans (final m c q r n)

theorem run (ρ : Dev nD → PrngReg) : θ_run defs (onTc (τ := τ) (main (F := Ideal))) ⟨m, fun _ => 0, ρ⟩ fun r => ∀ c : Dev nD,
      r.2.mem ((c.tc : Thread nD τ).loc main_v2) = half m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (Pipeline.mem_restRefs_of main_v2 (by decide) (by decide))).trans (returned m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)
end

end Cert.KernelUpBIdeal.Grad

namespace Cert.UpB

open Idealize.ShloMosaic Idealize.ShloMosaic.TcCoe Idealize.SL.Sem
open Cert.Grad Cert.ReferenceUpBIdeal.Read

/-- The reference's result is the same array. -/
theorem reference_eq (x0 : Cert.ReferenceUpBIdeal.S8192x1024.Idx → EReal) (x1 : Cert.ReferenceUpBIdeal.S8192x4096.Idx → EReal) (i : Cert.ReferenceUpBIdeal.S4x1024x1024.Idx) :
    (Cert.ReferenceUpBIdeal.Read.val_main_v7 (F := Ideal) x0 x1 i : EReal)
      = ∑ t : Fin 8192, x0 (ix2 t (i 1)) * x1 (ix2 t (Cert.KernelUpBIdeal.Grad.hid (i 0) (i 2))) := by
  obtain ⟨q, r, n, rfl⟩ : ∃ (q : Fin 4) (r n : Fin 1024), i = ix3 q r n := ⟨i 0, i 1, i 2, funext fun a => by fin_cases a <;> rfl⟩
  rw [val_main_v7_apply, val_main_v6_apply, val_main_v5_apply, val_main_v4_apply]
  refine Finset.sum_congr rfl fun t _ => ?_
  rw [val_main_v0_apply, val_main_v1_apply, mul_comm]
  refine congrArg₂ (· * ·) (congrArg x0 ?_) (congrArg x1 ?_) <;> funext a <;> apply Fin.ext <;>
    match a with
      | ⟨0, _⟩ => rfl
      | ⟨1, _⟩ => first
        | (show ((r.val * 4 + q.val) * 1024 + n.val) / 4096 = r.val; omega)
        | (show ((r.val * 4 + q.val) * 1024 + n.val) % 4096 = 1024 * q.val + n.val; omega)

theorem frame_kernel : Cert.quiescent_KernelUpB := fun m ρ _ => Cert.KernelUpB.Gen.frame (F := Bits) m ρ

theorem frame_kernelIdeal : Cert.quiescent_KernelUpBIdeal := fun m ρ _ => Cert.KernelUpBIdeal.Gen.frame (F := Ideal) m ρ

theorem frame_referenceIdeal : Cert.quiescent_ReferenceUpBIdeal := fun m ρ _ =>
  (θ_run Cert.ReferenceUpBIdeal.defs _ _).mono (fun r h => ⟨fun c => (h c).2, sem_eq_zero_of_no_sems (by decide) r.2⟩)
    (Cert.ReferenceUpBIdeal.Value.run (F := Ideal) m ρ)

theorem algebraic : Cert.algebraic_KernelUpBIdeal_ReferenceUpBIdeal := fun m g m' g' _ hargs => by
  refine ⟨Cert.KernelUpBIdeal.Grad.half m, Cert.KernelUpBIdeal.Grad.run m g, ?_⟩
  refine (θ_run Cert.ReferenceUpBIdeal.defs _ _).mono (fun r h c => ⟨(h c).1.trans ?_, (h c).2⟩)
    (Cert.ReferenceUpBIdeal.Value.run (F := Ideal) m' g')
  obtain ⟨e0, e1⟩ := hargs c
  rw [e0, e1]
  exact funext fun i => reference_eq _ _ i

end Cert.UpB

end
-- ==== Proof.DwA.lean ====
/- The gradient of the output projection of the attention over all keys. -/
module

public import proofs.«01_k».proof.Defs
public import proofs.«01_k».proof.Proof.Halves
public import proofs.«01_k».proof.Proof.Gen.KernelDwA.Frame
public import proofs.«01_k».proof.Proof.Gen.KernelDwAIdeal.Value
public import proofs.«01_k».proof.Proof.Gen.ReferenceDwAIdeal.Run
public import proofs.«01_k».proof.Proof.Gen.ReferenceDwAIdeal.Read
public import Idealize.ShloMosaic.Lib.Pointwise
public import Idealize.ShloMosaic.Lib.Tactic

@[expose] public section

noncomputable section

namespace Cert.KernelDwAIdeal.Grad

open Idealize.ShloMosaic Idealize.ShloMosaic.TcCoe Idealize.SL.Sem
open Idealize.ShloMosaic.Pipeline (Dat)
open Cert.KernelDwAIdeal Cert.KernelDwAIdeal.Gen Cert.Grad

theorem hz2 : (![0, 0] : Fin 2 → Nat) = fun _ => 0 := funext fun a => by fin_cases a <;> rfl

section
variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .f32) (h5 : a5.IsWhole)
  (x0 : Vec Ideal S4096x1024 .bf16) (x1 : Vec Ideal S4096x1024 .bf16) (xo : Vec Ideal S1024x1024 .f32)

/-- A point past the first of its block adds the tile's product. -/
theorem out_B (hc : ¬cond0_0 i) : out0_B_2 c i a3 h3 a4 h4 a5 h5 hc x0 x1 xo = k0_pay2 xo x0 x1 := by
  unfold out0_B_2
  rw [View.read_writes_eq_canon _ _ _ (cover0_B_2 c i a3 h3 a4 h4 a5 h5 hc x0 x1 xo)]
  unfold kernelRun0_B
  dsimp only
  rw [View.canon_unit_zero hz2]
  simp only [View.readAt_eq_ld, h3.read_unread, h4.read_unread, h5.read_unread, View.ld_unit_zero (S := S4096x1024) hz2,
    View.ld_unit_zero (S := S4096x1024) hz2, View.ld_unit_zero (S := S1024x1024) hz2]

/-- The first point of a block sets it to zero and adds the tile's product. -/
theorem out_A (hc : cond0_0 i) : out0_A_2 c i a3 h3 a4 h4 a5 h5 hc x0 x1 = k0_pay2 k0_pay1 x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S4096x1024) hz2, View.ld_unit_zero (S := S4096x1024) hz2]

theorem pay_apply (r n : Fin 1024) :
    (k0_pay2 xo x0 x1 (ix2 r n) : EReal) = xo (ix2 r n) + ∑ k : Fin 4096, (x0 (ix2 k r) : EReal) * x1 (ix2 k n) := by
  pointwise [k0_pay2]

theorem zero_apply (r n : Fin 1024) : (k0_pay1 (F := Ideal) (ix2 r n) : EReal) = 0 := by
  pointwise [k0_pay1]
end

section
variable (m : (ℓ : Loc nD τ sig) → Buf (Elt Ideal) ℓ) (ρ : Dev nD → PrngReg) (c : Dev nD)

/-- The attention's output and the gradient of the projection. -/
abbrev x0 : S8192x1024.Idx → EReal := m ((c.tc : Thread nD τ).loc main_arg0)
abbrev x1 : S8192x1024.Idx → EReal := m ((c.tc : Thread nD τ).loc main_arg1)

/-- The gradient of the weight. -/
def out : S1024x1024.Idx → EReal := fun i => ∑ t : Fin 8192, x0 m c (ix2 t (i 0)) * x1 m c (ix2 t (i 1))

theorem out_apply (r n : Fin 1024) : out m c (ix2 r n) = ∑ t : Fin 8192, x0 m c (ix2 t r) * x1 m c (ix2 t n) := rfl

theorem index0 : ∀ t : Fin grid0.N, win0_0.index t 0 = t.val % 2 ∧ win0_0.index t 1 = 0 := by decide +kernel
theorem index1 : ∀ t : Fin grid0.N, win0_1.index t 0 = t.val % 2 ∧ win0_1.index t 1 = 0 := by decide +kernel
theorem index2 : ∀ t : Fin grid0.N, win0_2.index t 0 = 0 ∧ win0_2.index t 1 = 0 := by decide +kernel

/-- The tile of the output read at point `t`. -/
theorem tile0 (t : Fin cfg0.N) (b : Nat) (hb : b < 2) (ht : t.val = b) (k : Fin 4096) (r : Fin 1024) :
    (iblk m c 0 t (ix2 k r) : EReal) = x0 m c (ix2 (tok b hb k) r) := by
  have hi := index0 t
  unfold iblk
  rw [View.read_apply]
  show V m c main_arg0 _ = x0 m c _
  rw [V_main_arg0]
  refine congrArg (x0 m c) ?_
  funext a
  apply Fin.ext
  match a with
  | ⟨0, _⟩ => show win0_0.index t 0 * 4096 + 1 * k.val = 4096 * b + k.val; rw [hi.1]; omega
  | ⟨1, _⟩ => show win0_0.index t 1 * 1024 + 1 * r.val = r.val; rw [hi.2]; omega

/-- The tile of the gradient read at point `t`. -/
theorem tile1 (t : Fin cfg0.N) (b : Nat) (hb : b < 2) (ht : t.val = b) (k : Fin 4096) (r : Fin 1024) :
    (iblk m c 1 t (ix2 k r) : EReal) = x1 m c (ix2 (tok b hb k) r) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 4096 + 1 * k.val = 4096 * b + k.val; rw [hi.1]; omega
  | ⟨1, _⟩ => show win0_1.index t 1 * 1024 + 1 * r.val = r.val; rw [hi.2]; omega

/-- After the second point the staging buffer holds the whole product. -/
theorem outsAt_apply (t : Fin cfg0.N) (ht : t.val = 1) (r n : Fin 1024) :
    (outsAt0 m c t.val t.isLt (ix2 r n) : EReal) = out m c (ix2 r n) := by
  rw [outsAt0_B m c t (by omega), out_B, pay_apply, out_apply]
  have hs : t.val - 1 < cfg0.N := Nat.lt_of_le_of_lt (Nat.sub_le _ _) t.isLt
  have e := outsAt0_A m c ⟨t.val - 1, hs⟩ (by show (t.val - 1) % 2 = 0; omega)
  rw [show outsAt0 m c (t.val - 1) _ = _ from e, out_A, pay_apply, zero_apply]
  refine halves_eq (fun k => x0 m c (ix2 k r) * x1 m c (ix2 k n)) _ _ (fun k => ?_) (fun k => ?_)
  · rw [tile0 m c _ 0 (by decide) (by show t.val - 1 = _; omega), tile1 m c _ 0 (by decide) (by show t.val - 1 = _; omega)]
  · rw [tile0 m c t 1 (by decide) ht, tile1 m c t 1 (by decide) ht]

theorem emb_eq (t : Fin cfg0.N) (r n : Fin 1024) : ((cfg0.win 2).blk t).view.emb (ix2 r n) = (ix2 r n : S1024x1024.Idx) := by
  have hi := index2 t
  funext a
  apply Fin.ext
  match a with
  | ⟨0, _⟩ => show win0_2.index t 0 * 1024 + 1 * r.val = r.val; rw [hi.1]; omega
  | ⟨1, _⟩ => show win0_2.index t 1 * 1024 + 1 * n.val = n.val; rw [hi.2]; omega

/-- What is written back is `out`. -/
theorem flushed_eq (t : Fin cfg0.N) (hf : (cfg0.win 2).flush t = true) :
    (dats m 0 c).flushed 2 t = ((cfg0.win 2).blk t).view.read (Elt Ideal) (out m c) := by
  have h2 : t.val < 2 := lt_of_lt_of_eq t.isLt (show cfg0.N = 2 from N_0)
  have h1 : t.val % 2 = 1 := (flush0_2 t).mp hf
  rw [Cert.KernelDwAIdeal.Value.flushed2]
  funext y
  obtain ⟨r, n, rfl⟩ : ∃ r n : Fin 1024, y = (ix2 r n : S1024x1024.Idx) := ⟨y 0, y 1, funext fun a => by fin_cases a <;> rfl⟩
  have k : ∀ G : S1024x1024.Idx → EReal, ((cfg0.win 2).blk t).view.read (Elt Ideal) G (ix2 r n : S1024x1024.Idx) = G (ix2 r n) :=
    fun G => congrArg G (emb_eq t r n)
  exact (outsAt_apply m c t (by omega) r n).trans (k (out m c)).symm

/-- The array after the call. -/
theorem final : (dats m 0 c).arrAt 2 cfg0.N = out m c := by
  refine (dats m 0 c).arrAt_eq_of_cover 2 (out m c) (flushed_eq m c) fun i => ?_
  refine ⟨t0_1, (flush0_2 _).mpr rfl, ?_⟩
  have hi := index2 t0_1
  show i ∈ ((View.whole main_v0).slice (win0_2.rect t0_1)).set
  rw [View.set_slice_whole, Rect.mem_set_unit]
  have b0 : (i 0).val < 1024 := (i 0).isLt
  have b1 : (i 1).val < 1024 := (i 1).isLt
  intro a
  match a with
  | ⟨0, _⟩ => show win0_2.index t0_1 0 * 1024 ≤ (i 0).val ∧ (i 0).val < win0_2.index t0_1 0 * 1024 + 1024; rw [hi.1]; omega
  | ⟨1, _⟩ => show win0_2.index t0_1 1 * 1024 ≤ (i 1).val ∧ (i 1).val < win0_2.index t0_1 1 * 1024 + 1024; rw [hi.2]; omega
end

end Cert.KernelDwAIdeal.Grad

namespace Cert.DwA

open Idealize.ShloMosaic Idealize.ShloMosaic.TcCoe Idealize.SL.Sem
open Cert.Grad Cert.ReferenceDwAIdeal.Read

/-- The reference's result is the same array. -/
theorem reference_eq (x0 : Cert.ReferenceDwAIdeal.S8192x1024.Idx → EReal) (x1 : Cert.ReferenceDwAIdeal.S8192x1024.Idx → EReal)
    (i : Cert.ReferenceDwAIdeal.S1024x1024.Idx) :
    (Cert.ReferenceDwAIdeal.Read.val_main_v5 (F := Ideal) x0 x1 i : EReal)
      = ∑ t : Fin 8192, x0 (ix2 t (i 0)) * x1 (ix2 t (i 1)) := by
  rw [val_main_v5_apply, val_main_v4_apply]
  refine Finset.sum_congr rfl fun t _ => ?_
  rw [val_main_v0_apply, val_main_v1_apply, mul_comm]
  refine congrArg₂ (· * ·) (congrArg x0 ?_) (congrArg x1 ?_) <;> funext a <;> apply Fin.ext <;>
    match a with
      | ⟨0, _⟩ => rfl
      | ⟨1, _⟩ => rfl

theorem frame_kernel : Cert.quiescent_KernelDwA := fun m ρ _ => Cert.KernelDwA.Gen.frame (F := Bits) m ρ

theorem frame_kernelIdeal : Cert.quiescent_KernelDwAIdeal := fun m ρ _ => Cert.KernelDwAIdeal.Gen.frame (F := Ideal) m ρ

theorem frame_referenceIdeal : Cert.quiescent_ReferenceDwAIdeal := fun m ρ _ =>
  (θ_run Cert.ReferenceDwAIdeal.defs _ _).mono (fun r h => ⟨fun c => (h c).2, sem_eq_zero_of_no_sems (by decide) r.2⟩)
    (Cert.ReferenceDwAIdeal.Value.run (F := Ideal) m ρ)

theorem algebraic : Cert.algebraic_KernelDwAIdeal_ReferenceDwAIdeal := fun m g m' g' _ hargs => by
  refine ⟨Cert.KernelDwAIdeal.Grad.out m, ?_, ?_⟩
  · exact (θ_run Cert.KernelDwAIdeal.defs _ _).mono (fun r h c => ⟨(h c).1.trans (Cert.KernelDwAIdeal.Grad.final m c), (h c).2⟩)
      (Cert.KernelDwAIdeal.Value.run_blocks (F := Ideal) m g)
  · refine (θ_run Cert.ReferenceDwAIdeal.defs _ _).mono (fun r h c => ⟨(h c).1.trans ?_, (h c).2⟩)
      (Cert.ReferenceDwAIdeal.Value.run (F := Ideal) m' g')
    obtain ⟨e0, e1⟩ := hargs c
    rw [e0, e1]
    exact funext fun i => reference_eq _ _ i

end Cert.DwA

end
-- ==== Proof.DwB.lean ====
/- The gradient of the output projection of the windowed attention, whose output is kept transposed. -/
module

public import proofs.«01_k».proof.Defs
public import proofs.«01_k».proof.Proof.Halves
public import proofs.«01_k».proof.Proof.Gen.KernelDwB.Frame
public import proofs.«01_k».proof.Proof.Gen.KernelDwBIdeal.Value
public import proofs.«01_k».proof.Proof.Gen.ReferenceDwBIdeal.Run
public import proofs.«01_k».proof.Proof.Gen.ReferenceDwBIdeal.Read
public import Idealize.ShloMosaic.Lib.Pointwise
public import Idealize.ShloMosaic.Lib.Tactic

@[expose] public section

noncomputable section

namespace Cert.KernelDwBIdeal.Grad

open Idealize.ShloMosaic Idealize.ShloMosaic.TcCoe Idealize.SL.Sem
open Idealize.ShloMosaic.Pipeline (Dat)
open Cert.KernelDwBIdeal Cert.KernelDwBIdeal.Gen Cert.Grad

theorem hz2 : (![0, 0] : Fin 2 → Nat) = fun _ => 0 := funext fun a => by fin_cases a <;> rfl

section
variable (c : Dev nD) (i : grid0.Coords) (a3 : Memref sig .tc .vmem S1024x4096 .bf16) (h3 : a3.IsWhole)
  (a4 : Memref sig .tc .vmem S4096x1024 .bf16) (h4 : a4.IsWhole) (a5 : Memref sig .tc .vmem S1024x1024 .f32) (h5 : a5.IsWhole)
  (x0 : Vec Ideal S1024x4096 .bf16) (x1 : Vec Ideal S4096x1024 .bf16) (xo : Vec Ideal S1024x1024 .f32)

/-- A point past the first of its block adds the tile's product. -/
theorem out_B (hc : ¬cond0_0 i) : out0_B_2 c i a3 h3 a4 h4 a5 h5 hc x0 x1 xo = k0_pay2 xo x0 x1 := by
  unfold out0_B_2
  rw [View.read_writes_eq_canon _ _ _ (cover0_B_2 c i a3 h3 a4 h4 a5 h5 hc x0 x1 xo)]
  unfold kernelRun0_B
  dsimp only
  rw [View.canon_unit_zero hz2]
  simp only [View.readAt_eq_ld, h3.read_unread, h4.read_unread, h5.read_unread, View.ld_unit_zero (S := S1024x4096) hz2,
    View.ld_unit_zero (S := S4096x1024) hz2, View.ld_unit_zero (S := S1024x1024) hz2]

/-- The first point of a block sets it to zero and adds the tile's product. -/
theorem out_A (hc : cond0_0 i) : out0_A_2 c i a3 h3 a4 h4 a5 h5 hc x0 x1 = k0_pay2 k0_pay1 x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S1024x4096) hz2, View.ld_unit_zero (S := S4096x1024) hz2]

theorem pay_apply (r n : Fin 1024) :
    (k0_pay2 xo x0 x1 (ix2 r n) : EReal) = xo (ix2 r n) + ∑ k : Fin 4096, (x0 (ix2 r k) : EReal) * x1 (ix2 k n) := by
  pointwise [k0_pay2]

theorem zero_apply (r n : Fin 1024) : (k0_pay1 (F := Ideal) (ix2 r n) : EReal) = 0 := by
  pointwise [k0_pay1]
end

section
variable (m : (ℓ : Loc nD τ sig) → Buf (Elt Ideal) ℓ) (ρ : Dev nD → PrngReg) (c : Dev nD)

/-- The attention's output and the gradient of the projection. -/
abbrev x0 : S1024x8192.Idx → EReal := m ((c.tc : Thread nD τ).loc main_arg0)
abbrev x1 : S8192x1024.Idx → EReal := m ((c.tc : Thread nD τ).loc main_arg1)

/-- The gradient of the weight. -/
def out : S1024x1024.Idx → EReal := fun i => ∑ t : Fin 8192, x0 m c (ix2 (i 0) t) * x1 m c (ix2 t (i 1))

theorem out_apply (r n : Fin 1024) : out m c (ix2 r n) = ∑ t : Fin 8192, x0 m c (ix2 r t) * x1 m c (ix2 t n) := rfl

theorem index0 : ∀ t : Fin grid0.N, win0_0.index t 0 = 0 ∧ win0_0.index t 1 = t.val % 2 := by decide +kernel
theorem index1 : ∀ t : Fin grid0.N, win0_1.index t 0 = t.val % 2 ∧ win0_1.index t 1 = 0 := by decide +kernel
theorem index2 : ∀ t : Fin grid0.N, win0_2.index t 0 = 0 ∧ win0_2.index t 1 = 0 := by decide +kernel

/-- The tile of the output read at point `t`. -/
theorem tile0 (t : Fin cfg0.N) (b : Nat) (hb : b < 2) (ht : t.val = b) (k : Fin 4096) (r : Fin 1024) :
    (iblk m c 0 t (ix2 r k) : EReal) = x0 m c (ix2 r (tok b hb k)) := by
  have hi := index0 t
  unfold iblk
  rw [View.read_apply]
  show V m c main_arg0 _ = x0 m c _
  rw [V_main_arg0]
  refine congrArg (x0 m c) ?_
  funext a
  apply Fin.ext
  match a with
  | ⟨0, _⟩ => show win0_0.index t 0 * 1024 + 1 * r.val = r.val; rw [hi.1]; omega
  | ⟨1, _⟩ => show win0_0.index t 1 * 4096 + 1 * k.val = 4096 * b + k.val; rw [hi.2]; omega

/-- The tile of the gradient read at point `t`. -/
theorem tile1 (t : Fin cfg0.N) (b : Nat) (hb : b < 2) (ht : t.val = b) (k : Fin 4096) (r : Fin 1024) :
    (iblk m c 1 t (ix2 k r) : EReal) = x1 m c (ix2 (tok b hb k) r) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 4096 + 1 * k.val = 4096 * b + k.val; rw [hi.1]; omega
  | ⟨1, _⟩ => show win0_1.index t 1 * 1024 + 1 * r.val = r.val; rw [hi.2]; omega

/-- After the second point the staging buffer holds the whole product. -/
theorem outsAt_apply (t : Fin cfg0.N) (ht : t.val = 1) (r n : Fin 1024) :
    (outsAt0 m c t.val t.isLt (ix2 r n) : EReal) = out m c (ix2 r n) := by
  rw [outsAt0_B m c t (by omega), out_B, pay_apply, out_apply]
  have hs : t.val - 1 < cfg0.N := Nat.lt_of_le_of_lt (Nat.sub_le _ _) t.isLt
  have e := outsAt0_A m c ⟨t.val - 1, hs⟩ (by show (t.val - 1) % 2 = 0; omega)
  rw [show outsAt0 m c (t.val - 1) _ = _ from e, out_A, pay_apply, zero_apply]
  refine halves_eq (fun k => x0 m c (ix2 r k) * x1 m c (ix2 k n)) _ _ (fun k => ?_) (fun k => ?_)
  · rw [tile0 m c _ 0 (by decide) (by show t.val - 1 = _; omega), tile1 m c _ 0 (by decide) (by show t.val - 1 = _; omega)]
  · rw [tile0 m c t 1 (by decide) ht, tile1 m c t 1 (by decide) ht]

theorem emb_eq (t : Fin cfg0.N) (r n : Fin 1024) : ((cfg0.win 2).blk t).view.emb (ix2 r n) = (ix2 r n : S1024x1024.Idx) := by
  have hi := index2 t
  funext a
  apply Fin.ext
  match a with
  | ⟨0, _⟩ => show win0_2.index t 0 * 1024 + 1 * r.val = r.val; rw [hi.1]; omega
  | ⟨1, _⟩ => show win0_2.index t 1 * 1024 + 1 * n.val = n.val; rw [hi.2]; omega

/-- What is written back is `out`. -/
theorem flushed_eq (t : Fin cfg0.N) (hf : (cfg0.win 2).flush t = true) :
    (dats m 0 c).flushed 2 t = ((cfg0.win 2).blk t).view.read (Elt Ideal) (out m c) := by
  have h2 : t.val < 2 := lt_of_lt_of_eq t.isLt (show cfg0.N = 2 from N_0)
  have h1 : t.val % 2 = 1 := (flush0_2 t).mp hf
  rw [Cert.KernelDwBIdeal.Value.flushed2]
  funext y
  obtain ⟨r, n, rfl⟩ : ∃ r n : Fin 1024, y = (ix2 r n : S1024x1024.Idx) := ⟨y 0, y 1, funext fun a => by fin_cases a <;> rfl⟩
  have k : ∀ G : S1024x1024.Idx → EReal, ((cfg0.win 2).blk t).view.read (Elt Ideal) G (ix2 r n : S1024x1024.Idx) = G (ix2 r n) :=
    fun G => congrArg G (emb_eq t r n)
  exact (outsAt_apply m c t (by omega) r n).trans (k (out m c)).symm

/-- The array after the call. -/
theorem final : (dats m 0 c).arrAt 2 cfg0.N = out m c := by
  refine (dats m 0 c).arrAt_eq_of_cover 2 (out m c) (flushed_eq m c) fun i => ?_
  refine ⟨t0_1, (flush0_2 _).mpr rfl, ?_⟩
  have hi := index2 t0_1
  show i ∈ ((View.whole main_v0).slice (win0_2.rect t0_1)).set
  rw [View.set_slice_whole, Rect.mem_set_unit]
  have b0 : (i 0).val < 1024 := (i 0).isLt
  have b1 : (i 1).val < 1024 := (i 1).isLt
  intro a
  match a with
  | ⟨0, _⟩ => show win0_2.index t0_1 0 * 1024 ≤ (i 0).val ∧ (i 0).val < win0_2.index t0_1 0 * 1024 + 1024; rw [hi.1]; omega
  | ⟨1, _⟩ => show win0_2.index t0_1 1 * 1024 ≤ (i 1).val ∧ (i 1).val < win0_2.index t0_1 1 * 1024 + 1024; rw [hi.2]; omega
end

end Cert.KernelDwBIdeal.Grad

namespace Cert.DwB

open Idealize.ShloMosaic Idealize.ShloMosaic.TcCoe Idealize.SL.Sem
open Cert.Grad Cert.ReferenceDwBIdeal.Read

/-- The reference's result is the same array. -/
theorem reference_eq (x0 : Cert.ReferenceDwBIdeal.S1024x8192.Idx → EReal) (x1 : Cert.ReferenceDwBIdeal.S8192x1024.Idx → EReal)
    (i : Cert.ReferenceDwBIdeal.S1024x1024.Idx) :
    (Cert.ReferenceDwBIdeal.Read.val_main_v6 (F := Ideal) x0 x1 i : EReal)
      = ∑ t : Fin 8192, x0 (ix2 (i 0) t) * x1 (ix2 t (i 1)) := by
  rw [val_main_v6_apply, val_main_v5_apply]
  refine Finset.sum_congr rfl fun t _ => ?_
  rw [val_main_v3_apply, val_main_v0_apply, val_main_v1_apply, mul_comm]
  refine congrArg₂ (· * ·) (congrArg x0 ?_) (congrArg x1 ?_) <;> funext a <;> apply Fin.ext <;>
    match a with
      | ⟨0, _⟩ => rfl
      | ⟨1, _⟩ => rfl

theorem frame_kernel : Cert.quiescent_KernelDwB := fun m ρ _ => Cert.KernelDwB.Gen.frame (F := Bits) m ρ

theorem frame_kernelIdeal : Cert.quiescent_KernelDwBIdeal := fun m ρ _ => Cert.KernelDwBIdeal.Gen.frame (F := Ideal) m ρ

theorem frame_referenceIdeal : Cert.quiescent_ReferenceDwBIdeal := fun m ρ _ =>
  (θ_run Cert.ReferenceDwBIdeal.defs _ _).mono (fun r h => ⟨fun c => (h c).2, sem_eq_zero_of_no_sems (by decide) r.2⟩)
    (Cert.ReferenceDwBIdeal.Value.run (F := Ideal) m ρ)

theorem algebraic : Cert.algebraic_KernelDwBIdeal_ReferenceDwBIdeal := fun m g m' g' _ hargs => by
  refine ⟨Cert.KernelDwBIdeal.Grad.out m, ?_, ?_⟩
  · exact (θ_run Cert.KernelDwBIdeal.defs _ _).mono (fun r h c => ⟨(h c).1.trans (Cert.KernelDwBIdeal.Grad.final m c), (h c).2⟩)
      (Cert.KernelDwBIdeal.Value.run_blocks (F := Ideal) m g)
  · refine (θ_run Cert.ReferenceDwBIdeal.defs _ _).mono (fun r h c => ⟨(h c).1.trans ?_, (h c).2⟩)
      (Cert.ReferenceDwBIdeal.Value.run (F := Ideal) m' g')
    obtain ⟨e0, e1⟩ := hargs c
    rw [e0, e1]
    exact funext fun i => reference_eq _ _ i

end Cert.DwB

end
-- ==== Proof.Qkv.lean ====
/- The gradient of the windowed attention's joint projection. -/
module

public import proofs.«01_k».proof.Defs
public import proofs.«01_k».proof.Proof.Halves
public import proofs.«01_k».proof.Proof.Gen.KernelQkv.Frame
public import proofs.«01_k».proof.Proof.Gen.KernelQkvIdeal.Value
public import proofs.«01_k».proof.Proof.Gen.ReferenceQkvIdeal.Run
public import proofs.«01_k».proof.Proof.Gen.ReferenceQkvIdeal.Read
public import Idealize.ShloMosaic.Lib.Pointwise
public import Idealize.ShloMosaic.Lib.Tactic

@[expose] public section

noncomputable section

namespace Cert.KernelQkvIdeal.Grad

open Idealize.ShloMosaic Idealize.ShloMosaic.TcCoe Idealize.SL.Sem
open Idealize.ShloMosaic.Pipeline (Dat)
open Cert.KernelQkvIdeal Cert.KernelQkvIdeal.Gen Cert.Grad

theorem hz2 : (![0, 0] : Fin 2 → Nat) = fun _ => 0 := funext fun a => by fin_cases a <;> rfl
theorem hz4 : (![0, 0, 0, 0] : Fin 4 → Nat) = fun _ => 0 := funext fun a => by fin_cases a <;> rfl

section
variable (c : Dev nD) (i : grid0.Coords) (a3 : Memref sig .tc .vmem S4096x1024 .bf16) (h3 : a3.IsWhole)
  (a4 : Memref sig .tc .vmem S4096x384 .bf16) (h4 : a4.IsWhole) (a5 : Memref sig .tc .vmem S1x1x1024x384 .f32) (h5 : a5.IsWhole)
  (x0 : Vec Ideal S4096x1024 .bf16) (x1 : Vec Ideal S4096x384 .bf16) (xo : Vec Ideal S1x1x1024x384 .f32)

/-- A point past the first of its block adds the tile's product. -/
theorem out_B (hc : ¬cond0_0 i) : out0_B_2 c i a3 h3 a4 h4 a5 h5 hc x0 x1 xo = k0_pay2 xo x0 x1 := by
  unfold out0_B_2
  rw [View.read_writes_eq_canon _ _ _ (cover0_B_2 c i a3 h3 a4 h4 a5 h5 hc x0 x1 xo)]
  unfold kernelRun0_B
  dsimp only
  rw [View.canon_unit_zero hz4]
  simp only [View.readAt_eq_ld, h3.read_unread, h4.read_unread, h5.read_unread, View.ld_unit_zero (S := S4096x1024) hz2,
    View.ld_unit_zero (S := S4096x384) hz2, View.ld_unit_zero (S := S1x1x1024x384) hz4]

/-- The first point of a block sets it to zero and adds the tile's product. -/
theorem out_A (hc : cond0_0 i) : out0_A_2 c i a3 h3 a4 h4 a5 h5 hc x0 x1 = k0_pay2 k0_pay1 x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1x1024x384) hz4, View.readCov_unit_zero (S := S1x1x1024x384) _ hz4]
  simp only [View.readAt_eq_ld, h3.read_unread, h4.read_unread, View.ld_unit_zero (S := S4096x1024) hz2, View.ld_unit_zero (S := S4096x384) hz2]

theorem pay_apply (r : Fin 1024) (n : Fin 384) :
    (k0_pay2 xo x0 x1 (ix4 0 0 r n) : EReal) = xo (ix4 0 0 r n) + ∑ k : Fin 4096, (x0 (ix2 k r) : EReal) * x1 (ix2 k n) := by
  pointwise [k0_pay2]

theorem zero_apply (r : Fin 1024) (n : Fin 384) : (k0_pay1 (F := Ideal) (ix4 0 0 r n) : EReal) = 0 := by
  pointwise [k0_pay1]
end

section
variable (m : (ℓ : Loc nD τ sig) → Buf (Elt Ideal) ℓ) (ρ : Dev nD → PrngReg) (c : Dev nD)

/-- The layer's input and the gradient of the projection. -/
abbrev x0 : S8192x1024.Idx → EReal := m ((c.tc : Thread nD τ).loc main_arg0)
abbrev x1 : S8192x1536.Idx → EReal := m ((c.tc : Thread nD τ).loc main_arg1)

/-- Column `r` of block `q` of the projection. -/
def col (q : Fin 4) (r : Fin 384) : Fin 1536 := ⟨384 * q.val + r.val, by omega⟩

/-- The gradient of the weight, by blocks of columns. -/
def out : S4x1x1024x384.Idx → EReal := fun i => ∑ t : Fin 8192, x0 m c (ix2 t (i 2)) * x1 m c (ix2 t (col (i 0) (i 3)))

theorem out_apply (q : Fin 4) (l : Fin 1) (r : Fin 1024) (n : Fin 384) :
    out m c (ix4 q l r n) = ∑ t : Fin 8192, x0 m c (ix2 t r) * x1 m c (ix2 t (col q n)) := rfl

theorem index0 : ∀ t : Fin grid0.N, win0_0.index t 0 = t.val % 2 ∧ win0_0.index t 1 = 0 := by decide +kernel
theorem index1 : ∀ t : Fin grid0.N, win0_1.index t 0 = t.val % 2 ∧ win0_1.index t 1 = t.val / 2 := by decide +kernel
theorem index2 : ∀ t : Fin grid0.N, win0_2.index t 0 = t.val / 2 ∧ win0_2.index t 1 = 0 ∧ win0_2.index t 2 = 0 ∧ win0_2.index t 3 = 0 := by
  decide +kernel

/-- The tile of the input read at point `t`. -/
theorem tile0 (t : Fin cfg0.N) (q : Fin 4) (b : Nat) (hb : b < 2) (ht : t.val = 2 * q.val + b) (k : Fin 4096) (r : Fin 1024) :
    (iblk m c 0 t (ix2 k r) : EReal) = x0 m c (ix2 (tok b hb k) r) := by
  have hi := index0 t
  unfold iblk
  rw [View.read_apply]
  show V m c main_arg0 _ = x0 m c _
  rw [V_main_arg0]
  refine congrArg (x0 m c) ?_
  funext a
  apply Fin.ext
  match a with
  | ⟨0, _⟩ => show win0_0.index t 0 * 4096 + 1 * k.val = 4096 * b + k.val; rw [hi.1]; omega
  | ⟨1, _⟩ => show win0_0.index t 1 * 1024 + 1 * r.val = r.val; rw [hi.2]; omega

/-- The tile of the gradient read at point `t`. -/
theorem tile1 (t : Fin cfg0.N) (q : Fin 4) (b : Nat) (hb : b < 2) (ht : t.val = 2 * q.val + b) (k : Fin 4096) (n : Fin 384) :
    (iblk m c 1 t (ix2 k n) : EReal) = x1 m c (ix2 (tok b hb k) (col q n)) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 4096 + 1 * k.val = 4096 * b + k.val; rw [hi.1]; omega
  | ⟨1, _⟩ => show win0_1.index t 1 * 384 + 1 * n.val = 384 * q.val + n.val; rw [hi.2]; omega

/-- After the second point of block `q` its staging buffer holds the whole product. -/
theorem outsAt_apply (t : Fin cfg0.N) (q : Fin 4) (ht : t.val = 2 * q.val + 1) (r : Fin 1024) (n : Fin 384) :
    (outsAt0 m c t.val t.isLt (ix4 0 0 r n) : EReal) = out m c (ix4 q 0 r n) := by
  rw [outsAt0_B m c t (by omega), out_B, pay_apply, out_apply]
  have hs : t.val - 1 < cfg0.N := Nat.lt_of_le_of_lt (Nat.sub_le _ _) t.isLt
  have e := outsAt0_A m c ⟨t.val - 1, hs⟩ (by show (t.val - 1) % 2 = 0; omega)
  rw [show outsAt0 m c (t.val - 1) _ = _ from e, out_A, pay_apply, zero_apply]
  refine halves_eq (fun k => x0 m c (ix2 k r) * x1 m c (ix2 k (col q n))) _ _ (fun k => ?_) (fun k => ?_)
  · rw [tile0 m c _ q 0 (by decide) (by show t.val - 1 = _; omega), tile1 m c _ q 0 (by decide) (by show t.val - 1 = _; omega)]
  · rw [tile0 m c t q 1 (by decide) ht, tile1 m c t q 1 (by decide) ht]

/-- What is written back is its block of `out`. -/
theorem flushed_eq (t : Fin cfg0.N) (hf : (cfg0.win 2).flush t = true) :
    (dats m 0 c).flushed 2 t = ((cfg0.win 2).blk t).view.read (Elt Ideal) (out m c) := by
  have h8 : t.val < 8 := lt_of_lt_of_eq t.isLt (show cfg0.N = 8 from N_0)
  have h1 : t.val % 2 = 1 := (flush0_2 t).mp hf
  have hi := index2 t
  rw [Cert.KernelQkvIdeal.Value.flushed2]
  funext y
  have y0 : (y 0).val < 1 := (y 0).isLt
  have y1 : (y 1).val < 1 := (y 1).isLt
  have y2 : (y 2).val < 1024 := (y 2).isLt
  have y3 : (y 3).val < 384 := (y 3).isLt
  have e : ((cfg0.win 2).blk t).view.emb y = (ix4 ⟨t.val / 2, by omega⟩ 0 ⟨(y 2).val, y2⟩ ⟨(y 3).val, y3⟩ : S4x1x1024x384.Idx) := by
    funext a
    apply Fin.ext
    match a with
    | ⟨0, _⟩ => show win0_2.index t 0 * 1 + 1 * (y 0).val = t.val / 2; rw [hi.1]; omega
    | ⟨1, _⟩ => show win0_2.index t 1 * 1 + 1 * (y 1).val = 0; rw [hi.2.1]; omega
    | ⟨2, _⟩ => show win0_2.index t 2 * 1024 + 1 * (y 2).val = (y 2).val; rw [hi.2.2.1]; omega
    | ⟨3, _⟩ => show win0_2.index t 3 * 384 + 1 * (y 3).val = (y 3).val; rw [hi.2.2.2]; omega
  have e' : (cfg0.win 2).xinj (grid0.coords t) y = (ix4 0 0 ⟨(y 2).val, y2⟩ ⟨(y 3).val, y3⟩ : S1x1x1024x384.Idx) := by
    funext a
    apply Fin.ext
    match a with
    | ⟨0, _⟩ => show (y 0).val = 0; omega
    | ⟨1, _⟩ => show (y 1).val = 0; omega
    | ⟨2, _⟩ => rfl
    | ⟨3, _⟩ => rfl
  have h := outsAt_apply m c t ⟨t.val / 2, by omega⟩ (by show t.val = 2 * (t.val / 2) + 1; omega) ⟨(y 2).val, y2⟩ ⟨(y 3).val, y3⟩
  rw [← e'] at h
  have k : ∀ G : S4x1x1024x384.Idx → EReal, ((cfg0.win 2).blk t).view.read (Elt Ideal) G y
      = G (ix4 ⟨t.val / 2, by omega⟩ 0 ⟨(y 2).val, y2⟩ ⟨(y 3).val, y3⟩) := fun G => congrArg G e
  exact h.trans (k (out m c)).symm

/-- The array after the call. -/
theorem final : (dats m 0 c).arrAt 2 cfg0.N = out m c := by
  refine (dats m 0 c).arrAt_eq_of_cover 2 (out m c) (flushed_eq m c) fun i => ?_
  have b0 : (i 0).val < 4 := (i 0).isLt
  have b1 : (i 1).val < 1 := (i 1).isLt
  have b2 : (i 2).val < 1024 := (i 2).isLt
  have b3 : (i 3).val < 384 := (i 3).isLt
  obtain ⟨t, ht⟩ : ∃ t : Fin cfg0.N, t.val = 2 * (i 0).val + 1 :=
    ⟨⟨2 * (i 0).val + 1, by show _ < cfg0.N; rw [show cfg0.N = 8 from N_0]; omega⟩, rfl⟩
  refine ⟨t, (flush0_2 _).mpr (by omega), ?_⟩
  have hi := index2 t
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [hi.1]; omega
  | ⟨1, _⟩ => show win0_2.index t 1 * 1 ≤ (i 1).val ∧ (i 1).val < win0_2.index t 1 * 1 + 1; rw [hi.2.1]; omega
  | ⟨2, _⟩ => show win0_2.index t 2 * 1024 ≤ (i 2).val ∧ (i 2).val < win0_2.index t 2 * 1024 + 1024; rw [hi.2.2.1]; omega
  | ⟨3, _⟩ => show win0_2.index t 3 * 384 ≤ (i 3).val ∧ (i 3).val < win0_2.index t 3 * 384 + 384; rw [hi.2.2.2]; omega
end

end Cert.KernelQkvIdeal.Grad

namespace Cert.Qkv

open Idealize.ShloMosaic Idealize.ShloMosaic.TcCoe Idealize.SL.Sem
open Cert.Grad Cert.ReferenceQkvIdeal.Read

/-- The reference's result is the same array. -/
theorem reference_eq (x0 : Cert.ReferenceQkvIdeal.S8192x1024.Idx → EReal) (x1 : Cert.ReferenceQkvIdeal.S8192x1536.Idx → EReal)
    (i : Cert.ReferenceQkvIdeal.S4x1x1024x384.Idx) :
    (Cert.ReferenceQkvIdeal.Read.val_main_v8 (F := Ideal) x0 x1 i : EReal)
      = ∑ t : Fin 8192, x0 (ix2 t (i 2)) * x1 (ix2 t (Cert.KernelQkvIdeal.Grad.col (i 0) (i 3))) := by
  obtain ⟨q, l, r, n, rfl⟩ : ∃ (q : Fin 4) (l : Fin 1) (r : Fin 1024) (n : Fin 384), i = ix4 q l r n :=
    ⟨i 0, i 1, i 2, i 3, funext fun a => by fin_cases a <;> rfl⟩
  rw [val_main_v8_apply, val_main_v7_apply, val_main_v6_apply, val_main_v5_apply, val_main_v4_apply]
  refine Finset.sum_congr rfl fun t _ => ?_
  rw [val_main_v0_apply, val_main_v1_apply, mul_comm]
  refine congrArg₂ (· * ·) (congrArg x0 ?_) (congrArg x1 ?_) <;> funext a <;> apply Fin.ext <;>
    match a with
      | ⟨0, _⟩ => rfl
      | ⟨1, _⟩ => first
        | (show ((r.val * 4 + q.val) * 384 + n.val) / 1536 = r.val; omega)
        | (show ((r.val * 4 + q.val) * 384 + n.val) % 1536 = 384 * q.val + n.val; omega)

theorem frame_kernel : Cert.quiescent_KernelQkv := fun m ρ _ => Cert.KernelQkv.Gen.frame (F := Bits) m ρ

theorem frame_kernelIdeal : Cert.quiescent_KernelQkvIdeal := fun m ρ _ => Cert.KernelQkvIdeal.Gen.frame (F := Ideal) m ρ

theorem frame_referenceIdeal : Cert.quiescent_ReferenceQkvIdeal := fun m ρ _ =>
  (θ_run Cert.ReferenceQkvIdeal.defs _ _).mono (fun r h => ⟨fun c => (h c).2, sem_eq_zero_of_no_sems (by decide) r.2⟩)
    (Cert.ReferenceQkvIdeal.Value.run (F := Ideal) m ρ)

theorem algebraic : Cert.algebraic_KernelQkvIdeal_ReferenceQkvIdeal := fun m g m' g' _ hargs => by
  refine ⟨Cert.KernelQkvIdeal.Grad.out m, ?_, ?_⟩
  · exact (θ_run Cert.KernelQkvIdeal.defs _ _).mono (fun r h c => ⟨(h c).1.trans (Cert.KernelQkvIdeal.Grad.final m c), (h c).2⟩)
      (Cert.KernelQkvIdeal.Value.run_blocks (F := Ideal) m g)
  · refine (θ_run Cert.ReferenceQkvIdeal.defs _ _).mono (fun r h c => ⟨(h c).1.trans ?_, (h c).2⟩)
      (Cert.ReferenceQkvIdeal.Value.run (F := Ideal) m' g')
    obtain ⟨e0, e1⟩ := hargs c
    rw [e0, e1]
    exact funext fun i => reference_eq _ _ i

end Cert.Qkv

end
-- ==== Proof.OutA.lean ====
/- The latent attention's output projection, the residual and the norm after it: what a grid point computes from its block of tokens, the arrays left, and the reference. -/
module

public import proofs.«01_k».proof.Defs
public import proofs.«01_k».proof.Proof.Gen.KernelOutA.Frame
public import proofs.«01_k».proof.Proof.Gen.KernelOutAIdeal.Value
public import proofs.«01_k».proof.Proof.Gen.ReferenceOutAIdeal.Run
public import proofs.«01_k».proof.Proof.Gen.ReferenceOutAIdeal.Read
public import Idealize.ShloMosaic.Lib.Pointwise
public import Idealize.ShloMosaic.Lib.StableHlo.RunRead
public import Idealize.ShloMosaic.Lib.Tactic

@[expose] public section

noncomputable section

namespace Cert.KernelOutAIdeal.Layer

open Idealize.ShloMosaic Idealize.ShloMosaic.TcCoe Idealize.SL.Sem
open Idealize.ShloMosaic.Pipeline (Dat)
open Cert.KernelOutAIdeal Cert.KernelOutAIdeal.Gen

theorem hz2 : (![0, 0] : Fin 2 → Nat) = fun _ => 0 := funext fun a => by fin_cases a <;> rfl

/-- One over the root of the mean of 1024 squares whose sum is `s`, with the norm's small constant. -/
def rinv (s : EReal) : EReal := Ideal.rsqrt (Ideal.div s (Ideal.ofBits .f32 0x44800000#32) + Ideal.ofBits .f32 0x358637BD#32)

/-- The literal 1 that the scale is added to. -/
def one : EReal := Ideal.ofBits .f32 0x3F800000#32

/-- Row `j` of the eight vectors. -/
def rowAt (j : Fin 8) (x : Vec Ideal S8x1024 .f32) : Vec Ideal S1x1024 .f32 := fun y => x (ix2 j ⟨(y 1).val, (y 1).isLt⟩)

section
variable (x0 : Vec Ideal S1024x1024 .bf16) (x1 : Vec Ideal S1024x1024 .f32) (x2 : Vec Ideal S1024x1024 .bf16) (x3 : Vec Ideal S1x1024 .f32)
  (x4 : Vec Ideal S8x1024 .f32)

/-! What a point writes, over the blocks it reads. -/

theorem ld_gate : View.ld x4 r0_2 = rowAt 2 x4 := by
  funext y
  refine congrArg x4 ?_
  funext a
  apply Fin.ext
  match a with
  | ⟨0, _⟩ => have h : (y 0).val < 1 := (y 0).isLt; show 2 + 1 * (y 0).val = 2; omega
  | ⟨1, _⟩ => show 0 + 1 * (y 1).val = (y 1).val; omega
theorem ld_gain : View.ld x4 r0_3 = rowAt 7 x4 := by
  funext y
  refine congrArg x4 ?_
  funext a
  apply Fin.ext
  match a with
  | ⟨0, _⟩ => have h : (y 0).val < 1 := (y 0).isLt; show 7 + 1 * (y 0).val = 7; omega
  | ⟨1, _⟩ => show 0 + 1 * (y 1).val = (y 1).val; omega
theorem ld_scale : View.ld x4 r0_4 = rowAt 4 x4 := by
  funext y
  refine congrArg x4 ?_
  funext a
  apply Fin.ext
  match a with
  | ⟨0, _⟩ => have h : (y 0).val < 1 := (y 0).isLt; show 4 + 1 * (y 0).val = 4; omega
  | ⟨1, _⟩ => show 0 + 1 * (y 1).val = (y 1).val; omega
theorem ld_shift : View.ld x4 r0_5 = rowAt 3 x4 := by
  funext y
  refine congrArg x4 ?_
  funext a
  apply Fin.ext
  match a with
  | ⟨0, _⟩ => have h : (y 0).val < 1 := (y 0).isLt; show 3 + 1 * (y 0).val = 3; omega
  | ⟨1, _⟩ => show 0 + 1 * (y 1).val = (y 1).val; omega

theorem block_y : out0_5 x0 x1 x2 x3 x4 = k0_pay3 x0 x2 x3 := by
  unfold out0_5
  rw [View.canon_unit_zero hz2]
  simp only [View.ld_unit_zero (S := S1024x1024) hz2, View.ld_unit_zero (S := S1x1024) hz2]

theorem block_x : out0_6 x0 x1 x2 x3 x4 = k0_pay4 x0 x2 x3 x1 (rowAt 2 x4) := by
  unfold out0_6
  rw [View.canon_unit_zero hz2, ld_gate]
  simp only [View.ld_unit_zero (S := S1024x1024) hz2, View.ld_unit_zero (S := S1x1024) hz2]

theorem block_h : out0_7 x0 x1 x2 x3 x4
    = k0_pay1 (k0_pay5 x0 x2 x3 x1 (rowAt 2 x4) (rowAt 7 x4)) (k0_pay6 (rowAt 4 x4)) (Scalar.ofBits .f32 0x3F800000#32) (rowAt 3 x4) := by
  unfold out0_7
  rw [View.canon_unit_zero hz2, ld_gate, ld_gain, ld_scale, ld_shift]
  simp only [View.ld_unit_zero (S := S1024x1024) hz2, View.ld_unit_zero (S := S1x1024) hz2]

/-! The same at an element. -/

theorem y_apply (r n : Fin 1024) : (k0_pay2 x0 x2 x3 (ix2 r n) : EReal)
    = (∑ k : Fin 1024, (x0 (ix2 r k) : EReal) * x2 (ix2 k n)) + x3 (ix2 0 n) := by
  pointwise [k0_pay2]

theorem y_cast (r n : Fin 1024) : (k0_pay3 x0 x2 x3 (ix2 r n) : EReal) = k0_pay2 x0 x2 x3 (ix2 r n) := by
  unfold k0_pay3
  generalize k0_pay2 x0 x2 x3 = z
  pointwise []

theorem x_apply (w : Vec Ideal S1x1024 .f32) (r n : Fin 1024) : (k0_pay4 x0 x2 x3 x1 w (ix2 r n) : EReal)
    = x1 (ix2 r n) + w (ix2 0 n) * k0_pay2 x0 x2 x3 (ix2 r n) := by
  unfold k0_pay4
  generalize k0_pay2 x0 x2 x3 = z
  pointwise []

theorem n_apply (w v : Vec Ideal S1x1024 .f32) (r n : Fin 1024) : (k0_pay5 x0 x2 x3 x1 w v (ix2 r n) : EReal)
    = k0_pay4 x0 x2 x3 x1 w (ix2 r n)
      * rinv (∑ k : Fin 1024, (k0_pay4 x0 x2 x3 x1 w (ix2 r k) : EReal) * k0_pay4 x0 x2 x3 x1 w (ix2 r k)) * v (ix2 0 n) := by
  unfold k0_pay5
  generalize k0_pay4 x0 x2 x3 x1 w = z
  pointwise [rinv]

theorem h_apply (z : FVec Ideal S1024x1024 .f32) (u v : Vec Ideal S1x1024 .f32) (r n : Fin 1024) :
    (k0_pay1 z (k0_pay6 u) (Scalar.ofBits .f32 0x3F800000#32) v (ix2 r n) : EReal) = z (ix2 r n) * (one + u (ix2 0 n)) + v (ix2 0 n) := by
  pointwise [k0_pay1, k0_pay6, one]
end

/-- Row `r` of block `p` of the tokens. -/
def row (p : Fin 8) (r : Fin 1024) : Fin 8192 := ⟨1024 * p.val + r.val, by omega⟩

/-- The arrays the host hands over. -/
def oArr (x : S8192x1024.Idx → EReal) : FVec Ideal S8192x1024 .bf16 := truncf .bf16 ((x : FVec Ideal S8192x1024 .f32) : FVec Ideal S8192x1024 .f32) bitsLt_bf16_f32
def wArr (x : S1024x1024.Idx → EReal) : FVec Ideal S1024x1024 .bf16 := truncf .bf16 (x : FVec Ideal S1024x1024 .f32) bitsLt_bf16_f32
def zeros : FVec Ideal S3x1024 .f32 := broadcastInDim S3x1024 ![] bcast_S_S3x1024 (constant S_ .f32 0x00000000#32)
def asRow (x : S1024.Idx → EReal) : FVec Ideal S1x1024 .f32 := broadcastInDim S1x1024 ![1] bcast_S1024_S1x1024_1 x
def noBias : FVec Ideal S1x1024 .f32 := extractStridedSlice S1x1024 ![0, 0] zeros slices_S3x1024_S1x1024_0_0
def vecs (ga g sh sc : S1024.Idx → EReal) : FVec Ideal S8x1024 .f32 :=
  concatenate S8x1024 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0

theorem oArr_at (x : S8192x1024.Idx → EReal) (i : Fin 8192) (k : Fin 1024) : (oArr x (ix2 i k) : EReal) = x (ix2 i k) := by
  pointwise [oArr]
theorem wArr_at (x : S1024x1024.Idx → EReal) (k n : Fin 1024) : (wArr x (ix2 k n) : EReal) = x (ix2 k n) := rfl
theorem asRow_at (x : S1024.Idx → EReal) (n : Fin 1024) : (asRow x (ix2 0 n) : EReal) = x (ix1 n) := by
  pointwise [asRow]
theorem noBias_at (n : Fin 1024) : (noBias (ix2 0 n) : EReal) = 0 := by
  pointwise [noBias, zeros]

theorem vecs_gate (ga g sh sc : S1024.Idx → EReal) (n : Fin 1024) : (vecs ga g sh sc (ix2 2 n) : EReal) = ga (ix1 n) := by
  unfold vecs
  refine Eq.trans (concatenate_apply_piece (t := S8x1024) 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0 (ix2 2 n) 1 (by decide : 1 < 6) S1x1024 (asRow ga) rfl rfl 2 rfl (ix2 0 n)
    (fun b hb => ?_) rfl) (asRow_at ga n)
  match b with
  | ⟨0, _⟩ => exact absurd rfl hb
  | ⟨1, _⟩ => rfl

theorem vecs_shift (ga g sh sc : S1024.Idx → EReal) (n : Fin 1024) : (vecs ga g sh sc (ix2 3 n) : EReal) = sh (ix1 n) := by
  unfold vecs
  refine Eq.trans (concatenate_apply_piece (t := S8x1024) 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0 (ix2 3 n) 2 (by decide : 2 < 6) S1x1024 (asRow sh) rfl rfl 3 rfl (ix2 0 n)
    (fun b hb => ?_) rfl) (asRow_at sh n)
  match b with
  | ⟨0, _⟩ => exact absurd rfl hb
  | ⟨1, _⟩ => rfl

theorem vecs_scale (ga g sh sc : S1024.Idx → EReal) (n : Fin 1024) : (vecs ga g sh sc (ix2 4 n) : EReal) = sc (ix1 n) := by
  unfold vecs
  refine Eq.trans (concatenate_apply_piece (t := S8x1024) 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0 (ix2 4 n) 3 (by decide : 3 < 6) S1x1024 (asRow sc) rfl rfl 4 rfl (ix2 0 n)
    (fun b hb => ?_) rfl) (asRow_at sc n)
  match b with
  | ⟨0, _⟩ => exact absurd rfl hb
  | ⟨1, _⟩ => rfl

theorem vecs_gain (ga g sh sc : S1024.Idx → EReal) (n : Fin 1024) : (vecs ga g sh sc (ix2 7 n) : EReal) = g (ix1 n) := by
  unfold vecs
  refine Eq.trans (concatenate_apply_piece (t := S8x1024) 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0 (ix2 7 n) 5 (by decide : 5 < 6) S1x1024 (asRow g) rfl rfl 7 rfl (ix2 0 n)
    (fun b hb => ?_) rfl) (asRow_at g n)
  match b with
  | ⟨0, _⟩ => exact absurd rfl hb
  | ⟨1, _⟩ => rfl

section
variable (m : (ℓ : Loc nD τ sig) → Buf (Elt Ideal) ℓ) (ρ : Dev nD → PrngReg) (c : Dev nD)

/-- The attention's output, the stream entering, the projection's weight, the gate, the norm's gain, the shift, the scale. -/
abbrev x0 : S8192x1024.Idx → EReal := m ((c.tc : Thread nD τ).loc main_arg0)
abbrev x1 : S8192x1024.Idx → EReal := m ((c.tc : Thread nD τ).loc main_arg1)
abbrev x2 : S1024x1024.Idx → EReal := m ((c.tc : Thread nD τ).loc main_arg2)
abbrev x3 : S1024.Idx → EReal := m ((c.tc : Thread nD τ).loc main_arg3)
abbrev x4 : S1024.Idx → EReal := m ((c.tc : Thread nD τ).loc main_arg4)
abbrev x5 : S1024.Idx → EReal := m ((c.tc : Thread nD τ).loc main_arg5)
abbrev x6 : S1024.Idx → EReal := m ((c.tc : Thread nD τ).loc main_arg6)

/-- The projection, the stream after it, and the normed and modulated stream. -/
def yv (i : Fin 8192) (n : Fin 1024) : EReal := (∑ k : Fin 1024, x0 m c (ix2 i k) * x2 m c (ix2 k n))
def xv (i : Fin 8192) (n : Fin 1024) : EReal := x1 m c (ix2 i n) + x3 m c (ix1 n) * yv m c i n
def hv (i : Fin 8192) (n : Fin 1024) : EReal :=
  xv m c i n * rinv (∑ k : Fin 1024, xv m c i k * xv m c i k) * x4 m c (ix1 n) * (one + x6 m c (ix1 n)) + x5 m c (ix1 n)

theorem entry_o : V m c main_v8 = oArr (x0 m c) := by
  unfold V
  after_reads_simp <;> rfl
theorem entry_w : V m c main_v9 = wArr (x2 m c) := by
  unfold V
  after_reads_simp <;> rfl
theorem entry_b : V m c main_v10 = noBias := by
  unfold V
  after_reads_simp <;> rfl
theorem entry_vecs : V m c main_v7 = vecs (x3 m c) (x4 m c) (x5 m c) (x6 m c) := by
  unfold V
  after_reads_simp <;> rfl

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel

/-! The blocks read at point `p`. -/
section
variable (t : Fin cfg0.N) (p : Fin 8) (ht : t.val = p.val)
include ht

theorem tile0 (r k : Fin 1024) : (iblk m c 0 t (ix2 r k) : EReal) = x0 m c (ix2 (row p r) k) := by
  have hi := index0 t
  unfold iblk
  rw [View.read_apply]
  show V m c main_v8 _ = _
  rw [entry_o, ← oArr_at (x0 m c) (row p r) k]
  refine congrArg (oArr (x0 m c)) ?_
  funext a
  apply Fin.ext
  match a with
  | ⟨0, _⟩ => show win0_0.index t 0 * 1024 + 1 * r.val = 1024 * p.val + r.val; rw [hi.1]; omega
  | ⟨1, _⟩ => show win0_0.index t 1 * 1024 + 1 * k.val = k.val; rw [hi.2]; omega

theorem tile1 (r n : Fin 1024) : (iblk m c 1 t (ix2 r n) : EReal) = x1 m c (ix2 (row p r) n) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 1024 + 1 * r.val = 1024 * p.val + r.val; rw [hi.1]; omega
  | ⟨1, _⟩ => show win0_1.index t 1 * 1024 + 1 * n.val = n.val; rw [hi.2]; omega
end

section
variable (t : Fin cfg0.N)

theorem tile2 (k n : Fin 1024) : (iblk m c 2 t (ix2 k n) : EReal) = x2 m c (ix2 k n) := by
  have hi := index2 t
  unfold iblk
  rw [View.read_apply]
  show V m c main_v9 _ = _
  rw [entry_w, ← wArr_at (x2 m c) k n]
  refine congrArg (wArr (x2 m c)) ?_
  funext a
  apply Fin.ext
  match a with
  | ⟨0, _⟩ => show win0_2.index t 0 * 1024 + 1 * k.val = k.val; rw [hi.1]; omega
  | ⟨1, _⟩ => show win0_2.index t 1 * 1024 + 1 * n.val = n.val; rw [hi.2]; omega

theorem tile3 (n : Fin 1024) : (iblk m c 3 t (ix2 0 n) : EReal) = (0 : EReal) := by
  have hi := index3 t
  unfold iblk
  rw [View.read_apply]
  show V m c main_v10 _ = _
  rw [entry_b, ← noBias_at n]
  refine congrArg (noBias) ?_
  funext a
  apply Fin.ext
  match a with
  | ⟨0, _⟩ => show win0_3.index t 0 * 1 + 1 * 0 = 0; rw [hi.1]
  | ⟨1, _⟩ => show win0_3.index t 1 * 1024 + 1 * n.val = n.val; rw [hi.2]; omega

theorem tile4 (j : Fin 8) (n : Fin 1024) : (rowAt j (iblk m c 4 t) (ix2 0 n) : EReal) = vecs (x3 m c) (x4 m c) (x5 m c) (x6 m c) (ix2 j n) := by
  have hi := index4 t
  unfold rowAt iblk
  rw [View.read_apply]
  show V m c main_v7 _ = _
  rw [entry_vecs]
  refine congrArg (vecs (x3 m c) (x4 m c) (x5 m c) (x6 m c)) ?_
  funext a
  apply Fin.ext
  match a with
  | ⟨0, _⟩ => show win0_4.index t 0 * 8 + 1 * j.val = j.val; rw [hi.1]; omega
  | ⟨1, _⟩ => show win0_4.index t 1 * 1024 + 1 * n.val = n.val; rw [hi.2]; omega
end

section
variable (t : Fin cfg0.N) (p : Fin 8) (ht : t.val = p.val)
include ht

theorem y_at (r n : Fin 1024) : (k0_pay2 (F := Ideal) (iblk m c 0 t) (iblk m c 2 t) (iblk m c 3 t) (ix2 r n) : EReal) = yv m c (row p r) n := by
  refine (y_apply _ _ _ r n).trans ?_
  refine (congrArg₂ (fun a b : EReal => a + b) (Finset.sum_congr rfl fun k _ =>
    congrArg₂ (fun a b : EReal => a * b) (tile0 m c t p ht r k) (tile2 m c t k n)) (tile3 m c t n)).trans ?_
  exact add_zero (M := EReal) _

theorem x_at (r n : Fin 1024) : (k0_pay4 (F := Ideal) (iblk m c 0 t) (iblk m c 2 t) (iblk m c 3 t) (iblk m c 1 t) (rowAt 2 (iblk m c 4 t)) (ix2 r n) : EReal)
    = xv m c (row p r) n := by
  refine (x_apply _ _ _ _ _ r n).trans ?_
  exact congrArg₂ (fun a b : EReal => a + b) (tile1 m c t p ht r n)
    (congrArg₂ (fun a b : EReal => a * b) ((tile4 m c t 2 n).trans (vecs_gate _ _ _ _ n)) (y_at m c t p ht r n))

theorem h_at (r n : Fin 1024) : (out0_7 (F := Ideal) (iblk m c 0 t) (iblk m c 1 t) (iblk m c 2 t) (iblk m c 3 t) (iblk m c 4 t) (ix2 r n) : EReal)
    = hv m c (row p r) n := by
  rw [block_h]
  refine (h_apply _ _ _ r n).trans ?_
  refine congrArg₂ (fun a b : EReal => a + b) (congrArg₂ (fun a b : EReal => a * b) ?_ (congrArg (fun a : EReal => one + a)
    ((tile4 m c t 4 n).trans (vecs_scale _ _ _ _ n)))) ((tile4 m c t 3 n).trans (vecs_shift _ _ _ _ n))
  refine (n_apply _ _ _ _ _ _ r n).trans ?_
  refine congrArg₂ (fun a b : EReal => a * b) (congrArg₂ (fun a b : EReal => a * b) (x_at m c t p ht r n) (congrArg rinv ?_))
    ((tile4 m c t 7 n).trans (vecs_gain _ _ _ _ n))
  exact Finset.sum_congr rfl fun k _ => congrArg₂ (fun a b : EReal => a * b) (x_at m c t p ht r k) (x_at m c t p ht r k)
end

theorem lt8 (t : Fin cfg0.N) : t.val < 8 := lt_of_lt_of_eq t.isLt (show cfg0.N = 8 from N_0)

/-! The arrays left. -/

def outY : S8192x1024.Idx → EReal := fun i => yv m c (i 0) (i 1)
def outX : S8192x1024.Idx → EReal := fun i => xv m c (i 0) (i 1)
def outH : S8192x1024.Idx → EReal := fun i => hv m c (i 0) (i 1)

theorem outY_apply (i : Fin 8192) (n : Fin 1024) : outY m c (ix2 i n) = yv m c i n := rfl

theorem flushed_Y (t : Fin cfg0.N) (hf : (cfg0.win 5).flush t = true) :
    (dats m 0 c).flushed 5 t = ((cfg0.win 5).blk t).view.read (Elt Ideal) (outY m c) := by
  have hN := lt8 t
  have hi := index5 t
  rw [Cert.KernelOutAIdeal.Value.flushed5]
  funext y
  have y0 : (y 0).val < 1024 := (y 0).isLt
  have y1 : (y 1).val < 1024 := (y 1).isLt
  have e : ((cfg0.win 5).blk t).view.emb y = (ix2 (row ⟨t.val, hN⟩ ⟨(y 0).val, y0⟩) ⟨(y 1).val, y1⟩ : S8192x1024.Idx) := by
    funext a
    apply Fin.ext
    match a with
    | ⟨0, _⟩ => show win0_5.index t 0 * 1024 + 1 * (y 0).val = 1024 * t.val + (y 0).val; rw [hi.1]; omega
    | ⟨1, _⟩ => show win0_5.index t 1 * 1024 + 1 * (y 1).val = (y 1).val; rw [hi.2]; omega
  have e' : (cfg0.win 5).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h : (out0_5 (F := Ideal) (iblk m c 0 t) (iblk m c 1 t) (iblk m c 2 t) (iblk m c 3 t) (iblk m c 4 t) (ix2 ⟨(y 0).val, y0⟩ ⟨(y 1).val, y1⟩) : EReal)
      = yv m c (row ⟨t.val, hN⟩ ⟨(y 0).val, y0⟩) ⟨(y 1).val, y1⟩ :=
    (congrFun (block_y _ _ _ _ _) _).trans ((y_cast _ _ _ _ _).trans (y_at m c t ⟨t.val, hN⟩ rfl ⟨(y 0).val, y0⟩ ⟨(y 1).val, y1⟩))
  rw [← e'] at h
  have k : ∀ G : S8192x1024.Idx → EReal, ((cfg0.win 5).blk t).view.read (Elt Ideal) G y = G (ix2 (row ⟨t.val, hN⟩ ⟨(y 0).val, y0⟩) ⟨(y 1).val, y1⟩) :=
    fun G => congrArg G e
  exact h.trans ((outY_apply m c _ _).symm.trans (k (outY m c)).symm)

/-- Every index lies in the block of its row's point. -/
theorem covered_Y (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hl : (i 0).val / 1024 < cfg0.N := lt_of_lt_of_eq (by omega) (show cfg0.N = 8 from N_0).symm
  have hi := index5 ⟨(i 0).val / 1024, hl⟩
  refine ⟨⟨(i 0).val / 1024, hl⟩, flush0_5 _, ?_⟩
  generalize ht : (⟨(i 0).val / 1024, hl⟩ : Fin cfg0.N) = t at hi ⊢
  have hv : t.val = (i 0).val / 1024 := congrArg Fin.val ht.symm
  show i ∈ ((View.whole main_v11_0).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [hi.1, hv]; omega
  | ⟨1, _⟩ =>
    show win0_5.index t (1 : Fin 2) * 1024 ≤ (i 1).val ∧ (i 1).val < win0_5.index t (1 : Fin 2) * 1024 + 1024
    rw [hi.2]; omega

theorem final_Y : (dats m 0 c).arrAt 5 cfg0.N = outY m c :=
  (dats m 0 c).arrAt_eq_of_cover 5 (outY m c) (flushed_Y m c) (covered_Y)

theorem outX_apply (i : Fin 8192) (n : Fin 1024) : outX m c (ix2 i n) = xv m c i n := rfl

theorem flushed_X (t : Fin cfg0.N) (hf : (cfg0.win 6).flush t = true) :
    (dats m 0 c).flushed 6 t = ((cfg0.win 6).blk t).view.read (Elt Ideal) (outX m c) := by
  have hN := lt8 t
  have hi := index6 t
  rw [Cert.KernelOutAIdeal.Value.flushed6]
  funext y
  have y0 : (y 0).val < 1024 := (y 0).isLt
  have y1 : (y 1).val < 1024 := (y 1).isLt
  have e : ((cfg0.win 6).blk t).view.emb y = (ix2 (row ⟨t.val, hN⟩ ⟨(y 0).val, y0⟩) ⟨(y 1).val, y1⟩ : S8192x1024.Idx) := by
    funext a
    apply Fin.ext
    match a with
    | ⟨0, _⟩ => show win0_6.index t 0 * 1024 + 1 * (y 0).val = 1024 * t.val + (y 0).val; rw [hi.1]; omega
    | ⟨1, _⟩ => show win0_6.index t 1 * 1024 + 1 * (y 1).val = (y 1).val; rw [hi.2]; omega
  have e' : (cfg0.win 6).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h : (out0_6 (F := Ideal) (iblk m c 0 t) (iblk m c 1 t) (iblk m c 2 t) (iblk m c 3 t) (iblk m c 4 t) (ix2 ⟨(y 0).val, y0⟩ ⟨(y 1).val, y1⟩) : EReal)
      = xv m c (row ⟨t.val, hN⟩ ⟨(y 0).val, y0⟩) ⟨(y 1).val, y1⟩ :=
    (congrFun (block_x _ _ _ _ _) _).trans (x_at m c t ⟨t.val, hN⟩ rfl ⟨(y 0).val, y0⟩ ⟨(y 1).val, y1⟩)
  rw [← e'] at h
  have k : ∀ G : S8192x1024.Idx → EReal, ((cfg0.win 6).blk t).view.read (Elt Ideal) G y = G (ix2 (row ⟨t.val, hN⟩ ⟨(y 0).val, y0⟩) ⟨(y 1).val, y1⟩) :=
    fun G => congrArg G e
  exact h.trans ((outX_apply m c _ _).symm.trans (k (outX m c)).symm)

/-- Every index lies in the block of its row's point. -/
theorem covered_X (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hl : (i 0).val / 1024 < cfg0.N := lt_of_lt_of_eq (by omega) (show cfg0.N = 8 from N_0).symm
  have hi := index6 ⟨(i 0).val / 1024, hl⟩
  refine ⟨⟨(i 0).val / 1024, hl⟩, flush0_6 _, ?_⟩
  generalize ht : (⟨(i 0).val / 1024, hl⟩ : Fin cfg0.N) = t at hi ⊢
  have hv : t.val = (i 0).val / 1024 := congrArg Fin.val ht.symm
  show i ∈ ((View.whole main_v11_1).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    rw [hi.1, hv]; omega
  | ⟨1, _⟩ =>
    show win0_6.index t (1 : Fin 2) * 1024 ≤ (i 1).val ∧ (i 1).val < win0_6.index t (1 : Fin 2) * 1024 + 1024
    rw [hi.2]; omega

theorem final_X : (dats m 0 c).arrAt 6 cfg0.N = outX m c :=
  (dats m 0 c).arrAt_eq_of_cover 6 (outX m c) (flushed_X m c) (covered_X)

theorem outH_apply (i : Fin 8192) (n : Fin 1024) : outH m c (ix2 i n) = hv m c i n := rfl

theorem flushed_H (t : Fin cfg0.N) (hf : (cfg0.win 7).flush t = true) :
    (dats m 0 c).flushed 7 t = ((cfg0.win 7).blk t).view.read (Elt Ideal) (outH m c) := by
  have hN := lt8 t
  have hi := index7 t
  rw [Cert.KernelOutAIdeal.Value.flushed7]
  funext y
  have y0 : (y 0).val < 1024 := (y 0).isLt
  have y1 : (y 1).val < 1024 := (y 1).isLt
  have e : ((cfg0.win 7).blk t).view.emb y = (ix2 (row ⟨t.val, hN⟩ ⟨(y 0).val, y0⟩) ⟨(y 1).val, y1⟩ : S8192x1024.Idx) := by
    funext a
    apply Fin.ext
    match a with
    | ⟨0, _⟩ => show win0_7.index t 0 * 1024 + 1 * (y 0).val = 1024 * t.val + (y 0).val; rw [hi.1]; omega
    | ⟨1, _⟩ => show win0_7.index t 1 * 1024 + 1 * (y 1).val = (y 1).val; rw [hi.2]; omega
  have e' : (cfg0.win 7).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h : (out0_7 (F := Ideal) (iblk m c 0 t) (iblk m c 1 t) (iblk m c 2 t) (iblk m c 3 t) (iblk m c 4 t) (ix2 ⟨(y 0).val, y0⟩ ⟨(y 1).val, y1⟩) : EReal)
      = hv m c (row ⟨t.val, hN⟩ ⟨(y 0).val, y0⟩) ⟨(y 1).val, y1⟩ :=
    h_at m c t ⟨t.val, hN⟩ rfl ⟨(y 0).val, y0⟩ ⟨(y 1).val, y1⟩
  rw [← e'] at h
  have k : ∀ G : S8192x1024.Idx → EReal, ((cfg0.win 7).blk t).view.read (Elt Ideal) G y = G (ix2 (row ⟨t.val, hN⟩ ⟨(y 0).val, y0⟩) ⟨(y 1).val, y1⟩) :=
    fun G => congrArg G e
  exact h.trans ((outH_apply m c _ _).symm.trans (k (outH m c)).symm)

/-- Every index lies in the block of its row's point. -/
theorem covered_H (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  have hl : (i 0).val / 1024 < cfg0.N := lt_of_lt_of_eq (by omega) (show cfg0.N = 8 from N_0).symm
  have hi := index7 ⟨(i 0).val / 1024, hl⟩
  refine ⟨⟨(i 0).val / 1024, hl⟩, flush0_7 _, ?_⟩
  generalize ht : (⟨(i 0).val / 1024, hl⟩ : Fin cfg0.N) = t at hi ⊢
  have hv : t.val = (i 0).val / 1024 := congrArg Fin.val ht.symm
  show i ∈ ((View.whole main_v11_2).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    rw [hi.1, hv]; omega
  | ⟨1, _⟩ =>
    show win0_7.index t (1 : Fin 2) * 1024 ≤ (i 1).val ∧ (i 1).val < win0_7.index t (1 : Fin 2) * 1024 + 1024
    rw [hi.2]; omega

theorem final_H : (dats m 0 c).arrAt 7 cfg0.N = outH m c :=
  (dats m 0 c).arrAt_eq_of_cover 7 (outH m c) (flushed_H m c) (covered_H)
end

end Cert.KernelOutAIdeal.Layer

namespace Cert.OutA

open Idealize.ShloMosaic Idealize.ShloMosaic.TcCoe Idealize.SL.Sem
open Cert.ReferenceOutAIdeal.Read
open Cert.KernelOutAIdeal Cert.KernelOutAIdeal.Layer
variable (m : (ℓ : Loc nD τ sig) → Buf (Elt Ideal) ℓ) (c : Dev nD)

theorem lidx (i : Fin 8192) (n k : Fin 1024) : lidx_main_v0 (ix2 i n) k = ix2 i k := funext fun a => by
  match a with
  | ⟨0, _⟩ => rfl
  | ⟨1, _⟩ => rfl
theorem ridx (i : Fin 8192) (n k : Fin 1024) : ridx_main_v0 (ix2 i n) k = ix2 k n := funext fun a => by
  match a with
  | ⟨0, _⟩ => rfl
  | ⟨1, _⟩ => rfl

/-! The reference at an element. -/

theorem ref_gate (i : Fin 8192) (n : Fin 1024) : (val_main_v2 (F := Ideal) (x3 m c) (ix2 i n) : EReal) = x3 m c (ix1 n) := by
  rw [val_main_v2_apply, val_main_v1_apply]
  refine congrArg (x3 m c) (funext fun a => ?_)
  match a with
  | ⟨0, _⟩ => rfl
theorem ref_gain (i : Fin 8192) (n : Fin 1024) : (val_main_v17 (F := Ideal) (x4 m c) (ix2 i n) : EReal) = x4 m c (ix1 n) := by
  rw [val_main_v17_apply, val_main_v16_apply]
  refine congrArg (x4 m c) (funext fun a => ?_)
  match a with
  | ⟨0, _⟩ => rfl
theorem ref_shift (i : Fin 8192) (n : Fin 1024) : (val_main_v25 (F := Ideal) (x5 m c) (ix2 i n) : EReal) = x5 m c (ix1 n) := by
  rw [val_main_v25_apply, val_main_v24_apply]
  refine congrArg (x5 m c) (funext fun a => ?_)
  match a with
  | ⟨0, _⟩ => rfl
theorem ref_scale (i : Fin 8192) (n : Fin 1024) : (val_main_v22 (F := Ideal) (x6 m c) (ix2 i n) : EReal) = one + x6 m c (ix1 n) := by
  rw [val_main_v22_apply, val_main_v21_apply, val_main_v20_apply, val_main_v19_apply, val_main_cst_2_apply]
  refine congrArg (fun a : EReal => one + a) (congrArg (x6 m c) (funext fun a => ?_))
  match a with
  | ⟨0, _⟩ => rfl

theorem ref_y (i : Fin 8192) (n : Fin 1024) : (val_main_v0 (F := Ideal) (x0 m c) (x2 m c) (ix2 i n) : EReal) = yv m c i n := by
  rw [val_main_v0_apply]
  exact Finset.sum_congr rfl fun k _ => by rw [lidx, ridx]

theorem ref_x (i : Fin 8192) (n : Fin 1024) : (val_main_v4 (F := Ideal) (x0 m c) (x1 m c) (x2 m c) (x3 m c) (ix2 i n) : EReal) = xv m c i n := by
  rw [val_main_v4_apply, val_main_v3_apply]
  exact congrArg (fun a : EReal => x1 m c (ix2 i n) + a) (congrArg₂ (fun a b : EReal => a * b) (ref_gate m c i n) (ref_y m c i n))

theorem ref_sum (i : Fin 8192) : (val_main_v7 (F := Ideal) (x0 m c) (x1 m c) (x2 m c) (x3 m c) (ix1 i) : EReal) = ∑ k : Fin 1024, xv m c i k * xv m c i k := by
  rw [val_main_v7_apply, val_main_cst_apply]
  refine (congrArg₂ (fun a b : EReal => a + b) Ideal.ofBits_zero_f32 (Finset.sum_congr rfl fun k _ => ?_)).trans (zero_add _)
  have e : idx_main_v7 (ix1 i) k = ix2 i k := funext fun a => by
    match a with
    | ⟨0, _⟩ => rfl
    | ⟨1, _⟩ => rfl
  rw [e, val_main_v6_apply]
  exact congrArg₂ (fun a b : EReal => a * b) (ref_x m c i k) (ref_x m c i k)

theorem ref_rinv (i : Fin 8192) (n : Fin 1024) : (val_main_v14 (F := Ideal) (x0 m c) (x1 m c) (x2 m c) (x3 m c) (ix2 i n) : EReal) = rinv (∑ k : Fin 1024, xv m c i k * xv m c i k) := by
  have e : idx_main_v8 (idx_main_v14 (ix2 i n)) = ix1 i := funext fun a => by
    match a with
    | ⟨0, _⟩ => rfl
  rw [val_main_v14_apply, val_main_v13_apply, val_main_v12_apply, val_main_v10_apply, val_main_v8_apply, val_main_v9_apply, val_main_v11_apply, e, ref_sum]
  rfl

theorem ref_h (i : Fin 8192) (n : Fin 1024) : (val_main_v26 (F := Ideal) (x0 m c) (x1 m c) (x2 m c) (x3 m c) (x4 m c) (x5 m c) (x6 m c) (ix2 i n) : EReal) = hv m c i n := by
  rw [val_main_v26_apply, val_main_v23_apply, val_main_v18_apply, val_main_v15_apply]
  exact congrArg₂ (fun a b : EReal => a + b) (congrArg₂ (fun a b : EReal => a * b) (congrArg₂ (fun a b : EReal => a * b)
    (congrArg₂ (fun a b : EReal => a * b) (ref_x m c i n) (ref_rinv m c i n)) (ref_gain m c i n)) (ref_scale m c i n)) (ref_shift m c i n)

theorem eq_ix2 {a b : Nat} (i : (⟨2, ![a, b]⟩ : Shape).Idx) : i = ix2 (i 0) (i 1) := funext fun k => by fin_cases k <;> rfl

theorem outY_eq : val_main_v5 (F := Ideal) (x0 m c) (x2 m c) = outY m c := funext fun i => by
  rw [eq_ix2 i]; exact ref_y m c (i 0) (i 1)
theorem outX_eq : val_main_v4 (F := Ideal) (x0 m c) (x1 m c) (x2 m c) (x3 m c) = outX m c := funext fun i => by
  rw [eq_ix2 i]; exact ref_x m c (i 0) (i 1)
theorem outH_eq : val_main_v27 (F := Ideal) (x0 m c) (x1 m c) (x2 m c) (x3 m c) (x4 m c) (x5 m c) (x6 m c) = outH m c := funext fun i => by
  rw [eq_ix2 i]; exact ref_h m c (i 0) (i 1)

theorem frame_kernel : Cert.quiescent_KernelOutA := fun m ρ _ => Cert.KernelOutA.Gen.frame (F := Bits) m ρ

theorem frame_kernelIdeal : Cert.quiescent_KernelOutAIdeal := fun m ρ _ => Cert.KernelOutAIdeal.Gen.frame (F := Ideal) m ρ

theorem frame_referenceIdeal : Cert.quiescent_ReferenceOutAIdeal := fun m ρ _ =>
  (θ_run Cert.ReferenceOutAIdeal.defs _ _).mono (fun r h => ⟨fun c => (h c).2.2.2, sem_eq_zero_of_no_sems (by decide) r.2⟩)
    (Cert.ReferenceOutAIdeal.Value.run (F := Ideal) m ρ)

theorem algebraic : Cert.algebraic_KernelOutAIdeal_ReferenceOutAIdeal := fun m g m' g' _ hargs => by
  refine ⟨outY m, outX m, outH m, ?_, ?_⟩
  · exact (θ_run Cert.KernelOutAIdeal.defs _ _).mono (fun r h c => ⟨(h c).1.trans (final_Y m c), (h c).2.1.trans (final_X m c), (h c).2.2.1.trans (final_H m c), (h c).2.2.2⟩)
      (Cert.KernelOutAIdeal.Value.run_blocks (F := Ideal) m g)
  · refine (θ_run Cert.ReferenceOutAIdeal.defs _ _).mono (fun r h c => ⟨(h c).1.trans ?_, (h c).2.1.trans ?_, (h c).2.2.1.trans ?_, (h c).2.2.2⟩)
      (Cert.ReferenceOutAIdeal.Value.run (F := Ideal) m' g')
    all_goals obtain ⟨e0, e1, e2, e3, e4, e5, e6⟩ := hargs c
    · rw [e0, e2]
      exact outY_eq m c
    · rw [e0, e1, e2, e3]
      exact outX_eq m c
    · rw [e0, e1, e2, e3, e4, e5, e6]
      exact outH_eq m c

end Cert.OutA

end
-- ==== Proof.OutB.lean ====
/- The windowed attention's output projection, the residual and the norm after it: what a grid point computes from its block of tokens, the arrays left, and the reference. -/
module

public import proofs.«01_k».proof.Defs
public import proofs.«01_k».proof.Proof.Gen.KernelOutB.Frame
public import proofs.«01_k».proof.Proof.Gen.KernelOutBIdeal.Value
public import proofs.«01_k».proof.Proof.Gen.ReferenceOutBIdeal.Run
public import proofs.«01_k».proof.Proof.Gen.ReferenceOutBIdeal.Read
public import Idealize.ShloMosaic.Lib.Pointwise
public import Idealize.ShloMosaic.Lib.StableHlo.RunRead
public import Idealize.ShloMosaic.Lib.Tactic

@[expose] public section

noncomputable section

namespace Cert.KernelOutBIdeal.Layer

open Idealize.ShloMosaic Idealize.ShloMosaic.TcCoe Idealize.SL.Sem
open Idealize.ShloMosaic.Pipeline (Dat)
open Cert.KernelOutBIdeal Cert.KernelOutBIdeal.Gen

theorem hz2 : (![0, 0] : Fin 2 → Nat) = fun _ => 0 := funext fun a => by fin_cases a <;> rfl

/-- One over the root of the mean of 1024 squares whose sum is `s`, with the norm's small constant. -/
def rinv (s : EReal) : EReal := Ideal.rsqrt (Ideal.div s (Ideal.ofBits .f32 0x44800000#32) + Ideal.ofBits .f32 0x358637BD#32)

/-- The literal 1 that the scale is added to. -/
def one : EReal := Ideal.ofBits .f32 0x3F800000#32

/-- Row `j` of the eight vectors. -/
def rowAt (j : Fin 8) (x : Vec Ideal S8x1024 .f32) : Vec Ideal S1x1024 .f32 := fun y => x (ix2 j ⟨(y 1).val, (y 1).isLt⟩)

section
variable (x0 : Vec Ideal S1024x1024 .bf16) (x1 : Vec Ideal S1024x1024 .f32) (x2 : Vec Ideal S1024x1024 .bf16) (x3 : Vec Ideal S1x1024 .f32)
  (x4 : Vec Ideal S8x1024 .f32)

/-! What a point writes, over the blocks it reads. -/

theorem ld_gate : View.ld x4 r0_2 = rowAt 2 x4 := by
  funext y
  refine congrArg x4 ?_
  funext a
  apply Fin.ext
  match a with
  | ⟨0, _⟩ => have h : (y 0).val < 1 := (y 0).isLt; show 2 + 1 * (y 0).val = 2; omega
  | ⟨1, _⟩ => show 0 + 1 * (y 1).val = (y 1).val; omega
theorem ld_gain : View.ld x4 r0_3 = rowAt 7 x4 := by
  funext y
  refine congrArg x4 ?_
  funext a
  apply Fin.ext
  match a with
  | ⟨0, _⟩ => have h : (y 0).val < 1 := (y 0).isLt; show 7 + 1 * (y 0).val = 7; omega
  | ⟨1, _⟩ => show 0 + 1 * (y 1).val = (y 1).val; omega
theorem ld_scale : View.ld x4 r0_4 = rowAt 4 x4 := by
  funext y
  refine congrArg x4 ?_
  funext a
  apply Fin.ext
  match a with
  | ⟨0, _⟩ => have h : (y 0).val < 1 := (y 0).isLt; show 4 + 1 * (y 0).val = 4; omega
  | ⟨1, _⟩ => show 0 + 1 * (y 1).val = (y 1).val; omega
theorem ld_shift : View.ld x4 r0_5 = rowAt 3 x4 := by
  funext y
  refine congrArg x4 ?_
  funext a
  apply Fin.ext
  match a with
  | ⟨0, _⟩ => have h : (y 0).val < 1 := (y 0).isLt; show 3 + 1 * (y 0).val = 3; omega
  | ⟨1, _⟩ => show 0 + 1 * (y 1).val = (y 1).val; omega

theorem block_y : out0_5 x0 x1 x2 x3 x4 = k0_pay3 x0 x2 x3 := by
  unfold out0_5
  rw [View.canon_unit_zero hz2]
  simp only [View.ld_unit_zero (S := S1024x1024) hz2, View.ld_unit_zero (S := S1x1024) hz2]

theorem block_x : out0_6 x0 x1 x2 x3 x4 = k0_pay4 x0 x2 x3 x1 (rowAt 2 x4) := by
  unfold out0_6
  rw [View.canon_unit_zero hz2, ld_gate]
  simp only [View.ld_unit_zero (S := S1024x1024) hz2, View.ld_unit_zero (S := S1x1024) hz2]

theorem block_h : out0_7 x0 x1 x2 x3 x4
    = k0_pay1 (k0_pay5 x0 x2 x3 x1 (rowAt 2 x4) (rowAt 7 x4)) (k0_pay6 (rowAt 4 x4)) (Scalar.ofBits .f32 0x3F800000#32) (rowAt 3 x4) := by
  unfold out0_7
  rw [View.canon_unit_zero hz2, ld_gate, ld_gain, ld_scale, ld_shift]
  simp only [View.ld_unit_zero (S := S1024x1024) hz2, View.ld_unit_zero (S := S1x1024) hz2]

/-! The same at an element. -/

theorem y_apply (r n : Fin 1024) : (k0_pay2 x0 x2 x3 (ix2 r n) : EReal)
    = (∑ k : Fin 1024, (x0 (ix2 k r) : EReal) * x2 (ix2 k n)) + x3 (ix2 0 n) := by
  pointwise [k0_pay2]

theorem y_cast (r n : Fin 1024) : (k0_pay3 x0 x2 x3 (ix2 r n) : EReal) = k0_pay2 x0 x2 x3 (ix2 r n) := by
  unfold k0_pay3
  generalize k0_pay2 x0 x2 x3 = z
  pointwise []

theorem x_apply (w : Vec Ideal S1x1024 .f32) (r n : Fin 1024) : (k0_pay4 x0 x2 x3 x1 w (ix2 r n) : EReal)
    = x1 (ix2 r n) + w (ix2 0 n) * k0_pay2 x0 x2 x3 (ix2 r n) := by
  unfold k0_pay4
  generalize k0_pay2 x0 x2 x3 = z
  pointwise []

theorem n_apply (w v : Vec Ideal S1x1024 .f32) (r n : Fin 1024) : (k0_pay5 x0 x2 x3 x1 w v (ix2 r n) : EReal)
    = k0_pay4 x0 x2 x3 x1 w (ix2 r n)
      * rinv (∑ k : Fin 1024, (k0_pay4 x0 x2 x3 x1 w (ix2 r k) : EReal) * k0_pay4 x0 x2 x3 x1 w (ix2 r k)) * v (ix2 0 n) := by
  unfold k0_pay5
  generalize k0_pay4 x0 x2 x3 x1 w = z
  pointwise [rinv]

theorem h_apply (z : FVec Ideal S1024x1024 .f32) (u v : Vec Ideal S1x1024 .f32) (r n : Fin 1024) :
    (k0_pay1 z (k0_pay6 u) (Scalar.ofBits .f32 0x3F800000#32) v (ix2 r n) : EReal) = z (ix2 r n) * (one + u (ix2 0 n)) + v (ix2 0 n) := by
  pointwise [k0_pay1, k0_pay6, one]
end

/-- Row `r` of block `p` of the tokens. -/
def row (p : Fin 8) (r : Fin 1024) : Fin 8192 := ⟨1024 * p.val + r.val, by omega⟩

/-- The arrays the host hands over. -/
def oArr (x : S8192x1024.Idx → EReal) : FVec Ideal S1024x8192 .bf16 := truncf .bf16 (transpose S1024x8192 [1, 0] (x : FVec Ideal S8192x1024 .f32) transposes_S8192x1024_S1024x8192_1_0 : FVec Ideal S1024x8192 .f32) bitsLt_bf16_f32
def wArr (x : S1024x1024.Idx → EReal) : FVec Ideal S1024x1024 .bf16 := truncf .bf16 (x : FVec Ideal S1024x1024 .f32) bitsLt_bf16_f32
def zeros : FVec Ideal S3x1024 .f32 := broadcastInDim S3x1024 ![] bcast_S_S3x1024 (constant S_ .f32 0x00000000#32)
def asRow (x : S1024.Idx → EReal) : FVec Ideal S1x1024 .f32 := broadcastInDim S1x1024 ![1] bcast_S1024_S1x1024_1 x
def vecs (ga g sh sc : S1024.Idx → EReal) : FVec Ideal S8x1024 .f32 :=
  concatenate S8x1024 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0

theorem oArr_at (x : S8192x1024.Idx → EReal) (i : Fin 8192) (k : Fin 1024) : (oArr x (ix2 k i) : EReal) = x (ix2 i k) := by
  pointwise [oArr]
theorem wArr_at (x : S1024x1024.Idx → EReal) (k n : Fin 1024) : (wArr x (ix2 k n) : EReal) = x (ix2 k n) := rfl
theorem asRow_at (x : S1024.Idx → EReal) (n : Fin 1024) : (asRow x (ix2 0 n) : EReal) = x (ix1 n) := by
  pointwise [asRow]

theorem vecs_gate (ga g sh sc : S1024.Idx → EReal) (n : Fin 1024) : (vecs ga g sh sc (ix2 2 n) : EReal) = ga (ix1 n) := by
  unfold vecs
  refine Eq.trans (concatenate_apply_piece (t := S8x1024) 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0 (ix2 2 n) 1 (by decide : 1 < 6) S1x1024 (asRow ga) rfl rfl 2 rfl (ix2 0 n)
    (fun b hb => ?_) rfl) (asRow_at ga n)
  match b with
  | ⟨0, _⟩ => exact absurd rfl hb
  | ⟨1, _⟩ => rfl

theorem vecs_shift (ga g sh sc : S1024.Idx → EReal) (n : Fin 1024) : (vecs ga g sh sc (ix2 3 n) : EReal) = sh (ix1 n) := by
  unfold vecs
  refine Eq.trans (concatenate_apply_piece (t := S8x1024) 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0 (ix2 3 n) 2 (by decide : 2 < 6) S1x1024 (asRow sh) rfl rfl 3 rfl (ix2 0 n)
    (fun b hb => ?_) rfl) (asRow_at sh n)
  match b with
  | ⟨0, _⟩ => exact absurd rfl hb
  | ⟨1, _⟩ => rfl

theorem vecs_scale (ga g sh sc : S1024.Idx → EReal) (n : Fin 1024) : (vecs ga g sh sc (ix2 4 n) : EReal) = sc (ix1 n) := by
  unfold vecs
  refine Eq.trans (concatenate_apply_piece (t := S8x1024) 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0 (ix2 4 n) 3 (by decide : 3 < 6) S1x1024 (asRow sc) rfl rfl 4 rfl (ix2 0 n)
    (fun b hb => ?_) rfl) (asRow_at sc n)
  match b with
  | ⟨0, _⟩ => exact absurd rfl hb
  | ⟨1, _⟩ => rfl

theorem vecs_gain (ga g sh sc : S1024.Idx → EReal) (n : Fin 1024) : (vecs ga g sh sc (ix2 7 n) : EReal) = g (ix1 n) := by
  unfold vecs
  refine Eq.trans (concatenate_apply_piece (t := S8x1024) 0 [⟨S2x1024, (extractStridedSlice S2x1024 ![0, 0] zeros slices_S3x1024_S2x1024_0_0 : FVec Ideal S2x1024 .f32)⟩, ⟨S1x1024, asRow ga⟩, ⟨S1x1024, asRow sh⟩,
    ⟨S1x1024, asRow sc⟩, ⟨S2x1024, (extractStridedSlice S2x1024 ![0, 0] zeros slices_S3x1024_S2x1024_0_0 : FVec Ideal S2x1024 .f32)⟩, ⟨S1x1024, asRow g⟩]
    concatenates_S2x1024_S1x1024_S1x1024_S1x1024_S2x1024_S1x1024_S8x1024_d0 (ix2 7 n) 5 (by decide : 5 < 6) S1x1024 (asRow g) rfl rfl 7 rfl (ix2 0 n)
    (fun b hb => ?_) rfl) (asRow_at g n)
  match b with
  | ⟨0, _⟩ => exact absurd rfl hb
  | ⟨1, _⟩ => rfl

section
variable (m : (ℓ : Loc nD τ sig) → Buf (Elt Ideal) ℓ) (ρ : Dev nD → PrngReg) (c : Dev nD)

/-- The attention's output, the stream entering, the projection's weight, the bias, the gate, the norm's gain, the shift, the scale. -/
abbrev x0 : S8192x1024.Idx → EReal := m ((c.tc : Thread nD τ).loc main_arg0)
abbrev x1 : S8192x1024.Idx → EReal := m ((c.tc : Thread nD τ).loc main_arg1)
abbrev x2 : S1024x1024.Idx → EReal := m ((c.tc : Thread nD τ).loc main_arg2)
abbrev x3 : S1024.Idx → EReal := m ((c.tc : Thread nD τ).loc main_arg3)
abbrev x4 : S1024.Idx → EReal := m ((c.tc : Thread nD τ).loc main_arg4)
abbrev x5 : S1024.Idx → EReal := m ((c.tc : Thread nD τ).loc main_arg5)
abbrev x6 : S1024.Idx → EReal := m ((c.tc : Thread nD τ).loc main_arg6)
abbrev x7 : S1024.Idx → EReal := m ((c.tc : Thread nD τ).loc main_arg7)

/-- The projection, the stream after it, and the normed and modulated stream. -/
def yv (i : Fin 8192) (n : Fin 1024) : EReal := (∑ k : Fin 1024, x0 m c (ix2 i k) * x2 m c (ix2 k n)) + x3 m c (ix1 n)
def xv (i : Fin 8192) (n : Fin 1024) : EReal := x1 m c (ix2 i n) + x4 m c (ix1 n) * yv m c i n
def hv (i : Fin 8192) (n : Fin 1024) : EReal :=
  xv m c i n * rinv (∑ k : Fin 1024, xv m c i k * xv m c i k) * x5 m c (ix1 n) * (one + x7 m c (ix1 n)) + x6 m c (ix1 n)

theorem entry_o : V m c main_v9 = oArr (x0 m c) := by
  unfold V
  after_reads_simp <;> rfl
theorem entry_w : V m c main_v10 = wArr (x2 m c) := by
  unfold V
  after_reads_simp <;> rfl
theorem entry_b : V m c main_v11 = asRow (x3 m c) := by
  unfold V
  after_reads_simp <;> rfl
theorem entry_vecs : V m c main_v7 = vecs (x4 m c) (x5 m c) (x6 m c) (x7 m c) := by
  unfold V
  after_reads_simp <;> rfl

theorem index0 : ∀ t : Fin grid0.N, win0_0.index t 0 = 0 ∧ win0_0.index t 1 = t.val := by decide +kernel
theorem index1 : ∀ t : Fin grid0.N, win0_1.index t 0 = t.val ∧ win0_1.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel

/-! The blocks read at point `p`. -/
section
variable (t : Fin cfg0.N) (p : Fin 8) (ht : t.val = p.val)
include ht

theorem tile0 (r k : Fin 1024) : (iblk m c 0 t (ix2 k r) : EReal) = x0 m c (ix2 (row p r) k) := by
  have hi := index0 t
  unfold iblk
  rw [View.read_apply]
  show V m c main_v9 _ = _
  rw [entry_o, ← oArr_at (x0 m c) (row p r) k]
  refine congrArg (oArr (x0 m c)) ?_
  funext a
  apply Fin.ext
  match a with
  | ⟨0, _⟩ => show win0_0.index t 0 * 1024 + 1 * k.val = k.val; rw [hi.1]; omega
  | ⟨1, _⟩ => show win0_0.index t 1 * 1024 + 1 * r.val = 1024 * p.val + r.val; rw [hi.2]; omega

theorem tile1 (r n : Fin 1024) : (iblk m c 1 t (ix2 r n) : EReal) = x1 m c (ix2 (row p r) n) := by
  have hi := index1 t
  unfold iblk
  rw [View.read_apply]
  show V m c main_arg1 _ = x1 m c _
  rw [V_main_arg1]
  refine congrArg (x1 m c) ?_
  funext a
  apply Fin.ext
  match a with
  | ⟨0, _⟩ => show win0_1.index t 0 * 1024 + 1 * r.val = 1024 * p.val + r.val; rw [hi.1]; omega
  | ⟨1, _⟩ => show win0_1.index t 1 * 1024 + 1 * n.val = n.val; rw [hi.2]; omega
end

section
variable (t : Fin cfg0.N)

theorem tile2 (k n : Fin 1024) : (iblk m c 2 t (ix2 k n) : EReal) = x2 m c (ix2 k n) := by
  have hi := index2 t
  unfold iblk
  rw [View.read_apply]
  show V m c main_v10 _ = _
  rw [entry_w, ← wArr_at (x2 m c) k n]
  refine congrArg (wArr (x2 m c)) ?_
  funext a
  apply Fin.ext
  match a with
  | ⟨0, _⟩ => show win0_2.index t 0 * 1024 + 1 * k.val = k.val; rw [hi.1]; omega
  | ⟨1, _⟩ => show win0_2.index t 1 * 1024 + 1 * n.val = n.val; rw [hi.2]; omega

theorem tile3 (n : Fin 1024) : (iblk m c 3 t (ix2 0 n) : EReal) = x3 m c (ix1 n) := by
  have hi := index3 t
  unfold iblk
  rw [View.read_apply]
  show V m c main_v11 _ = _
  rw [entry_b, ← asRow_at (x3 m c) n]
  refine congrArg (asRow (x3 m c)) ?_
  funext a
  apply Fin.ext
  match a with
  | ⟨0, _⟩ => show win0_3.index t 0 * 1 + 1 * 0 = 0; rw [hi.1]
  | ⟨1, _⟩ => show win0_3.index t 1 * 1024 + 1 * n.val = n.val; rw [hi.2]; omega

theorem tile4 (j : Fin 8) (n : Fin 1024) : (rowAt j (iblk m c 4 t) (ix2 0 n) : EReal) = vecs (x4 m c) (x5 m c) (x6 m c) (x7 m c) (ix2 j n) := by
  have hi := index4 t
  unfold rowAt iblk
  rw [View.read_apply]
  show V m c main_v7 _ = _
  rw [entry_vecs]
  refine congrArg (vecs (x4 m c) (x5 m c) (x6 m c) (x7 m c)) ?_
  funext a
  apply Fin.ext
  match a with
  | ⟨0, _⟩ => show win0_4.index t 0 * 8 + 1 * j.val = j.val; rw [hi.1]; omega
  | ⟨1, _⟩ => show win0_4.index t 1 * 1024 + 1 * n.val = n.val; rw [hi.2]; omega
end

section
variable (t : Fin cfg0.N) (p : Fin 8) (ht : t.val = p.val)
include ht

theorem y_at (r n : Fin 1024) : (k0_pay2 (F := Ideal) (iblk m c 0 t) (iblk m c 2 t) (iblk m c 3 t) (ix2 r n) : EReal) = yv m c (row p r) n := by
  refine (y_apply _ _ _ r n).trans ?_
  refine congrArg₂ (fun a b : EReal => a + b) ?_ (tile3 m c t n)
  exact Finset.sum_congr rfl fun k _ => congrArg₂ (fun a b : EReal => a * b) (tile0 m c t p ht r k) (tile2 m c t k n)

theorem x_at (r n : Fin 1024) : (k0_pay4 (F := Ideal) (iblk m c 0 t) (iblk m c 2 t) (iblk m c 3 t) (iblk m c 1 t) (rowAt 2 (iblk m c 4 t)) (ix2 r n) : EReal)
    = xv m c (row p r) n := by
  refine (x_apply _ _ _ _ _ r n).trans ?_
  exact congrArg₂ (fun a b : EReal => a + b) (tile1 m c t p ht r n)
    (congrArg₂ (fun a b : EReal => a * b) ((tile4 m c t 2 n).trans (vecs_gate _ _ _ _ n)) (y_at m c t p ht r n))

theorem h_at (r n : Fin 1024) : (out0_7 (F := Ideal) (iblk m c 0 t) (iblk m c 1 t) (iblk m c 2 t) (iblk m c 3 t) (iblk m c 4 t) (ix2 r n) : EReal)
    = hv m c (row p r) n := by
  rw [block_h]
  refine (h_apply _ _ _ r n).trans ?_
  refine congrArg₂ (fun a b : EReal => a + b) (congrArg₂ (fun a b : EReal => a * b) ?_ (congrArg (fun a : EReal => one + a)
    ((tile4 m c t 4 n).trans (vecs_scale _ _ _ _ n)))) ((tile4 m c t 3 n).trans (vecs_shift _ _ _ _ n))
  refine (n_apply _ _ _ _ _ _ r n).trans ?_
  refine congrArg₂ (fun a b : EReal => a * b) (congrArg₂ (fun a b : EReal => a * b) (x_at m c t p ht r n) (congrArg rinv ?_))
    ((tile4 m c t 7 n).trans (vecs_gain _ _ _ _ n))
  exact Finset.sum_congr rfl fun k _ => congrArg₂ (fun a b : EReal => a * b) (x_at m c t p ht r k) (x_at m c t p ht r k)
end

theorem lt8 (t : Fin cfg0.N) : t.val < 8 := lt_of_lt_of_eq t.isLt (show cfg0.N = 8 from N_0)

/-! The arrays left. -/

def outY : S8192x1024.Idx → EReal := fun i => yv m c (i 0) (i 1)
def outX : S8192x1024.Idx → EReal := fun i => xv m c (i 0) (i 1)
def outH : S8192x1024.Idx → EReal := fun i => hv m c (i 0) (i 1)

theorem outY_apply (i : Fin 8192) (n : Fin 1024) : outY m c (ix2 i n) = yv m c i n := rfl

theorem flushed_Y (t : Fin cfg0.N) (hf : (cfg0.win 5).flush t = true) :
    (dats m 0 c).flushed 5 t = ((cfg0.win 5).blk t).view.read (Elt Ideal) (outY m c) := by
  have hN := lt8 t
  have hi := index5 t
  rw [Cert.KernelOutBIdeal.Value.flushed5]
  funext y
  have y0 : (y 0).val < 1024 := (y 0).isLt
  have y1 : (y 1).val < 1024 := (y 1).isLt
  have e : ((cfg0.win 5).blk t).view.emb y = (ix2 (row ⟨t.val, hN⟩ ⟨(y 0).val, y0⟩) ⟨(y 1).val, y1⟩ : S8192x1024.Idx) := by
    funext a
    apply Fin.ext
    match a with
    | ⟨0, _⟩ => show win0_5.index t 0 * 1024 + 1 * (y 0).val = 1024 * t.val + (y 0).val; rw [hi.1]; omega
    | ⟨1, _⟩ => show win0_5.index t 1 * 1024 + 1 * (y 1).val = (y 1).val; rw [hi.2]; omega
  have e' : (cfg0.win 5).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h : (out0_5 (F := Ideal) (iblk m c 0 t) (iblk m c 1 t) (iblk m c 2 t) (iblk m c 3 t) (iblk m c 4 t) (ix2 ⟨(y 0).val, y0⟩ ⟨(y 1).val, y1⟩) : EReal)
      = yv m c (row ⟨t.val, hN⟩ ⟨(y 0).val, y0⟩) ⟨(y 1).val, y1⟩ :=
    (congrFun (block_y _ _ _ _ _) _).trans ((y_cast _ _ _ _ _).trans (y_at m c t ⟨t.val, hN⟩ rfl ⟨(y 0).val, y0⟩ ⟨(y 1).val, y1⟩))
  rw [← e'] at h
  have k : ∀ G : S8192x1024.Idx → EReal, ((cfg0.win 5).blk t).view.read (Elt Ideal) G y = G (ix2 (row ⟨t.val, hN⟩ ⟨(y 0).val, y0⟩) ⟨(y 1).val, y1⟩) :=
    fun G => congrArg G e
  exact h.trans ((outY_apply m c _ _).symm.trans (k (outY m c)).symm)

/-- Every index lies in the block of its row's point. -/
theorem covered_Y (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hl : (i 0).val / 1024 < cfg0.N := lt_of_lt_of_eq (by omega) (show cfg0.N = 8 from N_0).symm
  have hi := index5 ⟨(i 0).val / 1024, hl⟩
  refine ⟨⟨(i 0).val / 1024, hl⟩, flush0_5 _, ?_⟩
  generalize ht : (⟨(i 0).val / 1024, hl⟩ : Fin cfg0.N) = t at hi ⊢
  have hv : t.val = (i 0).val / 1024 := congrArg Fin.val ht.symm
  show i ∈ ((View.whole main_v12_0).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [hi.1, hv]; omega
  | ⟨1, _⟩ =>
    show win0_5.index t (1 : Fin 2) * 1024 ≤ (i 1).val ∧ (i 1).val < win0_5.index t (1 : Fin 2) * 1024 + 1024
    rw [hi.2]; omega

theorem final_Y : (dats m 0 c).arrAt 5 cfg0.N = outY m c :=
  (dats m 0 c).arrAt_eq_of_cover 5 (outY m c) (flushed_Y m c) (covered_Y)

theorem outX_apply (i : Fin 8192) (n : Fin 1024) : outX m c (ix2 i n) = xv m c i n := rfl

theorem flushed_X (t : Fin cfg0.N) (hf : (cfg0.win 6).flush t = true) :
    (dats m 0 c).flushed 6 t = ((cfg0.win 6).blk t).view.read (Elt Ideal) (outX m c) := by
  have hN := lt8 t
  have hi := index6 t
  rw [Cert.KernelOutBIdeal.Value.flushed6]
  funext y
  have y0 : (y 0).val < 1024 := (y 0).isLt
  have y1 : (y 1).val < 1024 := (y 1).isLt
  have e : ((cfg0.win 6).blk t).view.emb y = (ix2 (row ⟨t.val, hN⟩ ⟨(y 0).val, y0⟩) ⟨(y 1).val, y1⟩ : S8192x1024.Idx) := by
    funext a
    apply Fin.ext
    match a with
    | ⟨0, _⟩ => show win0_6.index t 0 * 1024 + 1 * (y 0).val = 1024 * t.val + (y 0).val; rw [hi.1]; omega
    | ⟨1, _⟩ => show win0_6.index t 1 * 1024 + 1 * (y 1).val = (y 1).val; rw [hi.2]; omega
  have e' : (cfg0.win 6).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h : (out0_6 (F := Ideal) (iblk m c 0 t) (iblk m c 1 t) (iblk m c 2 t) (iblk m c 3 t) (iblk m c 4 t) (ix2 ⟨(y 0).val, y0⟩ ⟨(y 1).val, y1⟩) : EReal)
      = xv m c (row ⟨t.val, hN⟩ ⟨(y 0).val, y0⟩) ⟨(y 1).val, y1⟩ :=
    (congrFun (block_x _ _ _ _ _) _).trans (x_at m c t ⟨t.val, hN⟩ rfl ⟨(y 0).val, y0⟩ ⟨(y 1).val, y1⟩)
  rw [← e'] at h
  have k : ∀ G : S8192x1024.Idx → EReal, ((cfg0.win 6).blk t).view.read (Elt Ideal) G y = G (ix2 (row ⟨t.val, hN⟩ ⟨(y 0).val, y0⟩) ⟨(y 1).val, y1⟩) :=
    fun G => congrArg G e
  exact h.trans ((outX_apply m c _ _).symm.trans (k (outX m c)).symm)

/-- Every index lies in the block of its row's point. -/
theorem covered_X (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hl : (i 0).val / 1024 < cfg0.N := lt_of_lt_of_eq (by omega) (show cfg0.N = 8 from N_0).symm
  have hi := index6 ⟨(i 0).val / 1024, hl⟩
  refine ⟨⟨(i 0).val / 1024, hl⟩, flush0_6 _, ?_⟩
  generalize ht : (⟨(i 0).val / 1024, hl⟩ : Fin cfg0.N) = t at hi ⊢
  have hv : t.val = (i 0).val / 1024 := congrArg Fin.val ht.symm
  show i ∈ ((View.whole main_v12_1).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    rw [hi.1, hv]; omega
  | ⟨1, _⟩ =>
    show win0_6.index t (1 : Fin 2) * 1024 ≤ (i 1).val ∧ (i 1).val < win0_6.index t (1 : Fin 2) * 1024 + 1024
    rw [hi.2]; omega

theorem final_X : (dats m 0 c).arrAt 6 cfg0.N = outX m c :=
  (dats m 0 c).arrAt_eq_of_cover 6 (outX m c) (flushed_X m c) (covered_X)

theorem outH_apply (i : Fin 8192) (n : Fin 1024) : outH m c (ix2 i n) = hv m c i n := rfl

theorem flushed_H (t : Fin cfg0.N) (hf : (cfg0.win 7).flush t = true) :
    (dats m 0 c).flushed 7 t = ((cfg0.win 7).blk t).view.read (Elt Ideal) (outH m c) := by
  have hN := lt8 t
  have hi := index7 t
  rw [Cert.KernelOutBIdeal.Value.flushed7]
  funext y
  have y0 : (y 0).val < 1024 := (y 0).isLt
  have y1 : (y 1).val < 1024 := (y 1).isLt
  have e : ((cfg0.win 7).blk t).view.emb y = (ix2 (row ⟨t.val, hN⟩ ⟨(y 0).val, y0⟩) ⟨(y 1).val, y1⟩ : S8192x1024.Idx) := by
    funext a
    apply Fin.ext
    match a with
    | ⟨0, _⟩ => show win0_7.index t 0 * 1024 + 1 * (y 0).val = 1024 * t.val + (y 0).val; rw [hi.1]; omega
    | ⟨1, _⟩ => show win0_7.index t 1 * 1024 + 1 * (y 1).val = (y 1).val; rw [hi.2]; omega
  have e' : (cfg0.win 7).xinj (grid0.coords t) y = (ix2 ⟨(y 0).val, y0⟩ ⟨(y 1).val, y1⟩ : S1024x1024.Idx) := by
    funext a
    apply Fin.ext
    match a with
    | ⟨0, _⟩ => rfl
    | ⟨1, _⟩ => rfl
  have h : (out0_7 (F := Ideal) (iblk m c 0 t) (iblk m c 1 t) (iblk m c 2 t) (iblk m c 3 t) (iblk m c 4 t) (ix2 ⟨(y 0).val, y0⟩ ⟨(y 1).val, y1⟩) : EReal)
      = hv m c (row ⟨t.val, hN⟩ ⟨(y 0).val, y0⟩) ⟨(y 1).val, y1⟩ :=
    h_at m c t ⟨t.val, hN⟩ rfl ⟨(y 0).val, y0⟩ ⟨(y 1).val, y1⟩
  rw [← e'] at h
  have k : ∀ G : S8192x1024.Idx → EReal, ((cfg0.win 7).blk t).view.read (Elt Ideal) G y = G (ix2 (row ⟨t.val, hN⟩ ⟨(y 0).val, y0⟩) ⟨(y 1).val, y1⟩) :=
    fun G => congrArg G e
  exact h.trans ((outH_apply m c _ _).symm.trans (k (outH m c)).symm)

/-- Every index lies in the block of its row's point. -/
theorem covered_H (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  have hl : (i 0).val / 1024 < cfg0.N := lt_of_lt_of_eq (by omega) (show cfg0.N = 8 from N_0).symm
  have hi := index7 ⟨(i 0).val / 1024, hl⟩
  refine ⟨⟨(i 0).val / 1024, hl⟩, flush0_7 _, ?_⟩
  generalize ht : (⟨(i 0).val / 1024, hl⟩ : Fin cfg0.N) = t at hi ⊢
  have hv : t.val = (i 0).val / 1024 := congrArg Fin.val ht.symm
  show i ∈ ((View.whole main_v12_2).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    rw [hi.1, hv]; omega
  | ⟨1, _⟩ =>
    show win0_7.index t (1 : Fin 2) * 1024 ≤ (i 1).val ∧ (i 1).val < win0_7.index t (1 : Fin 2) * 1024 + 1024
    rw [hi.2]; omega

theorem final_H : (dats m 0 c).arrAt 7 cfg0.N = outH m c :=
  (dats m 0 c).arrAt_eq_of_cover 7 (outH m c) (flushed_H m c) (covered_H)
end

end Cert.KernelOutBIdeal.Layer

namespace Cert.OutB

open Idealize.ShloMosaic Idealize.ShloMosaic.TcCoe Idealize.SL.Sem
open Cert.ReferenceOutBIdeal.Read
open Cert.KernelOutBIdeal Cert.KernelOutBIdeal.Layer
variable (m : (ℓ : Loc nD τ sig) → Buf (Elt Ideal) ℓ) (c : Dev nD)

theorem lidx (i : Fin 8192) (n k : Fin 1024) : lidx_main_v0 (ix2 i n) k = ix2 i k := funext fun a => by
  match a with
  | ⟨0, _⟩ => rfl
  | ⟨1, _⟩ => rfl
theorem ridx (i : Fin 8192) (n k : Fin 1024) : ridx_main_v0 (ix2 i n) k = ix2 k n := funext fun a => by
  match a with
  | ⟨0, _⟩ => rfl
  | ⟨1, _⟩ => rfl

/-! The reference at an element. -/

theorem ref_bias (i : Fin 8192) (n : Fin 1024) : (val_main_v2 (F := Ideal) (x3 m c) (ix2 i n) : EReal) = x3 m c (ix1 n) := by
  rw [val_main_v2_apply, val_main_v1_apply]
  refine congrArg (x3 m c) (funext fun a => ?_)
  match a with
  | ⟨0, _⟩ => rfl
theorem ref_gate (i : Fin 8192) (n : Fin 1024) : (val_main_v5 (F := Ideal) (x4 m c) (ix2 i n) : EReal) = x4 m c (ix1 n) := by
  rw [val_main_v5_apply, val_main_v4_apply]
  refine congrArg (x4 m c) (funext fun a => ?_)
  match a with
  | ⟨0, _⟩ => rfl
theorem ref_gain (i : Fin 8192) (n : Fin 1024) : (val_main_v20 (F := Ideal) (x5 m c) (ix2 i n) : EReal) = x5 m c (ix1 n) := by
  rw [val_main_v20_apply, val_main_v19_apply]
  refine congrArg (x5 m c) (funext fun a => ?_)
  match a with
  | ⟨0, _⟩ => rfl
theorem ref_shift (i : Fin 8192) (n : Fin 1024) : (val_main_v28 (F := Ideal) (x6 m c) (ix2 i n) : EReal) = x6 m c (ix1 n) := by
  rw [val_main_v28_apply, val_main_v27_apply]
  refine congrArg (x6 m c) (funext fun a => ?_)
  match a with
  | ⟨0, _⟩ => rfl
theorem ref_scale (i : Fin 8192) (n : Fin 1024) : (val_main_v25 (F := Ideal) (x7 m c) (ix2 i n) : EReal) = one + x7 m c (ix1 n) := by
  rw [val_main_v25_apply, val_main_v24_apply, val_main_v23_apply, val_main_v22_apply, val_main_cst_2_apply]
  refine congrArg (fun a : EReal => one + a) (congrArg (x7 m c) (funext fun a => ?_))
  match a with
  | ⟨0, _⟩ => rfl

theorem ref_y (i : Fin 8192) (n : Fin 1024) : (val_main_v3 (F := Ideal) (x0 m c) (x2 m c) (x3 m c) (ix2 i n) : EReal) = yv m c i n := by
  rw [val_main_v3_apply, val_main_v0_apply]
  refine congrArg₂ (fun a b : EReal => a + b) (Finset.sum_congr rfl fun k _ => by rw [lidx, ridx]) (ref_bias m c i n)

theorem ref_x (i : Fin 8192) (n : Fin 1024) : (val_main_v7 (F := Ideal) (x0 m c) (x1 m c) (x2 m c) (x3 m c) (x4 m c) (ix2 i n) : EReal) = xv m c i n := by
  rw [val_main_v7_apply, val_main_v6_apply]
  exact congrArg (fun a : EReal => x1 m c (ix2 i n) + a) (congrArg₂ (fun a b : EReal => a * b) (ref_gate m c i n) (ref_y m c i n))

theorem ref_sum (i : Fin 8192) : (val_main_v10 (F := Ideal) (x0 m c) (x1 m c) (x2 m c) (x3 m c) (x4 m c) (ix1 i) : EReal) = ∑ k : Fin 1024, xv m c i k * xv m c i k := by
  rw [val_main_v10_apply, val_main_cst_apply]
  refine (congrArg₂ (fun a b : EReal => a + b) Ideal.ofBits_zero_f32 (Finset.sum_congr rfl fun k _ => ?_)).trans (zero_add _)
  have e : idx_main_v10 (ix1 i) k = ix2 i k := funext fun a => by
    match a with
    | ⟨0, _⟩ => rfl
    | ⟨1, _⟩ => rfl
  rw [e, val_main_v9_apply]
  exact congrArg₂ (fun a b : EReal => a * b) (ref_x m c i k) (ref_x m c i k)

theorem ref_rinv (i : Fin 8192) (n : Fin 1024) : (val_main_v17 (F := Ideal) (x0 m c) (x1 m c) (x2 m c) (x3 m c) (x4 m c) (ix2 i n) : EReal) = rinv (∑ k : Fin 1024, xv m c i k * xv m c i k) := by
  have e : idx_main_v11 (idx_main_v17 (ix2 i n)) = ix1 i := funext fun a => by
    match a with
    | ⟨0, _⟩ => rfl
  rw [val_main_v17_apply, val_main_v16_apply, val_main_v15_apply, val_main_v13_apply, val_main_v11_apply, val_main_v12_apply, val_main_v14_apply, e, ref_sum]
  rfl

theorem ref_h (i : Fin 8192) (n : Fin 1024) : (val_main_v29 (F := Ideal) (x0 m c) (x1 m c) (x2 m c) (x3 m c) (x4 m c) (x5 m c) (x6 m c) (x7 m c) (ix2 i n) : EReal) = hv m c i n := by
  rw [val_main_v29_apply, val_main_v26_apply, val_main_v21_apply, val_main_v18_apply]
  exact congrArg₂ (fun a b : EReal => a + b) (congrArg₂ (fun a b : EReal => a * b) (congrArg₂ (fun a b : EReal => a * b)
    (congrArg₂ (fun a b : EReal => a * b) (ref_x m c i n) (ref_rinv m c i n)) (ref_gain m c i n)) (ref_scale m c i n)) (ref_shift m c i n)

theorem eq_ix2 {a b : Nat} (i : (⟨2, ![a, b]⟩ : Shape).Idx) : i = ix2 (i 0) (i 1) := funext fun k => by fin_cases k <;> rfl

theorem outY_eq : val_main_v8 (F := Ideal) (x0 m c) (x2 m c) (x3 m c) = outY m c := funext fun i => by
  rw [eq_ix2 i]; exact ref_y m c (i 0) (i 1)
theorem outX_eq : val_main_v7 (F := Ideal) (x0 m c) (x1 m c) (x2 m c) (x3 m c) (x4 m c) = outX m c := funext fun i => by
  rw [eq_ix2 i]; exact ref_x m c (i 0) (i 1)
theorem outH_eq : val_main_v30 (F := Ideal) (x0 m c) (x1 m c) (x2 m c) (x3 m c) (x4 m c) (x5 m c) (x6 m c) (x7 m c) = outH m c := funext fun i => by
  rw [eq_ix2 i]; exact ref_h m c (i 0) (i 1)

theorem frame_kernel : Cert.quiescent_KernelOutB := fun m ρ _ => Cert.KernelOutB.Gen.frame (F := Bits) m ρ

theorem frame_kernelIdeal : Cert.quiescent_KernelOutBIdeal := fun m ρ _ => Cert.KernelOutBIdeal.Gen.frame (F := Ideal) m ρ

theorem frame_referenceIdeal : Cert.quiescent_ReferenceOutBIdeal := fun m ρ _ =>
  (θ_run Cert.ReferenceOutBIdeal.defs _ _).mono (fun r h => ⟨fun c => (h c).2.2.2, sem_eq_zero_of_no_sems (by decide) r.2⟩)
    (Cert.ReferenceOutBIdeal.Value.run (F := Ideal) m ρ)

theorem algebraic : Cert.algebraic_KernelOutBIdeal_ReferenceOutBIdeal := fun m g m' g' _ hargs => by
  refine ⟨outY m, outX m, outH m, ?_, ?_⟩
  · exact (θ_run Cert.KernelOutBIdeal.defs _ _).mono (fun r h c => ⟨(h c).1.trans (final_Y m c), (h c).2.1.trans (final_X m c), (h c).2.2.1.trans (final_H m c), (h c).2.2.2⟩)
      (Cert.KernelOutBIdeal.Value.run_blocks (F := Ideal) m g)
  · refine (θ_run Cert.ReferenceOutBIdeal.defs _ _).mono (fun r h c => ⟨(h c).1.trans ?_, (h c).2.1.trans ?_, (h c).2.2.1.trans ?_, (h c).2.2.2⟩)
      (Cert.ReferenceOutBIdeal.Value.run (F := Ideal) m' g')
    all_goals obtain ⟨e0, e1, e2, e3, e4, e5, e6, e7⟩ := hargs c
    · rw [e0, e2, e3]
      exact outY_eq m c
    · rw [e0, e1, e2, e3, e4]
      exact outX_eq m c
    · rw [e0, e1, e2, e3, e4, e5, e6, e7]
      exact outH_eq m c

end Cert.OutB

end
-- ==== Proof.Pre.lean ====
/- The windowed attention's norm and projections: what a grid point computes from its block of tokens, the arrays left, and the reference. -/
module

public import proofs.«01_k».proof.Defs
public import proofs.«01_k».proof.Proof.Gen.KernelPre.Frame
public import proofs.«01_k».proof.Proof.Gen.KernelPreIdeal.Value
public import proofs.«01_k».proof.Proof.Gen.ReferencePreIdeal.Run
public import proofs.«01_k».proof.Proof.Gen.ReferencePreIdeal.Read
public import Idealize.ShloMosaic.Lib.Pointwise
public import Idealize.ShloMosaic.Lib.StableHlo.RunRead
public import Idealize.ShloMosaic.Lib.Tactic

@[expose] public section

noncomputable section

namespace Cert.KernelPreIdeal.Layer

open Idealize.ShloMosaic Idealize.ShloMosaic.TcCoe Idealize.SL.Sem
open Idealize.ShloMosaic.Pipeline (Dat)
open Cert.KernelPreIdeal Cert.KernelPreIdeal.Gen

theorem hz2 : (![0, 0] : Fin 2 → Nat) = fun _ => 0 := funext fun a => by fin_cases a <;> rfl

/-- One over the root of the mean of 1024 squares whose sum is `s`, with the norm's small constant. -/
def rinv (s : EReal) : EReal := Ideal.rsqrt (Ideal.div s (Ideal.ofBits .f32 0x44800000#32) + Ideal.ofBits .f32 0x358637BD#32)

/-- The literal 1 that the scale is added to. -/
def one : EReal := Ideal.ofBits .f32 0x3F800000#32

/-- The literal that scales the queries. -/
def eighth : EReal := Ideal.ofBits .f32 0x3E000000#32

/-- Row `j` of the eight vectors. -/
def rowAt (j : Fin 8) (x : Vec Ideal S8x1024 .f32) : Vec Ideal S1x1024 .f32 := fun y => x (ix2 j ⟨(y 1).val, (y 1).isLt⟩)

/-- Column `n` of the keys' part of the projection, and of the values' part. -/
def keyCol (n : Fin 256) : Fin 512 := ⟨n.val, by omega⟩
def valCol (n : Fin 256) : Fin 512 := ⟨n.val + 256, by omega⟩

section
variable (x0 : Vec Ideal S512x1024 .f32) (x1 : Vec Ideal S8x1024 .f32) (x2 : Vec Ideal S1024x1024 .bf16) (x3 : Vec Ideal S1024x512 .bf16)
  (x4 : Vec Ideal S1024x1 .f32) (x5 : Vec Ideal S1x512 .f32)

/-! What a point writes, over the blocks it reads. -/

theorem ld_gain : View.ld x1 r0_1 = rowAt 6 x1 := by
  funext y
  refine congrArg x1 ?_
  funext a
  apply Fin.ext
  match a with
  | ⟨0, _⟩ => have h : (y 0).val < 1 := (y 0).isLt; show 6 + 1 * (y 0).val = 6; omega
  | ⟨1, _⟩ => show 0 + 1 * (y 1).val = (y 1).val; omega
theorem ld_scale : View.ld x1 r0_2 = rowAt 1 x1 := by
  funext y
  refine congrArg x1 ?_
  funext a
  apply Fin.ext
  match a with
  | ⟨0, _⟩ => have h : (y 0).val < 1 := (y 0).isLt; show 1 + 1 * (y 0).val = 1; omega
  | ⟨1, _⟩ => show 0 + 1 * (y 1).val = (y 1).val; omega
theorem ld_shift : View.ld x1 r0_3 = rowAt 0 x1 := by
  funext y
  refine congrArg x1 ?_
  funext a
  apply Fin.ext
  match a with
  | ⟨0, _⟩ => have h : (y 0).val < 1 := (y 0).isLt; show 0 + 1 * (y 0).val = 0; omega
  | ⟨1, _⟩ => show 0 + 1 * (y 1).val = (y 1).val; omega

theorem block_h : out0_6 x0 x1 x2 x3 x4 x5 = k0_pay4 x0 (rowAt 6 x1) (rowAt 1 x1) (rowAt 0 x1) := by
  unfold out0_6
  rw [View.canon_unit_zero hz2, ld_gain, ld_scale, ld_shift]
  simp only [View.ld_unit_zero (S := S512x1024) hz2]

theorem block_q : out0_7 x0 x1 x2 x3 x4 x5 = k0_pay5 x0 (rowAt 6 x1) (rowAt 1 x1) (rowAt 0 x1) x2 x4 := by
  unfold out0_7
  rw [View.canon_unit_zero hz2, ld_gain, ld_scale, ld_shift]
  simp only [View.ld_unit_zero (S := S512x1024) hz2, View.ld_unit_zero (S := S1024x1024) hz2, View.ld_unit_zero (S := S1024x1) hz2]

theorem part_h : k0_pay6 x0 x1 x2 x3 x4 x5 = k0_pay4 x0 (rowAt 6 x1) (rowAt 1 x1) (rowAt 0 x1) := by
  unfold k0_pay6
  rw [ld_gain, ld_scale, ld_shift]
  simp only [View.ld_unit_zero (S := S512x1024) hz2]

theorem block_k : out0_8 x0 x1 x2 x3 x4 x5 = k0_pay2 (k0_pay4 x0 (rowAt 6 x1) (rowAt 1 x1) (rowAt 0 x1)) x3 x5 := by
  unfold out0_8
  rw [View.canon_unit_zero hz2, part_h]
  simp only [View.ld_unit_zero (S := S1024x512) hz2, View.ld_unit_zero (S := S1x512) hz2]

theorem block_v : out0_9 x0 x1 x2 x3 x4 x5 = k0_pay3 (k0_pay4 x0 (rowAt 6 x1) (rowAt 1 x1) (rowAt 0 x1)) x3 x5 := by
  unfold out0_9
  rw [View.canon_unit_zero hz2, part_h]
  simp only [View.ld_unit_zero (S := S1024x512) hz2, View.ld_unit_zero (S := S1x512) hz2]

/-! The same at an element. -/

theorem h_apply (u v w : Vec Ideal S1x1024 .f32) (r : Fin 512) (n : Fin 1024) : (k0_pay4 x0 u v w (ix2 r n) : EReal)
    = x0 (ix2 r n) * rinv (∑ k : Fin 1024, (x0 (ix2 r k) : EReal) * x0 (ix2 r k)) * u (ix2 0 n) * (one + v (ix2 0 n)) + w (ix2 0 n) := by
  pointwise [k0_pay4, rinv, one]

theorem q_apply (u v w : Vec Ideal S1x1024 .f32) (n : Fin 1024) (r : Fin 512) : (k0_pay5 x0 u v w x2 x4 (ix2 n r) : EReal)
    = ((∑ k : Fin 1024, (x2 (ix2 n k) : EReal) * k0_pay4 x0 u v w (ix2 r k)) + x4 (ix2 n 0)) * eighth := by
  unfold k0_pay5
  generalize k0_pay4 x0 u v w = z
  pointwise [eighth]

theorem p_apply (z : FVec Ideal S512x1024 .bf16) (r n : Fin 512) : (k0_pay1 z x3 x5 (ix2 r n) : EReal)
    = (∑ k : Fin 1024, (z (ix2 r k) : EReal) * x3 (ix2 k n)) + x5 (ix2 0 n) := by
  pointwise [k0_pay1]

theorem k_apply (z : FVec Ideal S512x1024 .bf16) (r : Fin 512) (n : Fin 256) : (k0_pay2 z x3 x5 (ix2 r n) : EReal) = k0_pay1 z x3 x5 (ix2 r (keyCol n)) := by
  unfold k0_pay2
  generalize k0_pay1 z x3 x5 = p
  exact extractStridedSlice_apply ![0, 0] p slices_S512x512_o0_0_S512x256 (ix2 r n) (ix2 r (keyCol n)) (fun a => match a with
    | ⟨0, _⟩ => by show r.val = 0 + r.val; omega
    | ⟨1, _⟩ => by show n.val = 0 + n.val; omega)

theorem v_apply (z : FVec Ideal S512x1024 .bf16) (r : Fin 512) (n : Fin 256) : (k0_pay3 z x3 x5 (ix2 r n) : EReal) = k0_pay1 z x3 x5 (ix2 r (valCol n)) := by
  unfold k0_pay3
  generalize k0_pay1 z x3 x5 = p
  exact extractStridedSlice_apply ![0, 256] p slices_S512x512_o0_256_S512x256 (ix2 r n) (ix2 r (valCol n)) (fun a => match a with
    | ⟨0, _⟩ => by show r.val = 0 + r.val; omega
    | ⟨1, _⟩ => by show n.val + 256 = 256 + n.val; omega)
end

/-- Row `r` of block `p` of the tokens. -/
def row (p : Fin 16) (r : Fin 512) : Fin 8192 := ⟨512 * p.val + r.val, by omega⟩

/-- Column `n` of the queries' part of the weight, and of the rest. -/
def qCol (n : Fin 1024) : Fin 1536 := ⟨n.val, by omega⟩
def kvCol (n : Fin 512) : Fin 1536 := ⟨n.val + 1024, by omega⟩

/-- The arrays the host hands over. -/
def zeros : FVec Ideal S4x1024 .f32 := broadcastInDim S4x1024 ![] bcast_S_S4x1024 (constant S_ .f32 0x00000000#32)
def asRow (x : S1024.Idx → EReal) : FVec Ideal S1x1024 .f32 := broadcastInDim S1x1024 ![1] bcast_S1024_S1x1024_1 x
def bRow (x : S1536.Idx → EReal) : FVec Ideal S1x1536 .f32 := broadcastInDim S1x1536 ![1] bcast_S1536_S1x1536_1 x
def wArr (x : S1024x1536.Idx → EReal) : FVec Ideal S1024x1536 .bf16 := truncf .bf16 (x : FVec Ideal S1024x1536 .f32) bitsLt_bf16_f32
def wqArr (x : S1024x1536.Idx → EReal) : FVec Ideal S1024x1024 .bf16 :=
  transpose S1024x1024 [1, 0] (extractStridedSlice S1024x1024 ![0, 0] (wArr x) slices_S1024x1536_S1024x1024_0_0 : FVec Ideal S1024x1024 .bf16) transposes_S1024x1024_S1024x1024_1_0
def wkvArr (x : S1024x1536.Idx → EReal) : FVec Ideal S1024x512 .bf16 := extractStridedSlice S1024x512 ![0, 1024] (wArr x) slices_S1024x1536_S1024x512_0_1024
def bqArr (x : S1536.Idx → EReal) : FVec Ideal S1024x1 .f32 :=
  shapeCast S1024x1 (extractStridedSlice S1x1024 ![0, 0] (bRow x) slices_S1x1536_S1x1024_0_0 : FVec Ideal S1x1024 .f32) shapeCasts_S1x1024_S1024x1
def bkvArr (x : S1536.Idx → EReal) : FVec Ideal S1x512 .f32 := extractStridedSlice S1x512 ![0, 1024] (bRow x) slices_S1x1536_S1x512_0_1024
def vecs (g sh sc : S1024.Idx → EReal) : FVec Ideal S8x1024 .f32 :=
  concatenate S8x1024 0 [⟨S1x1024, asRow sh⟩, ⟨S1x1024, asRow sc⟩, ⟨S4x1024, zeros⟩, ⟨S1x1024, asRow g⟩,
    ⟨S1x1024, (extractStridedSlice S1x1024 ![0, 0] zeros slices_S4x1024_S1x1024_0_0 : FVec Ideal S1x1024 .f32)⟩]
    concatenates_S1x1024_S1x1024_S4x1024_S1x1024_S1x1024_S8x1024_d0

theorem asRow_at (x : S1024.Idx → EReal) (n : Fin 1024) : (asRow x (ix2 0 n) : EReal) = x (ix1 n) := by
  pointwise [asRow]
theorem bRow_at (x : S1536.Idx → EReal) (n : Fin 1536) : (bRow x (ix2 0 n) : EReal) = x (ix1 n) := by
  pointwise [bRow]
theorem wqArr_at (x : S1024x1536.Idx → EReal) (n k : Fin 1024) : (wqArr x (ix2 n k) : EReal) = x (ix2 k (qCol n)) := by
  unfold wqArr
  refine (transpose_apply [1, 0] _ transposes_S1024x1024_S1024x1024_1_0 (ix2 n k) (ix2 k n) (fun b => match b with
    | ⟨0, _⟩ => rfl
    | ⟨1, _⟩ => rfl)).trans ?_
  exact extractStridedSlice_apply ![0, 0] (wArr x) slices_S1024x1536_S1024x1024_0_0 (ix2 k n) (ix2 k (qCol n)) (fun a => match a with
    | ⟨0, _⟩ => by show k.val = 0 + k.val; omega
    | ⟨1, _⟩ => by show n.val = 0 + n.val; omega)
theorem wkvArr_at (x : S1024x1536.Idx → EReal) (k : Fin 1024) (n : Fin 512) : (wkvArr x (ix2 k n) : EReal) = x (ix2 k (kvCol n)) :=
  extractStridedSlice_apply ![0, 1024] (wArr x) slices_S1024x1536_S1024x512_0_1024 (ix2 k n) (ix2 k (kvCol n)) (fun a => match a with
    | ⟨0, _⟩ => by show k.val = 0 + k.val; omega
    | ⟨1, _⟩ => by show n.val + 1024 = 1024 + n.val; omega)
theorem bqArr_at (x : S1536.Idx → EReal) (n : Fin 1024) : (bqArr x (ix2 n 0) : EReal) = x (ix1 (qCol n)) := by
  unfold bqArr
  refine (shapeCast_apply _ shapeCasts_S1x1024_S1024x1 (ix2 n 0) (ix2 0 n) (by
    rw [Shape.rowMajor_val_two, Shape.rowMajor_val_two]
    show 0 * 1024 + n.val = n.val * 1 + 0
    omega)).trans ?_
  refine (extractStridedSlice_apply ![0, 0] (bRow x) slices_S1x1536_S1x1024_0_0 (ix2 0 n) (ix2 0 (qCol n)) (fun a => match a with
    | ⟨0, _⟩ => rfl
    | ⟨1, _⟩ => by show n.val = 0 + n.val; omega)).trans (bRow_at x (qCol n))
theorem bkvArr_at (x : S1536.Idx → EReal) (n : Fin 512) : (bkvArr x (ix2 0 n) : EReal) = x (ix1 (kvCol n)) :=
  (extractStridedSlice_apply ![0, 1024] (bRow x) slices_S1x1536_S1x512_0_1024 (ix2 0 n) (ix2 0 (kvCol n)) (fun a => match a with
    | ⟨0, _⟩ => rfl
    | ⟨1, _⟩ => by show n.val + 1024 = 1024 + n.val; omega)).trans (bRow_at x (kvCol n))

theorem vecs_shift (g sh sc : S1024.Idx → EReal) (n : Fin 1024) : (vecs g sh sc (ix2 0 n) : EReal) = sh (ix1 n) := by
  unfold vecs
  refine Eq.trans (concatenate_apply_piece (t := S8x1024) 0 [⟨S1x1024, asRow sh⟩, ⟨S1x1024, asRow sc⟩, ⟨S4x1024, zeros⟩, ⟨S1x1024, asRow g⟩,
    ⟨S1x1024, (extractStridedSlice S1x1024 ![0, 0] zeros slices_S4x1024_S1x1024_0_0 : FVec Ideal S1x1024 .f32)⟩]
    concatenates_S1x1024_S1x1024_S4x1024_S1x1024_S1x1024_S8x1024_d0 (ix2 0 n) 0 (by decide : 0 < 5) S1x1024 (asRow sh) rfl rfl 0 rfl (ix2 0 n)
    (fun b hb => ?_) rfl) (asRow_at sh n)
  match b with
  | ⟨0, _⟩ => exact absurd rfl hb
  | ⟨1, _⟩ => rfl

theorem vecs_scale (g sh sc : S1024.Idx → EReal) (n : Fin 1024) : (vecs g sh sc (ix2 1 n) : EReal) = sc (ix1 n) := by
  unfold vecs
  refine Eq.trans (concatenate_apply_piece (t := S8x1024) 0 [⟨S1x1024, asRow sh⟩, ⟨S1x1024, asRow sc⟩, ⟨S4x1024, zeros⟩, ⟨S1x1024, asRow g⟩,
    ⟨S1x1024, (extractStridedSlice S1x1024 ![0, 0] zeros slices_S4x1024_S1x1024_0_0 : FVec Ideal S1x1024 .f32)⟩]
    concatenates_S1x1024_S1x1024_S4x1024_S1x1024_S1x1024_S8x1024_d0 (ix2 1 n) 1 (by decide : 1 < 5) S1x1024 (asRow sc) rfl rfl 1 rfl (ix2 0 n)
    (fun b hb => ?_) rfl) (asRow_at sc n)
  match b with
  | ⟨0, _⟩ => exact absurd rfl hb
  | ⟨1, _⟩ => rfl

theorem vecs_gain (g sh sc : S1024.Idx → EReal) (n : Fin 1024) : (vecs g sh sc (ix2 6 n) : EReal) = g (ix1 n) := by
  unfold vecs
  refine Eq.trans (concatenate_apply_piece (t := S8x1024) 0 [⟨S1x1024, asRow sh⟩, ⟨S1x1024, asRow sc⟩, ⟨S4x1024, zeros⟩, ⟨S1x1024, asRow g⟩,
    ⟨S1x1024, (extractStridedSlice S1x1024 ![0, 0] zeros slices_S4x1024_S1x1024_0_0 : FVec Ideal S1x1024 .f32)⟩]
    concatenates_S1x1024_S1x1024_S4x1024_S1x1024_S1x1024_S8x1024_d0 (ix2 6 n) 3 (by decide : 3 < 5) S1x1024 (asRow g) rfl rfl 6 rfl (ix2 0 n)
    (fun b hb => ?_) rfl) (asRow_at g n)
  match b with
  | ⟨0, _⟩ => exact absurd rfl hb
  | ⟨1, _⟩ => rfl

section
variable (m : (ℓ : Loc nD τ sig) → Buf (Elt Ideal) ℓ) (ρ : Dev nD → PrngReg) (c : Dev nD)

/-- The stream, the norm's gain, the shift, the scale, the projections' weight and bias. -/
abbrev x0 : S8192x1024.Idx → EReal := m ((c.tc : Thread nD τ).loc main_arg0)
abbrev x1 : S1024.Idx → EReal := m ((c.tc : Thread nD τ).loc main_arg1)
abbrev x2 : S1024.Idx → EReal := m ((c.tc : Thread nD τ).loc main_arg2)
abbrev x3 : S1024.Idx → EReal := m ((c.tc : Thread nD τ).loc main_arg3)
abbrev x4 : S1024x1536.Idx → EReal := m ((c.tc : Thread nD τ).loc main_arg4)
abbrev x5 : S1536.Idx → EReal := m ((c.tc : Thread nD τ).loc main_arg5)

/-- The normed and modulated stream, its projection, and the scaled queries. -/
def hv (i : Fin 8192) (n : Fin 1024) : EReal :=
  x0 m c (ix2 i n) * rinv (∑ k : Fin 1024, x0 m c (ix2 i k) * x0 m c (ix2 i k)) * x1 m c (ix1 n) * (one + x3 m c (ix1 n)) + x2 m c (ix1 n)
def pv (i : Fin 8192) (n : Fin 1536) : EReal := (∑ k : Fin 1024, hv m c i k * x4 m c (ix2 k n)) + x5 m c (ix1 n)
def qv (i : Fin 8192) (n : Fin 1024) : EReal := pv m c i (qCol n) * eighth

theorem entry_vecs : V m c main_v5 = vecs (x1 m c) (x2 m c) (x3 m c) := by
  unfold V
  after_reads_simp <;> rfl
theorem entry_wq : V m c main_v9 = wqArr (x4 m c) := by
  unfold V
  after_reads_simp <;> rfl
theorem entry_wkv : V m c main_v10 = wkvArr (x4 m c) := by
  unfold V
  after_reads_simp <;> rfl
theorem entry_bq : V m c main_v12 = bqArr (x5 m c) := by
  unfold V
  after_reads_simp <;> rfl
theorem entry_bkv : V m c main_v13 = bkvArr (x5 m c) := by
  unfold V
  after_reads_simp <;> rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = t.val := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel

/-! The blocks read at point `p`. -/
section
variable (t : Fin cfg0.N) (p : Fin 16) (ht : t.val = p.val)
include ht

theorem tile0 (r : Fin 512) (n : Fin 1024) : (iblk m c 0 t (ix2 r n) : EReal) = x0 m c (ix2 (row p r) n) := by
  have hi := index0 t
  unfold iblk
  rw [View.read_apply]
  show V m c main_arg0 _ = x0 m c _
  rw [V_main_arg0]
  refine congrArg (x0 m c) ?_
  funext a
  apply Fin.ext
  match a with
  | ⟨0, _⟩ => show win0_0.index t 0 * 512 + 1 * r.val = 512 * p.val + r.val; rw [hi.1]; omega
  | ⟨1, _⟩ => show win0_0.index t 1 * 1024 + 1 * n.val = n.val; rw [hi.2]; omega
end

section
variable (t : Fin cfg0.N)

theorem tile1 (j : Fin 8) (n : Fin 1024) : (rowAt j (iblk m c 1 t) (ix2 0 n) : EReal) = vecs (x1 m c) (x2 m c) (x3 m c) (ix2 j n) := by
  have hi := index1 t
  unfold rowAt iblk
  rw [View.read_apply]
  show V m c main_v5 _ = _
  rw [entry_vecs]
  refine congrArg (vecs (x1 m c) (x2 m c) (x3 m c)) ?_
  funext a
  apply Fin.ext
  match a with
  | ⟨0, _⟩ => show win0_1.index t 0 * 8 + 1 * j.val = j.val; rw [hi.1]; omega
  | ⟨1, _⟩ => show win0_1.index t 1 * 1024 + 1 * n.val = n.val; rw [hi.2]; omega

theorem tile2 (n k : Fin 1024) : (iblk m c 2 t (ix2 n k) : EReal) = x4 m c (ix2 k (qCol n)) := by
  have hi := index2 t
  unfold iblk
  rw [View.read_apply]
  show V m c main_v9 _ = _
  rw [entry_wq, ← wqArr_at (x4 m c) n k]
  refine congrArg (wqArr (x4 m c)) ?_
  funext a
  apply Fin.ext
  match a with
  | ⟨0, _⟩ => show win0_2.index t 0 * 1024 + 1 * n.val = n.val; rw [hi.1]; omega
  | ⟨1, _⟩ => show win0_2.index t 1 * 1024 + 1 * k.val = k.val; rw [hi.2]; omega

theorem tile3 (k : Fin 1024) (n : Fin 512) : (iblk m c 3 t (ix2 k n) : EReal) = x4 m c (ix2 k (kvCol n)) := by
  have hi := index3 t
  unfold iblk
  rw [View.read_apply]
  show V m c main_v10 _ = _
  rw [entry_wkv, ← wkvArr_at (x4 m c) k n]
  refine congrArg (wkvArr (x4 m c)) ?_
  funext a
  apply Fin.ext
  match a with
  | ⟨0, _⟩ => show win0_3.index t 0 * 1024 + 1 * k.val = k.val; rw [hi.1]; omega
  | ⟨1, _⟩ => show win0_3.index t 1 * 512 + 1 * n.val = n.val; rw [hi.2]; omega

theorem tile4 (n : Fin 1024) : (iblk m c 4 t (ix2 n 0) : EReal) = x5 m c (ix1 (qCol n)) := by
  have hi := index4 t
  unfold iblk
  rw [View.read_apply]
  show V m c main_v12 _ = _
  rw [entry_bq, ← bqArr_at (x5 m c) n]
  refine congrArg (bqArr (x5 m c)) ?_
  funext a
  apply Fin.ext
  match a with
  | ⟨0, _⟩ => show win0_4.index t 0 * 1024 + 1 * n.val = n.val; rw [hi.1]; omega
  | ⟨1, _⟩ => show win0_4.index t 1 * 1 + 1 * 0 = 0; rw [hi.2]

theorem tile5 (n : Fin 512) : (iblk m c 5 t (ix2 0 n) : EReal) = x5 m c (ix1 (kvCol n)) := by
  have hi := index5 t
  unfold iblk
  rw [View.read_apply]
  show V m c main_v13 _ = _
  rw [entry_bkv, ← bkvArr_at (x5 m c) n]
  refine congrArg (bkvArr (x5 m c)) ?_
  funext a
  apply Fin.ext
  match a with
  | ⟨0, _⟩ => show win0_5.index t 0 * 1 + 1 * 0 = 0; rw [hi.1]
  | ⟨1, _⟩ => show win0_5.index t 1 * 512 + 1 * n.val = n.val; rw [hi.2]; omega
end

section
variable (t : Fin cfg0.N) (p : Fin 16) (ht : t.val = p.val)
include ht

theorem h_at (r : Fin 512) (n : Fin 1024) :
    (k0_pay4 (F := Ideal) (iblk m c 0 t) (rowAt 6 (iblk m c 1 t)) (rowAt 1 (iblk m c 1 t)) (rowAt 0 (iblk m c 1 t)) (ix2 r n) : EReal) = hv m c (row p r) n := by
  refine (h_apply _ _ _ _ r n).trans ?_
  refine congrArg₂ (fun a b : EReal => a + b) (congrArg₂ (fun a b : EReal => a * b) (congrArg₂ (fun a b : EReal => a * b)
    (congrArg₂ (fun a b : EReal => a * b) (tile0 m c t p ht r n) (congrArg rinv ?_)) ((tile1 m c t 6 n).trans (vecs_gain _ _ _ n)))
    (congrArg (fun a : EReal => one + a) ((tile1 m c t 1 n).trans (vecs_scale _ _ _ n)))) ((tile1 m c t 0 n).trans (vecs_shift _ _ _ n))
  exact Finset.sum_congr rfl fun k _ => congrArg₂ (fun a b : EReal => a * b) (tile0 m c t p ht r k) (tile0 m c t p ht r k)

theorem q_at (n : Fin 1024) (r : Fin 512) : (k0_pay5 (F := Ideal) (iblk m c 0 t) (rowAt 6 (iblk m c 1 t)) (rowAt 1 (iblk m c 1 t)) (rowAt 0 (iblk m c 1 t))
    (iblk m c 2 t) (iblk m c 4 t) (ix2 n r) : EReal) = qv m c (row p r) n := by
  refine (q_apply _ _ _ _ _ _ n r).trans ?_
  refine congrArg (fun a : EReal => a * eighth) (congrArg₂ (fun a b : EReal => a + b) ?_ (tile4 m c t n))
  exact Finset.sum_congr rfl fun k _ => (congrArg₂ (fun a b : EReal => a * b) (tile2 m c t n k) (h_at m c t p ht r k)).trans (mul_comm _ _)

theorem p_at (r n : Fin 512) : (k0_pay1 (F := Ideal) (k0_pay4 (F := Ideal) (iblk m c 0 t) (rowAt 6 (iblk m c 1 t)) (rowAt 1 (iblk m c 1 t)) (rowAt 0 (iblk m c 1 t)))
    (iblk m c 3 t) (iblk m c 5 t) (ix2 r n) : EReal) = pv m c (row p r) (kvCol n) := by
  refine (p_apply _ _ _ r n).trans ?_
  refine congrArg₂ (fun a b : EReal => a + b) ?_ (tile5 m c t n)
  exact Finset.sum_congr rfl fun k _ => congrArg₂ (fun a b : EReal => a * b) (h_at m c t p ht r k) (tile3 m c t k n)
end

theorem lt16 (t : Fin cfg0.N) : t.val < 16 := lt_of_lt_of_eq t.isLt (show cfg0.N = 16 from N_0)

/-! The arrays left. -/

def outH : S8192x1024.Idx → EReal := fun i => hv m c (i 0) (i 1)
def outQ : S1024x8192.Idx → EReal := fun i => qv m c (i 1) (i 0)
def outK : S8192x256.Idx → EReal := fun i => pv m c (i 0) (kvCol (keyCol (i 1)))
def outV : S8192x256.Idx → EReal := fun i => pv m c (i 0) (kvCol (valCol (i 1)))

theorem outH_apply (i : Fin 8192) (n : Fin 1024) : outH m c (ix2 i n) = hv m c i n := rfl

theorem flushed_H (t : Fin cfg0.N) (hf : (cfg0.win 6).flush t = true) :
    (dats m 0 c).flushed 6 t = ((cfg0.win 6).blk t).view.read (Elt Ideal) (outH m c) := by
  have hN := lt16 t
  have hi := index6 t
  rw [Cert.KernelPreIdeal.Value.flushed6]
  funext y
  have y0 : (y 0).val < 512 := (y 0).isLt
  have y1 : (y 1).val < 1024 := (y 1).isLt
  have e : ((cfg0.win 6).blk t).view.emb y = (ix2 (row ⟨t.val, hN⟩ ⟨(y 0).val, y0⟩) ⟨(y 1).val, y1⟩ : S8192x1024.Idx) := by
    funext a
    apply Fin.ext
    match a with
    | ⟨0, _⟩ => show win0_6.index t 0 * 512 + 1 * (y 0).val = 512 * t.val + (y 0).val; rw [hi.1]; omega
    | ⟨1, _⟩ => show win0_6.index t 1 * 1024 + 1 * (y 1).val = (y 1).val; rw [hi.2]; omega
  have e' : (cfg0.win 6).xinj (grid0.coords t) y = (ix2 ⟨(y 0).val, y0⟩ ⟨(y 1).val, y1⟩ : S512x1024.Idx) := by
    funext a
    apply Fin.ext
    match a with
    | ⟨0, _⟩ => rfl
    | ⟨1, _⟩ => rfl
  have h : (out0_6 (F := Ideal) (iblk m c 0 t) (iblk m c 1 t) (iblk m c 2 t) (iblk m c 3 t) (iblk m c 4 t) (iblk m c 5 t) (ix2 ⟨(y 0).val, y0⟩ ⟨(y 1).val, y1⟩) : EReal)
      = hv m c (row ⟨t.val, hN⟩ ⟨(y 0).val, y0⟩) ⟨(y 1).val, y1⟩ :=
    (congrFun (block_h _ _ _ _ _ _) _).trans (h_at m c t ⟨t.val, hN⟩ rfl ⟨(y 0).val, y0⟩ ⟨(y 1).val, y1⟩)
  rw [← e'] at h
  have k : ∀ G : S8192x1024.Idx → EReal, ((cfg0.win 6).blk t).view.read (Elt Ideal) G y = G (ix2 (row ⟨t.val, hN⟩ ⟨(y 0).val, y0⟩) ⟨(y 1).val, y1⟩) :=
    fun G => congrArg G e
  exact h.trans ((outH_apply m c _ _).symm.trans (k (outH m c)).symm)

/-- Every index lies in the block of its token's point. -/
theorem covered_H (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hl : (i 0).val / 512 < cfg0.N := lt_of_lt_of_eq (by omega) (show cfg0.N = 16 from N_0).symm
  have hi := index6 ⟨(i 0).val / 512, hl⟩
  refine ⟨⟨(i 0).val / 512, hl⟩, flush0_6 _, ?_⟩
  generalize ht : (⟨(i 0).val / 512, hl⟩ : Fin cfg0.N) = t at hi ⊢
  have hv : t.val = (i 0).val / 512 := congrArg Fin.val ht.symm
  show i ∈ ((View.whole main_v14_0).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [hi.1, hv]; omega
  | ⟨1, _⟩ =>
    show win0_6.index t (1 : Fin 2) * 1024 ≤ (i 1).val ∧ (i 1).val < win0_6.index t (1 : Fin 2) * 1024 + 1024
    rw [hi.2]; omega

theorem final_H : (dats m 0 c).arrAt 6 cfg0.N = outH m c :=
  (dats m 0 c).arrAt_eq_of_cover 6 (outH m c) (flushed_H m c) (covered_H)

theorem outQ_apply (i : Fin 8192) (n : Fin 1024) : outQ m c (ix2 n i) = qv m c i n := rfl

theorem flushed_Q (t : Fin cfg0.N) (hf : (cfg0.win 7).flush t = true) :
    (dats m 0 c).flushed 7 t = ((cfg0.win 7).blk t).view.read (Elt Ideal) (outQ m c) := by
  have hN := lt16 t
  have hi := index7 t
  rw [Cert.KernelPreIdeal.Value.flushed7]
  funext y
  have y0 : (y 0).val < 1024 := (y 0).isLt
  have y1 : (y 1).val < 512 := (y 1).isLt
  have e : ((cfg0.win 7).blk t).view.emb y = (ix2 ⟨(y 0).val, y0⟩ (row ⟨t.val, hN⟩ ⟨(y 1).val, y1⟩) : S1024x8192.Idx) := by
    funext a
    apply Fin.ext
    match a with
    | ⟨0, _⟩ => show win0_7.index t 0 * 1024 + 1 * (y 0).val = (y 0).val; rw [hi.1]; omega
    | ⟨1, _⟩ => show win0_7.index t 1 * 512 + 1 * (y 1).val = 512 * t.val + (y 1).val; rw [hi.2]; omega
  have e' : (cfg0.win 7).xinj (grid0.coords t) y = (ix2 ⟨(y 0).val, y0⟩ ⟨(y 1).val, y1⟩ : S1024x512.Idx) := by
    funext a
    apply Fin.ext
    match a with
    | ⟨0, _⟩ => rfl
    | ⟨1, _⟩ => rfl
  have h : (out0_7 (F := Ideal) (iblk m c 0 t) (iblk m c 1 t) (iblk m c 2 t) (iblk m c 3 t) (iblk m c 4 t) (iblk m c 5 t) (ix2 ⟨(y 0).val, y0⟩ ⟨(y 1).val, y1⟩) : EReal)
      = qv m c (row ⟨t.val, hN⟩ ⟨(y 1).val, y1⟩) ⟨(y 0).val, y0⟩ :=
    (congrFun (block_q _ _ _ _ _ _) _).trans (q_at m c t ⟨t.val, hN⟩ rfl ⟨(y 0).val, y0⟩ ⟨(y 1).val, y1⟩)
  rw [← e'] at h
  have k : ∀ G : S1024x8192.Idx → EReal, ((cfg0.win 7).blk t).view.read (Elt Ideal) G y = G (ix2 ⟨(y 0).val, y0⟩ (row ⟨t.val, hN⟩ ⟨(y 1).val, y1⟩)) :=
    fun G => congrArg G e
  exact h.trans ((outQ_apply m c _ _).symm.trans (k (outQ m c)).symm)

/-- Every index lies in the block of its token's point. -/
theorem covered_Q (i : S1024x8192.Idx) : ∃ t : Fin cfg0.N, (cfg0.win 7).flush t = true ∧ i ∈ ((cfg0.win 7).blk t).view.set := by
  have h0 : (i 0).val < 1024 := (i 0).isLt
  have h1 : (i 1).val < 8192 := (i 1).isLt
  have hl : (i 1).val / 512 < cfg0.N := lt_of_lt_of_eq (by omega) (show cfg0.N = 16 from N_0).symm
  have hi := index7 ⟨(i 1).val / 512, hl⟩
  refine ⟨⟨(i 1).val / 512, hl⟩, flush0_7 _, ?_⟩
  generalize ht : (⟨(i 1).val / 512, hl⟩ : Fin cfg0.N) = t at hi ⊢
  have hv : t.val = (i 1).val / 512 := congrArg Fin.val ht.symm
  show i ∈ ((View.whole main_v14_1).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    rw [hi.1]; omega
  | ⟨1, _⟩ =>
    show win0_7.index t (1 : Fin 2) * 512 ≤ (i 1).val ∧ (i 1).val < win0_7.index t (1 : Fin 2) * 512 + 512
    rw [hi.2, hv]; omega

theorem final_Q : (dats m 0 c).arrAt 7 cfg0.N = outQ m c :=
  (dats m 0 c).arrAt_eq_of_cover 7 (outQ m c) (flushed_Q m c) (covered_Q)

theorem outK_apply (i : Fin 8192) (n : Fin 256) : outK m c (ix2 i n) = pv m c i (kvCol (keyCol n)) := rfl

theorem flushed_K (t : Fin cfg0.N) (hf : (cfg0.win 8).flush t = true) :
    (dats m 0 c).flushed 8 t = ((cfg0.win 8).blk t).view.read (Elt Ideal) (outK m c) := by
  have hN := lt16 t
  have hi := index8 t
  rw [Cert.KernelPreIdeal.Value.flushed8]
  funext y
  have y0 : (y 0).val < 512 := (y 0).isLt
  have y1 : (y 1).val < 256 := (y 1).isLt
  have e : ((cfg0.win 8).blk t).view.emb y = (ix2 (row ⟨t.val, hN⟩ ⟨(y 0).val, y0⟩) ⟨(y 1).val, y1⟩ : S8192x256.Idx) := by
    funext a
    apply Fin.ext
    match a with
    | ⟨0, _⟩ => show win0_8.index t 0 * 512 + 1 * (y 0).val = 512 * t.val + (y 0).val; rw [hi.1]; omega
    | ⟨1, _⟩ => show win0_8.index t 1 * 256 + 1 * (y 1).val = (y 1).val; rw [hi.2]; omega
  have e' : (cfg0.win 8).xinj (grid0.coords t) y = (ix2 ⟨(y 0).val, y0⟩ ⟨(y 1).val, y1⟩ : S512x256.Idx) := by
    funext a
    apply Fin.ext
    match a with
    | ⟨0, _⟩ => rfl
    | ⟨1, _⟩ => rfl
  have h : (out0_8 (F := Ideal) (iblk m c 0 t) (iblk m c 1 t) (iblk m c 2 t) (iblk m c 3 t) (iblk m c 4 t) (iblk m c 5 t) (ix2 ⟨(y 0).val, y0⟩ ⟨(y 1).val, y1⟩) : EReal)
      = pv m c (row ⟨t.val, hN⟩ ⟨(y 0).val, y0⟩) (kvCol (keyCol ⟨(y 1).val, y1⟩)) :=
    (congrFun (block_k _ _ _ _ _ _) _).trans ((k_apply _ _ _ ⟨(y 0).val, y0⟩ ⟨(y 1).val, y1⟩).trans (p_at m c t ⟨t.val, hN⟩ rfl ⟨(y 0).val, y0⟩ (keyCol ⟨(y 1).val, y1⟩)))
  rw [← e'] at h
  have k : ∀ G : S8192x256.Idx → EReal, ((cfg0.win 8).blk t).view.read (Elt Ideal) G y = G (ix2 (row ⟨t.val, hN⟩ ⟨(y 0).val, y0⟩) ⟨(y 1).val, y1⟩) :=
    fun G => congrArg G e
  exact h.trans ((outK_apply m c _ _).symm.trans (k (outK m c)).symm)

/-- Every index lies in the block of its token's point. -/
theorem covered_K (i : S8192x256.Idx) : ∃ t : Fin cfg0.N, (cfg0.win 8).flush t = true ∧ i ∈ ((cfg0.win 8).blk t).view.set := by
  have h0 : (i 0).val < 8192 := (i 0).isLt
  have h1 : (i 1).val < 256 := (i 1).isLt
  have hl : (i 0).val / 512 < cfg0.N := lt_of_lt_of_eq (by omega) (show cfg0.N = 16 from N_0).symm
  have hi := index8 ⟨(i 0).val / 512, hl⟩
  refine ⟨⟨(i 0).val / 512, hl⟩, flush0_8 _, ?_⟩
  generalize ht : (⟨(i 0).val / 512, hl⟩ : Fin cfg0.N) = t at hi ⊢
  have hv : t.val = (i 0).val / 512 := congrArg Fin.val ht.symm
  show i ∈ ((View.whole main_v14_2).slice (win0_8.rect t)).set
  rw [View.set_slice_whole, Rect.mem_set_unit]
  intro a
  match a with
  | ⟨0, _⟩ =>
    show win0_8.index t (0 : Fin 2) * 512 ≤ (i 0).val ∧ (i 0).val < win0_8.index t (0 : Fin 2) * 512 + 512
    rw [hi.1, hv]; omega
  | ⟨1, _⟩ =>
    show win0_8.index t (1 : Fin 2) * 256 ≤ (i 1).val ∧ (i 1).val < win0_8.index t (1 : Fin 2) * 256 + 256
    rw [hi.2]; omega

theorem final_K : (dats m 0 c).arrAt 8 cfg0.N = outK m c :=
  (dats m 0 c).arrAt_eq_of_cover 8 (outK m c) (flushed_K m c) (covered_K)

theorem outV_apply (i : Fin 8192) (n : Fin 256) : outV m c (ix2 i n) = pv m c i (kvCol (valCol n)) := rfl

theorem flushed_V (t : Fin cfg0.N) (hf : (cfg0.win 9).flush t = true) :
    (dats m 0 c).flushed 9 t = ((cfg0.win 9).blk t).view.read (Elt Ideal) (outV m c) := by
  have hN := lt16 t
  have hi := index9 t
  rw [Cert.KernelPreIdeal.Value.flushed9]
  funext y
  have y0 : (y 0).val < 512 := (y 0).isLt
  have y1 : (y 1).val < 256 := (y 1).isLt
  have e : ((cfg0.win 9).blk t).view.emb y = (ix2 (row ⟨t.val, hN⟩ ⟨(y 0).val, y0⟩) ⟨(y 1).val, y1⟩ : S8192x256.Idx) := by
    funext a
    apply Fin.ext
    match a with
    | ⟨0, _⟩ => show win0_9.index t 0 * 512 + 1 * (y 0).val = 512 * t.val + (y 0).val; rw [hi.1]; omega
    | ⟨1, _⟩ => show win0_9.index t 1 * 256 + 1 * (y 1).val = (y 1).val; rw [hi.2]; omega
  have e' : (cfg0.win 9).xinj (grid0.coords t) y = (ix2 ⟨(y 0).val, y0⟩ ⟨(y 1).val, y1⟩ : S512x256.Idx) := by
    funext a
    apply Fin.ext
    match a with
    | ⟨0, _⟩ => rfl
    | ⟨1, _⟩ => rfl
  have h : (out0_9 (F := Ideal) (iblk m c 0 t) (iblk m c 1 t) (iblk m c 2 t) (iblk m c 3 t) (iblk m c 4 t) (iblk m c 5 t) (ix2 ⟨(y 0).val, y0⟩ ⟨(y 1).val, y1⟩) : EReal)
      = pv m c (row ⟨t.val, hN⟩ ⟨(y 0).val, y0⟩) (kvCol (valCol ⟨(y 1).val, y1⟩)) :=
    (congrFun (block_v _ _ _ _ _ _) _).trans ((v_apply _ _ _ ⟨(y 0).val, y0⟩ ⟨(y 1).val, y1⟩).trans (p_at m c t ⟨t.val, hN⟩ rfl ⟨(y 0).val, y0⟩ (valCol ⟨(y 1).val, y1⟩)))
  rw [← e'] at h
  have k : ∀ G : S8192x256.Idx → EReal, ((cfg0.win 9).blk t).view.read (Elt Ideal) G y = G (ix2 (row ⟨t.val, hN⟩ ⟨(y 0).val, y0⟩) ⟨(y 1).val, y1⟩) :=
    fun G => congrArg G e
  exact h.trans ((outV_apply m c _ _).symm.trans (k (outV m c)).symm)

/-- Every index lies in the block of its token's point. -/
theorem covered_V (i : S8192x256.Idx) : ∃ t : Fin cfg0.N, (cfg0.win 9).flush t = true ∧ i ∈ ((cfg0.win 9).blk t).view.set := by
  have h0 : (i 0).val < 8192 := (i 0).isLt
  have h1 : (i 1).val < 256 := (i 1).isLt
  have hl : (i 0).val / 512 < cfg0.N := lt_of_lt_of_eq (by omega) (show cfg0.N = 16 from N_0).symm
  have hi := index9 ⟨(i 0).val / 512, hl⟩
  refine ⟨⟨(i 0).val / 512, hl⟩, flush0_9 _, ?_⟩
  generalize ht : (⟨(i 0).val / 512, hl⟩ : Fin cfg0.N) = t at hi ⊢
  have hv : t.val = (i 0).val / 512 := congrArg Fin.val ht.symm
  show i ∈ ((View.whole main_v14_3).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    rw [hi.1, hv]; omega
  | ⟨1, _⟩ =>
    show win0_9.index t (1 : Fin 2) * 256 ≤ (i 1).val ∧ (i 1).val < win0_9.index t (1 : Fin 2) * 256 + 256
    rw [hi.2]; omega

theorem final_V : (dats m 0 c).arrAt 9 cfg0.N = outV m c :=
  (dats m 0 c).arrAt_eq_of_cover 9 (outV m c) (flushed_V m c) (covered_V)
end

end Cert.KernelPreIdeal.Layer

namespace Cert.Pre

open Idealize.ShloMosaic Idealize.ShloMosaic.TcCoe Idealize.SL.Sem
open Cert.ReferencePreIdeal.Read
open Cert.KernelPreIdeal Cert.KernelPreIdeal.Layer
variable (m : (ℓ : Loc nD τ sig) → Buf (Elt Ideal) ℓ) (c : Dev nD)

theorem lidx (i : Fin 8192) (n : Fin 1536) (k : Fin 1024) : lidx_main_v21 (ix2 i n) k = ix2 i k := funext fun a => by
  match a with
  | ⟨0, _⟩ => rfl
  | ⟨1, _⟩ => rfl
theorem ridx (i : Fin 8192) (n : Fin 1536) (k : Fin 1024) : ridx_main_v21 (ix2 i n) k = ix2 k n := funext fun a => by
  match a with
  | ⟨0, _⟩ => rfl
  | ⟨1, _⟩ => rfl

/-! The reference at an element. -/

theorem ref_bias (i : Fin 8192) (n : Fin 1536) : (val_main_v23 (F := Ideal) (x5 m c) (ix2 i n) : EReal) = x5 m c (ix1 n) := by
  rw [val_main_v23_apply, val_main_v22_apply]
  refine congrArg (x5 m c) (funext fun a => ?_)
  match a with
  | ⟨0, _⟩ => rfl
theorem ref_gain (i : Fin 8192) (n : Fin 1024) : (val_main_v11 (F := Ideal) (x1 m c) (ix2 i n) : EReal) = x1 m c (ix1 n) := by
  rw [val_main_v11_apply, val_main_v10_apply]
  refine congrArg (x1 m c) (funext fun a => ?_)
  match a with
  | ⟨0, _⟩ => rfl
theorem ref_shift (i : Fin 8192) (n : Fin 1024) : (val_main_v19 (F := Ideal) (x2 m c) (ix2 i n) : EReal) = x2 m c (ix1 n) := by
  rw [val_main_v19_apply, val_main_v18_apply]
  refine congrArg (x2 m c) (funext fun a => ?_)
  match a with
  | ⟨0, _⟩ => rfl
theorem ref_scale (i : Fin 8192) (n : Fin 1024) : (val_main_v16 (F := Ideal) (x3 m c) (ix2 i n) : EReal) = one + x3 m c (ix1 n) := by
  rw [val_main_v16_apply, val_main_v15_apply, val_main_v14_apply, val_main_v13_apply, val_main_cst_2_apply]
  refine congrArg (fun a : EReal => one + a) (congrArg (x3 m c) (funext fun a => ?_))
  match a with
  | ⟨0, _⟩ => rfl

theorem ref_sum (i : Fin 8192) : (val_main_v1 (F := Ideal) (x0 m c) (ix1 i) : EReal) = ∑ k : Fin 1024, x0 m c (ix2 i k) * x0 m c (ix2 i k) := by
  rw [val_main_v1_apply, val_main_cst_apply]
  refine (congrArg₂ (fun a b : EReal => a + b) Ideal.ofBits_zero_f32 (Finset.sum_congr rfl fun k _ => ?_)).trans (zero_add _)
  have e : idx_main_v1 (ix1 i) k = ix2 i k := funext fun a => by
    match a with
    | ⟨0, _⟩ => rfl
    | ⟨1, _⟩ => rfl
  rw [e, val_main_v0_apply]
  rfl

theorem ref_rinv (i : Fin 8192) (n : Fin 1024) : (val_main_v8 (F := Ideal) (x0 m c) (ix2 i n) : EReal) = rinv (∑ k : Fin 1024, x0 m c (ix2 i k) * x0 m c (ix2 i k)) := by
  have e : idx_main_v2 (idx_main_v8 (ix2 i n)) = ix1 i := funext fun a => by
    match a with
    | ⟨0, _⟩ => rfl
  rw [val_main_v8_apply, val_main_v7_apply, val_main_v6_apply, val_main_v4_apply, val_main_v2_apply, val_main_v3_apply, val_main_v5_apply, e, ref_sum]
  rfl

theorem ref_h (i : Fin 8192) (n : Fin 1024) : (val_main_v20 (F := Ideal) (x0 m c) (x1 m c) (x2 m c) (x3 m c) (ix2 i n) : EReal) = hv m c i n := by
  rw [val_main_v20_apply, val_main_v17_apply, val_main_v12_apply, val_main_v9_apply]
  exact congrArg₂ (fun a b : EReal => a + b) (congrArg₂ (fun a b : EReal => a * b) (congrArg₂ (fun a b : EReal => a * b)
    (congrArg (fun a : EReal => x0 m c (ix2 i n) * a) (ref_rinv m c i n)) (ref_gain m c i n)) (ref_scale m c i n)) (ref_shift m c i n)

theorem ref_p (i : Fin 8192) (n : Fin 1536) : (val_main_v24 (F := Ideal) (x0 m c) (x1 m c) (x2 m c) (x3 m c) (x4 m c) (x5 m c) (ix2 i n) : EReal) = pv m c i n := by
  rw [val_main_v24_apply, val_main_v21_apply]
  refine congrArg₂ (fun a b : EReal => a + b) (Finset.sum_congr rfl fun k _ => ?_) (ref_bias m c i n)
  rw [lidx, ridx]
  exact congrArg (fun a : EReal => a * x4 m c (ix2 k n)) (ref_h m c i k)

theorem ref_q (i : Fin 8192) (n : Fin 1024) : (val_main_v32 (F := Ideal) (x0 m c) (x1 m c) (x2 m c) (x3 m c) (x4 m c) (x5 m c) (ix2 n i) : EReal) = qv m c i n := by
  have e : idx_main_v25 (idx_main_v30 (ix2 n i)) = ix2 i (qCol n) := funext fun a => Fin.ext (by
    match a with
    | ⟨0, _⟩ => rfl
    | ⟨1, _⟩ => rfl)
  rw [val_main_v32_apply, val_main_v30_apply, val_main_v29_apply, val_main_v25_apply, val_main_v28_apply, val_main_cst_3_apply, e]
  exact congrArg (fun a : EReal => a * eighth) (ref_p m c i (qCol n))

theorem ref_k (i : Fin 8192) (n : Fin 256) : (val_main_v33 (F := Ideal) (x0 m c) (x1 m c) (x2 m c) (x3 m c) (x4 m c) (x5 m c) (ix2 i n) : EReal) = pv m c i (kvCol (keyCol n)) := by
  have e : idx_main_v26 (ix2 i n) = ix2 i (kvCol (keyCol n)) := funext fun a => Fin.ext (by
    match a with
    | ⟨0, _⟩ => show i.val = i.val; rfl
    | ⟨1, _⟩ => show 1024 + n.val = n.val + 1024; omega)
  rw [val_main_v33_apply, val_main_v26_apply, e]
  exact ref_p m c i _

theorem ref_v (i : Fin 8192) (n : Fin 256) : (val_main_v34 (F := Ideal) (x0 m c) (x1 m c) (x2 m c) (x3 m c) (x4 m c) (x5 m c) (ix2 i n) : EReal) = pv m c i (kvCol (valCol n)) := by
  have e : idx_main_v27 (ix2 i n) = ix2 i (kvCol (valCol n)) := funext fun a => Fin.ext (by
    match a with
    | ⟨0, _⟩ => show i.val = i.val; rfl
    | ⟨1, _⟩ => show 1280 + n.val = n.val + 256 + 1024; omega)
  rw [val_main_v34_apply, val_main_v27_apply, e]
  exact ref_p m c i _

theorem eq_ix2 {a b : Nat} (i : (⟨2, ![a, b]⟩ : Shape).Idx) : i = ix2 (i 0) (i 1) := funext fun k => by fin_cases k <;> rfl

theorem outH_eq : val_main_v31 (F := Ideal) (x0 m c) (x1 m c) (x2 m c) (x3 m c) = outH m c := funext fun i => by
  rw [eq_ix2 i]; exact ref_h m c (i 0) (i 1)
theorem outQ_eq : val_main_v32 (F := Ideal) (x0 m c) (x1 m c) (x2 m c) (x3 m c) (x4 m c) (x5 m c) = outQ m c := funext fun i => by
  rw [eq_ix2 i]; exact ref_q m c (i 1) (i 0)
theorem outK_eq : val_main_v33 (F := Ideal) (x0 m c) (x1 m c) (x2 m c) (x3 m c) (x4 m c) (x5 m c) = outK m c := funext fun i => by
  rw [eq_ix2 i]; exact ref_k m c (i 0) (i 1)
theorem outV_eq : val_main_v34 (F := Ideal) (x0 m c) (x1 m c) (x2 m c) (x3 m c) (x4 m c) (x5 m c) = outV m c := funext fun i => by
  rw [eq_ix2 i]; exact ref_v m c (i 0) (i 1)

theorem frame_kernel : Cert.quiescent_KernelPre := fun m ρ _ => Cert.KernelPre.Gen.frame (F := Bits) m ρ

theorem frame_kernelIdeal : Cert.quiescent_KernelPreIdeal := fun m ρ _ => Cert.KernelPreIdeal.Gen.frame (F := Ideal) m ρ

theorem frame_referenceIdeal : Cert.quiescent_ReferencePreIdeal := fun m ρ _ =>
  (θ_run Cert.ReferencePreIdeal.defs _ _).mono (fun r h => ⟨fun c => (h c).2.2.2.2, sem_eq_zero_of_no_sems (by decide) r.2⟩)
    (Cert.ReferencePreIdeal.Value.run (F := Ideal) m ρ)

theorem algebraic : Cert.algebraic_KernelPreIdeal_ReferencePreIdeal := fun m g m' g' _ hargs => by
  refine ⟨outH m, outQ m, outK m, outV m, ?_, ?_⟩
  · exact (θ_run Cert.KernelPreIdeal.defs _ _).mono (fun r h c => ⟨(h c).1.trans (final_H m c), (h c).2.1.trans (final_Q m c), (h c).2.2.1.trans (final_K m c),
      (h c).2.2.2.1.trans (final_V m c), (h c).2.2.2.2⟩) (Cert.KernelPreIdeal.Value.run_blocks (F := Ideal) m g)
  · refine (θ_run Cert.ReferencePreIdeal.defs _ _).mono (fun r h c => ⟨(h c).1.trans ?_, (h c).2.1.trans ?_, (h c).2.2.1.trans ?_, (h c).2.2.2.1.trans ?_, (h c).2.2.2.2⟩)
      (Cert.ReferencePreIdeal.Value.run (F := Ideal) m' g')
    all_goals obtain ⟨e0, e1, e2, e3, e4, e5⟩ := hargs c
    · rw [e0, e1, e2, e3]
      exact outH_eq m c
    · rw [e0, e1, e2, e3, e4, e5]
      exact outQ_eq m c
    · rw [e0, e1, e2, e3, e4, e5]
      exact outK_eq m c
    · rw [e0, e1, e2, e3, e4, e5]
      exact outV_eq m c

end Cert.Pre

end
-- ==== Proof.lean ====
module

public import proofs.«01_k».proof.Defs
public import proofs.«01_k».proof.Proof.Frames
public import proofs.«01_k».proof.Proof.Value
public import proofs.«01_k».proof.Proof.Mlp
public import proofs.«01_k».proof.Proof.Down
public import proofs.«01_k».proof.Proof.Up
public import proofs.«01_k».proof.Proof.DownB
public import proofs.«01_k».proof.Proof.UpB
public import proofs.«01_k».proof.Proof.DwA
public import proofs.«01_k».proof.Proof.DwB
public import proofs.«01_k».proof.Proof.Qkv
public import proofs.«01_k».proof.Proof.OutA
public import proofs.«01_k».proof.Proof.OutB
public import proofs.«01_k».proof.Proof.Pre

@[expose] public section

noncomputable section

namespace Cert.Proof

theorem claim : Cert.Claim := ⟨Cert.Kernel.Gen.facts, Cert.KernelIdeal.Gen.facts, Cert.ReferenceIdeal.Gen.facts,
  Cert.KernelMlp.Gen.facts, Cert.KernelMlpIdeal.Gen.facts, Cert.ReferenceMlpIdeal.Gen.facts,
  Cert.KernelDown.Gen.facts, Cert.KernelDownIdeal.Gen.facts, Cert.ReferenceDownIdeal.Gen.facts,
  Cert.KernelUp.Gen.facts, Cert.KernelUpIdeal.Gen.facts, Cert.ReferenceUpIdeal.Gen.facts,
  Cert.KernelDownB.Gen.facts, Cert.KernelDownBIdeal.Gen.facts, Cert.ReferenceDownBIdeal.Gen.facts,
  Cert.KernelUpB.Gen.facts, Cert.KernelUpBIdeal.Gen.facts, Cert.ReferenceUpBIdeal.Gen.facts,
  Cert.KernelDwA.Gen.facts, Cert.KernelDwAIdeal.Gen.facts, Cert.ReferenceDwAIdeal.Gen.facts,
  Cert.KernelDwB.Gen.facts, Cert.KernelDwBIdeal.Gen.facts, Cert.ReferenceDwBIdeal.Gen.facts,
  Cert.KernelQkv.Gen.facts, Cert.KernelQkvIdeal.Gen.facts, Cert.ReferenceQkvIdeal.Gen.facts,
  Cert.KernelOutA.Gen.facts, Cert.KernelOutAIdeal.Gen.facts, Cert.ReferenceOutAIdeal.Gen.facts,
  Cert.KernelOutB.Gen.facts, Cert.KernelOutBIdeal.Gen.facts, Cert.ReferenceOutBIdeal.Gen.facts,
  Cert.KernelPre.Gen.facts, Cert.KernelPreIdeal.Gen.facts, Cert.ReferencePreIdeal.Gen.facts,
  Cert.Bwd.facts_finite,
  Cert.Bwd.frame_kernel, Cert.Bwd.frame_kernelIdeal, Cert.Bwd.frame_kernelIdeal_finite, Cert.Bwd.frame_referenceIdeal,
  Cert.Bwd.frame_referenceIdeal_finite, Cert.Mlp.frame_kernel, Cert.Mlp.frame_kernelIdeal, Cert.Mlp.frame_referenceIdeal,
  Cert.Down.frame_kernel, Cert.Down.frame_kernelIdeal, Cert.Down.frame_referenceIdeal,
  Cert.Up.frame_kernel, Cert.Up.frame_kernelIdeal, Cert.Up.frame_referenceIdeal,
  Cert.DownB.frame_kernel, Cert.DownB.frame_kernelIdeal, Cert.DownB.frame_referenceIdeal,
  Cert.UpB.frame_kernel, Cert.UpB.frame_kernelIdeal, Cert.UpB.frame_referenceIdeal,
  Cert.DwA.frame_kernel, Cert.DwA.frame_kernelIdeal, Cert.DwA.frame_referenceIdeal,
  Cert.DwB.frame_kernel, Cert.DwB.frame_kernelIdeal, Cert.DwB.frame_referenceIdeal,
  Cert.Qkv.frame_kernel, Cert.Qkv.frame_kernelIdeal, Cert.Qkv.frame_referenceIdeal,
  Cert.OutA.frame_kernel, Cert.OutA.frame_kernelIdeal, Cert.OutA.frame_referenceIdeal,
  Cert.OutB.frame_kernel, Cert.OutB.frame_kernelIdeal, Cert.OutB.frame_referenceIdeal,
  Cert.Pre.frame_kernel, Cert.Pre.frame_kernelIdeal, Cert.Pre.frame_referenceIdeal,
  Cert.Bwd.preserves, Cert.Bwd.algebraic, trivial, Cert.Mlp.algebraic, trivial, Cert.Down.algebraic, trivial, Cert.Up.algebraic,
  trivial, Cert.DownB.algebraic, trivial, Cert.UpB.algebraic, trivial, Cert.DwA.algebraic, trivial, Cert.DwB.algebraic, trivial, Cert.Qkv.algebraic, trivial, Cert.OutA.algebraic, trivial, Cert.OutB.algebraic, trivial, Cert.Pre.algebraic⟩

end Cert.Proof

end
